-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_bounded [hPre_bounded : Cert.Pre_bounded.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_bounded.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).1 = (fun _ => 1#1)
    ∧ (Cert.Pre_bounded.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_bounded [hPre_bounded : Cert.Pre_bounded.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_bounded.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).1 = (fun _ => 1#1)
    ∧ (Cert.Pre_bounded.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel38Ideal_settled [hPre_settled : Cert.Pre_settled.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_settled.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1))).1 = (fun _ => 1#1)
    ∧ (Cert.Pre_settled.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1))).2 = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_settled [hPre_settled : Cert.Pre_settled.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_settled.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1))).1 = (fun _ => 1#1)
    ∧ (Cert.Pre_settled.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1))).2 = (fun _ => 1#1)

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Kernel21Ideal_pre_bounded [hKernel21Ideal : Cert.Kernel21Ideal.Facts] [hPre_bounded : Cert.Pre_bounded.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_bounded m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_bounded [hReference21Ideal : Cert.Reference21Ideal.Facts] [hPre_bounded : Cert.Pre_bounded.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_bounded m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Kernel38Ideal_pre_settled [hKernel38Ideal : Cert.Kernel38Ideal.Facts] [hPre_settled : Cert.Pre_settled.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal_settled m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Reference38Ideal_pre_settled [hReference38Ideal : Cert.Reference38Ideal.Facts] [hPre_settled : Cert.Pre_settled.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_settled m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)) (v4 : (c : Dev Cert.KernelIdeal.nD) → Buf (Elt Ideal) ((c.tc : Thread Cert.KernelIdeal.nD Cert.KernelIdeal.τ).loc Cert.KernelIdeal.main_v57_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_v57_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_bounded [hKernel21Ideal : Cert.Kernel21Ideal.Facts] [hReference21Ideal : Cert.Reference21Ideal.Facts] [hPre_bounded : Cert.Pre_bounded.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_bounded m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v35) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_v32) = v1 c
          ∧ r.2.mem ((c.tc : Thread Cert.Reference25Ideal.nD Cert.Reference25Ideal.τ).loc Cert.Reference25Ideal.main_v34) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal_pre_settled [hKernel38Ideal : Cert.Kernel38Ideal.Facts] [hReference38Ideal : Cert.Reference38Ideal.Facts] [hPre_settled : Cert.Pre_settled.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal_settled m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v7) = v0 c
          ∧ r.2.mem ((c.tc : Thread Cert.Reference38Ideal.nD Cert.Reference38Ideal.τ).loc Cert.Reference38Ideal.main_v8) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v35) = v0 c
          ∧ r.2.mem ((c.tc : Thread Cert.Reference39Ideal.nD Cert.Reference39Ideal.τ).loc Cert.Reference39Ideal.main_v36) = v1 c
          ∧ r.2.mem ((c.tc : Thread Cert.Reference39Ideal.nD Cert.Reference39Ideal.τ).loc Cert.Reference39Ideal.main_v37) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v20) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v0) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v0) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v0) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v0) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v1) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v1) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v0) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)) →
    ∃ (v0 : (c : Dev Cert.Kernel48Ideal.nD) → Buf (Elt Ideal) ((c.tc : Thread Cert.Kernel48Ideal.nD Cert.Kernel48Ideal.τ).loc Cert.Kernel48Ideal.main_v0_0)) (v1 : (c : Dev Cert.Kernel48Ideal.nD) → Buf (Elt Ideal) ((c.tc : Thread Cert.Kernel48Ideal.nD Cert.Kernel48Ideal.τ).loc Cert.Kernel48Ideal.main_v0_1)) (v2 : (c : Dev Cert.Kernel48Ideal.nD) → Buf (Elt Ideal) ((c.tc : Thread Cert.Kernel48Ideal.nD Cert.Kernel48Ideal.τ).loc Cert.Kernel48Ideal.main_v0_2)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0_0) = v0 c
          ∧ r.2.mem ((c.tc : Thread Cert.Kernel48Ideal.nD Cert.Kernel48Ideal.τ).loc Cert.Kernel48Ideal.main_v0_1) = v1 c
          ∧ r.2.mem ((c.tc : Thread Cert.Kernel48Ideal.nD Cert.Kernel48Ideal.τ).loc Cert.Kernel48Ideal.main_v0_2) = v2 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v34) = v0 c
          ∧ r.2.mem ((c.tc : Thread Cert.Reference48Ideal.nD Cert.Reference48Ideal.τ).loc Cert.Reference48Ideal.main_v35) = v1 c
          ∧ r.2.mem ((c.tc : Thread Cert.Reference48Ideal.nD Cert.Reference48Ideal.τ).loc Cert.Reference48Ideal.main_v17) = v2 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v1)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v1) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v31) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v1)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v1) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v41) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)) →
    ∃ (v0 : (c : Dev Cert.Kernel52Ideal.nD) → Buf (Elt Ideal) ((c.tc : Thread Cert.Kernel52Ideal.nD Cert.Kernel52Ideal.τ).loc Cert.Kernel52Ideal.main_v1)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v1) = v0 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v41) = v0 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hPre_tame : Cert.Pre_tame.Facts) (hPre_bounded : Cert.Pre_bounded.Facts) (hPre_settled : Cert.Pre_settled.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_bounded (hKernel21Ideal := hKernel21Ideal) (hPre_bounded := hPre_bounded)
    ∧ quiescent_Reference21Ideal (hReference21Ideal := hReference21Ideal)
    ∧ quiescent_Reference21Ideal_pre_bounded (hReference21Ideal := hReference21Ideal) (hPre_bounded := hPre_bounded)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Kernel38Ideal_pre_settled (hKernel38Ideal := hKernel38Ideal) (hPre_settled := hPre_settled)
    ∧ quiescent_Reference38Ideal (hReference38Ideal := hReference38Ideal)
    ∧ quiescent_Reference38Ideal_pre_settled (hReference38Ideal := hReference38Ideal) (hPre_settled := hPre_settled)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_bounded (hKernel21Ideal := hKernel21Ideal) (hReference21Ideal := hReference21Ideal) (hPre_bounded := hPre_bounded)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal_pre_settled (hKernel38Ideal := hKernel38Ideal) (hReference38Ideal := hReference38Ideal) (hPre_settled := hPre_settled)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
-- ==== Pre_bounded.lean ====
abbrev S4224x1024 : Shape := ⟨2, ![4224, 1024]⟩
abbrev S_ : Shape := ⟨0, ![]⟩

class Facts : Prop where
  bcast_S_S4224x1024 : S_.BroadcastsInDim S4224x1024 (![] : Fin 0 → Fin S4224x1024.rank)

variable [Facts]

def fn {F : FTy → Type} [FloatOps F] (main_arg0 : FVec F S4224x1024 .bf16) (main_arg1 : FVec F S4224x1024 .bf16) (main_arg2 : FVec F S4224x1024 .bf16) : IVec S4224x1024 1 × IVec S4224x1024 1 :=
  let main_v0 : FVec F S4224x1024 .bf16 := Host.absf main_arg0
  let main_cst : FVec F S_ .bf16 := constant S_ .bf16 0x7F80#16
  let main_v1 : FVec F S4224x1024 .bf16 := broadcastInDim S4224x1024 ![] bcast_S_S4224x1024 main_cst
  let main_v2 : IVec S4224x1024 1 := cmpf .olt main_v0 main_v1
  let main_v3 : FVec F S4224x1024 .bf16 := Host.absf main_arg1
  let main_cst_0 : FVec F S_ .bf16 := constant S_ .bf16 0x7F80#16
  let main_v4 : FVec F S4224x1024 .bf16 := broadcastInDim S4224x1024 ![] bcast_S_S4224x1024 main_cst_0
  let main_v5 : IVec S4224x1024 1 := cmpf .olt main_v3 main_v4
  (main_v2, main_v5)
-- ==== Pre_settled.lean ====
abbrev S4224x5632 : Shape := ⟨2, ![4224, 5632]⟩
abbrev S4224x2816 : Shape := ⟨2, ![4224, 2816]⟩
abbrev S_ : Shape := ⟨0, ![]⟩

class Facts : Prop where
  slices_S4224x5632_S4224x2816_0_2816 : S4224x5632.Slices ![0, 2816] S4224x2816
  bcast_S_S4224x2816 : S_.BroadcastsInDim S4224x2816 (![] : Fin 0 → Fin S4224x2816.rank)

variable [Facts]

def fn {F : FTy → Type} [FloatOps F] (main_arg0 : FVec F S4224x5632 .f32) (main_arg1 : FVec F S4224x2816 .f32) : IVec S4224x2816 1 × IVec S4224x2816 1 :=
  let main_v0 : FVec F S4224x2816 .f32 := (extractStridedSlice S4224x2816 ![0, 2816] · slices_S4224x5632_S4224x2816_0_2816) main_arg0
  let main_v1 : FVec F S4224x2816 .f32 := Host.absf main_v0
  let main_cst : FVec F S_ .f32 := constant S_ .f32 0x7F800000#32
  let main_v2 : FVec F S4224x2816 .f32 := broadcastInDim S4224x2816 ![] bcast_S_S4224x2816 main_cst
  let main_v3 : IVec S4224x2816 1 := cmpf .olt main_v1 main_v2
  let main_v4 : FVec F S4224x2816 .f32 := Host.absf main_arg1
  let main_cst_0 : FVec F S_ .f32 := constant S_ .f32 0x7F800000#32
  let main_v5 : FVec F S4224x2816 .f32 := broadcastInDim S4224x2816 ![] bcast_S_S4224x2816 main_cst_0
  let main_v6 : IVec S4224x2816 1 := cmpf .olt main_v4 main_v5
  (main_v3, main_v6)
-- ==== Pre_tame.lean ====
abbrev S4224x1024 : Shape := ⟨2, ![4224, 1024]⟩
abbrev S4224x2048 : Shape := ⟨2, ![4224, 2048]⟩
abbrev S8x4224 : Shape := ⟨2, ![8, 4224]⟩
abbrev S8x66x64x64 : Shape := ⟨4, ![8, 66, 64, 64]⟩
abbrev S8x66x128x256 : Shape := ⟨4, ![8, 66, 128, 256]⟩
abbrev S8x66x64 : Shape := ⟨3, ![8, 66, 64]⟩
abbrev S_ : Shape := ⟨0, ![]⟩
abbrev S8x66x63 : Shape := ⟨3, ![8, 66, 63]⟩

class Facts : Prop where
  shapeCasts_S8x4224_S8x66x64 : S8x4224.ShapeCasts S8x66x64
  bcast_S_S4224x1024 : S_.BroadcastsInDim S4224x1024 (![] : Fin 0 → Fin S4224x1024.rank)
  bcast_S_S4224x2048 : S_.BroadcastsInDim S4224x2048 (![] : Fin 0 → Fin S4224x2048.rank)
  bcast_S_S8x4224 : S_.BroadcastsInDim S8x4224 (![] : Fin 0 → Fin S8x4224.rank)
  bcast_S_S8x66x64x64 : S_.BroadcastsInDim S8x66x64x64 (![] : Fin 0 → Fin S8x66x64x64.rank)
  bcast_S_S8x66x128x256 : S_.BroadcastsInDim S8x66x128x256 (![] : Fin 0 → Fin S8x66x128x256.rank)
  slices_S8x66x64_S8x66x63_0_0_1 : S8x66x64.Slices ![0, 0, 1] S8x66x63
  slices_S8x66x64_S8x66x63_0_0_0 : S8x66x64.Slices ![0, 0, 0] S8x66x63

variable [Facts]

def fn_part1 {F : FTy → Type} [FloatOps F] (main_arg6 : FVec F S8x66x128x256 .f32) (main_arg7 : FVec F S4224x2048 .f32) (main_v0 : FVec F S8x66x64 .f32) (main_v3 : IVec S4224x1024 1) (main_v6 : IVec S4224x1024 1) (main_v9 : IVec S4224x2048 1) (main_v12 : IVec S8x4224 1) (main_v15 : IVec S8x4224 1) (main_v16 : FVec F S8x66x64x64 .f32) (main_v17 : FVec F S8x66x64x64 .f32) : IVec S4224x1024 1 × IVec S4224x1024 1 × IVec S4224x2048 1 × IVec S8x4224 1 × IVec S8x4224 1 × IVec S8x66x64x64 1 × IVec S8x66x128x256 1 × IVec S4224x2048 1 × IVec S8x66x63 1 :=
  let main_v18 : IVec S8x66x64x64 1 := cmpf .olt main_v16 main_v17
  let main_v19 : FVec F S8x66x128x256 .f32 := Host.absf main_arg6
  let main_cst_5 : FVec F S_ .f32 := constant S_ .f32 0x7F800000#32
  let main_v20 : FVec F S8x66x128x256 .f32 := broadcastInDim S8x66x128x256 ![] bcast_S_S8x66x128x256 main_cst_5
  let main_v21 : IVec S8x66x128x256 1 := cmpf .olt main_v19 main_v20
  let main_v22 : FVec F S4224x2048 .f32 := Host.absf main_arg7
  let main_cst_6 : FVec F S_ .f32 := constant S_ .f32 0x7F800000#32
  let main_v23 : FVec F S4224x2048 .f32 := broadcastInDim S4224x2048 ![] bcast_S_S4224x2048 main_cst_6
  let main_v24 : IVec S4224x2048 1 := cmpf .olt main_v22 main_v23
  let main_v25 : FVec F S8x66x63 .f32 := (extractStridedSlice S8x66x63 ![0, 0, 1] · slices_S8x66x64_S8x66x63_0_0_1) main_v0
  let main_v26 : FVec F S8x66x63 .f32 := (extractStridedSlice S8x66x63 ![0, 0, 0] · slices_S8x66x64_S8x66x63_0_0_0) main_v0
  let main_v27 : IVec S8x66x63 1 := cmpf .ole main_v25 main_v26
  (main_v3, main_v6, main_v9, main_v12, main_v15, main_v18, main_v21, main_v24, main_v27)

def fn {F : FTy → Type} [FloatOps F] (main_arg0 : FVec F S4224x1024 .f32) (main_arg1 : FVec F S4224x1024 .f32) (main_arg2 : FVec F S4224x2048 .f32) (main_arg3 : FVec F S8x4224 .f32) (main_arg4 : FVec F S8x4224 .f32) (main_arg5 : FVec F S8x66x64x64 .f32) (main_arg6 : FVec F S8x66x128x256 .f32) (main_arg7 : FVec F S4224x2048 .f32) : IVec S4224x1024 1 × IVec S4224x1024 1 × IVec S4224x2048 1 × IVec S8x4224 1 × IVec S8x4224 1 × IVec S8x66x64x64 1 × IVec S8x66x128x256 1 × IVec S4224x2048 1 × IVec S8x66x63 1 :=
  let main_v0 : FVec F S8x66x64 .f32 := shapeCast S8x66x64 main_arg3 shapeCasts_S8x4224_S8x66x64
  let main_v1 : FVec F S4224x1024 .f32 := Host.absf main_arg0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_v4 : FVec F S4224x1024 .f32 := Host.absf main_arg1
  let main_cst_0 : FVec F S_ .f32 := constant S_ .f32 0x7F800000#32
  let main_v5 : FVec F S4224x1024 .f32 := broadcastInDim S4224x1024 ![] bcast_S_S4224x1024 main_cst_0
  let main_v6 : IVec S4224x1024 1 := cmpf .olt main_v4 main_v5
  let main_v7 : FVec F S4224x2048 .f32 := Host.absf main_arg2
  let main_cst_1 : FVec F S_ .f32 := constant S_ .f32 0x7F800000#32
  let main_v8 : FVec F S4224x2048 .f32 := broadcastInDim S4224x2048 ![] bcast_S_S4224x2048 main_cst_1
  let main_v9 : IVec S4224x2048 1 := cmpf .olt main_v7 main_v8
  let main_v10 : FVec F S8x4224 .f32 := Host.absf main_arg3
  let main_cst_2 : FVec F S_ .f32 := constant S_ .f32 0x7F800000#32
  let main_v11 : FVec F S8x4224 .f32 := broadcastInDim S8x4224 ![] bcast_S_S8x4224 main_cst_2
  let main_v12 : IVec S8x4224 1 := cmpf .olt main_v10 main_v11
  let main_v13 : FVec F S8x4224 .f32 := Host.absf main_arg4
  let main_cst_3 : FVec F S_ .f32 := constant S_ .f32 0x7F800000#32
  let main_v14 : FVec F S8x4224 .f32 := broadcastInDim S8x4224 ![] bcast_S_S8x4224 main_cst_3
  let main_v15 : IVec S8x4224 1 := cmpf .olt main_v13 main_v14
  let main_v16 : FVec F S8x66x64x64 .f32 := Host.absf main_arg5
  let main_cst_4 : FVec F S_ .f32 := constant S_ .f32 0x7F800000#32
  let main_v17 : FVec F S8x66x64x64 .f32 := broadcastInDim S8x66x64x64 ![] bcast_S_S8x66x64x64 main_cst_4
  fn_part1 (F := F) main_arg6 main_arg7 main_v0 main_v3 main_v6 main_v9 main_v12 main_v15 main_v16 main_v17
-- ==== Kernel.lean ====
abbrev S4224x1024 : Shape := ⟨2, ![4224, 1024]⟩
abbrev S4224x2048 : Shape := ⟨2, ![4224, 2048]⟩
abbrev S8x4224 : Shape := ⟨2, ![8, 4224]⟩
abbrev S8x66x64x64 : Shape := ⟨4, ![8, 66, 64, 64]⟩
abbrev S8x66x128x256 : Shape := ⟨4, ![8, 66, 128, 256]⟩
abbrev S66x64x8x128 : Shape := ⟨4, ![66, 64, 8, 128]⟩
abbrev S8x66x64x128 : Shape := ⟨4, ![8, 66, 64, 128]⟩
abbrev S_ : Shape := ⟨0, ![]⟩
abbrev S66x64x8x256 : Shape := ⟨4, ![66, 64, 8, 256]⟩
abbrev S8x66x64x256 : Shape := ⟨4, ![8, 66, 64, 256]⟩
abbrev S8x66x64 : Shape := ⟨3, ![8, 66, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x66x64x1 : Shape := ⟨4, ![8, 66, 64, 1]⟩
abbrev S8x66x1x64 : Shape := ⟨4, ![8, 66, 1, 64]⟩
abbrev S8x4224x1 : Shape := ⟨3, ![8, 4224, 1]⟩
abbrev S8x4224x128 : Shape := ⟨3, ![8, 4224, 128]⟩
abbrev S8x66x8x64 : Shape := ⟨4, ![8, 66, 8, 64]⟩
abbrev S8x66x8x128 : Shape := ⟨4, ![8, 66, 8, 128]⟩
abbrev S8x528x128 : Shape := ⟨3, ![8, 528, 128]⟩
abbrev S64x1024 : Shape := ⟨2, ![64, 1024]⟩
abbrev S64x2048 : Shape := ⟨2, ![64, 2048]⟩
abbrev S8x64x128 : Shape := ⟨3, ![8, 64, 128]⟩
abbrev S8x8x128 : Shape := ⟨3, ![8, 8, 128]⟩
abbrev S8x1x128x256 : Shape := ⟨4, ![8, 1, 128, 256]⟩
abbrev S8x1x64x64 : Shape := ⟨4, ![8, 1, 64, 64]⟩
abbrev S8x1x64x256 : Shape := ⟨4, ![8, 1, 64, 256]⟩
abbrev S8x1x64x128 : Shape := ⟨4, ![8, 1, 64, 128]⟩
abbrev S8x128x256 : Shape := ⟨3, ![8, 128, 256]⟩
abbrev S64x128 : Shape := ⟨2, ![64, 128]⟩
abbrev S64x256 : Shape := ⟨2, ![64, 256]⟩
abbrev S1x64x128 : Shape := ⟨3, ![1, 64, 128]⟩
abbrev S1x8x128 : Shape := ⟨3, ![1, 8, 128]⟩
abbrev S8x128 : Shape := ⟨2, ![8, 128]⟩
abbrev S1x1x64x64 : Shape := ⟨4, ![1, 1, 64, 64]⟩
abbrev S1x1x64x256 : Shape := ⟨4, ![1, 1, 64, 256]⟩
abbrev S1x1x64x128 : Shape := ⟨4, ![1, 1, 64, 128]⟩
abbrev S1x128 : Shape := ⟨2, ![1, 128]⟩
abbrev S1x1x128x256 : Shape := ⟨4, ![1, 1, 128, 256]⟩
abbrev S128x256 : Shape := ⟨2, ![128, 256]⟩
abbrev S1x128x256 : Shape := ⟨3, ![1, 128, 256]⟩
abbrev S1x1 : Shape := ⟨2, ![1, 1]⟩
abbrev S1 : Shape := ⟨1, ![1]⟩
abbrev S128 : Shape := ⟨1, ![128]⟩
abbrev S128x1 : Shape := ⟨2, ![128, 1]⟩

abbrev nBuf : Space → Nat
  | .hbm => 81
  | .vmem => 39
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x2048, .f32⟩
  | .hbm, ⟨3, _⟩ => ⟨S8x4224, .f32⟩
  | .hbm, ⟨4, _⟩ => ⟨S8x4224, .f32⟩
  | .hbm, ⟨5, _⟩ => ⟨S8x66x64x64, .f32⟩
  | .hbm, ⟨6, _⟩ => ⟨S8x66x128x256, .f32⟩
  | .hbm, ⟨7, _⟩ => ⟨S4224x2048, .f32⟩
  | .hbm, ⟨8, _⟩ => ⟨S66x64x8x128, .f32⟩
  | .hbm, ⟨9, _⟩ => ⟨S8x66x64x128, .f32⟩
  | .hbm, ⟨10, _⟩ => ⟨S_, .f32⟩
  | .hbm, ⟨11, _⟩ => ⟨S8x66x64x128, .f32⟩
  | .hbm, ⟨12, _⟩ => ⟨S8x66x64x128, .f32⟩
  | .hbm, ⟨13, _⟩ => ⟨S66x64x8x128, .f32⟩
  | .hbm, ⟨14, _⟩ => ⟨S8x66x64x128, .f32⟩
  | .hbm, ⟨15, _⟩ => ⟨S66x64x8x256, .f32⟩
  | .hbm, ⟨16, _⟩ => ⟨S8x66x64x256, .f32⟩
  | .hbm, ⟨17, _⟩ => ⟨S8x66x64, .f32⟩
  | .hbm, ⟨18, _⟩ => ⟨S8x66x64, .f32⟩
  | .hbm, ⟨19, _⟩ => ⟨S64, .i32⟩
  | .hbm, ⟨20, _⟩ => ⟨S64x1, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x1, .i32⟩
  | .hbm, ⟨26, _⟩ => ⟨S1x64, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S8x66x64x1, .f32⟩
  | .hbm, ⟨31, _⟩ => ⟨S8x66x1x64, .f32⟩
  | .hbm, ⟨32, _⟩ => ⟨S8x66x64x64, .f32⟩
  | .hbm, ⟨33, _⟩ => ⟨S8x66x64x64, .f32⟩
  | .hbm, ⟨34, _⟩ => ⟨S8x66x64x64, .f32⟩
  | .hbm, ⟨35, _⟩ => ⟨S_, .f32⟩
  | .hbm, ⟨36, _⟩ => ⟨S_, .f32⟩
  | .hbm, ⟨37, _⟩ => ⟨S8x66x64x64, .i1⟩
  | .hbm, ⟨38, _⟩ => ⟨S8x66x64x64, .f32⟩
  | .hbm, ⟨39, _⟩ => ⟨S8x66x64x64, .f32⟩
  | .hbm, ⟨40, _⟩ => ⟨S8x66x64x64, .f32⟩
  | .hbm, ⟨41, _⟩ => ⟨S8x66x64x1, .f32⟩
  | .hbm, ⟨42, _⟩ => ⟨S8x66x64x128, .f32⟩
  | .hbm, ⟨43, _⟩ => ⟨S8x66x64x128, .f32⟩
  | .hbm, ⟨44, _⟩ => ⟨S8x66x64x64, .f32⟩
  | .hbm, ⟨45, _⟩ => ⟨S8x66x64x64, .f32⟩
  | .hbm, ⟨46, _⟩ => ⟨S_, .f32⟩
  | .hbm, ⟨47, _⟩ => ⟨S_, .f32⟩
  | .hbm, ⟨48, _⟩ => ⟨S8x66x64x64, .i1⟩
  | .hbm, ⟨49, _⟩ => ⟨S8x66x64x64, .f32⟩
  | .hbm, ⟨50, _⟩ => ⟨S8x66x64x64, .f32⟩
  | .hbm, ⟨51, _⟩ => ⟨S8x66x64x1, .f32⟩
  | .hbm, ⟨52, _⟩ => ⟨S8x66x64x256, .f32⟩
  | .hbm, ⟨53, _⟩ => ⟨S8x66x64x256, .f32⟩
  | .hbm, ⟨54, _⟩ => ⟨S8x66x64x256, .f32⟩
  | .hbm, ⟨55, _⟩ => ⟨S8x66x64, .f32⟩
  | .hbm, ⟨56, _⟩ => ⟨S8x66x64x1, .f32⟩
  | .hbm, ⟨57, _⟩ => ⟨S8x66x64x128, .f32⟩
  | .hbm, ⟨58, _⟩ => ⟨S8x66x64x128, .f32⟩
  | .hbm, ⟨59, _⟩ => ⟨S8x66x64x128, .f32⟩
  | .hbm, ⟨60, _⟩ => ⟨S8x66x64x64, .f32⟩
  | .hbm, ⟨61, _⟩ => ⟨S8x66x64x64, .f32⟩
  | .hbm, ⟨62, _⟩ => ⟨S8x66x64x256, .f32⟩
  | .hbm, ⟨63, _⟩ => ⟨S8x66x64x256, .f32⟩
  | .hbm, ⟨64, _⟩ => ⟨S8x4224x1, .f32⟩
  | .hbm, ⟨65, _⟩ => ⟨S8x4224x128, .f32⟩
  | .hbm, ⟨66, _⟩ => ⟨S8x4224x1, .f32⟩
  | .hbm, ⟨67, _⟩ => ⟨S8x4224x128, .f32⟩
  | .hbm, ⟨68, _⟩ => ⟨S8x4224x1, .f32⟩
  | .hbm, ⟨69, _⟩ => ⟨S8x4224, .f32⟩
  | .hbm, ⟨70, _⟩ => ⟨S8x66x1x64, .f32⟩
  | .hbm, ⟨71, _⟩ => ⟨S8x66x8x64, .f32⟩
  | .hbm, ⟨72, _⟩ => ⟨S_, .i32⟩
  | .hbm, ⟨73, _⟩ => ⟨S_, .f32⟩
  | .hbm, ⟨74, _⟩ => ⟨S8x66x8x128, .f32⟩
  | .hbm, ⟨75, _⟩ => ⟨S8x528x128, .f32⟩
  | .hbm, ⟨76, _⟩ => ⟨S4224x1024, .f32⟩
  | .hbm, ⟨77, _⟩ => ⟨S4224x1024, .f32⟩
  | .hbm, ⟨78, _⟩ => ⟨S4224x2048, .f32⟩
  | .hbm, ⟨79, _⟩ => ⟨S8x4224x128, .f32⟩
  | .hbm, ⟨80, _⟩ => ⟨S8x4224x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S8x64x128, .f32⟩
  | .local _ .vmem, ⟨7, _⟩ => ⟨S8x64x128, .f32⟩
  | .local _ .vmem, ⟨8, _⟩ => ⟨S8x64x128, .f32⟩
  | .local _ .vmem, ⟨9, _⟩ => ⟨S8x64x128, .f32⟩
  | .local _ .vmem, ⟨10, _⟩ => ⟨S8x8x128, .f32⟩
  | .local _ .vmem, ⟨11, _⟩ => ⟨S8x8x128, .f32⟩
  | .local _ .vmem, ⟨12, _⟩ => ⟨S8x1x128x256, .f32⟩
  | .local _ .vmem, ⟨13, _⟩ => ⟨S8x1x128x256, .f32⟩
  | .local _ .vmem, ⟨14, _⟩ => ⟨S8x1x64x64, .f32⟩
  | .local _ .vmem, ⟨15, _⟩ => ⟨S8x1x64x64, .f32⟩
  | .local _ .vmem, ⟨16, _⟩ => ⟨S8x1x64x256, .f32⟩
  | .local _ .vmem, ⟨17, _⟩ => ⟨S8x1x64x256, .f32⟩
  | .local _ .vmem, ⟨18, _⟩ => ⟨S8x1x64x128, .f32⟩
  | .local _ .vmem, ⟨19, _⟩ => ⟨S8x1x64x128, .f32⟩
  | .local _ .vmem, ⟨20, _⟩ => ⟨S8x1x64x64, .f32⟩
  | .local _ .vmem, ⟨21, _⟩ => ⟨S8x1x64x64, .f32⟩
  | .local _ .vmem, ⟨22, _⟩ => ⟨S8x1x64x64, .f32⟩
  | .local _ .vmem, ⟨23, _⟩ => ⟨S8x1x64x64, .f32⟩
  | .local _ .vmem, ⟨24, _⟩ => ⟨S8x1x64x256, .f32⟩
  | .local _ .vmem, ⟨25, _⟩ => ⟨S8x1x64x256, .f32⟩
  | .local _ .vmem, ⟨26, _⟩ => ⟨S64x2048, .f32⟩
  | .local _ .vmem, ⟨27, _⟩ => ⟨S64x2048, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x2048, .f32⟩
  | .local _ .vmem, ⟨33, _⟩ => ⟨S64x2048, .f32⟩
  | .local _ .vmem, ⟨34, _⟩ => ⟨S8x64x128, .f32⟩
  | .local _ .vmem, ⟨35, _⟩ => ⟨S8x64x128, .f32⟩
  | .local _ .vmem, ⟨36, _⟩ => ⟨S8x64x128, .f32⟩
  | .local _ .vmem, ⟨37, _⟩ => ⟨S8x64x128, .f32⟩
  | .local _ .vmem, ⟨38, _⟩ => ⟨S8x128x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_call2_v0 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_17 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_18 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
abbrev S4224x1024 : Shape := ⟨2, ![4224, 1024]⟩
abbrev S4224x2048 : Shape := ⟨2, ![4224, 2048]⟩
abbrev S8x4224 : Shape := ⟨2, ![8, 4224]⟩
abbrev S8x66x64x64 : Shape := ⟨4, ![8, 66, 64, 64]⟩
abbrev S8x66x128x256 : Shape := ⟨4, ![8, 66, 128, 256]⟩
abbrev S66x64x8x128 : Shape := ⟨4, ![66, 64, 8, 128]⟩
abbrev S8x66x64x128 : Shape := ⟨4, ![8, 66, 64, 128]⟩
abbrev S_ : Shape := ⟨0, ![]⟩
abbrev S66x64x8x256 : Shape := ⟨4, ![66, 64, 8, 256]⟩
abbrev S8x66x64x256 : Shape := ⟨4, ![8, 66, 64, 256]⟩
abbrev S8x66x64 : Shape := ⟨3, ![8, 66, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x66x64x1 : Shape := ⟨4, ![8, 66, 64, 1]⟩
abbrev S8x66x1x64 : Shape := ⟨4, ![8, 66, 1, 64]⟩
abbrev S8x4224x1 : Shape := ⟨3, ![8, 4224, 1]⟩
abbrev S8x4224x128 : Shape := ⟨3, ![8, 4224, 128]⟩
abbrev S8x66x8x64 : Shape := ⟨4, ![8, 66, 8, 64]⟩
abbrev S8x66x8x128 : Shape := ⟨4, ![8, 66, 8, 128]⟩
abbrev S8x528x128 : Shape := ⟨3, ![8, 528, 128]⟩
abbrev S64x1024 : Shape := ⟨2, ![64, 1024]⟩
abbrev S64x2048 : Shape := ⟨2, ![64, 2048]⟩
abbrev S8x64x128 : Shape := ⟨3, ![8, 64, 128]⟩
abbrev S8x8x128 : Shape := ⟨3, ![8, 8, 128]⟩
abbrev S8x1x128x256 : Shape := ⟨4, ![8, 1, 128, 256]⟩
abbrev S8x1x64x64 : Shape := ⟨4, ![8, 1, 64, 64]⟩
abbrev S8x1x64x256 : Shape := ⟨4, ![8, 1, 64, 256]⟩
abbrev S8x1x64x128 : Shape := ⟨4, ![8, 1, 64, 128]⟩
abbrev S8x128x256 : Shape := ⟨3, ![8, 128, 256]⟩
abbrev S64x128 : Shape := ⟨2, ![64, 128]⟩
abbrev S64x256 : Shape := ⟨2, ![64, 256]⟩
abbrev S1x64x128 : Shape := ⟨3, ![1, 64, 128]⟩
abbrev S1x8x128 : Shape := ⟨3, ![1, 8, 128]⟩
abbrev S8x128 : Shape := ⟨2, ![8, 128]⟩
abbrev S1x1x64x64 : Shape := ⟨4, ![1, 1, 64, 64]⟩
abbrev S1x1x64x256 : Shape := ⟨4, ![1, 1, 64, 256]⟩
abbrev S1x1x64x128 : Shape := ⟨4, ![1, 1, 64, 128]⟩
abbrev S1x128 : Shape := ⟨2, ![1, 128]⟩
abbrev S1x1x128x256 : Shape := ⟨4, ![1, 1, 128, 256]⟩
abbrev S128x256 : Shape := ⟨2, ![128, 256]⟩
abbrev S1x128x256 : Shape := ⟨3, ![1, 128, 256]⟩
abbrev S1x1 : Shape := ⟨2, ![1, 1]⟩
abbrev S1 : Shape := ⟨1, ![1]⟩
abbrev S128 : Shape := ⟨1, ![128]⟩
abbrev S128x1 : Shape := ⟨2, ![128, 1]⟩

abbrev nBuf : Space → Nat
  | .hbm => 81
  | .vmem => 39
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x2048, .f32⟩
  | .hbm, ⟨3, _⟩ => ⟨S8x4224, .f32⟩
  | .hbm, ⟨4, _⟩ => ⟨S8x4224, .f32⟩
  | .hbm, ⟨5, _⟩ => ⟨S8x66x64x64, .f32⟩
  | .hbm, ⟨6, _⟩ => ⟨S8x66x128x256, .f32⟩
  | .hbm, ⟨7, _⟩ => ⟨S4224x2048, .f32⟩
  | .hbm, ⟨8, _⟩ => ⟨S66x64x8x128, .f32⟩
  | .hbm, ⟨9, _⟩ => ⟨S8x66x64x128, .f32⟩
  | .hbm, ⟨10, _⟩ => ⟨S_, .f32⟩
  | .hbm, ⟨11, _⟩ => ⟨S8x66x64x128, .f32⟩
  | .hbm, ⟨12, _⟩ => ⟨S8x66x64x128, .f32⟩
  | .hbm, ⟨13, _⟩ => ⟨S66x64x8x128, .f32⟩
  | .hbm, ⟨14, _⟩ => ⟨S8x66x64x128, .f32⟩
  | .hbm, ⟨15, _⟩ => ⟨S66x64x8x256, .f32⟩
  | .hbm, ⟨16, _⟩ => ⟨S8x66x64x256, .f32⟩
  | .hbm, ⟨17, _⟩ => ⟨S8x66x64, .f32⟩
  | .hbm, ⟨18, _⟩ => ⟨S8x66x64, .f32⟩
  | .hbm, ⟨19, _⟩ => ⟨S64, .i32⟩
  | .hbm, ⟨20, _⟩ => ⟨S64x1, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x1, .i32⟩
  | .hbm, ⟨26, _⟩ => ⟨S1x64, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S8x66x64x1, .f32⟩
  | .hbm, ⟨31, _⟩ => ⟨S8x66x1x64, .f32⟩
  | .hbm, ⟨32, _⟩ => ⟨S8x66x64x64, .f32⟩
  | .hbm, ⟨33, _⟩ => ⟨S8x66x64x64, .f32⟩
  | .hbm, ⟨34, _⟩ => ⟨S8x66x64x64, .f32⟩
  | .hbm, ⟨35, _⟩ => ⟨S_, .f32⟩
  | .hbm, ⟨36, _⟩ => ⟨S_, .f32⟩
  | .hbm, ⟨37, _⟩ => ⟨S8x66x64x64, .i1⟩
  | .hbm, ⟨38, _⟩ => ⟨S8x66x64x64, .f32⟩
  | .hbm, ⟨39, _⟩ => ⟨S8x66x64x64, .f32⟩
  | .hbm, ⟨40, _⟩ => ⟨S8x66x64x64, .f32⟩
  | .hbm, ⟨41, _⟩ => ⟨S8x66x64x1, .f32⟩
  | .hbm, ⟨42, _⟩ => ⟨S8x66x64x128, .f32⟩
  | .hbm, ⟨43, _⟩ => ⟨S8x66x64x128, .f32⟩
  | .hbm, ⟨44, _⟩ => ⟨S8x66x64x64, .f32⟩
  | .hbm, ⟨45, _⟩ => ⟨S8x66x64x64, .f32⟩
  | .hbm, ⟨46, _⟩ => ⟨S_, .f32⟩
  | .hbm, ⟨47, _⟩ => ⟨S_, .f32⟩
  | .hbm, ⟨48, _⟩ => ⟨S8x66x64x64, .i1⟩
  | .hbm, ⟨49, _⟩ => ⟨S8x66x64x64, .f32⟩
  | .hbm, ⟨50, _⟩ => ⟨S8x66x64x64, .f32⟩
  | .hbm, ⟨51, _⟩ => ⟨S8x66x64x1, .f32⟩
  | .hbm, ⟨52, _⟩ => ⟨S8x66x64x256, .f32⟩
  | .hbm, ⟨53, _⟩ => ⟨S8x66x64x256, .f32⟩
  | .hbm, ⟨54, _⟩ => ⟨S8x66x64x256, .f32⟩
  | .hbm, ⟨55, _⟩ => ⟨S8x66x64, .f32⟩
  | .hbm, ⟨56, _⟩ => ⟨S8x66x64x1, .f32⟩
  | .hbm, ⟨57, _⟩ => ⟨S8x66x64x128, .f32⟩
  | .hbm, ⟨58, _⟩ => ⟨S8x66x64x128, .f32⟩
  | .hbm, ⟨59, _⟩ => ⟨S8x66x64x128, .f32⟩
  | .hbm, ⟨60, _⟩ => ⟨S8x66x64x64, .f32⟩
  | .hbm, ⟨61, _⟩ => ⟨S8x66x64x64, .f32⟩
  | .hbm, ⟨62, _⟩ => ⟨S8x66x64x256, .f32⟩
  | .hbm, ⟨63, _⟩ => ⟨S8x66x64x256, .f32⟩
  | .hbm, ⟨64, _⟩ => ⟨S8x4224x1, .f32⟩
  | .hbm, ⟨65, _⟩ => ⟨S8x4224x128, .f32⟩
  | .hbm, ⟨66, _⟩ => ⟨S8x4224x1, .f32⟩
  | .hbm, ⟨67, _⟩ => ⟨S8x4224x128, .f32⟩
  | .hbm, ⟨68, _⟩ => ⟨S8x4224x1, .f32⟩
  | .hbm, ⟨69, _⟩ => ⟨S8x4224, .f32⟩
  | .hbm, ⟨70, _⟩ => ⟨S8x66x1x64, .f32⟩
  | .hbm, ⟨71, _⟩ => ⟨S8x66x8x64, .f32⟩
  | .hbm, ⟨72, _⟩ => ⟨S_, .i32⟩
  | .hbm, ⟨73, _⟩ => ⟨S_, .f32⟩
  | .hbm, ⟨74, _⟩ => ⟨S8x66x8x128, .f32⟩
  | .hbm, ⟨75, _⟩ => ⟨S8x528x128, .f32⟩
  | .hbm, ⟨76, _⟩ => ⟨S4224x1024, .f32⟩
  | .hbm, ⟨77, _⟩ => ⟨S4224x1024, .f32⟩
  | .hbm, ⟨78, _⟩ => ⟨S4224x2048, .f32⟩
  | .hbm, ⟨79, _⟩ => ⟨S8x4224x128, .f32⟩
  | .hbm, ⟨80, _⟩ => ⟨S8x4224x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S8x64x128, .f32⟩
  | .local _ .vmem, ⟨7, _⟩ => ⟨S8x64x128, .f32⟩
  | .local _ .vmem, ⟨8, _⟩ => ⟨S8x64x128, .f32⟩
  | .local _ .vmem, ⟨9, _⟩ => ⟨S8x64x128, .f32⟩
  | .local _ .vmem, ⟨10, _⟩ => ⟨S8x8x128, .f32⟩
  | .local _ .vmem, ⟨11, _⟩ => ⟨S8x8x128, .f32⟩
  | .local _ .vmem, ⟨12, _⟩ => ⟨S8x1x128x256, .f32⟩
  | .local _ .vmem, ⟨13, _⟩ => ⟨S8x1x128x256, .f32⟩
  | .local _ .vmem, ⟨14, _⟩ => ⟨S8x1x64x64, .f32⟩
  | .local _ .vmem, ⟨15, _⟩ => ⟨S8x1x64x64, .f32⟩
  | .local _ .vmem, ⟨16, _⟩ => ⟨S8x1x64x256, .f32⟩
  | .local _ .vmem, ⟨17, _⟩ => ⟨S8x1x64x256, .f32⟩
  | .local _ .vmem, ⟨18, _⟩ => ⟨S8x1x64x128, .f32⟩
  | .local _ .vmem, ⟨19, _⟩ => ⟨S8x1x64x128, .f32⟩
  | .local _ .vmem, ⟨20, _⟩ => ⟨S8x1x64x64, .f32⟩
  | .local _ .vmem, ⟨21, _⟩ => ⟨S8x1x64x64, .f32⟩
  | .local _ .vmem, ⟨22, _⟩ => ⟨S8x1x64x64, .f32⟩
  | .local _ .vmem, ⟨23, _⟩ => ⟨S8x1x64x64, .f32⟩
  | .local _ .vmem, ⟨24, _⟩ => ⟨S8x1x64x256, .f32⟩
  | .local _ .vmem, ⟨25, _⟩ => ⟨S8x1x64x256, .f32⟩
  | .local _ .vmem, ⟨26, _⟩ => ⟨S64x2048, .f32⟩
  | .local _ .vmem, ⟨27, _⟩ => ⟨S64x2048, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x2048, .f32⟩
  | .local _ .vmem, ⟨33, _⟩ => ⟨S64x2048, .f32⟩
  | .local _ .vmem, ⟨34, _⟩ => ⟨S8x64x128, .f32⟩
  | .local _ .vmem, ⟨35, _⟩ => ⟨S8x64x128, .f32⟩
  | .local _ .vmem, ⟨36, _⟩ => ⟨S8x64x128, .f32⟩
  | .local _ .vmem, ⟨37, _⟩ => ⟨S8x64x128, .f32⟩
  | .local _ .vmem, ⟨38, _⟩ => ⟨S8x128x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_call2_v0 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  ![v0.toNat, arg0.toNat]

def cc0_transform_17 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

def cc0_transform_18 (i : grid0.Coords) : Fin 3 → Nat :=
  let arg0 : BitVec 32 := BitVec.ofNat 32 (i 0).val
  let arg1 : BitVec 32 := BitVec.ofNat 32 (i 1).val
  let c65_i32 : BitVec 32 := 65#32
  let v0 : BitVec 32 := Scalar.subi c65_i32 arg1
  let c0_i32 : BitVec 32 := 0#32
  let c0_i32_0 : BitVec 32 := 0#32
  ![arg0.toNat, v0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S4224x1024 : Shape := ⟨2, ![4224, 1024]⟩
abbrev S4224x2048 : Shape := ⟨2, ![4224, 2048]⟩
abbrev S8x4224 : Shape := ⟨2, ![8, 4224]⟩
abbrev S8x66x64x64 : Shape := ⟨4, ![8, 66, 64, 64]⟩
abbrev S8x66x128x256 : Shape := ⟨4, ![8, 66, 128, 256]⟩
abbrev S66x64x8x128 : Shape := ⟨4, ![66, 64, 8, 128]⟩
abbrev S66x8x64x128 : Shape := ⟨4, ![66, 8, 64, 128]⟩
abbrev S66x64x8x256 : Shape := ⟨4, ![66, 64, 8, 256]⟩
abbrev S66x8x64x256 : Shape := ⟨4, ![66, 8, 64, 256]⟩
abbrev S8x66x64 : Shape := ⟨3, ![8, 66, 64]⟩
abbrev S66x8x64 : Shape := ⟨3, ![66, 8, 64]⟩
abbrev S66x8x64x64 : Shape := ⟨4, ![66, 8, 64, 64]⟩
abbrev S66x8x128x256 : Shape := ⟨4, ![66, 8, 128, 256]⟩
abbrev S_ : Shape := ⟨0, ![]⟩
abbrev S8x128x256 : Shape := ⟨3, ![8, 128, 256]⟩
abbrev S66 : Shape := ⟨1, ![66]⟩
abbrev S1 : Shape := ⟨1, ![1]⟩
abbrev S1x8x64x128 : Shape := ⟨4, ![1, 8, 64, 128]⟩
abbrev S8x64x128 : Shape := ⟨3, ![8, 64, 128]⟩
abbrev S1x8x64x256 : Shape := ⟨4, ![1, 8, 64, 256]⟩
abbrev S8x64x256 : Shape := ⟨3, ![8, 64, 256]⟩
abbrev S1x8x64 : Shape := ⟨3, ![1, 8, 64]⟩
abbrev S8x64 : Shape := ⟨2, ![8, 64]⟩
abbrev S1x8x64x64 : Shape := ⟨4, ![1, 8, 64, 64]⟩
abbrev S8x64x64 : Shape := ⟨3, ![8, 64, 64]⟩
abbrev S1x8x128x256 : Shape := ⟨4, ![1, 8, 128, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S8x256x64 : Shape := ⟨3, ![8, 256, 64]⟩
abbrev S8x128x64 : Shape := ⟨3, ![8, 128, 64]⟩
abbrev S8x256x128 : Shape := ⟨3, ![8, 256, 128]⟩
abbrev S66x1x1x1 : Shape := ⟨4, ![66, 1, 1, 1]⟩
abbrev S66x1x1 : Shape := ⟨3, ![66, 1, 1]⟩
abbrev S8x4224x1 : Shape := ⟨3, ![8, 4224, 1]⟩
abbrev S8x4224x128 : Shape := ⟨3, ![8, 4224, 128]⟩

abbrev nBuf : Space → Nat
  | .hbm => 354
  | .vmem => 0
  | .smem => 0
  | _ => 0

abbrev hbmTy0_0 (i : Nat) : BufTy := match i % 128 with
  | 0 => ⟨S4224x1024, .f32⟩
  | 1 => ⟨S4224x1024, .f32⟩
  | 2 => ⟨S4224x2048, .f32⟩
  | 3 => ⟨S8x4224, .f32⟩
  | 4 => ⟨S8x4224, .f32⟩
  | 5 => ⟨S8x66x64x64, .f32⟩
  | 6 => ⟨S8x66x128x256, .f32⟩
  | 7 => ⟨S4224x2048, .f32⟩
  | 8 => ⟨S66x64x8x128, .f32⟩
  | 9 => ⟨S66x8x64x128, .f32⟩
  | 10 => ⟨S66x64x8x128, .f32⟩
  | 11 => ⟨S66x8x64x128, .f32⟩
  | 12 => ⟨S66x64x8x256, .f32⟩
  | 13 => ⟨S66x8x64x256, .f32⟩
  | 14 => ⟨S8x66x64, .f32⟩
  | 15 => ⟨S66x8x64, .f32⟩
  | 16 => ⟨S8x66x64, .f32⟩
  | 17 => ⟨S66x8x64, .f32⟩
  | 18 => ⟨S66x8x64x64, .f32⟩
  | 19 => ⟨S66x8x128x256, .f32⟩
  | 20 => ⟨S66x64x8x256, .f32⟩
  | 21 => ⟨S66x8x64x256, .f32⟩
  | 22 => ⟨S_, .f32⟩
  | 23 => ⟨S66x8x64x128, .f32⟩
  | 24 => ⟨S_, .f32⟩
  | 25 => ⟨S66x8x64x128, .f32⟩
  | 26 => ⟨S_, .f32⟩
  | 27 => ⟨S66x8x64x256, .f32⟩
  | 28 => ⟨S_, .f32⟩
  | 29 => ⟨S66x8x64, .f32⟩
  | 30 => ⟨S_, .f32⟩
  | 31 => ⟨S66x8x64, .f32⟩
  | 32 => ⟨S_, .f32⟩
  | 33 => ⟨S8x128x256, .f32⟩
  | 34 => ⟨S66, .i32⟩
  | 35 => ⟨S_, .i32⟩
  | 36 => ⟨S66, .i32⟩
  | 37 => ⟨S66x8x64x128, .f32⟩
  | 38 => ⟨S66x8x64x128, .f32⟩
  | 39 => ⟨S66x8x64x256, .f32⟩
  | 40 => ⟨S66x8x64, .f32⟩
  | 41 => ⟨S66x8x64, .f32⟩
  | 42 => ⟨S66x8x64x64, .f32⟩
  | 43 => ⟨S66x8x128x256, .f32⟩
  | 44 => ⟨S66x8x64x256, .f32⟩
  | 45 => ⟨S_, .i32⟩
  | 46 => ⟨S8x128x256, .f32⟩
  | 47 => ⟨S66x8x64x128, .f32⟩
  | 48 => ⟨S66x8x64x128, .f32⟩
  | 49 => ⟨S66x8x64x256, .f32⟩
  | 50 => ⟨S66x8x64, .f32⟩
  | 51 => ⟨S66x8x64, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S_, .i32⟩
  | 67 => ⟨S_, .i32⟩
  | 68 => ⟨S1x8x64x128, .f32⟩
  | 69 => ⟨S8x64x128, .f32⟩
  | 70 => ⟨S_, .i32⟩
  | 71 => ⟨S_, .i32⟩
  | 72 => ⟨S_, .i32⟩
  | 73 => ⟨S1x8x64x256, .f32⟩
  | 74 => ⟨S8x64x256, .f32⟩
  | 75 => ⟨S_, .i32⟩
  | 76 => ⟨S_, .i32⟩
  | 77 => ⟨S1x8x64, .f32⟩
  | 78 => ⟨S8x64, .f32⟩
  | 79 => ⟨S_, .i32⟩
  | 80 => ⟨S_, .i32⟩
  | 81 => ⟨S1x8x64, .f32⟩
  | 82 => ⟨S8x64, .f32⟩
  | 83 => ⟨S_, .i32⟩
  | 84 => ⟨S_, .i32⟩
  | 85 => ⟨S_, .i32⟩
  | 86 => ⟨S1x8x64x64, .f32⟩
  | 87 => ⟨S8x64x64, .f32⟩
  | 88 => ⟨S_, .i32⟩
  | 89 => ⟨S_, .i32⟩
  | 90 => ⟨S_, .i32⟩
  | 91 => ⟨S1x8x128x256, .f32⟩
  | 92 => ⟨S8x128x256, .f32⟩
  | 93 => ⟨S_, .i32⟩
  | 94 => ⟨S_, .i32⟩
  | 95 => ⟨S_, .i32⟩
  | 96 => ⟨S1x8x64x256, .f32⟩
  | 97 => ⟨S8x64x256, .f32⟩
  | 98 => ⟨S_, .f32⟩
  | 99 => ⟨S8x64x128, .f32⟩
  | 100 => ⟨S8x64x128, .f32⟩
  | 101 => ⟨S64, .i32⟩
  | 102 => ⟨S64x1, .i32⟩
  | 103 => ⟨S1x64, .i32⟩
  | 104 => ⟨S64x64, .i32⟩
  | 105 => ⟨S64x64, .i32⟩
  | 106 => ⟨S64x64, .i1⟩
  | 107 => ⟨S64x1, .i32⟩
  | 108 => ⟨S1x64, .i32⟩
  | 109 => ⟨S64x64, .i32⟩
  | 110 => ⟨S64x64, .i32⟩
  | 111 => ⟨S64x64, .i1⟩
  | 112 => ⟨S8x64x1, .f32⟩
  | 113 => ⟨S8x1x64, .f32⟩
  | 114 => ⟨S8x64x64, .f32⟩
  | 115 => ⟨S8x64x64, .f32⟩
  | 116 => ⟨S8x64x64, .f32⟩
  | 117 => ⟨S_, .f32⟩
  | 118 => ⟨S_, .f32⟩
  | 119 => ⟨S8x64x64, .i1⟩
  | 120 => ⟨S8x64x64, .f32⟩
  | 121 => ⟨S8x64x64, .f32⟩
  | 122 => ⟨S_, .f32⟩
  | 123 => ⟨S8x64x64, .f32⟩
  | 124 => ⟨S8x64x64, .f32⟩
  | 125 => ⟨S8x64x1, .f32⟩
  | 126 => ⟨S8x64x128, .f32⟩
  | 127 => ⟨S8x64x128, .f32⟩
  | _ => ⟨S4224x1024, .f32⟩

abbrev hbmTy0_1 (i : Nat) : BufTy := match i % 128 with
  | 0 => ⟨S8x64x64, .f32⟩
  | 1 => ⟨S8x64x64, .f32⟩
  | 2 => ⟨S_, .f32⟩
  | 3 => ⟨S_, .f32⟩
  | 4 => ⟨S8x64x64, .i1⟩
  | 5 => ⟨S8x64x64, .f32⟩
  | 6 => ⟨S8x64x64, .f32⟩
  | 7 => ⟨S_, .f32⟩
  | 8 => ⟨S8x64x64, .f32⟩
  | 9 => ⟨S8x64x1, .f32⟩
  | 10 => ⟨S8x64x256, .f32⟩
  | 11 => ⟨S8x64x256, .f32⟩
  | 12 => ⟨S8x64x256, .f32⟩
  | 13 => ⟨S8x64, .f32⟩
  | 14 => ⟨S8x64x1, .f32⟩
  | 15 => ⟨S8x64x128, .f32⟩
  | 16 => ⟨S8x64x128, .f32⟩
  | 17 => ⟨S8x64x128, .f32⟩
  | 18 => ⟨S8x64x64, .f32⟩
  | 19 => ⟨S8x64x64, .f32⟩
  | 20 => ⟨S8x64, .f32⟩
  | 21 => ⟨S8x64x1, .f32⟩
  | 22 => ⟨S8x64x128, .f32⟩
  | 23 => ⟨S8x64x128, .f32⟩
  | 24 => ⟨S8x1, .f32⟩
  | 25 => ⟨S8x64, .f32⟩
  | 26 => ⟨S8x64, .f32⟩
  | 27 => ⟨S8x64, .f32⟩
  | 28 => ⟨S8x64x1, .f32⟩
  | 29 => ⟨S8x64x128, .f32⟩
  | 30 => ⟨S8x64x128, .f32⟩
  | 31 => ⟨S8x1, .f32⟩
  | 32 => ⟨S8, .f32⟩
  | 33 => ⟨S8, .f32⟩
  | 34 => ⟨S8x64x256, .f32⟩
  | 35 => ⟨S8x64x256, .f32⟩
  | 36 => ⟨S8x64x256, .f32⟩
  | 37 => ⟨S8x64x256, .f32⟩
  | 38 => ⟨S8x64x256, .f32⟩
  | 39 => ⟨S8x1x1, .f32⟩
  | 40 => ⟨S8x128x256, .f32⟩
  | 41 => ⟨S8x128x256, .f32⟩
  | 42 => ⟨S8x128x256, .f32⟩
  | 43 => ⟨S8x128x256, .f32⟩
  | 44 => ⟨S8x256x64, .f32⟩
  | 45 => ⟨S8x64x256, .f32⟩
  | 46 => ⟨S8x128x64, .f32⟩
  | 47 => ⟨S8x64x128, .f32⟩
  | 48 => ⟨S8x128x256, .f32⟩
  | 49 => ⟨S_, .f32⟩
  | 50 => ⟨S8, .f32⟩
  | 51 => ⟨S8x1x1, .f32⟩
  | 52 => ⟨S8x128x256, .f32⟩
  | 53 => ⟨S8x128x256, .f32⟩
  | 54 => ⟨S_, .f32⟩
  | 55 => ⟨S8, .f32⟩
  | 56 => ⟨S8x256x64, .f32⟩
  | 57 => ⟨S8x64x256, .f32⟩
  | 58 => ⟨S8x64x256, .f32⟩
  | 59 => ⟨S8x64x64, .f32⟩
  | 60 => ⟨S8x256x128, .f32⟩
  | 61 => ⟨S8x128x256, .f32⟩
  | 62 => ⟨S8x128x256, .f32⟩
  | 63 => ⟨S8x64x128, .f32⟩
  | 64 => ⟨S8x64x256, .f32⟩
  | 65 => ⟨S8x256x128, .f32⟩
  | 66 => ⟨S8x128x256, .f32⟩
  | 67 => ⟨S8x128x256, .f32⟩
  | 68 => ⟨S8x64x128, .f32⟩
  | 69 => ⟨S8, .f32⟩
  | 70 => ⟨S8x1, .f32⟩
  | 71 => ⟨S_, .f32⟩
  | 72 => ⟨S8x64, .f32⟩
  | 73 => ⟨S8x64x128, .f32⟩
  | 74 => ⟨S_, .f32⟩
  | 75 => ⟨S8x64, .f32⟩
  | 76 => ⟨S8x64x1, .f32⟩
  | 77 => ⟨S8x64x128, .f32⟩
  | 78 => ⟨S8x64x128, .f32⟩
  | 79 => ⟨S_, .f32⟩
  | 80 => ⟨S8x64, .f32⟩
  | 81 => ⟨S8x64, .f32⟩
  | 82 => ⟨S_, .f32⟩
  | 83 => ⟨S8, .f32⟩
  | 84 => ⟨S8x1, .f32⟩
  | 85 => ⟨S8x64, .f32⟩
  | 86 => ⟨S8x64, .f32⟩
  | 87 => ⟨S_, .f32⟩
  | 88 => ⟨S8x64, .f32⟩
  | 89 => ⟨S8x64, .f32⟩
  | 90 => ⟨S8x64x128, .f32⟩
  | 91 => ⟨S_, .f32⟩
  | 92 => ⟨S8x64, .f32⟩
  | 93 => ⟨S8x64x1, .f32⟩
  | 94 => ⟨S8x64x128, .f32⟩
  | 95 => ⟨S8x64x128, .f32⟩
  | 96 => ⟨S_, .f32⟩
  | 97 => ⟨S8x64, .f32⟩
  | 98 => ⟨S8x64, .f32⟩
  | 99 => ⟨S8x64, .f32⟩
  | 100 => ⟨S8x64x64, .f32⟩
  | 101 => ⟨S8x64x64, .f32⟩
  | 102 => ⟨S8x64x128, .f32⟩
  | 103 => ⟨S8x64x128, .f32⟩
  | 104 => ⟨S8x64x128, .f32⟩
  | 105 => ⟨S8x64x128, .f32⟩
  | 106 => ⟨S8x64x128, .f32⟩
  | 107 => ⟨S8x64x64, .f32⟩
  | 108 => ⟨S8x64x64, .f32⟩
  | 109 => ⟨S_, .f32⟩
  | 110 => ⟨S8x64x64, .f32⟩
  | 111 => ⟨S8x64x128, .f32⟩
  | 112 => ⟨S_, .f32⟩
  | 113 => ⟨S8x64, .f32⟩
  | 114 => ⟨S8x64x1, .f32⟩
  | 115 => ⟨S8x64x128, .f32⟩
  | 116 => ⟨S8x64x128, .f32⟩
  | 117 => ⟨S_, .f32⟩
  | 118 => ⟨S8x64, .f32⟩
  | 119 => ⟨S8x64, .f32⟩
  | 120 => ⟨S8x64, .f32⟩
  | 121 => ⟨S8x64x256, .f32⟩
  | 122 => ⟨S8x64x64, .f32⟩
  | 123 => ⟨S8x64x64, .f32⟩
  | 124 => ⟨S_, .f32⟩
  | 125 => ⟨S8x64x64, .f32⟩
  | 126 => ⟨S8x64x64, .f32⟩
  | 127 => ⟨S8x64x256, .f32⟩
  | _ => ⟨S4224x1024, .f32⟩

abbrev hbmTy0_2 (i : Nat) : BufTy := match i % 128 with
  | 0 => ⟨S_, .f32⟩
  | 1 => ⟨S8x64, .f32⟩
  | 2 => ⟨S8x64x1, .f32⟩
  | 3 => ⟨S8x64x256, .f32⟩
  | 4 => ⟨S8x64x256, .f32⟩
  | 5 => ⟨S_, .f32⟩
  | 6 => ⟨S8x64, .f32⟩
  | 7 => ⟨S_, .f32⟩
  | 8 => ⟨S8x64x64, .f32⟩
  | 9 => ⟨S8x64x64, .f32⟩
  | 10 => ⟨S8x64x64, .f32⟩
  | 11 => ⟨S8x64x64, .f32⟩
  | 12 => ⟨S8x64x64, .f32⟩
  | 13 => ⟨S8x64x128, .f32⟩
  | 14 => ⟨S8x64x128, .f32⟩
  | 15 => ⟨S8x64x128, .f32⟩
  | 16 => ⟨S8x64x128, .f32⟩
  | 17 => ⟨S8x64x128, .f32⟩
  | 18 => ⟨S_, .f32⟩
  | 19 => ⟨S8x64, .f32⟩
  | 20 => ⟨S8x64x1, .f32⟩
  | 21 => ⟨S8x64x128, .f32⟩
  | 22 => ⟨S8x64x128, .f32⟩
  | 23 => ⟨S8x64x128, .f32⟩
  | 24 => ⟨S_, .f32⟩
  | 25 => ⟨S8x64, .f32⟩
  | 26 => ⟨S8x64, .f32⟩
  | 27 => ⟨S8x64x64, .f32⟩
  | 28 => ⟨S_, .f32⟩
  | 29 => ⟨S8x64x64, .f32⟩
  | 30 => ⟨S8x64x64, .f32⟩
  | 31 => ⟨S_, .f32⟩
  | 32 => ⟨S8x64, .f32⟩
  | 33 => ⟨S8x64x1, .f32⟩
  | 34 => ⟨S8x64x64, .f32⟩
  | 35 => ⟨S_, .f32⟩
  | 36 => ⟨S8x64, .f32⟩
  | 37 => ⟨S8x1x64, .f32⟩
  | 38 => ⟨S_, .f32⟩
  | 39 => ⟨S8x64, .f32⟩
  | 40 => ⟨S8x64, .f32⟩
  | 41 => ⟨S_, .f32⟩
  | 42 => ⟨S8x64, .f32⟩
  | 43 => ⟨S8x64, .f32⟩
  | 44 => ⟨S_, .f32⟩
  | 45 => ⟨S8x64x128, .f32⟩
  | 46 => ⟨S8x64x128, .f32⟩
  | 47 => ⟨S66, .i32⟩
  | 48 => ⟨S66, .i32⟩
  | 49 => ⟨S66, .i1⟩
  | 50 => ⟨S66x1x1x1, .i1⟩
  | 51 => ⟨S66x8x64x128, .i1⟩
  | 52 => ⟨S66x8x64x128, .f32⟩
  | 53 => ⟨S66x8x64x128, .f32⟩
  | 54 => ⟨S66, .i32⟩
  | 55 => ⟨S66, .i32⟩
  | 56 => ⟨S66, .i1⟩
  | 57 => ⟨S66x1x1x1, .i1⟩
  | 58 => ⟨S66x8x64x128, .i1⟩
  | 59 => ⟨S66x8x64x128, .f32⟩
  | 60 => ⟨S66x8x64x128, .f32⟩
  | 61 => ⟨S66, .i32⟩
  | 62 => ⟨S66, .i32⟩
  | 63 => ⟨S66, .i1⟩
  | 64 => ⟨S66x1x1x1, .i1⟩
  | 65 => ⟨S66x8x64x256, .i1⟩
  | 66 => ⟨S66x8x64x256, .f32⟩
  | 67 => ⟨S66x8x64x256, .f32⟩
  | 68 => ⟨S66, .i32⟩
  | 69 => ⟨S66, .i32⟩
  | 70 => ⟨S66, .i1⟩
  | 71 => ⟨S66x1x1, .i1⟩
  | 72 => ⟨S66x8x64, .i1⟩
  | 73 => ⟨S66x8x64, .f32⟩
  | 74 => ⟨S66x8x64, .f32⟩
  | 75 => ⟨S66, .i32⟩
  | 76 => ⟨S66, .i32⟩
  | 77 => ⟨S66, .i1⟩
  | 78 => ⟨S66x1x1, .i1⟩
  | 79 => ⟨S66x8x64, .i1⟩
  | 80 => ⟨S66x8x64, .f32⟩
  | 81 => ⟨S66x8x64, .f32⟩
  | 82 => ⟨S_, .i32⟩
  | 83 => ⟨S_, .i32⟩
  | 84 => ⟨S66x64x8x128, .f32⟩
  | 85 => ⟨S4224x1024, .f32⟩
  | 86 => ⟨S66x64x8x128, .f32⟩
  | 87 => ⟨S4224x1024, .f32⟩
  | 88 => ⟨S66x64x8x256, .f32⟩
  | 89 => ⟨S4224x2048, .f32⟩
  | 90 => ⟨S8x66x64, .f32⟩
  | 91 => ⟨S8x4224, .f32⟩
  | 92 => ⟨S8x4224x1, .f32⟩
  | 93 => ⟨S8x4224x128, .f32⟩
  | 94 => ⟨S8x66x64, .f32⟩
  | 95 => ⟨S8x4224, .f32⟩
  | 96 => ⟨S8x4224x1, .f32⟩
  | 97 => ⟨S8x4224x128, .f32⟩
  | _ => ⟨S4224x1024, .f32⟩

abbrev hbmTy (i : Nat) : BufTy := match i / 128 with
  | 0 => hbmTy0_0 i
  | 1 => hbmTy0_1 i
  | 2 => hbmTy0_2 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev main_v21_5 : Ref sig .tc := ⟨.hbm, 41, rfl⟩
abbrev main_v21_6 : Ref sig .tc := ⟨.hbm, 42, rfl⟩
abbrev main_v21_7 : Ref sig .tc := ⟨.hbm, 43, rfl⟩
abbrev main_v21_8 : Ref sig .tc := ⟨.hbm, 44, rfl⟩
abbrev main_v21_9 : Ref sig .tc := ⟨.hbm, 45, rfl⟩
abbrev main_v21_10 : Ref sig .tc := ⟨.hbm, 46, rfl⟩
abbrev main_v21_11 : Ref sig .tc := ⟨.hbm, 47, rfl⟩
abbrev main_v21_12 : Ref sig .tc := ⟨.hbm, 48, rfl⟩
abbrev main_v21_13 : Ref sig .tc := ⟨.hbm, 49, rfl⟩
abbrev main_v21_14 : Ref sig .tc := ⟨.hbm, 50, rfl⟩
abbrev main_v21_15 : Ref sig .tc := ⟨.hbm, 51, rfl⟩
abbrev main_while0c_c_20 : Ref sig .tc := ⟨.hbm, 52, rfl⟩
abbrev main_while0c_v36 : Ref sig .tc := ⟨.hbm, 53, rfl⟩
abbrev main_while0b_c_20 : Ref sig .tc := ⟨.hbm, 54, rfl⟩
abbrev main_while0b_v36 : Ref sig .tc := ⟨.hbm, 55, rfl⟩
abbrev main_while0b_c_21 : Ref sig .tc := ⟨.hbm, 56, rfl⟩
abbrev main_while0b_v37 : Ref sig .tc := ⟨.hbm, 57, rfl⟩
abbrev main_while0b_call0_v0 : Ref sig .tc := ⟨.hbm, 58, rfl⟩
abbrev main_while0b_v38 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v39 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v40 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v41 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_v0 : Ref sig .tc := ⟨.hbm, 77, rfl⟩
abbrev main_while0b_v42 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v0 : Ref sig .tc := ⟨.hbm, 81, rfl⟩
abbrev main_while0b_v43 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_v0 : Ref sig .tc := ⟨.hbm, 86, rfl⟩
abbrev main_while0b_v44 : Ref sig .tc := ⟨.hbm, 87, rfl⟩
abbrev main_while0b_call7_c : Ref sig .tc := ⟨.hbm, 88, rfl⟩
abbrev main_while0b_call7_c_0 : Ref sig .tc := ⟨.hbm, 89, rfl⟩
abbrev main_while0b_call7_c_1 : Ref sig .tc := ⟨.hbm, 90, rfl⟩
abbrev main_while0b_call7_v0 : Ref sig .tc := ⟨.hbm, 91, rfl⟩
abbrev main_while0b_v45 : Ref sig .tc := ⟨.hbm, 92, rfl⟩
abbrev main_while0b_call8_c : Ref sig .tc := ⟨.hbm, 93, rfl⟩
abbrev main_while0b_call8_c_0 : Ref sig .tc := ⟨.hbm, 94, rfl⟩
abbrev main_while0b_call8_c_1 : Ref sig .tc := ⟨.hbm, 95, rfl⟩
abbrev main_while0b_call8_v0 : Ref sig .tc := ⟨.hbm, 96, rfl⟩
abbrev main_while0b_v46 : Ref sig .tc := ⟨.hbm, 97, rfl⟩
abbrev main_while0b_cst_22 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_cst_23 : Ref sig .tc := ⟨.hbm, 117, rfl⟩
abbrev main_while0b_call9_v0 : Ref sig .tc := ⟨.hbm, 118, rfl⟩
abbrev main_while0b_v65_1 : Ref sig .tc := ⟨.hbm, 119, rfl⟩
abbrev main_while0b_call9_v2 : Ref sig .tc := ⟨.hbm, 120, rfl⟩
abbrev main_while0b_v65_0 : Ref sig .tc := ⟨.hbm, 121, rfl⟩
abbrev main_while0b_call9_cst : Ref sig .tc := ⟨.hbm, 122, rfl⟩
abbrev main_while0b_v65_2 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_cst_24 : Ref sig .tc := ⟨.hbm, 130, rfl⟩
abbrev main_while0b_call10_v0 : Ref sig .tc := ⟨.hbm, 131, rfl⟩
abbrev main_while0b_v72_1 : Ref sig .tc := ⟨.hbm, 132, rfl⟩
abbrev main_while0b_call10_v2 : Ref sig .tc := ⟨.hbm, 133, rfl⟩
abbrev main_while0b_v72_0 : Ref sig .tc := ⟨.hbm, 134, rfl⟩
abbrev main_while0b_call10_cst : Ref sig .tc := ⟨.hbm, 135, rfl⟩
abbrev main_while0b_v72_2 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_v90 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_v100 : Ref sig .tc := ⟨.hbm, 164, rfl⟩
abbrev main_while0b_v101 : Ref sig .tc := ⟨.hbm, 165, rfl⟩
abbrev main_while0b_v102 : Ref sig .tc := ⟨.hbm, 166, rfl⟩
abbrev main_while0b_v103 : Ref sig .tc := ⟨.hbm, 167, rfl⟩
abbrev main_while0b_v104 : Ref sig .tc := ⟨.hbm, 168, rfl⟩
abbrev main_while0b_v105 : Ref sig .tc := ⟨.hbm, 169, rfl⟩
abbrev main_while0b_v106 : Ref sig .tc := ⟨.hbm, 170, rfl⟩
abbrev main_while0b_v107 : Ref sig .tc := ⟨.hbm, 171, rfl⟩
abbrev main_while0b_v108 : Ref sig .tc := ⟨.hbm, 172, rfl⟩
abbrev main_while0b_v109 : Ref sig .tc := ⟨.hbm, 173, rfl⟩
abbrev main_while0b_v110 : Ref sig .tc := ⟨.hbm, 174, rfl⟩
abbrev main_while0b_v111 : Ref sig .tc := ⟨.hbm, 175, rfl⟩
abbrev main_while0b_v112 : Ref sig .tc := ⟨.hbm, 176, rfl⟩
abbrev main_while0b_cst_25 : Ref sig .tc := ⟨.hbm, 177, rfl⟩
abbrev main_while0b_v113 : Ref sig .tc := ⟨.hbm, 178, rfl⟩
abbrev main_while0b_v114 : Ref sig .tc := ⟨.hbm, 179, rfl⟩
abbrev main_while0b_v115 : Ref sig .tc := ⟨.hbm, 180, rfl⟩
abbrev main_while0b_v116 : Ref sig .tc := ⟨.hbm, 181, rfl⟩
abbrev main_while0b_cst_26 : Ref sig .tc := ⟨.hbm, 182, rfl⟩
abbrev main_while0b_v117 : Ref sig .tc := ⟨.hbm, 183, rfl⟩
abbrev main_while0b_v118 : Ref sig .tc := ⟨.hbm, 184, rfl⟩
abbrev main_while0b_v119 : Ref sig .tc := ⟨.hbm, 185, rfl⟩
abbrev main_while0b_v120 : Ref sig .tc := ⟨.hbm, 186, rfl⟩
abbrev main_while0b_v121 : Ref sig .tc := ⟨.hbm, 187, rfl⟩
abbrev main_while0b_v122 : Ref sig .tc := ⟨.hbm, 188, rfl⟩
abbrev main_while0b_v123 : Ref sig .tc := ⟨.hbm, 189, rfl⟩
abbrev main_while0b_v124 : Ref sig .tc := ⟨.hbm, 190, rfl⟩
abbrev main_while0b_v125 : Ref sig .tc := ⟨.hbm, 191, rfl⟩
abbrev main_while0b_v126 : Ref sig .tc := ⟨.hbm, 192, rfl⟩
abbrev main_while0b_v127 : Ref sig .tc := ⟨.hbm, 193, rfl⟩
abbrev main_while0b_v128 : Ref sig .tc := ⟨.hbm, 194, rfl⟩
abbrev main_while0b_v129 : Ref sig .tc := ⟨.hbm, 195, rfl⟩
abbrev main_while0b_v130 : Ref sig .tc := ⟨.hbm, 196, rfl⟩
abbrev main_while0b_v131 : Ref sig .tc := ⟨.hbm, 197, rfl⟩
abbrev main_while0b_v132 : Ref sig .tc := ⟨.hbm, 198, rfl⟩
abbrev main_while0b_cst_27 : Ref sig .tc := ⟨.hbm, 199, rfl⟩
abbrev main_while0b_v133 : Ref sig .tc := ⟨.hbm, 200, rfl⟩
abbrev main_while0b_v134 : Ref sig .tc := ⟨.hbm, 201, rfl⟩
abbrev main_while0b_cst_28 : Ref sig .tc := ⟨.hbm, 202, rfl⟩
abbrev main_while0b_v135 : Ref sig .tc := ⟨.hbm, 203, rfl⟩
abbrev main_while0b_v136 : Ref sig .tc := ⟨.hbm, 204, rfl⟩
abbrev main_while0b_v137 : Ref sig .tc := ⟨.hbm, 205, rfl⟩
abbrev main_while0b_v138 : Ref sig .tc := ⟨.hbm, 206, rfl⟩
abbrev main_while0b_cst_29 : Ref sig .tc := ⟨.hbm, 207, rfl⟩
abbrev main_while0b_v139 : Ref sig .tc := ⟨.hbm, 208, rfl⟩
abbrev main_while0b_v140 : Ref sig .tc := ⟨.hbm, 209, rfl⟩
abbrev main_while0b_cst_30 : Ref sig .tc := ⟨.hbm, 210, rfl⟩
abbrev main_while0b_v141 : Ref sig .tc := ⟨.hbm, 211, rfl⟩
abbrev main_while0b_v142 : Ref sig .tc := ⟨.hbm, 212, rfl⟩
abbrev main_while0b_v143 : Ref sig .tc := ⟨.hbm, 213, rfl⟩
abbrev main_while0b_v144 : Ref sig .tc := ⟨.hbm, 214, rfl⟩
abbrev main_while0b_cst_31 : Ref sig .tc := ⟨.hbm, 215, rfl⟩
abbrev main_while0b_v145 : Ref sig .tc := ⟨.hbm, 216, rfl⟩
abbrev main_while0b_v146 : Ref sig .tc := ⟨.hbm, 217, rfl⟩
abbrev main_while0b_v147 : Ref sig .tc := ⟨.hbm, 218, rfl⟩
abbrev main_while0b_cst_32 : Ref sig .tc := ⟨.hbm, 219, rfl⟩
abbrev main_while0b_v148 : Ref sig .tc := ⟨.hbm, 220, rfl⟩
abbrev main_while0b_v149 : Ref sig .tc := ⟨.hbm, 221, rfl⟩
abbrev main_while0b_v150 : Ref sig .tc := ⟨.hbm, 222, rfl⟩
abbrev main_while0b_v151 : Ref sig .tc := ⟨.hbm, 223, rfl⟩
abbrev main_while0b_cst_33 : Ref sig .tc := ⟨.hbm, 224, rfl⟩
abbrev main_while0b_v152 : Ref sig .tc := ⟨.hbm, 225, rfl⟩
abbrev main_while0b_v153 : Ref sig .tc := ⟨.hbm, 226, rfl⟩
abbrev main_while0b_v154 : Ref sig .tc := ⟨.hbm, 227, rfl⟩
abbrev main_while0b_v155 : Ref sig .tc := ⟨.hbm, 228, rfl⟩
abbrev main_while0b_v156 : Ref sig .tc := ⟨.hbm, 229, rfl⟩
abbrev main_while0b_v157 : Ref sig .tc := ⟨.hbm, 230, rfl⟩
abbrev main_while0b_v158 : Ref sig .tc := ⟨.hbm, 231, rfl⟩
abbrev main_while0b_v159 : Ref sig .tc := ⟨.hbm, 232, rfl⟩
abbrev main_while0b_v160 : Ref sig .tc := ⟨.hbm, 233, rfl⟩
abbrev main_while0b_v161 : Ref sig .tc := ⟨.hbm, 234, rfl⟩
abbrev main_while0b_v162 : Ref sig .tc := ⟨.hbm, 235, rfl⟩
abbrev main_while0b_v163 : Ref sig .tc := ⟨.hbm, 236, rfl⟩
abbrev main_while0b_cst_34 : Ref sig .tc := ⟨.hbm, 237, rfl⟩
abbrev main_while0b_v164 : Ref sig .tc := ⟨.hbm, 238, rfl⟩
abbrev main_while0b_v165 : Ref sig .tc := ⟨.hbm, 239, rfl⟩
abbrev main_while0b_cst_35 : Ref sig .tc := ⟨.hbm, 240, rfl⟩
abbrev main_while0b_v166 : Ref sig .tc := ⟨.hbm, 241, rfl⟩
abbrev main_while0b_v167 : Ref sig .tc := ⟨.hbm, 242, rfl⟩
abbrev main_while0b_v168 : Ref sig .tc := ⟨.hbm, 243, rfl⟩
abbrev main_while0b_v169 : Ref sig .tc := ⟨.hbm, 244, rfl⟩
abbrev main_while0b_cst_36 : Ref sig .tc := ⟨.hbm, 245, rfl⟩
abbrev main_while0b_v170 : Ref sig .tc := ⟨.hbm, 246, rfl⟩
abbrev main_while0b_v171 : Ref sig .tc := ⟨.hbm, 247, rfl⟩
abbrev main_while0b_v172 : Ref sig .tc := ⟨.hbm, 248, rfl⟩
abbrev main_while0b_v173 : Ref sig .tc := ⟨.hbm, 249, rfl⟩
abbrev main_while0b_v174 : Ref sig .tc := ⟨.hbm, 250, rfl⟩
abbrev main_while0b_v175 : Ref sig .tc := ⟨.hbm, 251, rfl⟩
abbrev main_while0b_cst_37 : Ref sig .tc := ⟨.hbm, 252, rfl⟩
abbrev main_while0b_v176 : Ref sig .tc := ⟨.hbm, 253, rfl⟩
abbrev main_while0b_v177 : Ref sig .tc := ⟨.hbm, 254, rfl⟩
abbrev main_while0b_v178 : Ref sig .tc := ⟨.hbm, 255, rfl⟩
abbrev main_while0b_cst_38 : Ref sig .tc := ⟨.hbm, 256, rfl⟩
abbrev main_while0b_v179 : Ref sig .tc := ⟨.hbm, 257, rfl⟩
abbrev main_while0b_v180 : Ref sig .tc := ⟨.hbm, 258, rfl⟩
abbrev main_while0b_v181 : Ref sig .tc := ⟨.hbm, 259, rfl⟩
abbrev main_while0b_v182 : Ref sig .tc := ⟨.hbm, 260, rfl⟩
abbrev main_while0b_cst_39 : Ref sig .tc := ⟨.hbm, 261, rfl⟩
abbrev main_while0b_v183 : Ref sig .tc := ⟨.hbm, 262, rfl⟩
abbrev main_while0b_call11_cst : Ref sig .tc := ⟨.hbm, 263, rfl⟩
abbrev main_while0b_call11_v0 : Ref sig .tc := ⟨.hbm, 264, rfl⟩
abbrev main_while0b_v184 : Ref sig .tc := ⟨.hbm, 265, rfl⟩
abbrev main_while0b_v185 : Ref sig .tc := ⟨.hbm, 266, rfl⟩
abbrev main_while0b_v186 : Ref sig .tc := ⟨.hbm, 267, rfl⟩
abbrev main_while0b_v187 : Ref sig .tc := ⟨.hbm, 268, rfl⟩
abbrev main_while0b_v188 : Ref sig .tc := ⟨.hbm, 269, rfl⟩
abbrev main_while0b_v189 : Ref sig .tc := ⟨.hbm, 270, rfl⟩
abbrev main_while0b_v190 : Ref sig .tc := ⟨.hbm, 271, rfl⟩
abbrev main_while0b_v191 : Ref sig .tc := ⟨.hbm, 272, rfl⟩
abbrev main_while0b_v192 : Ref sig .tc := ⟨.hbm, 273, rfl⟩
abbrev main_while0b_cst_40 : Ref sig .tc := ⟨.hbm, 274, rfl⟩
abbrev main_while0b_v193 : Ref sig .tc := ⟨.hbm, 275, rfl⟩
abbrev main_while0b_v194 : Ref sig .tc := ⟨.hbm, 276, rfl⟩
abbrev main_while0b_v195 : Ref sig .tc := ⟨.hbm, 277, rfl⟩
abbrev main_while0b_v196 : Ref sig .tc := ⟨.hbm, 278, rfl⟩
abbrev main_while0b_v197 : Ref sig .tc := ⟨.hbm, 279, rfl⟩
abbrev main_while0b_cst_41 : Ref sig .tc := ⟨.hbm, 280, rfl⟩
abbrev main_while0b_v198 : Ref sig .tc := ⟨.hbm, 281, rfl⟩
abbrev main_while0b_v199 : Ref sig .tc := ⟨.hbm, 282, rfl⟩
abbrev main_while0b_v200 : Ref sig .tc := ⟨.hbm, 283, rfl⟩
abbrev main_while0b_call12_cst : Ref sig .tc := ⟨.hbm, 284, rfl⟩
abbrev main_while0b_call12_v0 : Ref sig .tc := ⟨.hbm, 285, rfl⟩
abbrev main_while0b_v201 : Ref sig .tc := ⟨.hbm, 286, rfl⟩
abbrev main_while0b_cst_42 : Ref sig .tc := ⟨.hbm, 287, rfl⟩
abbrev main_while0b_v202 : Ref sig .tc := ⟨.hbm, 288, rfl⟩
abbrev main_while0b_v203 : Ref sig .tc := ⟨.hbm, 289, rfl⟩
abbrev main_while0b_v204 : Ref sig .tc := ⟨.hbm, 290, rfl⟩
abbrev main_while0b_cst_43 : Ref sig .tc := ⟨.hbm, 291, rfl⟩
abbrev main_while0b_v205 : Ref sig .tc := ⟨.hbm, 292, rfl⟩
abbrev main_while0b_v206 : Ref sig .tc := ⟨.hbm, 293, rfl⟩
abbrev main_while0b_cst_44 : Ref sig .tc := ⟨.hbm, 294, rfl⟩
abbrev main_while0b_v207 : Ref sig .tc := ⟨.hbm, 295, rfl⟩
abbrev main_while0b_v208 : Ref sig .tc := ⟨.hbm, 296, rfl⟩
abbrev main_while0b_cst_45 : Ref sig .tc := ⟨.hbm, 297, rfl⟩
abbrev main_while0b_v209 : Ref sig .tc := ⟨.hbm, 298, rfl⟩
abbrev main_while0b_v210 : Ref sig .tc := ⟨.hbm, 299, rfl⟩
abbrev main_while0b_cst_46 : Ref sig .tc := ⟨.hbm, 300, rfl⟩
abbrev main_while0b_v211 : Ref sig .tc := ⟨.hbm, 301, rfl⟩
abbrev main_while0b_v212 : Ref sig .tc := ⟨.hbm, 302, rfl⟩
abbrev main_while0b_v213 : Ref sig .tc := ⟨.hbm, 303, rfl⟩
abbrev main_while0b_v214 : Ref sig .tc := ⟨.hbm, 304, rfl⟩
abbrev main_while0b_v215 : Ref sig .tc := ⟨.hbm, 305, rfl⟩
abbrev main_while0b_v216 : Ref sig .tc := ⟨.hbm, 306, rfl⟩
abbrev main_while0b_call13_v0 : Ref sig .tc := ⟨.hbm, 307, rfl⟩
abbrev main_while0b_call13_v1 : Ref sig .tc := ⟨.hbm, 308, rfl⟩
abbrev main_while0b_v217 : Ref sig .tc := ⟨.hbm, 309, rfl⟩
abbrev main_while0b_v218 : Ref sig .tc := ⟨.hbm, 310, rfl⟩
abbrev main_while0b_v219 : Ref sig .tc := ⟨.hbm, 311, rfl⟩
abbrev main_while0b_v220 : Ref sig .tc := ⟨.hbm, 312, rfl⟩
abbrev main_while0b_v221 : Ref sig .tc := ⟨.hbm, 313, rfl⟩
abbrev main_while0b_call14_v0 : Ref sig .tc := ⟨.hbm, 314, rfl⟩
abbrev main_while0b_call14_v1 : Ref sig .tc := ⟨.hbm, 315, rfl⟩
abbrev main_while0b_v222 : Ref sig .tc := ⟨.hbm, 316, rfl⟩
abbrev main_while0b_v223 : Ref sig .tc := ⟨.hbm, 317, rfl⟩
abbrev main_while0b_v224 : Ref sig .tc := ⟨.hbm, 318, rfl⟩
abbrev main_while0b_v225 : Ref sig .tc := ⟨.hbm, 319, rfl⟩
abbrev main_while0b_v226 : Ref sig .tc := ⟨.hbm, 320, rfl⟩
abbrev main_while0b_call15_v0 : Ref sig .tc := ⟨.hbm, 321, rfl⟩
abbrev main_while0b_call15_v1 : Ref sig .tc := ⟨.hbm, 322, rfl⟩
abbrev main_while0b_v227 : Ref sig .tc := ⟨.hbm, 323, rfl⟩
abbrev main_while0b_v228 : Ref sig .tc := ⟨.hbm, 324, rfl⟩
abbrev main_while0b_v229 : Ref sig .tc := ⟨.hbm, 325, rfl⟩
abbrev main_while0b_v230 : Ref sig .tc := ⟨.hbm, 326, rfl⟩
abbrev main_while0b_v231 : Ref sig .tc := ⟨.hbm, 327, rfl⟩
abbrev main_while0b_call16_v0 : Ref sig .tc := ⟨.hbm, 328, rfl⟩
abbrev main_while0b_call16_v1 : Ref sig .tc := ⟨.hbm, 329, rfl⟩
abbrev main_while0b_v232 : Ref sig .tc := ⟨.hbm, 330, rfl⟩
abbrev main_while0b_v233 : Ref sig .tc := ⟨.hbm, 331, rfl⟩
abbrev main_while0b_v234 : Ref sig .tc := ⟨.hbm, 332, rfl⟩
abbrev main_while0b_v235 : Ref sig .tc := ⟨.hbm, 333, rfl⟩
abbrev main_while0b_v236 : Ref sig .tc := ⟨.hbm, 334, rfl⟩
abbrev main_while0b_call17_v0 : Ref sig .tc := ⟨.hbm, 335, rfl⟩
abbrev main_while0b_call17_v1 : Ref sig .tc := ⟨.hbm, 336, rfl⟩
abbrev main_while0b_v237 : Ref sig .tc := ⟨.hbm, 337, rfl⟩
abbrev main_while0b_c_47 : Ref sig .tc := ⟨.hbm, 338, rfl⟩
abbrev main_while0b_v238 : Ref sig .tc := ⟨.hbm, 339, rfl⟩
abbrev main_v22 : Ref sig .tc := ⟨.hbm, 340, rfl⟩
abbrev main_v23 : Ref sig .tc := ⟨.hbm, 341, rfl⟩
abbrev main_v24 : Ref sig .tc := ⟨.hbm, 342, rfl⟩
abbrev main_v25 : Ref sig .tc := ⟨.hbm, 343, rfl⟩
abbrev main_v26 : Ref sig .tc := ⟨.hbm, 344, rfl⟩
abbrev main_v27 : Ref sig .tc := ⟨.hbm, 345, rfl⟩
abbrev main_v28 : Ref sig .tc := ⟨.hbm, 346, rfl⟩
abbrev main_v29 : Ref sig .tc := ⟨.hbm, 347, rfl⟩
abbrev main_v30 : Ref sig .tc := ⟨.hbm, 348, rfl⟩
abbrev main_v31 : Ref sig .tc := ⟨.hbm, 349, rfl⟩
abbrev main_v32 : Ref sig .tc := ⟨.hbm, 350, rfl⟩
abbrev main_v33 : Ref sig .tc := ⟨.hbm, 351, rfl⟩
abbrev main_v34 : Ref sig .tc := ⟨.hbm, 352, rfl⟩
abbrev main_v35 : Ref sig .tc := ⟨.hbm, 353, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S4224x1024 : Shape := ⟨2, ![4224, 1024]⟩
abbrev S4224x11264 : Shape := ⟨2, ![4224, 11264]⟩
abbrev S1024x11264 : Shape := ⟨2, ![1024, 11264]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x11264, .bf16⟩
  | .hbm, ⟨2, _⟩ => ⟨S1024x11264, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S4224x1024 : Shape := ⟨2, ![4224, 1024]⟩
abbrev S4224x11264 : Shape := ⟨2, ![4224, 11264]⟩
abbrev S1024x11264 : Shape := ⟨2, ![1024, 11264]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x11264, .bf16⟩
  | .hbm, ⟨2, _⟩ => ⟨S1024x11264, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x1024 : Shape := ⟨2, ![4224, 1024]⟩
abbrev S4224x11264 : Shape := ⟨2, ![4224, 11264]⟩
abbrev S_ : Shape := ⟨0, ![]⟩
abbrev S1024x11264 : Shape := ⟨2, ![1024, 11264]⟩
abbrev S11264x1024 : Shape := ⟨2, ![11264, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x11264, .bf16⟩
  | .hbm, ⟨2, _⟩ => ⟨S_, .f32⟩
  | .hbm, ⟨3, _⟩ => ⟨S1024x11264, .f32⟩
  | .hbm, ⟨4, _⟩ => ⟨S4224x1024, .f32⟩
  | .hbm, ⟨5, _⟩ => ⟨S4224x11264, .f32⟩
  | .hbm, ⟨6, _⟩ => ⟨S4224x11264, .f32⟩
  | .hbm, ⟨7, _⟩ => ⟨S11264x1024, .f32⟩
  | .hbm, ⟨8, _⟩ => ⟨S1024x11264, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4224x11264 : Shape := ⟨2, ![4224, 11264]⟩
abbrev S1024x11264 : Shape := ⟨2, ![1024, 11264]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x11264, .bf16⟩
  | .hbm, ⟨1, _⟩ => ⟨S1024x11264, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4224x11264 : Shape := ⟨2, ![4224, 11264]⟩
abbrev S1024x11264 : Shape := ⟨2, ![1024, 11264]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x11264, .bf16⟩
  | .hbm, ⟨1, _⟩ => ⟨S1024x11264, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x11264 : Shape := ⟨2, ![4224, 11264]⟩
abbrev S1024x11264 : Shape := ⟨2, ![1024, 11264]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x11264, .bf16⟩
  | .hbm, ⟨1, _⟩ => ⟨S1024x11264, .bf16⟩
  | .hbm, ⟨2, _⟩ => ⟨S_, .f32⟩
  | .hbm, ⟨3, _⟩ => ⟨S4224x1024, .f32⟩
  | .hbm, ⟨4, _⟩ => ⟨S1024x11264, .f32⟩
  | .hbm, ⟨5, _⟩ => ⟨S4224x11264, .f32⟩
  | .hbm, ⟨6, _⟩ => ⟨S4224x11264, .f32⟩
  | .hbm, ⟨7, _⟩ => ⟨S4224x1024, .f32⟩
  | _, _ => ⟨S4224x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4224x1024 : Shape := ⟨2, ![4224, 1024]⟩
abbrev S2816x1024 : Shape := ⟨2, ![2816, 1024]⟩
abbrev S4224x2816 : Shape := ⟨2, ![4224, 2816]⟩
abbrev S1408x1024 : Shape := ⟨2, ![1408, 1024]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | .local _ .vmem, ⟨6, _⟩ => ⟨S1408x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4224x1024 : Shape := ⟨2, ![4224, 1024]⟩
abbrev S2816x1024 : Shape := ⟨2, ![2816, 1024]⟩
abbrev S4224x2816 : Shape := ⟨2, ![4224, 2816]⟩
abbrev S1408x1024 : Shape := ⟨2, ![1408, 1024]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | .local _ .vmem, ⟨6, _⟩ => ⟨S1408x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x1024 : Shape := ⟨2, ![4224, 1024]⟩
abbrev S2816x1024 : Shape := ⟨2, ![2816, 1024]⟩
abbrev S_ : Shape := ⟨0, ![]⟩
abbrev S4224x2816 : Shape := ⟨2, ![4224, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S_, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | .hbm, ⟨7, _⟩ => ⟨S4224x2816, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S4224x1024, .f32⟩
  | .hbm, ⟨7, _⟩ => ⟨S1024x2816, .f32⟩
  | .hbm, ⟨8, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4224x5632 : Shape := ⟨2, ![4224, 5632]⟩
abbrev S1024x5632 : Shape := ⟨2, ![1024, 5632]⟩
abbrev S4224x1024 : Shape := ⟨2, ![4224, 1024]⟩
abbrev S1408x512 : Shape := ⟨2, ![1408, 512]⟩
abbrev S1024x512 : Shape := ⟨2, ![1024, 512]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S1024x512, .bf16⟩
  | .local _ .vmem, ⟨3, _⟩ => ⟨S1024x512, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4224x5632 : Shape := ⟨2, ![4224, 5632]⟩
abbrev S1024x5632 : Shape := ⟨2, ![1024, 5632]⟩
abbrev S4224x1024 : Shape := ⟨2, ![4224, 1024]⟩
abbrev S1408x512 : Shape := ⟨2, ![1408, 512]⟩
abbrev S1024x512 : Shape := ⟨2, ![1024, 512]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S1024x512, .bf16⟩
  | .local _ .vmem, ⟨3, _⟩ => ⟨S1024x512, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x5632 : Shape := ⟨2, ![4224, 5632]⟩
abbrev S1024x5632 : Shape := ⟨2, ![1024, 5632]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S_, .f32⟩
  | .hbm, ⟨3, _⟩ => ⟨S4224x1024, .f32⟩
  | .hbm, ⟨4, _⟩ => ⟨S1024x5632, .f32⟩
  | .hbm, ⟨5, _⟩ => ⟨S4224x5632, .f32⟩
  | .hbm, ⟨6, _⟩ => ⟨S4224x5632, .f32⟩
  | .hbm, ⟨7, _⟩ => ⟨S4224x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x1024 : Shape := ⟨2, ![4224, 1024]⟩
abbrev S4224x5632 : Shape := ⟨2, ![4224, 5632]⟩
abbrev S1024x5632 : Shape := ⟨2, ![1024, 5632]⟩
abbrev S1408x1024 : Shape := ⟨2, ![1408, 1024]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S4224x1024 : Shape := ⟨2, ![4224, 1024]⟩
abbrev S4224x5632 : Shape := ⟨2, ![4224, 5632]⟩
abbrev S1024x5632 : Shape := ⟨2, ![1024, 5632]⟩
abbrev S1408x1024 : Shape := ⟨2, ![1408, 1024]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S_, .f32⟩
  | .hbm, ⟨3, _⟩ => ⟨S1024x5632, .f32⟩
  | .hbm, ⟨4, _⟩ => ⟨S4224x1024, .f32⟩
  | .hbm, ⟨5, _⟩ => ⟨S4224x5632, .f32⟩
  | .hbm, ⟨6, _⟩ => ⟨S4224x5632, .f32⟩
  | .hbm, ⟨7, _⟩ => ⟨S5632x1024, .f32⟩
  | .hbm, ⟨8, _⟩ => ⟨S1024x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4224x1024 : Shape := ⟨2, ![4224, 1024]⟩
abbrev S2048x1024 : Shape := ⟨2, ![2048, 1024]⟩
abbrev S4224x2048 : Shape := ⟨2, ![4224, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4224x1024 : Shape := ⟨2, ![4224, 1024]⟩
abbrev S2048x1024 : Shape := ⟨2, ![2048, 1024]⟩
abbrev S4224x2048 : Shape := ⟨2, ![4224, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x1024 : Shape := ⟨2, ![4224, 1024]⟩
abbrev S2048x1024 : Shape := ⟨2, ![2048, 1024]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S_, .f32⟩
  | .hbm, ⟨3, _⟩ => ⟨S4224x2048, .f32⟩
  | .hbm, ⟨4, _⟩ => ⟨S2048x1024, .f32⟩
  | .hbm, ⟨5, _⟩ => ⟨S4224x1024, .f32⟩
  | .hbm, ⟨6, _⟩ => ⟨S4224x1024, .f32⟩
  | .hbm, ⟨7, _⟩ => ⟨S4224x2048, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4224x2048 : Shape := ⟨2, ![4224, 2048]⟩
abbrev S4224x1024 : Shape := ⟨2, ![4224, 1024]⟩
abbrev S2048x1024 : Shape := ⟨2, ![2048, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4224x2048 : Shape := ⟨2, ![4224, 2048]⟩
abbrev S4224x1024 : Shape := ⟨2, ![4224, 1024]⟩
abbrev S2048x1024 : Shape := ⟨2, ![2048, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x2048 : Shape := ⟨2, ![4224, 2048]⟩
abbrev S4224x1024 : Shape := ⟨2, ![4224, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S_, .f32⟩
  | .hbm, ⟨3, _⟩ => ⟨S2048x1024, .f32⟩
  | .hbm, ⟨4, _⟩ => ⟨S4224x2048, .f32⟩
  | .hbm, ⟨5, _⟩ => ⟨S4224x1024, .f32⟩
  | .hbm, ⟨6, _⟩ => ⟨S4224x1024, .f32⟩
  | .hbm, ⟨7, _⟩ => ⟨S1024x2048, .f32⟩
  | .hbm, ⟨8, _⟩ => ⟨S2048x1024, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel11Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4224x1024 : Shape := ⟨2, ![4224, 1024]⟩
abbrev S4224x128 : Shape := ⟨2, ![4224, 128]⟩
abbrev S1024x128 : Shape := ⟨2, ![1024, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x128, .bf16⟩
  | .hbm, ⟨2, _⟩ => ⟨S1024x128, .f32⟩
  | .local _ .vmem, ⟨0, _⟩ => ⟨S1408x1024, .bf16⟩
  | .local _ .vmem, ⟨1, _⟩ => ⟨S1408x1024, .bf16⟩
  | .local _ .vmem, ⟨2, _⟩ => ⟨S1408x128, .bf16⟩
  | .local _ .vmem, ⟨3, _⟩ => ⟨S1408x128, .bf16⟩
  | .local _ .vmem, ⟨4, _⟩ => ⟨S1024x128, .f32⟩
  | .local _ .vmem, ⟨5, _⟩ => ⟨S1024x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel12Ideal.lean ====
abbrev S4224x1024 : Shape := ⟨2, ![4224, 1024]⟩
abbrev S4224x128 : Shape := ⟨2, ![4224, 128]⟩
abbrev S1024x128 : Shape := ⟨2, ![1024, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x128, .bf16⟩
  | .hbm, ⟨2, _⟩ => ⟨S1024x128, .f32⟩
  | .local _ .vmem, ⟨0, _⟩ => ⟨S1408x1024, .bf16⟩
  | .local _ .vmem, ⟨1, _⟩ => ⟨S1408x1024, .bf16⟩
  | .local _ .vmem, ⟨2, _⟩ => ⟨S1408x128, .bf16⟩
  | .local _ .vmem, ⟨3, _⟩ => ⟨S1408x128, .bf16⟩
  | .local _ .vmem, ⟨4, _⟩ => ⟨S1024x128, .f32⟩
  | .local _ .vmem, ⟨5, _⟩ => ⟨S1024x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S4224x128 : Shape := ⟨2, ![4224, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x128, .bf16⟩
  | .hbm, ⟨2, _⟩ => ⟨S_, .f32⟩
  | .hbm, ⟨3, _⟩ => ⟨S1024x128, .f32⟩
  | .hbm, ⟨4, _⟩ => ⟨S4224x1024, .f32⟩
  | .hbm, ⟨5, _⟩ => ⟨S4224x128, .f32⟩
  | .hbm, ⟨6, _⟩ => ⟨S4224x128, .f32⟩
  | .hbm, ⟨7, _⟩ => ⟨S128x1024, .f32⟩
  | .hbm, ⟨8, _⟩ => ⟨S1024x128, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4224x128 : Shape := ⟨2, ![4224, 128]⟩
abbrev S1024x128 : Shape := ⟨2, ![1024, 128]⟩
abbrev S4224x1024 : Shape := ⟨2, ![4224, 1024]⟩
abbrev S1408x128 : Shape := ⟨2, ![1408, 128]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x128, .bf16⟩
  | .hbm, ⟨1, _⟩ => ⟨S1024x128, .bf16⟩
  | .hbm, ⟨2, _⟩ => ⟨S4224x1024, .f32⟩
  | .hbm, ⟨3, _⟩ => ⟨S4224x1024, .f32⟩
  | .local _ .vmem, ⟨0, _⟩ => ⟨S1408x128, .bf16⟩
  | .local _ .vmem, ⟨1, _⟩ => ⟨S1408x128, .bf16⟩
  | .local _ .vmem, ⟨2, _⟩ => ⟨S1024x128, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel13Ideal.lean ====
abbrev S4224x128 : Shape := ⟨2, ![4224, 128]⟩
abbrev S1024x128 : Shape := ⟨2, ![1024, 128]⟩
abbrev S4224x1024 : Shape := ⟨2, ![4224, 1024]⟩
abbrev S1408x128 : Shape := ⟨2, ![1408, 128]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x128, .bf16⟩
  | .hbm, ⟨1, _⟩ => ⟨S1024x128, .bf16⟩
  | .hbm, ⟨2, _⟩ => ⟨S4224x1024, .f32⟩
  | .hbm, ⟨3, _⟩ => ⟨S4224x1024, .f32⟩
  | .local _ .vmem, ⟨0, _⟩ => ⟨S1408x128, .bf16⟩
  | .local _ .vmem, ⟨1, _⟩ => ⟨S1408x128, .bf16⟩
  | .local _ .vmem, ⟨2, _⟩ => ⟨S1024x128, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4224x128 : Shape := ⟨2, ![4224, 128]⟩
abbrev S1024x128 : Shape := ⟨2, ![1024, 128]⟩
abbrev S4224x1024 : Shape := ⟨2, ![4224, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S1024x128, .bf16⟩
  | .hbm, ⟨2, _⟩ => ⟨S4224x1024, .f32⟩
  | .hbm, ⟨3, _⟩ => ⟨S_, .f32⟩
  | .hbm, ⟨4, _⟩ => ⟨S4224x1024, .f32⟩
  | .hbm, ⟨5, _⟩ => ⟨S1024x128, .f32⟩
  | .hbm, ⟨6, _⟩ => ⟨S4224x128, .f32⟩
  | .hbm, ⟨7, _⟩ => ⟨S4224x128, .f32⟩
  | .hbm, ⟨8, _⟩ => ⟨S4224x1024, .f32⟩
  | .hbm, ⟨9, _⟩ => ⟨S4224x1024, .f32⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S4224x1024 : Shape := ⟨2, ![4224, 1024]⟩
abbrev S1024x11264 : Shape := ⟨2, ![1024, 11264]⟩
abbrev S4224x11264 : Shape := ⟨2, ![4224, 11264]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x11264, .bf16⟩
  | .hbm, ⟨2, _⟩ => ⟨S4224x11264, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S4224x1024 : Shape := ⟨2, ![4224, 1024]⟩
abbrev S1024x11264 : Shape := ⟨2, ![1024, 11264]⟩
abbrev S4224x11264 : Shape := ⟨2, ![4224, 11264]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x11264, .bf16⟩
  | .hbm, ⟨2, _⟩ => ⟨S4224x11264, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x1024 : Shape := ⟨2, ![4224, 1024]⟩
abbrev S1024x11264 : Shape := ⟨2, ![1024, 11264]⟩
abbrev S4224x11264 : Shape := ⟨2, ![4224, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x11264, .bf16⟩
  | .hbm, ⟨2, _⟩ => ⟨S4224x1024, .f32⟩
  | .hbm, ⟨3, _⟩ => ⟨S1024x11264, .f32⟩
  | .hbm, ⟨4, _⟩ => ⟨S4224x11264, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4224x1024 : Shape := ⟨2, ![4224, 1024]⟩
abbrev S1024x5632 : Shape := ⟨2, ![1024, 5632]⟩
abbrev S4224x5632 : Shape := ⟨2, ![4224, 5632]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x5632, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4224x1024 : Shape := ⟨2, ![4224, 1024]⟩
abbrev S1024x5632 : Shape := ⟨2, ![1024, 5632]⟩
abbrev S4224x5632 : Shape := ⟨2, ![4224, 5632]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x5632, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4224x1024 : Shape := ⟨2, ![4224, 1024]⟩
abbrev S1024x5632 : Shape := ⟨2, ![1024, 5632]⟩
abbrev S4224x5632 : Shape := ⟨2, ![4224, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4224x2816 : Shape := ⟨2, ![4224, 2816]⟩
abbrev S2816x1024 : Shape := ⟨2, ![2816, 1024]⟩
abbrev S4224x1024 : Shape := ⟨2, ![4224, 1024]⟩
abbrev S1408x1408 : Shape := ⟨2, ![1408, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel16Ideal.lean ====
abbrev S4224x2816 : Shape := ⟨2, ![4224, 2816]⟩
abbrev S2816x1024 : Shape := ⟨2, ![2816, 1024]⟩
abbrev S4224x1024 : Shape := ⟨2, ![4224, 1024]⟩
abbrev S1408x1408 : Shape := ⟨2, ![1408, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4224x2048 : Shape := ⟨2, ![4224, 2048]⟩
abbrev S2048x1024 : Shape := ⟨2, ![2048, 1024]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S4224x2048 : Shape := ⟨2, ![4224, 2048]⟩
abbrev S2048x1024 : Shape := ⟨2, ![2048, 1024]⟩
abbrev S4224x1024 : Shape := ⟨2, ![4224, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4224x2048 : Shape := ⟨2, ![4224, 2048]⟩
abbrev S2048x1024 : Shape := ⟨2, ![2048, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x2048, .f32⟩
  | .hbm, ⟨3, _⟩ => ⟨S2048x1024, .f32⟩
  | .hbm, ⟨4, _⟩ => ⟨S4224x1024, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel18Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4224x1024 : Shape := ⟨2, ![4224, 1024]⟩
abbrev S1024x128 : Shape := ⟨2, ![1024, 128]⟩
abbrev S4224x128 : Shape := ⟨2, ![4224, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x128, .bf16⟩
  | .hbm, ⟨2, _⟩ => ⟨S4224x128, .f32⟩
  | .local _ .vmem, ⟨0, _⟩ => ⟨S1408x1024, .bf16⟩
  | .local _ .vmem, ⟨1, _⟩ => ⟨S1408x1024, .bf16⟩
  | .local _ .vmem, ⟨2, _⟩ => ⟨S1024x128, .bf16⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S4224x1024 : Shape := ⟨2, ![4224, 1024]⟩
abbrev S1024x128 : Shape := ⟨2, ![1024, 128]⟩
abbrev S4224x128 : Shape := ⟨2, ![4224, 128]⟩
abbrev S1408x1024 : Shape := ⟨2, ![1408, 1024]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x128, .bf16⟩
  | .hbm, ⟨2, _⟩ => ⟨S4224x128, .f32⟩
  | .local _ .vmem, ⟨0, _⟩ => ⟨S1408x1024, .bf16⟩
  | .local _ .vmem, ⟨1, _⟩ => ⟨S1408x1024, .bf16⟩
  | .local _ .vmem, ⟨2, _⟩ => ⟨S1024x128, .bf16⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4224x1024 : Shape := ⟨2, ![4224, 1024]⟩
abbrev S1024x128 : Shape := ⟨2, ![1024, 128]⟩
abbrev S4224x128 : Shape := ⟨2, ![4224, 128]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x128, .bf16⟩
  | .hbm, ⟨2, _⟩ => ⟨S4224x1024, .f32⟩
  | .hbm, ⟨3, _⟩ => ⟨S1024x128, .f32⟩
  | .hbm, ⟨4, _⟩ => ⟨S4224x128, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4224x1024 : Shape := ⟨2, ![4224, 1024]⟩
abbrev S384x512 : Shape := ⟨2, ![384, 512]⟩
abbrev S4224x512 : Shape := ⟨2, ![4224, 512]⟩
abbrev S384x128 : Shape := ⟨2, ![384, 128]⟩
abbrev S128x128 : Shape := ⟨2, ![128, 128]⟩
abbrev S384x1 : Shape := ⟨2, ![384, 1]⟩
abbrev S512x128 : Shape := ⟨2, ![512, 128]⟩
abbrev S384 : Shape := ⟨1, ![384]⟩
abbrev S3072x128 : Shape := ⟨2, ![3072, 128]⟩

abbrev nBuf : Space → Nat
  | .hbm => 5
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .bf16⟩
  | .hbm, ⟨3, _⟩ => ⟨S4224x1024, .f32⟩
  | .hbm, ⟨4, _⟩ => ⟨S4224x1024, .bf16⟩
  | .local _ .vmem, ⟨0, _⟩ => ⟨S384x512, .bf16⟩
  | .local _ .vmem, ⟨1, _⟩ => ⟨S384x512, .bf16⟩
  | .local _ .vmem, ⟨2, _⟩ => ⟨S4224x512, .bf16⟩
  | .local _ .vmem, ⟨3, _⟩ => ⟨S4224x512, .bf16⟩
  | .local _ .vmem, ⟨4, _⟩ => ⟨S4224x512, .bf16⟩
  | .local _ .vmem, ⟨5, _⟩ => ⟨S4224x512, .bf16⟩
  | .local _ .vmem, ⟨6, _⟩ => ⟨S384x512, .f32⟩
  | .local _ .vmem, ⟨7, _⟩ => ⟨S384x512, .f32⟩
  | .local _ .vmem, ⟨8, _⟩ => ⟨S384x512, .bf16⟩
  | .local _ .vmem, ⟨9, _⟩ => ⟨S384x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def k0_mult1 (i : grid0.Coords) : BitVec 32 :=
  let arg1 : BitVec 32 := BitVec.ofNat 32 (i 1).val
  let c1_i32_18 : BitVec 32 := 1#32
  let v39 : BitVec 32 := Scalar.addi arg1 c1_i32_18
  let c3_i32_19 : BitVec 32 := 3#32
  let v40 : BitVec 32 := Scalar.muli v39 c3_i32_19
  let c1_i32_20 : BitVec 32 := 1#32
  let v41 : BitVec 32 := Scalar.subi v40 c1_i32_20
  let c0_i32_21 : BitVec 32 := 0#32
  let v42 : BitVec 32 := Scalar.subi v41 c0_i32_21
  let c4_i32_22 : BitVec 32 := 4#32
  let v43 : BitVec 32 := Scalar.subi v42 c4_i32_22
  let c1_i32_23 : BitVec 32 := 1#32
  let v44 : BitVec 32 := Scalar.addi v43 c1_i32_23
  let c0_i32_24 : BitVec 32 := 0#32
  let v45 : BitVec 32 := Scalar.maxsi v44 c0_i32_24
  let c128_i32 : BitVec 32 := 128#32
  let v46 : BitVec 32 := Scalar.muli v45 c128_i32
  v46
def k0_off1 (i : grid0.Coords) : Fin 2 → Nat :=
  let arg1 : BitVec 32 := BitVec.ofNat 32 (i 1).val
  let c1_i32_18 : BitVec 32 := 1#32
  let v39 : BitVec 32 := Scalar.addi arg1 c1_i32_18
  let c3_i32_19 : BitVec 32 := 3#32
  let v40 : BitVec 32 := Scalar.muli v39 c3_i32_19
  let c1_i32_20 : BitVec 32 := 1#32
  let v41 : BitVec 32 := Scalar.subi v40 c1_i32_20
  let c0_i32_21 : BitVec 32 := 0#32
  let v42 : BitVec 32 := Scalar.subi v41 c0_i32_21
  let c4_i32_22 : BitVec 32 := 4#32
  let v43 : BitVec 32 := Scalar.subi v42 c4_i32_22
  let c1_i32_23 : BitVec 32 := 1#32
  let v44 : BitVec 32 := Scalar.addi v43 c1_i32_23
  let c0_i32_24 : BitVec 32 := 0#32
  let v45 : BitVec 32 := Scalar.maxsi v44 c0_i32_24
  let c128_i32 : BitVec 32 := 128#32
  let v46 : BitVec 32 := Scalar.muli v45 c128_i32
  let v47 : BitVec 32 := v46
  let v50 : Index := Scalar.indexCast v47
  let c0_27 : Index := 0#32
  ![v50.toNat, 0]
def k0_off2 (i : grid0.Coords) : Fin 2 → Nat :=
  let arg1 : BitVec 32 := BitVec.ofNat 32 (i 1).val
  let c1_i32_18 : BitVec 32 := 1#32
  let v39 : BitVec 32 := Scalar.addi arg1 c1_i32_18
  let c3_i32_19 : BitVec 32 := 3#32
  let v40 : BitVec 32 := Scalar.muli v39 c3_i32_19
  let c1_i32_20 : BitVec 32 := 1#32
  let v41 : BitVec 32 := Scalar.subi v40 c1_i32_20
  let c0_i32_21 : BitVec 32 := 0#32
  let v42 : BitVec 32 := Scalar.subi v41 c0_i32_21
  let c4_i32_22 : BitVec 32 := 4#32
  let v43 : BitVec 32 := Scalar.subi v42 c4_i32_22
  let c1_i32_23 : BitVec 32 := 1#32
  let v44 : BitVec 32 := Scalar.addi v43 c1_i32_23
  let c0_i32_24 : BitVec 32 := 0#32
  let v45 : BitVec 32 := Scalar.maxsi v44 c0_i32_24
  let c128_i32 : BitVec 32 := 128#32
  let v46 : BitVec 32 := Scalar.muli v45 c128_i32
  let v47 : BitVec 32 := v46
  let v52 : Index := Scalar.indexCast v47
  let c128_28 : Index := 128#32
  ![v52.toNat, 128]
def k0_off3 (i : grid0.Coords) : Fin 2 → Nat :=
  let arg1 : BitVec 32 := BitVec.ofNat 32 (i 1).val
  let c1_i32_18 : BitVec 32 := 1#32
  let v39 : BitVec 32 := Scalar.addi arg1 c1_i32_18
  let c3_i32_19 : BitVec 32 := 3#32
  let v40 : BitVec 32 := Scalar.muli v39 c3_i32_19
  let c1_i32_20 : BitVec 32 := 1#32
  let v41 : BitVec 32 := Scalar.subi v40 c1_i32_20
  let c0_i32_21 : BitVec 32 := 0#32
  let v42 : BitVec 32 := Scalar.subi v41 c0_i32_21
  let c4_i32_22 : BitVec 32 := 4#32
  let v43 : BitVec 32 := Scalar.subi v42 c4_i32_22
  let c1_i32_23 : BitVec 32 := 1#32
  let v44 : BitVec 32 := Scalar.addi v43 c1_i32_23
  let c0_i32_24 : BitVec 32 := 0#32
  let v45 : BitVec 32 := Scalar.maxsi v44 c0_i32_24
  let c128_i32 : BitVec 32 := 128#32
  let v46 : BitVec 32 := Scalar.muli v45 c128_i32
  let v47 : BitVec 32 := v46
  let v54 : Index := Scalar.indexCast v47
  let c256_29 : Index := 256#32
  ![v54.toNat, 256]
def k0_off4 (i : grid0.Coords) : Fin 2 → Nat :=
  let arg1 : BitVec 32 := BitVec.ofNat 32 (i 1).val
  let c1_i32_18 : BitVec 32 := 1#32
  let v39 : BitVec 32 := Scalar.addi arg1 c1_i32_18
  let c3_i32_19 : BitVec 32 := 3#32
  let v40 : BitVec 32 := Scalar.muli v39 c3_i32_19
  let c1_i32_20 : BitVec 32 := 1#32
  let v41 : BitVec 32 := Scalar.subi v40 c1_i32_20
  let c0_i32_21 : BitVec 32 := 0#32
  let v42 : BitVec 32 := Scalar.subi v41 c0_i32_21
  let c4_i32_22 : BitVec 32 := 4#32
  let v43 : BitVec 32 := Scalar.subi v42 c4_i32_22
  let c1_i32_23 : BitVec 32 := 1#32
  let v44 : BitVec 32 := Scalar.addi v43 c1_i32_23
  let c0_i32_24 : BitVec 32 := 0#32
  let v45 : BitVec 32 := Scalar.maxsi v44 c0_i32_24
  let c128_i32 : BitVec 32 := 128#32
  let v46 : BitVec 32 := Scalar.muli v45 c128_i32
  let v47 : BitVec 32 := v46
  let v56 : Index := Scalar.indexCast v47
  let c384_30 : Index := 384#32
  ![v56.toNat, 384]
@[reducible] def k0_t1_loop (i : grid0.Coords) : Scf.Loop 32 :=
  let c1_i32_89 : BitVec 32 := 1#32
  let arg1 : BitVec 32 := BitVec.ofNat 32 (i 1).val
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_91 : BitVec 32 := 1#32
  ⟨c1_i32_89, v389, c1_i32_91⟩
def k0_mult2 (i : grid0.Coords) (k0_t1 : Fin (k0_t1_loop i).trips) : BitVec 32 :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32_91 : BitVec 32 := 1#32
  let arg7 : BitVec 32 := Scf.iv c1_i32_89 c1_i32_91 k0_t1
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  v421
def k0_off5 (i : grid0.Coords) (k0_t1 : Fin (k0_t1_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32_91 : BitVec 32 := 1#32
  let arg7 : BitVec 32 := Scf.iv c1_i32_89 c1_i32_91 k0_t1
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v425 : Index := Scalar.indexCast v422
  let c0_124 : Index := 0#32
  ![v425.toNat, 0]
def k0_off6 (i : grid0.Coords) (k0_t1 : Fin (k0_t1_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32_91 : BitVec 32 := 1#32
  let arg7 : BitVec 32 := Scf.iv c1_i32_89 c1_i32_91 k0_t1
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v427 : Index := Scalar.indexCast v422
  let c128_125 : Index := 128#32
  ![v427.toNat, 128]
def k0_off7 (i : grid0.Coords) (k0_t1 : Fin (k0_t1_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32_91 : BitVec 32 := 1#32
  let arg7 : BitVec 32 := Scf.iv c1_i32_89 c1_i32_91 k0_t1
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v429 : Index := Scalar.indexCast v422
  let c256_126 : Index := 256#32
  ![v429.toNat, 256]
def k0_off8 (i : grid0.Coords) (k0_t1 : Fin (k0_t1_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32_91 : BitVec 32 := 1#32
  let arg7 : BitVec 32 := Scf.iv c1_i32_89 c1_i32_91 k0_t1
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v431 : Index := Scalar.indexCast v422
  let c384_127 : Index := 384#32
  ![v431.toNat, 384]
@[reducible] def k0_t2_loop (i : grid0.Coords) : Scf.Loop 32 :=
  let c1_i32_89 : BitVec 32 := 1#32
  let arg1 : BitVec 32 := BitVec.ofNat 32 (i 1).val
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let v386 : BitVec 32 := Scalar.addi c1_i32_89 v385
  let c1_i32_92 : BitVec 32 := 1#32
  ⟨v389, v386, c1_i32_92⟩
def k0_mult3 (i : grid0.Coords) (k0_t2 : Fin (k0_t2_loop i).trips) : BitVec 32 :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_92 : BitVec 32 := 1#32
  let arg7 : BitVec 32 := Scf.iv v389 c1_i32_92 k0_t2
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  v421
def k0_off9 (i : grid0.Coords) (k0_t2 : Fin (k0_t2_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_92 : BitVec 32 := 1#32
  let arg7 : BitVec 32 := Scf.iv v389 c1_i32_92 k0_t2
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v425 : Index := Scalar.indexCast v422
  let c0_124 : Index := 0#32
  ![v425.toNat, 0]
def k0_off10 (i : grid0.Coords) (k0_t2 : Fin (k0_t2_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_92 : BitVec 32 := 1#32
  let arg7 : BitVec 32 := Scf.iv v389 c1_i32_92 k0_t2
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v427 : Index := Scalar.indexCast v422
  let c128_125 : Index := 128#32
  ![v427.toNat, 128]
def k0_off11 (i : grid0.Coords) (k0_t2 : Fin (k0_t2_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_92 : BitVec 32 := 1#32
  let arg7 : BitVec 32 := Scf.iv v389 c1_i32_92 k0_t2
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v429 : Index := Scalar.indexCast v422
  let c256_126 : Index := 256#32
  ![v429.toNat, 256]
def k0_off12 (i : grid0.Coords) (k0_t2 : Fin (k0_t2_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32_89 : BitVec 32 := 1#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_88 : BitVec 32 := 1#32
  let v384 : BitVec 32 := Scalar.subi v38 c1_i32_88
  let v385 : BitVec 32 := Scalar.subi v384 c1_i32_89
  let c1_i32_90 : BitVec 32 := 1#32
  let v387 : BitVec 32 := Scalar.divsi v385 c1_i32_90
  let v388 : BitVec 32 := Scalar.muli v387 c1_i32_90
  let v389 : BitVec 32 := Scalar.addi c1_i32_89 v388
  let c1_i32_92 : BitVec 32 := 1#32
  let arg7 : BitVec 32 := Scf.iv v389 c1_i32_92 k0_t2
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v431 : Index := Scalar.indexCast v422
  let c384_127 : Index := 384#32
  ![v431.toNat, 384]
@[reducible] def k0_t3_loop (i : grid0.Coords) : Scf.Loop 32 :=
  let arg1 : BitVec 32 := BitVec.ofNat 32 (i 1).val
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_96 : BitVec 32 := 1#32
  ⟨v393, v398, c1_i32_96⟩
def k0_mult4 (i : grid0.Coords) (k0_t3 : Fin (k0_t3_loop i).trips) : BitVec 32 :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let c1_i32_96 : BitVec 32 := 1#32
  let arg7 : BitVec 32 := Scf.iv v393 c1_i32_96 k0_t3
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  v421
def k0_off13 (i : grid0.Coords) (k0_t3 : Fin (k0_t3_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let c1_i32_96 : BitVec 32 := 1#32
  let arg7 : BitVec 32 := Scf.iv v393 c1_i32_96 k0_t3
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v425 : Index := Scalar.indexCast v422
  let c0_124 : Index := 0#32
  ![v425.toNat, 0]
def k0_off14 (i : grid0.Coords) (k0_t3 : Fin (k0_t3_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let c1_i32_96 : BitVec 32 := 1#32
  let arg7 : BitVec 32 := Scf.iv v393 c1_i32_96 k0_t3
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v427 : Index := Scalar.indexCast v422
  let c128_125 : Index := 128#32
  ![v427.toNat, 128]
def k0_off15 (i : grid0.Coords) (k0_t3 : Fin (k0_t3_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let c1_i32_96 : BitVec 32 := 1#32
  let arg7 : BitVec 32 := Scf.iv v393 c1_i32_96 k0_t3
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v429 : Index := Scalar.indexCast v422
  let c256_126 : Index := 256#32
  ![v429.toNat, 256]
def k0_off16 (i : grid0.Coords) (k0_t3 : Fin (k0_t3_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let c1_i32_96 : BitVec 32 := 1#32
  let arg7 : BitVec 32 := Scf.iv v393 c1_i32_96 k0_t3
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v431 : Index := Scalar.indexCast v422
  let c384_127 : Index := 384#32
  ![v431.toNat, 384]
@[reducible] def k0_t4_loop (i : grid0.Coords) : Scf.Loop 32 :=
  let arg1 : BitVec 32 := BitVec.ofNat 32 (i 1).val
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let v395 : BitVec 32 := Scalar.addi v393 v394
  let c1_i32_97 : BitVec 32 := 1#32
  ⟨v398, v395, c1_i32_97⟩
def k0_mult5 (i : grid0.Coords) (k0_t4 : Fin (k0_t4_loop i).trips) : BitVec 32 :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_97 : BitVec 32 := 1#32
  let arg7 : BitVec 32 := Scf.iv v398 c1_i32_97 k0_t4
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  v421
def k0_off17 (i : grid0.Coords) (k0_t4 : Fin (k0_t4_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_97 : BitVec 32 := 1#32
  let arg7 : BitVec 32 := Scf.iv v398 c1_i32_97 k0_t4
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v425 : Index := Scalar.indexCast v422
  let c0_124 : Index := 0#32
  ![v425.toNat, 0]
def k0_off18 (i : grid0.Coords) (k0_t4 : Fin (k0_t4_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_97 : BitVec 32 := 1#32
  let arg7 : BitVec 32 := Scf.iv v398 c1_i32_97 k0_t4
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v427 : Index := Scalar.indexCast v422
  let c128_125 : Index := 128#32
  ![v427.toNat, 128]
def k0_off19 (i : grid0.Coords) (k0_t4 : Fin (k0_t4_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_97 : BitVec 32 := 1#32
  let arg7 : BitVec 32 := Scf.iv v398 c1_i32_97 k0_t4
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v429 : Index := Scalar.indexCast v422
  let c256_126 : Index := 256#32
  ![v429.toNat, 256]
def k0_off20 (i : grid0.Coords) (k0_t4 : Fin (k0_t4_loop i).trips) : Fin 2 → Nat :=
  let arg1 : BitVec 32 := BitVec.ofNat 32 (i 1).val
  let c1_i32_114 : BitVec 32 := 1#32
  let v413 : BitVec 32 := Scalar.addi arg1 c1_i32_114
  let c3_i32_115 : BitVec 32 := 3#32
  let v414 : BitVec 32 := Scalar.muli v413 c3_i32_115
  let c1_i32_116 : BitVec 32 := 1#32
  let v415 : BitVec 32 := Scalar.subi v414 c1_i32_116
  let c4_i32_117 : BitVec 32 := 4#32
  let c1_i32 : BitVec 32 := 1#32
  let v18 : BitVec 32 := Scalar.addi arg1 c1_i32
  let c3_i32 : BitVec 32 := 3#32
  let v19 : BitVec 32 := Scalar.muli v18 c3_i32
  let c1_i32_11 : BitVec 32 := 1#32
  let v20 : BitVec 32 := Scalar.subi v19 c1_i32_11
  let c4_i32 : BitVec 32 := 4#32
  let v21 : BitVec 32 := Scalar.addi v20 c4_i32
  let c0_i32 : BitVec 32 := 0#32
  let v23 : BitVec 1 := Scalar.cmpi .sgt v21 c0_i32
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c4_i32_12 : BitVec 32 := 4#32
  let c0_i32_14 : BitVec 32 := 0#32
  let v28 : BitVec 1 := Scalar.cmpi .sgt c4_i32_12 c0_i32_14
  let v29 : BitVec 32 := Scalar.extui v28
  let c0_i32_15 : BitVec 32 := 0#32
  let v30 : BitVec 1 := Scalar.cmpi .slt c4_i32_12 c0_i32_15
  let v31 : BitVec 32 := Scalar.extui v30
  let v32 : BitVec 32 := Scalar.subi v29 v31
  let v33 : BitVec 1 := Scalar.cmpi .ne v27 v32
  let v34 : BitVec 32 := Scalar.remsi v21 c4_i32_12
  let c0_i32_16 : BitVec 32 := 0#32
  let v35 : BitVec 1 := Scalar.cmpi .ne v34 c0_i32_16
  let v36 : BitVec 1 := Scalar.andi v33 v35
  let v22 : BitVec 32 := Scalar.divsi v21 c4_i32_12
  let c1_i32_17 : BitVec 32 := 1#32
  let v37 : BitVec 32 := Scalar.subi v22 c1_i32_17
  let v38 : BitVec 32 := Scalar.select v36 v37 v22
  let c1_i32_93 : BitVec 32 := 1#32
  let v392 : BitVec 32 := Scalar.subi v38 c1_i32_93
  let c1_i32_94 : BitVec 32 := 1#32
  let v393 : BitVec 32 := Scalar.maxsi v392 c1_i32_94
  let v394 : BitVec 32 := Scalar.subi v38 v393
  let c1_i32_95 : BitVec 32 := 1#32
  let v396 : BitVec 32 := Scalar.divsi v394 c1_i32_95
  let v397 : BitVec 32 := Scalar.muli v396 c1_i32_95
  let v398 : BitVec 32 := Scalar.addi v393 v397
  let c1_i32_97 : BitVec 32 := 1#32
  let arg7 : BitVec 32 := Scf.iv v398 c1_i32_97 k0_t4
  let v416 : BitVec 32 := Scalar.muli c4_i32_117 arg7
  let v417 : BitVec 32 := Scalar.subi v415 v416
  let c4_i32_118 : BitVec 32 := 4#32
  let v418 : BitVec 32 := Scalar.subi v417 c4_i32_118
  let c1_i32_119 : BitVec 32 := 1#32
  let v419 : BitVec 32 := Scalar.addi v418 c1_i32_119
  let c0_i32_120 : BitVec 32 := 0#32
  let v420 : BitVec 32 := Scalar.maxsi v419 c0_i32_120
  let c128_i32_121 : BitVec 32 := 128#32
  let v421 : BitVec 32 := Scalar.muli v420 c128_i32_121
  let v422 : BitVec 32 := v421
  let v431 : Index := Scalar.indexCast v422
  let c384_127 : Index := 384#32
  ![v431.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference21Ideal.lean ====
abbrev S4224x1024 : Shape := ⟨2, ![4224, 1024]⟩
abbrev S4224x8x128 : Shape := ⟨3, ![4224, 8, 128]⟩
abbrev S8x4224x128 : Shape := ⟨3, ![8, 4224, 128]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S8x4224x4224 : Shape := ⟨3, ![8, 4224, 4224]⟩

abbrev nBuf : Space → Nat
  | .hbm => 81
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .bf16⟩
  | .hbm, ⟨3, _⟩ => ⟨S4224x1024, .f32⟩
  | .hbm, ⟨4, _⟩ => ⟨S4224x8x128, .f32⟩
  | .hbm, ⟨5, _⟩ => ⟨S8x4224x128, .f32⟩
  | .hbm, ⟨6, _⟩ => ⟨S4224x1024, .f32⟩
  | .hbm, ⟨7, _⟩ => ⟨S4224x8x128, .f32⟩
  | .hbm, ⟨8, _⟩ => ⟨S8x4224x128, .f32⟩
  | .hbm, ⟨9, _⟩ => ⟨S4224x1024, .f32⟩
  | .hbm, ⟨10, _⟩ => ⟨S4224x8x128, .f32⟩
  | .hbm, ⟨11, _⟩ => ⟨S8x4224x128, .f32⟩
  | .hbm, ⟨12, _⟩ => ⟨S4224, .i32⟩
  | .hbm, ⟨13, _⟩ => ⟨S1x4224, .i32⟩
  | .hbm, ⟨14, _⟩ => ⟨S4224x1, .i32⟩
  | .hbm, ⟨15, _⟩ => ⟨S4224x4224, .i32⟩
  | .hbm, ⟨16, _⟩ => ⟨S4224x4224, .i32⟩
  | .hbm, ⟨17, _⟩ => ⟨S4224x4224, .i1⟩
  | .hbm, ⟨18, _⟩ => ⟨S1x4224, .i32⟩
  | .hbm, ⟨19, _⟩ => ⟨S_, .i32⟩
  | .hbm, ⟨20, _⟩ => ⟨S1x4224, .i32⟩
  | .hbm, ⟨21, _⟩ => ⟨S1x4224, .i1⟩
  | .hbm, ⟨22, _⟩ => ⟨S4224x4224, .i1⟩
  | .hbm, ⟨23, _⟩ => ⟨S4224x4224, .i1⟩
  | .hbm, ⟨24, _⟩ => ⟨S8x4224x4224, .f32⟩
  | .hbm, ⟨25, _⟩ => ⟨S_, .f32⟩
  | .hbm, ⟨26, _⟩ => ⟨S8x4224x4224, .f32⟩
  | .hbm, ⟨27, _⟩ => ⟨S8x4224x4224, .f32⟩
  | .hbm, ⟨28, _⟩ => ⟨S8x4224x4224, .f32⟩
  | .hbm, ⟨29, _⟩ => ⟨S8x4224x4224, .f32⟩
  | .hbm, ⟨30, _⟩ => ⟨S_, .f32⟩
  | .hbm, ⟨31, _⟩ => ⟨S8x4224x4224, .f32⟩
  | .hbm, ⟨32, _⟩ => ⟨S8x4224x4224, .f32⟩
  | .hbm, ⟨33, _⟩ => ⟨S8x4224x4224, .f32⟩
  | .hbm, ⟨34, _⟩ => ⟨S8x4224x4224, .f32⟩
  | .hbm, ⟨35, _⟩ => ⟨S8x4224x4224, .i1⟩
  | .hbm, ⟨36, _⟩ => ⟨S8x4224x4224, .f32⟩
  | .hbm, ⟨37, _⟩ => ⟨S8x4224x4224, .f32⟩
  | .hbm, ⟨38, _⟩ => ⟨S8x4224x4224, .f32⟩
  | .hbm, ⟨39, _⟩ => ⟨S8x4224x4224, .f32⟩
  | .hbm, ⟨40, _⟩ => ⟨S8x4224x4224, .f32⟩
  | .hbm, ⟨41, _⟩ => ⟨S8x4224x4224, .f32⟩
  | .hbm, ⟨42, _⟩ => ⟨S8x4224x4224, .f32⟩
  | .hbm, ⟨43, _⟩ => ⟨S8x4224x4224, .f32⟩
  | .hbm, ⟨44, _⟩ => ⟨S8x4224x4224, .f32⟩
  | .hbm, ⟨45, _⟩ => ⟨S_, .f32⟩
  | .hbm, ⟨46, _⟩ => ⟨S_, .f32⟩
  | .hbm, ⟨47, _⟩ => ⟨S8x4224x4224, .i1⟩
  | .hbm, ⟨48, _⟩ => ⟨S8x4224x4224, .f32⟩
  | .hbm, ⟨49, _⟩ => ⟨S8x4224x4224, .f32⟩
  | .hbm, ⟨50, _⟩ => ⟨S8x4224x4224, .f32⟩
  | .hbm, ⟨51, _⟩ => ⟨S_, .f32⟩
  | .hbm, ⟨52, _⟩ => ⟨S8x4224x4224, .f32⟩
  | .hbm, ⟨53, _⟩ => ⟨S8x4224x4224, .f32⟩
  | .hbm, ⟨54, _⟩ => ⟨S8x4224x4224, .f32⟩
  | .hbm, ⟨55, _⟩ => ⟨S8x4224x4224, .f32⟩
  | .hbm, ⟨56, _⟩ => ⟨S8x4224x4224, .i1⟩
  | .hbm, ⟨57, _⟩ => ⟨S8x4224x4224, .f32⟩
  | .hbm, ⟨58, _⟩ => ⟨S8x4224x4224, .f32⟩
  | .hbm, ⟨59, _⟩ => ⟨S8x4224x4224, .f32⟩
  | .hbm, ⟨60, _⟩ => ⟨S8x4224x4224, .f32⟩
  | .hbm, ⟨61, _⟩ => ⟨S8x4224x4224, .f32⟩
  | .hbm, ⟨62, _⟩ => ⟨S8x4224x4224, .f32⟩
  | .hbm, ⟨63, _⟩ => ⟨S8x4224x4224, .f32⟩
  | .hbm, ⟨64, _⟩ => ⟨S8x4224x4224, .f32⟩
  | .hbm, ⟨65, _⟩ => ⟨S8x4224x4224, .f32⟩
  | .hbm, ⟨66, _⟩ => ⟨S_, .f32⟩
  | .hbm, ⟨67, _⟩ => ⟨S_, .f32⟩
  | .hbm, ⟨68, _⟩ => ⟨S8x4224x4224, .f32⟩
  | .hbm, ⟨69, _⟩ => ⟨S8x4224x4224, .f32⟩
  | .hbm, ⟨70, _⟩ => ⟨S8x4224x4224, .f32⟩
  | .hbm, ⟨71, _⟩ => ⟨S8x4224x4224, .f32⟩
  | .hbm, ⟨72, _⟩ => ⟨S_, .f32⟩
  | .hbm, ⟨73, _⟩ => ⟨S_, .f32⟩
  | .hbm, ⟨74, _⟩ => ⟨S8x4224x4224, .i1⟩
  | .hbm, ⟨75, _⟩ => ⟨S8x4224x4224, .f32⟩
  | .hbm, ⟨76, _⟩ => ⟨S8x4224x4224, .f32⟩
  | .hbm, ⟨77, _⟩ => ⟨S8x4224x128, .f32⟩
  | .hbm, ⟨78, _⟩ => ⟨S4224x8x128, .f32⟩
  | .hbm, ⟨79, _⟩ => ⟨S4224x1024, .f32⟩
  | .hbm, ⟨80, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v24 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_call2_v0 : Ref sig .tc := ⟨.hbm, 50, rfl⟩
abbrev main_call2_call0_cst : Ref sig .tc := ⟨.hbm, 51, rfl⟩
abbrev main_call2_call0_v0 : Ref sig .tc := ⟨.hbm, 52, rfl⟩
abbrev main_call2_call0_v1 : Ref sig .tc := ⟨.hbm, 53, rfl⟩
abbrev main_call2_call0_v2 : Ref sig .tc := ⟨.hbm, 54, rfl⟩
abbrev main_call2_call0_v3 : Ref sig .tc := ⟨.hbm, 55, rfl⟩
abbrev main_call2_call0_v4 : Ref sig .tc := ⟨.hbm, 56, rfl⟩
abbrev main_call2_call0_v5 : Ref sig .tc := ⟨.hbm, 57, rfl⟩
abbrev main_call2_call0_v6 : Ref sig .tc := ⟨.hbm, 58, rfl⟩
abbrev main_call2_call0_v7 : Ref sig .tc := ⟨.hbm, 59, rfl⟩
abbrev main_call2_call0_v8 : Ref sig .tc := ⟨.hbm, 60, rfl⟩
abbrev main_call2_call0_v9 : Ref sig .tc := ⟨.hbm, 61, rfl⟩
abbrev main_call2_call0_v10 : Ref sig .tc := ⟨.hbm, 62, rfl⟩
abbrev main_call2_call0_v11 : Ref sig .tc := ⟨.hbm, 63, rfl⟩
abbrev main_call2_v1 : Ref sig .tc := ⟨.hbm, 64, rfl⟩
abbrev main_v26 : Ref sig .tc := ⟨.hbm, 65, rfl⟩
abbrev main_call3_cst : Ref sig .tc := ⟨.hbm, 66, rfl⟩
abbrev main_call3_v0 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_1 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩

abbrev nD : Nat := 1
abbrev τ : Topo := Topo.v7x

variable {F : FTy → Type} [FloatOps F]
-- ==== Kernel22.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel23.lean ====
abbrev S4224x5632 : Shape := ⟨2, ![4224, 5632]⟩
abbrev S4224x2816 : Shape := ⟨2, ![4224, 2816]⟩
abbrev S384x1408 : Shape := ⟨2, ![384, 1408]⟩

abbrev nBuf : Space → Nat
  | .hbm => 2
  | .vmem => 6
  | .smem => 0
  | _ => 0

abbrev bufTy : (tb : Table) → Fin (tcTables nBuf tb) → BufTy
  | .hbm, ⟨0, _⟩ => ⟨S4224x5632, .f32⟩
  | .hbm, ⟨1, _⟩ => ⟨S4224x2816, .bf16⟩
  | .local _ .vmem, ⟨0, _⟩ => ⟨S384x1408, .f32⟩
  | .local _ .vmem, ⟨1, _⟩ => ⟨S384x1408, .f32⟩
  | .local _ .vmem, ⟨2, _⟩ => ⟨S384x1408, .f32⟩
  | .local _ .vmem, ⟨3, _⟩ => ⟨S384x1408, .f32⟩
  | .local _ .vmem, ⟨4, _⟩ => ⟨S384x1408, .bf16⟩
  | .local _ .vmem, ⟨5, _⟩ => ⟨S384x1408, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S_, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S4224x2816, .f32⟩
  | .hbm, ⟨12, _⟩ => ⟨S4224x2816, .f32⟩
  | .hbm, ⟨13, _⟩ => ⟨S4224x2816, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel24.lean ====
abbrev S4224x11264 : Shape := ⟨2, ![4224, 11264]⟩
abbrev S4224x1024 : Shape := ⟨2, ![4224, 1024]⟩
abbrev S384x1024 : Shape := ⟨2, ![384, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4224x11264, .f32⟩
  | .hbm, ⟨1, _⟩ => ⟨S4224x1024, .f32⟩
  | .hbm, ⟨2, _⟩ => ⟨S4224x1024, .f32⟩
  | .hbm, ⟨3, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4224x11264 : Shape := ⟨2, ![4224, 11264]⟩
abbrev S4224x1024 : Shape := ⟨2, ![4224, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel25.lean ====
abbrev S4224x11264 : Shape := ⟨2, ![4224, 11264]⟩
abbrev S4224x1024 : Shape := ⟨2, ![4224, 1024]⟩
abbrev S4224x2048 : Shape := ⟨2, ![4224, 2048]⟩
abbrev S384x1024 : Shape := ⟨2, ![384, 1024]⟩
abbrev S384x2048 : Shape := ⟨2, ![384, 2048]⟩

abbrev nBuf : Space → Nat
  | .hbm => 7
  | .vmem => 16
  | .smem => 0
  | _ => 0

abbrev bufTy : (tb : Table) → Fin (tcTables nBuf tb) → BufTy
  | .hbm, ⟨0, _⟩ => ⟨S4224x11264, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .bf16⟩
  | .hbm, ⟨5, _⟩ => ⟨S4224x1024, .bf16⟩
  | .hbm, ⟨6, _⟩ => ⟨S4224x2048, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x2048, .bf16⟩
  | .local _ .vmem, ⟨15, _⟩ => ⟨S384x2048, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S4224x11264 : Shape := ⟨2, ![4224, 11264]⟩
abbrev S4224x1024 : Shape := ⟨2, ![4224, 1024]⟩
abbrev S_ : Shape := ⟨0, ![]⟩
abbrev S4224x2048 : Shape := ⟨2, ![4224, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .bf16⟩
  | .hbm, ⟨42, _⟩ => ⟨S4224x1024, .bf16⟩
  | .hbm, ⟨43, _⟩ => ⟨S4224x2048, .f32⟩
  | .hbm, ⟨44, _⟩ => ⟨S4224x2048, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel26.lean ====
abbrev S1024x2820 : Shape := ⟨2, ![1024, 2820]⟩
abbrev S128x2820 : Shape := ⟨2, ![128, 2820]⟩

abbrev nBuf : Space → Nat
  | .hbm => 7
  | .vmem => 14
  | .smem => 0
  | _ => 0

abbrev bufTy : (tb : Table) → Fin (tcTables nBuf tb) → BufTy
  | .hbm, ⟨0, _⟩ => ⟨S1024x2820, .f32⟩
  | .hbm, ⟨1, _⟩ => ⟨S1024x2820, .f32⟩
  | .hbm, ⟨2, _⟩ => ⟨S1024x2820, .f32⟩
  | .hbm, ⟨3, _⟩ => ⟨S1024x2820, .f32⟩
  | .hbm, ⟨4, _⟩ => ⟨S1024x2820, .f32⟩
  | .hbm, ⟨5, _⟩ => ⟨S1024x2820, .f32⟩
  | .hbm, ⟨6, _⟩ => ⟨S1024x2820, .f32⟩
  | .local _ .vmem, ⟨0, _⟩ => ⟨S128x2820, .f32⟩
  | .local _ .vmem, ⟨1, _⟩ => ⟨S128x2820, .f32⟩
  | .local _ .vmem, ⟨2, _⟩ => ⟨S128x2820, .f32⟩
  | .local _ .vmem, ⟨3, _⟩ => ⟨S128x2820, .f32⟩
  | .local _ .vmem, ⟨4, _⟩ => ⟨S128x2820, .f32⟩
  | .local _ .vmem, ⟨5, _⟩ => ⟨S128x2820, .f32⟩
  | .local _ .vmem, ⟨6, _⟩ => ⟨S128x2820, .f32⟩
  | .local _ .vmem, ⟨7, _⟩ => ⟨S128x2820, .f32⟩
  | .local _ .vmem, ⟨8, _⟩ => ⟨S128x2820, .f32⟩
  | .local _ .vmem, ⟨9, _⟩ => ⟨S128x2820, .f32⟩
  | .local _ .vmem, ⟨10, _⟩ => ⟨S128x2820, .f32⟩
  | .local _ .vmem, ⟨11, _⟩ => ⟨S128x2820, .f32⟩
  | .local _ .vmem, ⟨12, _⟩ => ⟨S128x2820, .f32⟩
  | .local _ .vmem, ⟨13, _⟩ => ⟨S128x2820, .f32⟩
  | _, _ => ⟨S1024x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
abbrev S1024x2820 : Shape := ⟨2, ![1024, 2820]⟩
abbrev S128x2820 : Shape := ⟨2, ![128, 2820]⟩

abbrev nBuf : Space → Nat
  | .hbm => 7
  | .vmem => 14
  | .smem => 0
  | _ => 0

abbrev bufTy : (tb : Table) → Fin (tcTables nBuf tb) → BufTy
  | .hbm, ⟨0, _⟩ => ⟨S1024x2820, .f32⟩
  | .hbm, ⟨1, _⟩ => ⟨S1024x2820, .f32⟩
  | .hbm, ⟨2, _⟩ => ⟨S1024x2820, .f32⟩
  | .hbm, ⟨3, _⟩ => ⟨S1024x2820, .f32⟩
  | .hbm, ⟨4, _⟩ => ⟨S1024x2820, .f32⟩
  | .hbm, ⟨5, _⟩ => ⟨S1024x2820, .f32⟩
  | .hbm, ⟨6, _⟩ => ⟨S1024x2820, .f32⟩
  | .local _ .vmem, ⟨0, _⟩ => ⟨S128x2820, .f32⟩
  | .local _ .vmem, ⟨1, _⟩ => ⟨S128x2820, .f32⟩
  | .local _ .vmem, ⟨2, _⟩ => ⟨S128x2820, .f32⟩
  | .local _ .vmem, ⟨3, _⟩ => ⟨S128x2820, .f32⟩
  | .local _ .vmem, ⟨4, _⟩ => ⟨S128x2820, .f32⟩
  | .local _ .vmem, ⟨5, _⟩ => ⟨S128x2820, .f32⟩
  | .local _ .vmem, ⟨6, _⟩ => ⟨S128x2820, .f32⟩
  | .local _ .vmem, ⟨7, _⟩ => ⟨S128x2820, .f32⟩
  | .local _ .vmem, ⟨8, _⟩ => ⟨S128x2820, .f32⟩
  | .local _ .vmem, ⟨9, _⟩ => ⟨S128x2820, .f32⟩
  | .local _ .vmem, ⟨10, _⟩ => ⟨S128x2820, .f32⟩
  | .local _ .vmem, ⟨11, _⟩ => ⟨S128x2820, .f32⟩
  | .local _ .vmem, ⟨12, _⟩ => ⟨S128x2820, .f32⟩
  | .local _ .vmem, ⟨13, _⟩ => ⟨S128x2820, .f32⟩
  | _, _ => ⟨S1024x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S1024x2820 : Shape := ⟨2, ![1024, 2820]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2820, .f32⟩
  | .hbm, ⟨1, _⟩ => ⟨S1024x2820, .f32⟩
  | .hbm, ⟨2, _⟩ => ⟨S1024x2820, .f32⟩
  | .hbm, ⟨3, _⟩ => ⟨S1024x2820, .f32⟩
  | .hbm, ⟨4, _⟩ => ⟨S_, .f32⟩
  | .hbm, ⟨5, _⟩ => ⟨S1024x2820, .f32⟩
  | .hbm, ⟨6, _⟩ => ⟨S1024x2820, .f32⟩
  | .hbm, ⟨7, _⟩ => ⟨S_, .f32⟩
  | .hbm, ⟨8, _⟩ => ⟨S1024x2820, .f32⟩
  | .hbm, ⟨9, _⟩ => ⟨S1024x2820, .f32⟩
  | .hbm, ⟨10, _⟩ => ⟨S1024x2820, .f32⟩
  | .hbm, ⟨11, _⟩ => ⟨S_, .f32⟩
  | .hbm, ⟨12, _⟩ => ⟨S1024x2820, .f32⟩
  | .hbm, ⟨13, _⟩ => ⟨S1024x2820, .f32⟩
  | .hbm, ⟨14, _⟩ => ⟨S1024x2820, .f32⟩
  | .hbm, ⟨15, _⟩ => ⟨S_, .f32⟩
  | .hbm, ⟨16, _⟩ => ⟨S1024x2820, .f32⟩
  | .hbm, ⟨17, _⟩ => ⟨S1024x2820, .f32⟩
  | .hbm, ⟨18, _⟩ => ⟨S1024x2820, .f32⟩
  | .hbm, ⟨19, _⟩ => ⟨S_, .f32⟩
  | .hbm, ⟨20, _⟩ => ⟨S1024x2820, .f32⟩
  | .hbm, ⟨21, _⟩ => ⟨S1024x2820, .f32⟩
  | .hbm, ⟨22, _⟩ => ⟨S_, .f32⟩
  | .hbm, ⟨23, _⟩ => ⟨S1024x2820, .f32⟩
  | .hbm, ⟨24, _⟩ => ⟨S1024x2820, .f32⟩
  | .hbm, ⟨25, _⟩ => ⟨S1024x2820, .f32⟩
  | .hbm, ⟨26, _⟩ => ⟨S_, .f32⟩
  | .hbm, ⟨27, _⟩ => ⟨S1024x2820, .f32⟩
  | .hbm, ⟨28, _⟩ => ⟨S1024x2820, .f32⟩
  | .hbm, ⟨29, _⟩ => ⟨S1024x2820, .f32⟩
  | .hbm, ⟨30, _⟩ => ⟨S_, .f32⟩
  | .hbm, ⟨31, _⟩ => ⟨S1024x2820, .f32⟩
  | .hbm, ⟨32, _⟩ => ⟨S1024x2820, .f32⟩
  | .hbm, ⟨33, _⟩ => ⟨S1024x2820, .f32⟩
  | .hbm, ⟨34, _⟩ => ⟨S_, .f32⟩
  | .hbm, ⟨35, _⟩ => ⟨S1024x2820, .f32⟩
  | .hbm, ⟨36, _⟩ => ⟨S1024x2820, .f32⟩
  | _, _ => ⟨S1024x2820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel27Ideal.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel28Ideal.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel29Ideal.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S704x1024 : Shape := ⟨2, ![704, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel30Ideal.lean ====
abbrev S704x1024 : Shape := ⟨2, ![704, 1024]⟩
abbrev S88x1024 : Shape := ⟨2, ![88, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel31Ideal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel32Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel33Ideal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel34Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel35Ideal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel36Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel37Ideal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S4224x5632 : Shape := ⟨2, ![4224, 5632]⟩
abbrev S4224x2816 : Shape := ⟨2, ![4224, 2816]⟩
abbrev S384x1408 : Shape := ⟨2, ![384, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .bf16⟩
  | .hbm, ⟨3, _⟩ => ⟨S4224x2816, .bf16⟩
  | .local _ .vmem, ⟨0, _⟩ => ⟨S384x1408, .f32⟩
  | .local _ .vmem, ⟨1, _⟩ => ⟨S384x1408, .f32⟩
  | .local _ .vmem, ⟨2, _⟩ => ⟨S384x1408, .f32⟩
  | .local _ .vmem, ⟨3, _⟩ => ⟨S384x1408, .f32⟩
  | .local _ .vmem, ⟨4, _⟩ => ⟨S384x1408, .f32⟩
  | .local _ .vmem, ⟨5, _⟩ => ⟨S384x1408, .f32⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference38Ideal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S4224x2816, .f32⟩
  | .hbm, ⟨6, _⟩ => ⟨S_, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x2816, .bf16⟩
  | .hbm, ⟨25, _⟩ => ⟨S4224x2816, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel39.lean ====
abbrev S4224x11264 : Shape := ⟨2, ![4224, 11264]⟩
abbrev S1x128 : Shape := ⟨2, ![1, 128]⟩
abbrev S4224x1024 : Shape := ⟨2, ![4224, 1024]⟩
abbrev S384x1024 : Shape := ⟨2, ![384, 1024]⟩
abbrev S384x128 : Shape := ⟨2, ![384, 128]⟩
abbrev S384 : Shape := ⟨1, ![384]⟩
abbrev S384x1 : Shape := ⟨2, ![384, 1]⟩

abbrev nBuf : Space → Nat
  | .hbm => 6
  | .vmem => 14
  | .smem => 0
  | _ => 0

abbrev bufTy : (tb : Table) → Fin (tcTables nBuf tb) → BufTy
  | .hbm, ⟨0, _⟩ => ⟨S4224x11264, .f32⟩
  | .hbm, ⟨1, _⟩ => ⟨S1x128, .f32⟩
  | .hbm, ⟨2, _⟩ => ⟨S1x128, .f32⟩
  | .hbm, ⟨3, _⟩ => ⟨S4224x1024, .bf16⟩
  | .hbm, ⟨4, _⟩ => ⟨S4224x1024, .bf16⟩
  | .hbm, ⟨5, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x128, .f32⟩
  | .local _ .vmem, ⟨7, _⟩ => ⟨S1x128, .f32⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4224x11264 : Shape := ⟨2, ![4224, 11264]⟩
abbrev S1x128 : Shape := ⟨2, ![1, 128]⟩
abbrev S4224x1024 : Shape := ⟨2, ![4224, 1024]⟩
abbrev S4224x8x128 : Shape := ⟨3, ![4224, 8, 128]⟩
abbrev S128 : Shape := ⟨1, ![128]⟩
abbrev S_ : Shape := ⟨0, ![]⟩
abbrev S4224x8 : Shape := ⟨2, ![4224, 8]⟩
abbrev S4224x8x1 : Shape := ⟨3, ![4224, 8, 1]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S1x128, .f32⟩
  | .hbm, ⟨2, _⟩ => ⟨S1x128, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x8x128, .f32⟩
  | .hbm, ⟨7, _⟩ => ⟨S128, .f32⟩
  | .hbm, ⟨8, _⟩ => ⟨S4224x8x128, .f32⟩
  | .hbm, ⟨9, _⟩ => ⟨S_, .f32⟩
  | .hbm, ⟨10, _⟩ => ⟨S4224x8, .f32⟩
  | .hbm, ⟨11, _⟩ => ⟨S4224x8x1, .f32⟩
  | .hbm, ⟨12, _⟩ => ⟨S_, .f32⟩
  | .hbm, ⟨13, _⟩ => ⟨S4224x8x1, .f32⟩
  | .hbm, ⟨14, _⟩ => ⟨S4224x8x1, .f32⟩
  | .hbm, ⟨15, _⟩ => ⟨S_, .f32⟩
  | .hbm, ⟨16, _⟩ => ⟨S4224x8x1, .f32⟩
  | .hbm, ⟨17, _⟩ => ⟨S4224x8x1, .f32⟩
  | .hbm, ⟨18, _⟩ => ⟨S4224x8x1, .f32⟩
  | .hbm, ⟨19, _⟩ => ⟨S4224x8x128, .f32⟩
  | .hbm, ⟨20, _⟩ => ⟨S4224x8x128, .f32⟩
  | .hbm, ⟨21, _⟩ => ⟨S1x1x128, .f32⟩
  | .hbm, ⟨22, _⟩ => ⟨S4224x8x128, .f32⟩
  | .hbm, ⟨23, _⟩ => ⟨S4224x8x128, .f32⟩
  | .hbm, ⟨24, _⟩ => ⟨S4224x1024, .f32⟩
  | .hbm, ⟨25, _⟩ => ⟨S4224x8x128, .f32⟩
  | .hbm, ⟨26, _⟩ => ⟨S128, .f32⟩
  | .hbm, ⟨27, _⟩ => ⟨S4224x8x128, .f32⟩
  | .hbm, ⟨28, _⟩ => ⟨S_, .f32⟩
  | .hbm, ⟨29, _⟩ => ⟨S4224x8, .f32⟩
  | .hbm, ⟨30, _⟩ => ⟨S4224x8x1, .f32⟩
  | .hbm, ⟨31, _⟩ => ⟨S_, .f32⟩
  | .hbm, ⟨32, _⟩ => ⟨S4224x8x1, .f32⟩
  | .hbm, ⟨33, _⟩ => ⟨S4224x8x1, .f32⟩
  | .hbm, ⟨34, _⟩ => ⟨S_, .f32⟩
  | .hbm, ⟨35, _⟩ => ⟨S4224x8x1, .f32⟩
  | .hbm, ⟨36, _⟩ => ⟨S4224x8x1, .f32⟩
  | .hbm, ⟨37, _⟩ => ⟨S4224x8x1, .f32⟩
  | .hbm, ⟨38, _⟩ => ⟨S4224x8x128, .f32⟩
  | .hbm, ⟨39, _⟩ => ⟨S4224x8x128, .f32⟩
  | .hbm, ⟨40, _⟩ => ⟨S1x1x128, .f32⟩
  | .hbm, ⟨41, _⟩ => ⟨S4224x8x128, .f32⟩
  | .hbm, ⟨42, _⟩ => ⟨S4224x8x128, .f32⟩
  | .hbm, ⟨43, _⟩ => ⟨S4224x1024, .f32⟩
  | .hbm, ⟨44, _⟩ => ⟨S4224x1024, .bf16⟩
  | .hbm, ⟨45, _⟩ => ⟨S4224x1024, .bf16⟩
  | .hbm, ⟨46, _⟩ => ⟨S4224x1024, .bf16⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel40.lean ====
abbrev S4224x2048 : Shape := ⟨2, ![4224, 2048]⟩
abbrev S4224x11264 : Shape := ⟨2, ![4224, 11264]⟩
abbrev S1x256 : Shape := ⟨2, ![1, 256]⟩
abbrev S384x1024 : Shape := ⟨2, ![384, 1024]⟩
abbrev S384x256 : Shape := ⟨2, ![384, 256]⟩
abbrev S384 : Shape := ⟨1, ![384]⟩
abbrev S384x1 : Shape := ⟨2, ![384, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x11264, .f32⟩
  | .hbm, ⟨2, _⟩ => ⟨S1x256, .f32⟩
  | .hbm, ⟨3, _⟩ => ⟨S4224x2048, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x256, .f32⟩
  | .local _ .vmem, ⟨5, _⟩ => ⟨S384x1024, .bf16⟩
  | .local _ .vmem, ⟨6, _⟩ => ⟨S384x1024, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference40Ideal.lean ====
abbrev S4224x2048 : Shape := ⟨2, ![4224, 2048]⟩
abbrev S4224x11264 : Shape := ⟨2, ![4224, 11264]⟩
abbrev S1x256 : Shape := ⟨2, ![1, 256]⟩
abbrev S4224x8x256 : Shape := ⟨3, ![4224, 8, 256]⟩
abbrev S256 : Shape := ⟨1, ![256]⟩
abbrev S_ : Shape := ⟨0, ![]⟩
abbrev S4224x8 : Shape := ⟨2, ![4224, 8]⟩
abbrev S4224x8x1 : Shape := ⟨3, ![4224, 8, 1]⟩
abbrev S1x1x256 : Shape := ⟨3, ![1, 1, 256]⟩

abbrev nBuf : Space → Nat
  | .hbm => 35
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x11264, .f32⟩
  | .hbm, ⟨2, _⟩ => ⟨S1x256, .f32⟩
  | .hbm, ⟨3, _⟩ => ⟨S4224x2048, .f32⟩
  | .hbm, ⟨4, _⟩ => ⟨S4224x8x256, .f32⟩
  | .hbm, ⟨5, _⟩ => ⟨S4224x8x256, .f32⟩
  | .hbm, ⟨6, _⟩ => ⟨S256, .f32⟩
  | .hbm, ⟨7, _⟩ => ⟨S4224x8x256, .f32⟩
  | .hbm, ⟨8, _⟩ => ⟨S_, .f32⟩
  | .hbm, ⟨9, _⟩ => ⟨S4224x8, .f32⟩
  | .hbm, ⟨10, _⟩ => ⟨S4224x8x1, .f32⟩
  | .hbm, ⟨11, _⟩ => ⟨S_, .f32⟩
  | .hbm, ⟨12, _⟩ => ⟨S4224x8x1, .f32⟩
  | .hbm, ⟨13, _⟩ => ⟨S4224x8x1, .f32⟩
  | .hbm, ⟨14, _⟩ => ⟨S_, .f32⟩
  | .hbm, ⟨15, _⟩ => ⟨S4224x8x1, .f32⟩
  | .hbm, ⟨16, _⟩ => ⟨S4224x8x1, .f32⟩
  | .hbm, ⟨17, _⟩ => ⟨S4224x8x1, .f32⟩
  | .hbm, ⟨18, _⟩ => ⟨S4224x8x256, .f32⟩
  | .hbm, ⟨19, _⟩ => ⟨S4224x8x256, .f32⟩
  | .hbm, ⟨20, _⟩ => ⟨S1x1x256, .f32⟩
  | .hbm, ⟨21, _⟩ => ⟨S4224x8x256, .f32⟩
  | .hbm, ⟨22, _⟩ => ⟨S4224x8x256, .f32⟩
  | .hbm, ⟨23, _⟩ => ⟨S4224x8x256, .f32⟩
  | .hbm, ⟨24, _⟩ => ⟨S4224x8x256, .f32⟩
  | .hbm, ⟨25, _⟩ => ⟨S_, .f32⟩
  | .hbm, ⟨26, _⟩ => ⟨S4224x8x256, .f32⟩
  | .hbm, ⟨27, _⟩ => ⟨S4224x8x256, .f32⟩
  | .hbm, ⟨28, _⟩ => ⟨S_, .f32⟩
  | .hbm, ⟨29, _⟩ => ⟨S4224x8x256, .f32⟩
  | .hbm, ⟨30, _⟩ => ⟨S4224x8x256, .f32⟩
  | .hbm, ⟨31, _⟩ => ⟨S4224x8x256, .f32⟩
  | .hbm, ⟨32, _⟩ => ⟨S4224x8x256, .f32⟩
  | .hbm, ⟨33, _⟩ => ⟨S4224x2048, .f32⟩
  | .hbm, ⟨34, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel41.lean ====
abbrev S4x256x1024 : Shape := ⟨3, ![4, 256, 1024]⟩
abbrev S4x64x1024 : Shape := ⟨3, ![4, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel41Ideal.lean ====
abbrev S4x256x1024 : Shape := ⟨3, ![4, 256, 1024]⟩
abbrev S4x64x1024 : Shape := ⟨3, ![4, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference41Ideal.lean ====
abbrev S4x256x1024 : Shape := ⟨3, ![4, 256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel42.lean ====
abbrev S4x128x1024 : Shape := ⟨3, ![4, 128, 1024]⟩
abbrev S4x64x1024 : Shape := ⟨3, ![4, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel42Ideal.lean ====
abbrev S4x128x1024 : Shape := ⟨3, ![4, 128, 1024]⟩
abbrev S4x64x1024 : Shape := ⟨3, ![4, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference42Ideal.lean ====
abbrev S4x128x1024 : Shape := ⟨3, ![4, 128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel43.lean ====
abbrev S4x512x1408 : Shape := ⟨3, ![4, 512, 1408]⟩
abbrev S4x64x1408 : Shape := ⟨3, ![4, 64, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1408, .f32⟩
  | .hbm, ⟨1, _⟩ => ⟨S4x512x1408, .f32⟩
  | .hbm, ⟨2, _⟩ => ⟨S4x512x1408, .f32⟩
  | .local _ .vmem, ⟨0, _⟩ => ⟨S4x64x1408, .f32⟩
  | .local _ .vmem, ⟨1, _⟩ => ⟨S4x64x1408, .f32⟩
  | .local _ .vmem, ⟨2, _⟩ => ⟨S4x64x1408, .f32⟩
  | .local _ .vmem, ⟨3, _⟩ => ⟨S4x64x1408, .f32⟩
  | .local _ .vmem, ⟨4, _⟩ => ⟨S4x64x1408, .f32⟩
  | .local _ .vmem, ⟨5, _⟩ => ⟨S4x64x1408, .f32⟩
  | _, _ => ⟨S4x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel43Ideal.lean ====
abbrev S4x512x1408 : Shape := ⟨3, ![4, 512, 1408]⟩
abbrev S4x64x1408 : Shape := ⟨3, ![4, 64, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1408, .f32⟩
  | .hbm, ⟨1, _⟩ => ⟨S4x512x1408, .f32⟩
  | .hbm, ⟨2, _⟩ => ⟨S4x512x1408, .f32⟩
  | .local _ .vmem, ⟨0, _⟩ => ⟨S4x64x1408, .f32⟩
  | .local _ .vmem, ⟨1, _⟩ => ⟨S4x64x1408, .f32⟩
  | .local _ .vmem, ⟨2, _⟩ => ⟨S4x64x1408, .f32⟩
  | .local _ .vmem, ⟨3, _⟩ => ⟨S4x64x1408, .f32⟩
  | .local _ .vmem, ⟨4, _⟩ => ⟨S4x64x1408, .f32⟩
  | .local _ .vmem, ⟨5, _⟩ => ⟨S4x64x1408, .f32⟩
  | _, _ => ⟨S4x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference43Ideal.lean ====
abbrev S4x512x1408 : Shape := ⟨3, ![4, 512, 1408]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1408, .f32⟩
  | .hbm, ⟨1, _⟩ => ⟨S4x512x1408, .f32⟩
  | .hbm, ⟨2, _⟩ => ⟨S4x512x1408, .f32⟩
  | _, _ => ⟨S4x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel44.lean ====
abbrev S4x352x1024 : Shape := ⟨3, ![4, 352, 1024]⟩
abbrev S4x32x1024 : Shape := ⟨3, ![4, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .local _ .vmem, ⟨0, _⟩ => ⟨S4x32x1024, .f32⟩
  | .local _ .vmem, ⟨1, _⟩ => ⟨S4x32x1024, .f32⟩
  | .local _ .vmem, ⟨2, _⟩ => ⟨S4x32x1024, .f32⟩
  | .local _ .vmem, ⟨3, _⟩ => ⟨S4x32x1024, .f32⟩
  | .local _ .vmem, ⟨4, _⟩ => ⟨S4x32x1024, .f32⟩
  | .local _ .vmem, ⟨5, _⟩ => ⟨S4x32x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel44Ideal.lean ====
abbrev S4x352x1024 : Shape := ⟨3, ![4, 352, 1024]⟩
abbrev S4x32x1024 : Shape := ⟨3, ![4, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .local _ .vmem, ⟨0, _⟩ => ⟨S4x32x1024, .f32⟩
  | .local _ .vmem, ⟨1, _⟩ => ⟨S4x32x1024, .f32⟩
  | .local _ .vmem, ⟨2, _⟩ => ⟨S4x32x1024, .f32⟩
  | .local _ .vmem, ⟨3, _⟩ => ⟨S4x32x1024, .f32⟩
  | .local _ .vmem, ⟨4, _⟩ => ⟨S4x32x1024, .f32⟩
  | .local _ .vmem, ⟨5, _⟩ => ⟨S4x32x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference44Ideal.lean ====
abbrev S4x352x1024 : Shape := ⟨3, ![4, 352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel45.lean ====
abbrev S1x512x11264 : Shape := ⟨3, ![1, 512, 11264]⟩
abbrev S1x64x11264 : Shape := ⟨3, ![1, 64, 11264]⟩

abbrev nBuf : Space → Nat
  | .hbm => 3
  | .vmem => 6
  | .smem => 0
  | _ => 0

abbrev bufTy : (tb : Table) → Fin (tcTables nBuf tb) → BufTy
  | .hbm, ⟨0, _⟩ => ⟨S1x512x11264, .f32⟩
  | .hbm, ⟨1, _⟩ => ⟨S1x512x11264, .f32⟩
  | .hbm, ⟨2, _⟩ => ⟨S1x512x11264, .bf16⟩
  | .local _ .vmem, ⟨0, _⟩ => ⟨S1x64x11264, .f32⟩
  | .local _ .vmem, ⟨1, _⟩ => ⟨S1x64x11264, .f32⟩
  | .local _ .vmem, ⟨2, _⟩ => ⟨S1x64x11264, .f32⟩
  | .local _ .vmem, ⟨3, _⟩ => ⟨S1x64x11264, .f32⟩
  | .local _ .vmem, ⟨4, _⟩ => ⟨S1x64x11264, .bf16⟩
  | .local _ .vmem, ⟨5, _⟩ => ⟨S1x64x11264, .bf16⟩
  | _, _ => ⟨S1x512x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x11264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel45Ideal.lean ====
abbrev S1x512x11264 : Shape := ⟨3, ![1, 512, 11264]⟩
abbrev S1x64x11264 : Shape := ⟨3, ![1, 64, 11264]⟩

abbrev nBuf : Space → Nat
  | .hbm => 3
  | .vmem => 6
  | .smem => 0
  | _ => 0

abbrev bufTy : (tb : Table) → Fin (tcTables nBuf tb) → BufTy
  | .hbm, ⟨0, _⟩ => ⟨S1x512x11264, .f32⟩
  | .hbm, ⟨1, _⟩ => ⟨S1x512x11264, .f32⟩
  | .hbm, ⟨2, _⟩ => ⟨S1x512x11264, .bf16⟩
  | .local _ .vmem, ⟨0, _⟩ => ⟨S1x64x11264, .f32⟩
  | .local _ .vmem, ⟨1, _⟩ => ⟨S1x64x11264, .f32⟩
  | .local _ .vmem, ⟨2, _⟩ => ⟨S1x64x11264, .f32⟩
  | .local _ .vmem, ⟨3, _⟩ => ⟨S1x64x11264, .f32⟩
  | .local _ .vmem, ⟨4, _⟩ => ⟨S1x64x11264, .bf16⟩
  | .local _ .vmem, ⟨5, _⟩ => ⟨S1x64x11264, .bf16⟩
  | _, _ => ⟨S1x512x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x11264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference45Ideal.lean ====
abbrev S1x512x11264 : Shape := ⟨3, ![1, 512, 11264]⟩

abbrev nBuf : Space → Nat
  | .hbm => 4
  | .vmem => 0
  | .smem => 0
  | _ => 0

abbrev bufTy : (tb : Table) → Fin (tcTables nBuf tb) → BufTy
  | .hbm, ⟨0, _⟩ => ⟨S1x512x11264, .f32⟩
  | .hbm, ⟨1, _⟩ => ⟨S1x512x11264, .f32⟩
  | .hbm, ⟨2, _⟩ => ⟨S1x512x11264, .f32⟩
  | .hbm, ⟨3, _⟩ => ⟨S1x512x11264, .bf16⟩
  | _, _ => ⟨S1x512x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel46.lean ====
abbrev S1x512x128 : Shape := ⟨3, ![1, 512, 128]⟩
abbrev S1x64x128 : Shape := ⟨3, ![1, 64, 128]⟩

abbrev nBuf : Space → Nat
  | .hbm => 3
  | .vmem => 6
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x512x128, .bf16⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .bf16⟩
  | .local _ .vmem, ⟨5, _⟩ => ⟨S1x64x128, .bf16⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference46Ideal.lean ====
abbrev S1x512x128 : Shape := ⟨3, ![1, 512, 128]⟩

abbrev nBuf : Space → Nat
  | .hbm => 4
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S1x512x128, .f32⟩
  | .hbm, ⟨2, _⟩ => ⟨S1x512x128, .f32⟩
  | .hbm, ⟨3, _⟩ => ⟨S1x512x128, .bf16⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel47.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference47Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel48.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .bf16⟩
  | .local _ .vmem, ⟨10, _⟩ => ⟨S384x1024, .bf16⟩
  | .local _ .vmem, ⟨11, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference48Ideal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel50.lean ====
abbrev S4224x11264 : Shape := ⟨2, ![4224, 11264]⟩
abbrev S4x2048 : Shape := ⟨2, ![4, 2048]⟩
abbrev S_ : Shape := ⟨0, ![]⟩
abbrev S8x2048 : Shape := ⟨2, ![8, 2048]⟩
abbrev S4224x2048 : Shape := ⟨2, ![4224, 2048]⟩
abbrev S384x2048 : Shape := ⟨2, ![384, 2048]⟩
abbrev S8x128 : Shape := ⟨2, ![8, 128]⟩
abbrev S384x128 : Shape := ⟨2, ![384, 128]⟩
abbrev S392x128 : Shape := ⟨2, ![392, 128]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S4224x11264, .f32⟩
  | .hbm, ⟨1, _⟩ => ⟨S4x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S4224x2048, .f32⟩
  | .local _ .vmem, ⟨0, _⟩ => ⟨S384x2048, .f32⟩
  | .local _ .vmem, ⟨1, _⟩ => ⟨S384x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S384x2048, .f32⟩
  | .local _ .vmem, ⟨6, _⟩ => ⟨S384x2048, .f32⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi arg0 c1_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference50Ideal.lean ====
abbrev S4224x11264 : Shape := ⟨2, ![4224, 11264]⟩
abbrev S4x2048 : Shape := ⟨2, ![4, 2048]⟩
abbrev S4224x2048 : Shape := ⟨2, ![4224, 2048]⟩
abbrev S_ : Shape := ⟨0, ![]⟩
abbrev S4227x2048 : Shape := ⟨2, ![4227, 2048]⟩
abbrev S1x2048 : Shape := ⟨2, ![1, 2048]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4x2048, .f32⟩
  | .hbm, ⟨2, _⟩ => ⟨S4224x2048, .f32⟩
  | .hbm, ⟨3, _⟩ => ⟨S_, .i32⟩
  | .hbm, ⟨4, _⟩ => ⟨S_, .f32⟩
  | .hbm, ⟨5, _⟩ => ⟨S4227x2048, .f32⟩
  | .hbm, ⟨6, _⟩ => ⟨S4224x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x2048, .f32⟩
  | .hbm, ⟨37, _⟩ => ⟨S4224x2048, .f32⟩
  | .hbm, ⟨38, _⟩ => ⟨S_, .f32⟩
  | .hbm, ⟨39, _⟩ => ⟨S4224x2048, .f32⟩
  | .hbm, ⟨40, _⟩ => ⟨S4224x2048, .f32⟩
  | .hbm, ⟨41, _⟩ => ⟨S_, .f32⟩
  | .hbm, ⟨42, _⟩ => ⟨S4224x2048, .f32⟩
  | .hbm, ⟨43, _⟩ => ⟨S4224x2048, .f32⟩
  | .hbm, ⟨44, _⟩ => ⟨S4224x2048, .f32⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel51.lean ====
abbrev S4224x11264 : Shape := ⟨2, ![4224, 11264]⟩
abbrev S4x1024 : Shape := ⟨2, ![4, 1024]⟩
abbrev S_ : Shape := ⟨0, ![]⟩
abbrev S8x1024 : Shape := ⟨2, ![8, 1024]⟩
abbrev S4224x1024 : Shape := ⟨2, ![4224, 1024]⟩
abbrev S384x1024 : Shape := ⟨2, ![384, 1024]⟩
abbrev S8x128 : Shape := ⟨2, ![8, 128]⟩
abbrev S384x128 : Shape := ⟨2, ![384, 128]⟩
abbrev S392x128 : Shape := ⟨2, ![392, 128]⟩
abbrev S1x128 : Shape := ⟨2, ![1, 128]⟩
abbrev S384 : Shape := ⟨1, ![384]⟩
abbrev S384x1 : Shape := ⟨2, ![384, 1]⟩

abbrev nBuf : Space → Nat
  | .hbm => 6
  | .vmem => 7
  | .smem => 0
  | _ => 0

abbrev bufTy : (tb : Table) → Fin (tcTables nBuf tb) → BufTy
  | .hbm, ⟨0, _⟩ => ⟨S4224x11264, .f32⟩
  | .hbm, ⟨1, _⟩ => ⟨S4x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S384x1024, .f32⟩
  | .local _ .vmem, ⟨6, _⟩ => ⟨S384x1024, .f32⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference51Ideal.lean ====
abbrev S4224x11264 : Shape := ⟨2, ![4224, 11264]⟩
abbrev S4x1024 : Shape := ⟨2, ![4, 1024]⟩
abbrev S4224x1024 : Shape := ⟨2, ![4224, 1024]⟩
abbrev S_ : Shape := ⟨0, ![]⟩
abbrev S4227x1024 : Shape := ⟨2, ![4227, 1024]⟩
abbrev S1x1024 : Shape := ⟨2, ![1, 1024]⟩
abbrev S1024 : Shape := ⟨1, ![1024]⟩
abbrev S4224x8x128 : Shape := ⟨3, ![4224, 8, 128]⟩
abbrev S4224x8 : Shape := ⟨2, ![4224, 8]⟩
abbrev S4224x8x1 : Shape := ⟨3, ![4224, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4x1024, .f32⟩
  | .hbm, ⟨2, _⟩ => ⟨S4224x1024, .f32⟩
  | .hbm, ⟨3, _⟩ => ⟨S_, .i32⟩
  | .hbm, ⟨4, _⟩ => ⟨S_, .f32⟩
  | .hbm, ⟨5, _⟩ => ⟨S4227x1024, .f32⟩
  | .hbm, ⟨6, _⟩ => ⟨S4224x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4224x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x8x128, .f32⟩
  | .hbm, ⟨46, _⟩ => ⟨S4224x8x128, .f32⟩
  | .hbm, ⟨47, _⟩ => ⟨S_, .f32⟩
  | .hbm, ⟨48, _⟩ => ⟨S4224x8, .f32⟩
  | .hbm, ⟨49, _⟩ => ⟨S4224x8x1, .f32⟩
  | .hbm, ⟨50, _⟩ => ⟨S_, .f32⟩
  | .hbm, ⟨51, _⟩ => ⟨S4224x8x1, .f32⟩
  | .hbm, ⟨52, _⟩ => ⟨S4224x8x1, .f32⟩
  | .hbm, ⟨53, _⟩ => ⟨S4224x8x1, .f32⟩
  | .hbm, ⟨54, _⟩ => ⟨S4224x8x128, .f32⟩
  | .hbm, ⟨55, _⟩ => ⟨S4224x8x128, .f32⟩
  | .hbm, ⟨56, _⟩ => ⟨S4224x1024, .f32⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel52.lean ====
abbrev S4224x11264 : Shape := ⟨2, ![4224, 11264]⟩
abbrev S4x1024 : Shape := ⟨2, ![4, 1024]⟩
abbrev S_ : Shape := ⟨0, ![]⟩
abbrev S8x1024 : Shape := ⟨2, ![8, 1024]⟩
abbrev S4224x1024 : Shape := ⟨2, ![4224, 1024]⟩
abbrev S384x1024 : Shape := ⟨2, ![384, 1024]⟩
abbrev S8x128 : Shape := ⟨2, ![8, 128]⟩
abbrev S384x128 : Shape := ⟨2, ![384, 128]⟩
abbrev S392x128 : Shape := ⟨2, ![392, 128]⟩
abbrev S1x128 : Shape := ⟨2, ![1, 128]⟩
abbrev S384 : Shape := ⟨1, ![384]⟩
abbrev S384x1 : Shape := ⟨2, ![384, 1]⟩

abbrev nBuf : Space → Nat
  | .hbm => 6
  | .vmem => 7
  | .smem => 0
  | _ => 0

abbrev bufTy : (tb : Table) → Fin (tcTables nBuf tb) → BufTy
  | .hbm, ⟨0, _⟩ => ⟨S4224x11264, .f32⟩
  | .hbm, ⟨1, _⟩ => ⟨S4x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S384x1024, .f32⟩
  | .local _ .vmem, ⟨6, _⟩ => ⟨S384x1024, .f32⟩
  | _, _ => ⟨S4224x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi arg0 c1_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference52Ideal.lean ====
abbrev S4224x11264 : Shape := ⟨2, ![4224, 11264]⟩
abbrev S4x1024 : Shape := ⟨2, ![4, 1024]⟩
abbrev S4224x1024 : Shape := ⟨2, ![4224, 1024]⟩
abbrev S_ : Shape := ⟨0, ![]⟩
abbrev S4227x1024 : Shape := ⟨2, ![4227, 1024]⟩
abbrev S1x1024 : Shape := ⟨2, ![1, 1024]⟩
abbrev S1024 : Shape := ⟨1, ![1024]⟩
abbrev S4224x8x128 : Shape := ⟨3, ![4224, 8, 128]⟩
abbrev S4224x8 : Shape := ⟨2, ![4224, 8]⟩
abbrev S4224x8x1 : Shape := ⟨3, ![4224, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S4224x11264, .f32⟩
  | .hbm, ⟨1, _⟩ => ⟨S4x1024, .f32⟩
  | .hbm, ⟨2, _⟩ => ⟨S4224x1024, .f32⟩
  | .hbm, ⟨3, _⟩ => ⟨S_, .i32⟩
  | .hbm, ⟨4, _⟩ => ⟨S_, .f32⟩
  | .hbm, ⟨5, _⟩ => ⟨S4227x1024, .f32⟩
  | .hbm, ⟨6, _⟩ => ⟨S4224x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4224x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x8x128, .f32⟩
  | .hbm, ⟨46, _⟩ => ⟨S4224x8x128, .f32⟩
  | .hbm, ⟨47, _⟩ => ⟨S_, .f32⟩
  | .hbm, ⟨48, _⟩ => ⟨S4224x8, .f32⟩
  | .hbm, ⟨49, _⟩ => ⟨S4224x8x1, .f32⟩
  | .hbm, ⟨50, _⟩ => ⟨S_, .f32⟩
  | .hbm, ⟨51, _⟩ => ⟨S4224x8x1, .f32⟩
  | .hbm, ⟨52, _⟩ => ⟨S4224x8x1, .f32⟩
  | .hbm, ⟨53, _⟩ => ⟨S4224x8x1, .f32⟩
  | .hbm, ⟨54, _⟩ => ⟨S4224x8x128, .f32⟩
  | .hbm, ⟨55, _⟩ => ⟨S4224x8x128, .f32⟩
  | .hbm, ⟨56, _⟩ => ⟨S4224x1024, .f32⟩
  | _, _ => ⟨S4224x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Chunk.lean ====
/- The gated delta rule's backward pass of one chunk and one head, over the real numbers. -/
module

public import Mathlib.Algebra.BigOperators.Ring.Finset
public import Mathlib.Analysis.SpecialFunctions.Exp

@[expose] public section

noncomputable section

namespace Cert.DeltaRule

/-- What the backward pass reads of one chunk of one head: queries, keys, values, cumulated log decay, beta, the saved
    inverse `T`, the state `S` at the chunk's start, the gradient `o` of the outputs, the gradient `D` of the state after
    the chunk, and the scale of the queries. -/
structure Chunk where
  q : Fin 64 → Fin 128 → ℝ
  k : Fin 64 → Fin 128 → ℝ
  v : Fin 64 → Fin 256 → ℝ
  g : Fin 64 → ℝ
  b : Fin 64 → ℝ
  T : Fin 64 → Fin 64 → ℝ
  S : Fin 128 → Fin 256 → ℝ
  o : Fin 64 → Fin 256 → ℝ
  D : Fin 128 → Fin 256 → ℝ
  scale : ℝ

namespace Chunk

variable (C : Chunk)

/-! The forward quantities. -/

/-- The decay from position `j` to position `i`, zero above the diagonal. -/
def dec (i j : Fin 64) : ℝ := if j.val ≤ i.val then Real.exp (C.g i - C.g j) else 0
/-- The scaled query. -/
def qs (i : Fin 64) (d : Fin 128) : ℝ := C.q i d * C.scale
/-- The key times beta. -/
def kb (i : Fin 64) (d : Fin 128) : ℝ := C.k i d * C.b i
/-- The decay from the chunk's start. -/
def eg (i : Fin 64) : ℝ := Real.exp (C.g i)
/-- The decay to the chunk's end. -/
def kdec (i : Fin 64) : ℝ := Real.exp (C.g 63 - C.g i)
/-- The decay over the whole chunk. -/
def gl : ℝ := Real.exp (C.g 63)
/-- The products of the keys times beta with the keys. -/
def KK (i j : Fin 64) : ℝ := ∑ d, C.kb i d * C.k j d
/-- The products of the scaled queries with the keys. -/
def QK (i j : Fin 64) : ℝ := ∑ d, C.qs i d * C.k j d
/-- The strictly lower matrix that the solve inverts. -/
def low (i j : Fin 64) : ℝ := if j.val < i.val then C.KK i j * C.dec i j else 0
/-- The attention within the chunk. -/
def att (i j : Fin 64) : ℝ := C.QK i j * C.dec i j
/-- The value times beta. -/
def vb (i : Fin 64) (e : Fin 256) : ℝ := C.v i e * C.b i
/-- The key times beta and the decay from the chunk's start. -/
def kbe (i : Fin 64) (d : Fin 128) : ℝ := C.kb i d * C.eg i
/-- The solved values. -/
def u (i : Fin 64) (e : Fin 256) : ℝ := ∑ j, C.T i j * C.vb j e
/-- The solved keys. -/
def w (i : Fin 64) (d : Fin 128) : ℝ := ∑ j, C.T i j * C.kbe j d
/-- The scaled query times the decay from the chunk's start. -/
def qd (i : Fin 64) (d : Fin 128) : ℝ := C.qs i d * C.eg i
/-- The key times the decay to the chunk's end. -/
def kd (i : Fin 64) (d : Fin 128) : ℝ := C.k i d * C.kdec i
/-- The new values. -/
def vn (i : Fin 64) (e : Fin 256) : ℝ := C.u i e - ∑ d, C.w i d * C.S d e

/-! The gradients. -/

/-- The gradient of the new values. -/
def dvn (i : Fin 64) (e : Fin 256) : ℝ := (∑ d, C.D d e * C.kd i d) + ∑ l, C.o l e * C.att l i
/-- The gradient of the decayed keys. -/
def dkg (i : Fin 64) (d : Fin 128) : ℝ := ∑ e, C.D d e * C.vn i e
/-- The gradient of the attention before its decay. -/
def dov (i j : Fin 64) : ℝ := ∑ e, C.o i e * C.vn j e
/-- The gradient of the decayed queries. -/
def dqg (i : Fin 64) (d : Fin 128) : ℝ := ∑ e, C.o i e * C.S d e
/-- The gradient of the solved keys. -/
def dw (i : Fin 64) (d : Fin 128) : ℝ := ∑ e, -C.dvn i e * C.S d e
/-- The gradient of the right-hand side that gave the solved values. -/
def dRu (j : Fin 64) (e : Fin 256) : ℝ := ∑ i, C.T i j * C.dvn i e
/-- The gradient of the right-hand side that gave the solved keys. -/
def dRw (j : Fin 64) (d : Fin 128) : ℝ := ∑ i, C.T i j * C.dw i d
/-- The gradient of the strictly lower matrix. -/
def dA (i j : Fin 64) : ℝ := if j.val < i.val then -(∑ d, C.dRw i d * C.w j d) + -(∑ e, C.dRu i e * C.u j e) else 0
/-- The gradient of the products of keys with keys. -/
def dKK (i j : Fin 64) : ℝ := C.dA i j * C.dec i j
/-- The gradient of the products of queries with keys. -/
def dQK (i j : Fin 64) : ℝ := C.dov i j * C.dec i j
/-- The gradient of the keys times beta. -/
def dkb (i : Fin 64) (d : Fin 128) : ℝ := C.dRw i d * C.eg i + ∑ j, C.dKK i j * C.k j d
/-- The product of the state with its gradient, summed. -/
def SD : ℝ := ∑ d, ∑ e, C.S d e * C.D d e
/-- What each pair of positions adds to the gradient of the decay. -/
def E (i j : Fin 64) : ℝ := if j.val ≤ i.val then (C.QK i j * C.dov i j + C.KK i j * C.dA i j) * C.dec i j else 0

/-- The gradient of the state at the chunk's start. -/
def dS (d : Fin 128) (e : Fin 256) : ℝ := C.D d e * C.gl + (∑ i, C.o i e * C.qd i d) + ∑ i, -C.dvn i e * C.w i d

/-- The gradient of the queries. -/
def dq (i : Fin 64) (d : Fin 128) : ℝ := (C.dqg i d * C.eg i + ∑ j, C.dQK i j * C.k j d) * C.scale

/-- The gradient of the keys. -/
def dk (i : Fin 64) (d : Fin 128) : ℝ :=
  C.dkg i d * C.kdec i + (∑ l, C.dQK l i * C.qs l d) + (∑ l, C.dKK l i * C.kb l d) + C.dkb i d * C.b i

/-- The gradient of the values. -/
def dv (i : Fin 64) (e : Fin 256) : ℝ := C.dRu i e * C.b i

/-- The gradient of beta. -/
def db (i : Fin 64) : ℝ := (∑ e, C.v i e * C.dRu i e) + ∑ d, C.k i d * C.dkb i d

/-- One position's part of the decay gradient that goes to the last position. -/
def kdk (i : Fin 64) : ℝ := (∑ d, C.k i d * C.dkg i d) * C.kdec i

/-- The gradient of the cumulated log decay. -/
def dg (i : Fin 64) : ℝ :=
  (if i.val = 63 then C.SD * C.gl else 0) + -C.kdk i + (if i.val = 63 then ∑ l, C.kdk l else 0)
    + (∑ d, C.qs i d * C.dqg i d) * C.eg i + (∑ d, C.kb i d * C.dRw i d) * C.eg i + (∑ l, -C.E l i) + ∑ j, C.E i j

/-- Within the chunk the cumulated log decay does not rise. -/
def Falls : Prop := ∀ i j : Fin 64, j.val ≤ i.val → C.g i ≤ C.g j

/-! What the kernel computes instead. -/

/-- The kernel's decay, the exponent cut off at zero. -/
def kDec (i j : Fin 64) : ℝ := if j.val ≤ i.val then Real.exp (min (C.g i - C.g j) 0) else 0

/-- Where the cumulated log decay does not rise, the cut-off changes nothing. -/
theorem kDec_eq (h : C.Falls) : C.kDec = C.dec := by
  funext i j
  unfold kDec dec
  split
  next hij => rw [min_eq_left (sub_nonpos.mpr (h i j hij))]
  next => rfl

end Chunk

end Cert.DeltaRule

end
-- ==== Proof.Point.lean ====
/- One head of one grid point of the kernel: what it loads and what it computes. -/
module
public import proofs.«01_k».proof.Proof.Gen.KernelIdeal.Frame
public import proofs.«01_k».proof.Proof.Chunk
public import Idealize.ShloMosaic.Lib.Pipeline.ValueKit
public import Idealize.ShloMosaic.Lib.Pipeline.ReadBack
public import Idealize.ShloMosaic.Lib.Pointwise
@[expose] public section
set_option maxRecDepth 16384
noncomputable section
namespace Cert.DeltaRule
open Idealize.ShloMosaic Idealize.ShloMosaic.TcCoe Cert.KernelIdeal Cert.KernelIdeal.Gen
variable {F : FTy → Type} [FloatOps F]

/-- What one head loads at one grid point. -/
structure Loads (F : FTy → Type) [FloatOps F] where
  q : FVec F S64x128 .f32
  k : FVec F S64x128 .f32
  v : FVec F S64x256 .f32
  gc : FVec F S64x128 .f32
  bc : FVec F S64x128 .f32
  gr : FVec F S8x128 .f32
  S : FVec F S128x256 .f32
  T : FVec F S64x64 .f32
  u : FVec F S64x256 .f32
  w : FVec F S64x128 .f32
  low : FVec F S64x64 .f32
  att : FVec F S64x64 .f32
  vn : FVec F S64x256 .f32
  o : FVec F S64x256 .f32
  D : FVec F S128x256 .f32

namespace Loads
variable (L : Loads F)

/-- The decay between two positions, as the kernel computes it. -/
def Dm := k0_pay74 L.gc L.gr
/-- The decay from the chunk's start, as the kernel computes it. -/
def eg := k0_pay84 L.gc
/-- The decay over the whole chunk, as the kernel computes it. -/
def egl := k0_pay100 L.gc
/-- The decay to the chunk's end, as the kernel computes it. -/
def kdec := k0_pay108 L.gc
/-- The scaled query, as the kernel computes it. -/
def qs := k0_pay116 L.q
/-- The key times beta, as the kernel computes it. -/
def kb := k0_pay125 L.k L.bc
/-- Beta, as the kernel computes it. -/
def b2 := k0_pay133 L.bc
/-- The scaled query times the decay from the chunk's start, as the kernel computes it. -/
def qg := k0_pay141 L.eg L.qs
/-- The key times the decay to the chunk's end, as the kernel computes it. -/
def kg := k0_pay149 L.k L.kdec
/-- The attention's part of the gradient of the new values, as the kernel computes it. -/
def ado := k0_pay173 L.att L.o
/-- The later state's part of the gradient of the new values, as the kernel computes it. -/
def kdS := k0_pay183 L.kg L.D
/-- The gradient of the decayed queries, as the kernel computes it. -/
def dqg := k0_pay191 L.S L.o
/-- The output's part of the gradient of the state, as the kernel computes it. -/
def qdo := k0_pay201 L.qg L.o
/-- The gradient of the new values, as the kernel computes it. -/
def dvn := k0_pay217 L.ado L.kdS
/-- The gradient of the attention before its decay, as the kernel computes it. -/
def dovn := k0_pay225 L.o L.vn
/-- The gradient of the decayed keys, as the kernel computes it. -/
def dkg := k0_pay235 L.D L.vn
/-- The solved keys' part of the gradient of the state, as the kernel computes it. -/
def wdv := k0_pay243 L.w L.dvn
/-- The gradient of the solved keys, as the kernel computes it. -/
def dw := k0_pay253 L.S L.dvn
/-- The gradient of the state at the chunk's start, as the kernel computes it. -/
def dS := k0_pay262 L.egl L.D L.qdo L.wdv
/-- The row numbers of a square. -/
abbrev ri : IVec S64x64 32 := iota .tc S64x64 32 [0] iota_S64x64_d0_w32
/-- The column numbers of a square. -/
abbrev ci : IVec S64x64 32 := iota .tc S64x64 32 [1] iota_S64x64_d1_w32
/-- The gradient of the attention, zero above the diagonal, as the kernel computes it. -/
def dattn := k0_pay271 ri ci L.dovn
/-- The gradient of the right-hand side that gave the solved values, as the kernel computes it. -/
def dRu := k0_pay280 L.T L.dvn
/-- The gradient of the right-hand side that gave the solved keys, as the kernel computes it. -/
def dRw := k0_pay288 L.T L.dw
/-- The solved values' part of the gradient of the strictly lower matrix, as the kernel computes it. -/
def dAu := k0_pay296 L.T L.u L.dvn
/-- The gradient of the strictly lower matrix, as the kernel computes it. -/
def dA := k0_pay307 L.w ri ci L.dRw L.dAu
/-- The gradient of the products of keys with keys, as the kernel computes it. -/
def dKK := k0_pay317 L.Dm L.dA
/-- The gradient of the products of queries with keys, as the kernel computes it. -/
def dQK := k0_pay325 L.Dm L.dattn
/-- What each pair of positions adds to the gradient of the decay, as the kernel computes it. -/
def E := k0_pay333 L.low L.att L.dattn L.dA
/-- The gradient of the keys times beta, as the kernel computes it. -/
def dkb := k0_pay341 L.k L.eg L.dRw L.dKK
/-- The key gradient's part that comes through the products of keys with keys, as the kernel computes it. -/
def dk1 := k0_pay349 L.kb L.dKK
/-- The gradient of the scaled queries, as the kernel computes it. -/
def dqs := k0_pay359 L.k L.eg L.dqg L.dQK
/-- The key gradient's part that comes through the products of queries with keys, as the kernel computes it. -/
def dk2 := k0_pay368 L.qs L.dQK
/-- The column sums of what the pairs add to the gradient of the decay, as the kernel computes it. -/
def colE := k0_pay377 L.E
/-- The gradient of the cumulated log decay, as the kernel computes it. -/
def dgam := k0_pay385 L.eg L.egl L.kb L.qg L.kg L.S L.D L.dqg L.dkg L.dRw L.E L.colE
/-- The gradient of the queries, as the kernel computes it. -/
def dq := k0_pay412 L.dqs
/-- The gradient of the keys, as the kernel computes it. -/
def dk := k0_pay415 L.kdec L.dkg (k0_pay413 L.dk1 L.dk2) (k0_pay414 L.bc L.dkb)
/-- The gradient of the values, as the kernel computes it. -/
def dv := k0_pay410 L.b2 L.dRu
/-- The gradient of the cumulated log decay, as the kernel computes it. -/
def dg := k0_pay416 L.dgam
/-- The gradient of beta, as the kernel computes it. -/
def db := k0_pay417 (k0_pay411 L.k L.v L.dRu L.dkb)

end Loads

/-- What head `h` loads out of a grid point's blocks. -/
def loads (x0 x1 : Vec F S64x1024 .f32) (x2 x13 : Vec F S64x2048 .f32) (x3 x4 : Vec F S8x64x128 .f32) (x5 : Vec F S8x8x128 .f32)
    (x6 : Vec F S8x1x128x256 .f32) (x7 x10 x11 : Vec F S8x1x64x64 .f32) (x8 x12 : Vec F S8x1x64x256 .f32)
    (x9 : Vec F S8x1x64x128 .f32) (xs0 : Vec F S8x128x256 .f32) (h : Fin 8) : Loads F where
  q := View.ld x0 (Rect.unit (s := S64x1024) ![0, 128 * h.val] ![64, 128] (by decide +revert))
  k := View.ld x1 (Rect.unit (s := S64x1024) ![0, 128 * h.val] ![64, 128] (by decide +revert))
  v := View.ld x2 (Rect.unit (s := S64x2048) ![0, 256 * h.val] ![64, 256] (by decide +revert))
  gc := shapeCast S64x128 (View.ld x3 (Rect.unit (s := S8x64x128) ![h.val, 0, 0] ![1, 64, 128] (by decide +revert))) shapeCasts_S1x64x128_S64x128
  bc := shapeCast S64x128 (View.ld x4 (Rect.unit (s := S8x64x128) ![h.val, 0, 0] ![1, 64, 128] (by decide +revert))) shapeCasts_S1x64x128_S64x128
  gr := shapeCast S8x128 (View.ld x5 (Rect.unit (s := S8x8x128) ![h.val, 0, 0] ![1, 8, 128] (by decide +revert))) shapeCasts_S1x8x128_S8x128
  S := shapeCast S128x256 (View.ld x6 (Rect.unit (s := S8x1x128x256) ![h.val, 0, 0, 0] ![1, 1, 128, 256] (by decide +revert))) shapeCasts_S1x1x128x256_S128x256
  T := shapeCast S64x64 (View.ld x7 (Rect.unit (s := S8x1x64x64) ![h.val, 0, 0, 0] ![1, 1, 64, 64] (by decide +revert))) shapeCasts_S1x1x64x64_S64x64
  u := shapeCast S64x256 (View.ld x8 (Rect.unit (s := S8x1x64x256) ![h.val, 0, 0, 0] ![1, 1, 64, 256] (by decide +revert))) shapeCasts_S1x1x64x256_S64x256
  w := shapeCast S64x128 (View.ld x9 (Rect.unit (s := S8x1x64x128) ![h.val, 0, 0, 0] ![1, 1, 64, 128] (by decide +revert))) shapeCasts_S1x1x64x128_S64x128
  low := shapeCast S64x64 (View.ld x10 (Rect.unit (s := S8x1x64x64) ![h.val, 0, 0, 0] ![1, 1, 64, 64] (by decide +revert))) shapeCasts_S1x1x64x64_S64x64
  att := shapeCast S64x64 (View.ld x11 (Rect.unit (s := S8x1x64x64) ![h.val, 0, 0, 0] ![1, 1, 64, 64] (by decide +revert))) shapeCasts_S1x1x64x64_S64x64
  vn := shapeCast S64x256 (View.ld x12 (Rect.unit (s := S8x1x64x256) ![h.val, 0, 0, 0] ![1, 1, 64, 256] (by decide +revert))) shapeCasts_S1x1x64x256_S64x256
  o := View.ld x13 (Rect.unit (s := S64x2048) ![0, 256 * h.val] ![64, 256] (by decide +revert))
  D := shapeCast S128x256 (View.ld xs0 (Rect.unit (s := S8x128x256) ![h.val, 0, 0] ![1, 128, 256] (by decide +revert))) shapeCasts_S1x128x256_S128x256

/-- Of stores to parts of a buffer, one part per head and no element in two parts, an element of head `h`'s part sees head `h`'s store;
    what was stored before them does not matter. -/
theorem canon_heads {Val : EltTy → Type} {S : Shape} {e : EltTy} [∀ e, Nonempty (Val e)] (p : Fin 8 → View.Piece Val S e)
    (L : List (View.Piece Val S e)) (h : Fin 8) (x : (p h).1.shape.Idx) (apart : ∀ n, (p h).1.idx x ∈ (p n).1.set → n = h) :
    View.canon ([p 7, p 6, p 5, p 4, p 3, p 2, p 1, p 0] ++ L) ((p h).1.idx x) = (p h).2 x := by
  suffices ∀ hs : List (Fin 8), h ∈ hs → View.canon (hs.map p ++ L) ((p h).1.idx x) = (p h).2 x from
    this [7, 6, 5, 4, 3, 2, 1, 0] ((by decide : ∀ h : Fin 8, h ∈ [7, 6, 5, 4, 3, 2, 1, 0]) h)
  intro hs
  induction hs with
  | nil => exact fun hm => absurd hm List.not_mem_nil
  | cons n hs ih =>
    intro hm
    by_cases hn : n = h
    · subst hn
      exact View.canon_cons_emb (p n).1 (p n).2 _ x
    · refine (View.canon_cons_of_not_mem _ _ fun hc => hn (apart n hc)).trans (ih ?_)
      exact (List.mem_cons.mp hm).resolve_left fun hh => hn hh.symm

/-- Eight heads' parts side by side along the lanes. -/
theorem lanes {R B W : ℕ} (w : Fin 8 → Vec F ⟨2, ![R, B]⟩ .f32)
    (inb : ∀ (n : Fin 8) (a : Fin 2), ![0, B * n.val] a + ![R, B] a ≤ ![R, W] a) (L : List (View.Piece (Elt F) ⟨2, ![R, W]⟩ .f32))
    (h : Fin 8) (i : Fin R) (d : Fin B) (hd : B * h.val + d.val < W) :
    View.canon ([7, 6, 5, 4, 3, 2, 1, 0].map (fun n : Fin 8 =>
      (⟨Rect.unit (s := ⟨2, ![R, W]⟩) ![0, B * n.val] ![R, B] (inb n), w n⟩ : View.Piece (Elt F) ⟨2, ![R, W]⟩ .f32)) ++ L)
      (ix2 i ⟨B * h.val + d.val, hd⟩) = w h (ix2 i d) := by
  have e : (Rect.unit (s := ⟨2, ![R, W]⟩) ![0, B * h.val] ![R, B] (inb h)).idx (ix2 i d) = ix2 i ⟨B * h.val + d.val, hd⟩ := by
    funext a
    refine Fin.ext ?_
    match a with
    | 0 => show 0 + 1 * i.val = i.val; omega
    | 1 => show B * h.val + 1 * d.val = B * h.val + d.val; omega
  rw [← e]
  refine canon_heads (fun n : Fin 8 => (⟨Rect.unit (s := ⟨2, ![R, W]⟩) ![0, B * n.val] ![R, B] (inb n), w n⟩ :
    View.Piece (Elt F) ⟨2, ![R, W]⟩ .f32)) L h (ix2 i d) fun n hn => Fin.ext ?_
  have hm := (Rect.mem_set_unit (inb := inb n)).mp hn
  obtain ⟨h1, h2⟩ : B * n.val ≤ B * h.val + 1 * d.val ∧ B * h.val + 1 * d.val < B * n.val + B := hm (1 : Fin 2)
  have hB : 0 < B := by omega
  have := d.isLt
  have h3 : n.val < h.val + 1 := Nat.lt_of_mul_lt_mul_left (a := B) (by rw [Nat.mul_add]; omega)
  have h4 : h.val < n.val + 1 := Nat.lt_of_mul_lt_mul_left (a := B) (by rw [Nat.mul_add]; omega)
  omega

/-- Eight heads' pages, one behind the other. -/
theorem pages {R B : ℕ} (w : Fin 8 → Vec F ⟨3, ![1, R, B]⟩ .f32)
    (inb : ∀ (n : Fin 8) (a : Fin 3), ![n.val, 0, 0] a + ![1, R, B] a ≤ ![8, R, B] a) (L : List (View.Piece (Elt F) ⟨3, ![8, R, B]⟩ .f32))
    (h : Fin 8) (i : Fin R) (d : Fin B) :
    View.canon ([7, 6, 5, 4, 3, 2, 1, 0].map (fun n : Fin 8 =>
      (⟨Rect.unit (s := ⟨3, ![8, R, B]⟩) ![n.val, 0, 0] ![1, R, B] (inb n), w n⟩ : View.Piece (Elt F) ⟨3, ![8, R, B]⟩ .f32)) ++ L)
      (ix3 h i d) = w h (ix3 0 i d) := by
  have e : (Rect.unit (s := ⟨3, ![8, R, B]⟩) ![h.val, 0, 0] ![1, R, B] (inb h)).idx (ix3 0 i d) = ix3 h i d := by
    funext a
    refine Fin.ext ?_
    match a with
    | 0 => show h.val + 1 * 0 = h.val; omega
    | 1 => show 0 + 1 * i.val = i.val; omega
    | 2 => show 0 + 1 * d.val = d.val; omega
  rw [← e]
  refine canon_heads (fun n : Fin 8 => (⟨Rect.unit (s := ⟨3, ![8, R, B]⟩) ![n.val, 0, 0] ![1, R, B] (inb n), w n⟩ :
    View.Piece (Elt F) ⟨3, ![8, R, B]⟩ .f32)) L h (ix3 0 i d) fun n hn => Fin.ext ?_
  have hm := (Rect.mem_set_unit (inb := inb n)).mp hn
  obtain ⟨h1, h2⟩ : n.val ≤ h.val + 1 * 0 ∧ h.val + 1 * 0 < n.val + 1 := hm (0 : Fin 3)
  omega

/-! What one grid point leaves in its output blocks and in the carried gradient, by heads: case A is the first point, which
    starts from zero, case B every later one. -/

section Point

variable (c : Dev nD) (i : grid0.Coords) (arg2 : Memref sig .tc .vmem S64x1024 .f32) (harg2 : arg2.IsWhole) (arg3 : Memref sig
    .tc .vmem S64x1024 .f32) (harg3 : arg3.IsWhole) (arg4 : Memref sig .tc .vmem S64x2048 .f32) (harg4 : arg4.IsWhole)
    (arg5 : Memref sig .tc .vmem S8x64x128 .f32) (harg5 : arg5.IsWhole) (arg6 : Memref sig .tc .vmem S8x64x128 .f32)
    (harg6 : arg6.IsWhole) (arg7 : Memref sig .tc .vmem S8x8x128 .f32) (harg7 : arg7.IsWhole) (arg8 : Memref sig .tc .vmem
    S8x1x128x256 .f32) (harg8 : arg8.IsWhole) (arg9 : Memref sig .tc .vmem S8x1x64x64 .f32) (harg9 : arg9.IsWhole) (arg10
    : Memref sig .tc .vmem S8x1x64x256 .f32) (harg10 : arg10.IsWhole) (arg11 : Memref sig .tc .vmem S8x1x64x128 .f32)
    (harg11 : arg11.IsWhole) (arg12 : Memref sig .tc .vmem S8x1x64x64 .f32) (harg12 : arg12.IsWhole) (arg13 : Memref sig
    .tc .vmem S8x1x64x64 .f32) (harg13 : arg13.IsWhole) (arg14 : Memref sig .tc .vmem S8x1x64x256 .f32) (harg14 :
    arg14.IsWhole) (arg15 : Memref sig .tc .vmem S64x2048 .f32) (harg15 : arg15.IsWhole) (arg16 : Memref sig .tc .vmem
    S64x1024 .f32) (harg16 : arg16.IsWhole) (arg17 : Memref sig .tc .vmem S64x1024 .f32) (harg17 : arg17.IsWhole) (arg18 :
    Memref sig .tc .vmem S64x2048 .f32) (harg18 : arg18.IsWhole) (arg19 : Memref sig .tc .vmem S8x64x128 .f32) (harg19 :
    arg19.IsWhole) (arg20 : Memref sig .tc .vmem S8x64x128 .f32) (harg20 : arg20.IsWhole) (arg21 : Memref sig .tc .vmem
    S8x128x256 .f32) (harg21 : arg21.IsWhole)      (x0 : Vec F S64x1024 .f32) (x1 : Vec F S64x1024 .f32) (x2 : Vec F
    S64x2048 .f32) (x3 : Vec F S8x64x128 .f32) (x4 : Vec F S8x64x128 .f32) (x5 : Vec F S8x8x128 .f32) (x6 : Vec F
    S8x1x128x256 .f32) (x7 : Vec F S8x1x64x64 .f32) (x8 : Vec F S8x1x64x256 .f32) (x9 : Vec F S8x1x64x128 .f32) (x10 : Vec
    F S8x1x64x64 .f32) (x11 : Vec F S8x1x64x64 .f32) (x12 : Vec F S8x1x64x256 .f32) (x13 : Vec F S64x2048 .f32)

/-- The gradients of the queries, case A. -/
theorem point_dq_A (hc0 : cond0_0 i) (h : Fin 8) (i' : Fin 64) (d : Fin 128) :
    out0_A_14 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix2 i' ⟨128 * h.val + d.val, by omega⟩)
      = (loads x0 x1 x2 x13 x3 x4 x5 x6 x7 x10 x11 x8 x12 x9 k0_pay4 h).dq (ix2 i' d) := by
  frame_open
  simp (disch := decide) only [↓ View.readCov_skip, ↓ View.readCov_cons_toLoadRect, ↓ View.readCov_fill]
  frame_out
  exact lanes (F := F) (R := 64) (B := 128) (W := 1024) (fun n => (loads x0 x1 x2 x13 x3 x4 x5 x6 x7 x10 x11 x8 x12 x9 k0_pay4 n).dq) (by decide) [] h i' d _

/-- The gradients of the keys, case A. -/
theorem point_dk_A (hc0 : cond0_0 i) (h : Fin 8) (i' : Fin 64) (d : Fin 128) :
    out0_A_15 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix2 i' ⟨128 * h.val + d.val, by omega⟩)
      = (loads x0 x1 x2 x13 x3 x4 x5 x6 x7 x10 x11 x8 x12 x9 k0_pay4 h).dk (ix2 i' d) := by
  frame_open
  simp (disch := decide) only [↓ View.readCov_skip, ↓ View.readCov_cons_toLoadRect, ↓ View.readCov_fill]
  frame_out
  exact lanes (F := F) (R := 64) (B := 128) (W := 1024) (fun n => (loads x0 x1 x2 x13 x3 x4 x5 x6 x7 x10 x11 x8 x12 x9 k0_pay4 n).dk) (by decide) [] h i' d _

/-- The gradients of the values, case A. -/
theorem point_dv_A (hc0 : cond0_0 i) (h : Fin 8) (i' : Fin 64) (d : Fin 256) :
    out0_A_16 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix2 i' ⟨256 * h.val + d.val, by omega⟩)
      = (loads x0 x1 x2 x13 x3 x4 x5 x6 x7 x10 x11 x8 x12 x9 k0_pay4 h).dv (ix2 i' d) := by
  frame_open
  simp (disch := decide) only [↓ View.readCov_skip, ↓ View.readCov_cons_toLoadRect, ↓ View.readCov_fill]
  frame_out
  exact lanes (F := F) (R := 64) (B := 256) (W := 2048) (fun n => (loads x0 x1 x2 x13 x3 x4 x5 x6 x7 x10 x11 x8 x12 x9 k0_pay4 n).dv) (by decide) [] h i' d _

/-- The gradients of the decays, case A. -/
theorem point_dg_A (hc0 : cond0_0 i) (h : Fin 8) (i' : Fin 64) (d : Fin 128) :
    out0_A_17 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix3 h i' d)
      = (loads x0 x1 x2 x13 x3 x4 x5 x6 x7 x10 x11 x8 x12 x9 k0_pay4 h).dg (ix3 0 i' d) := by
  frame_open
  simp (disch := decide) only [↓ View.readCov_skip, ↓ View.readCov_cons_toLoadRect, ↓ View.readCov_fill]
  frame_out
  exact pages (F := F) (R := 64) (B := 128) (fun n => (loads x0 x1 x2 x13 x3 x4 x5 x6 x7 x10 x11 x8 x12 x9 k0_pay4 n).dg) (by decide) [] h i' d

/-- The gradients of the betas, case A. -/
theorem point_db_A (hc0 : cond0_0 i) (h : Fin 8) (i' : Fin 64) (d : Fin 128) :
    out0_A_18 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix3 h i' d)
      = (loads x0 x1 x2 x13 x3 x4 x5 x6 x7 x10 x11 x8 x12 x9 k0_pay4 h).db (ix3 0 i' d) := by
  frame_open
  simp (disch := decide) only [↓ View.readCov_skip, ↓ View.readCov_cons_toLoadRect, ↓ View.readCov_fill]
  frame_out
  exact pages (F := F) (R := 64) (B := 128) (fun n => (loads x0 x1 x2 x13 x3 x4 x5 x6 x7 x10 x11 x8 x12 x9 k0_pay4 n).db) (by decide) [] h i' d

/-- The gradient of the state, case A. -/
theorem point_dS_A (hc0 : cond0_0 i) (h : Fin 8) (i' : Fin 128) (d : Fin 256) :
    sout0_A_0 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 (ix3 h i' d)
      = (loads x0 x1 x2 x13 x3 x4 x5 x6 x7 x10 x11 x8 x12 x9 k0_pay4 h).dS (ix3 0 i' d) := by
  frame_open
  simp (disch := decide) only [↓ View.readCov_skip, ↓ View.readCov_cons_toLoadRect, ↓ View.readCov_fill]
  frame_out
  exact pages (F := F) (R := 128) (B := 256) (fun n => (loads x0 x1 x2 x13 x3 x4 x5 x6 x7 x10 x11 x8 x12 x9 k0_pay4 n).dS) (by decide) [_] h i' d

/-- The gradients of the queries, case B. -/
theorem point_dq_B (hc0 : ¬cond0_0 i) (xs0 : Vec F S8x128x256 .f32) (h : Fin 8) (i' : Fin 64) (d : Fin 128) :
    out0_B_14 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix2 i' ⟨128 * h.val + d.val, by omega⟩)
      = (loads x0 x1 x2 x13 x3 x4 x5 x6 x7 x10 x11 x8 x12 x9 xs0 h).dq (ix2 i' d) := by
  frame_out
  exact lanes (F := F) (R := 64) (B := 128) (W := 1024) (fun n => (loads x0 x1 x2 x13 x3 x4 x5 x6 x7 x10 x11 x8 x12 x9 xs0 n).dq) (by decide) [] h i' d _

/-- The gradients of the keys, case B. -/
theorem point_dk_B (hc0 : ¬cond0_0 i) (xs0 : Vec F S8x128x256 .f32) (h : Fin 8) (i' : Fin 64) (d : Fin 128) :
    out0_B_15 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix2 i' ⟨128 * h.val + d.val, by omega⟩)
      = (loads x0 x1 x2 x13 x3 x4 x5 x6 x7 x10 x11 x8 x12 x9 xs0 h).dk (ix2 i' d) := by
  frame_out
  exact lanes (F := F) (R := 64) (B := 128) (W := 1024) (fun n => (loads x0 x1 x2 x13 x3 x4 x5 x6 x7 x10 x11 x8 x12 x9 xs0 n).dk) (by decide) [] h i' d _

/-- The gradients of the values, case B. -/
theorem point_dv_B (hc0 : ¬cond0_0 i) (xs0 : Vec F S8x128x256 .f32) (h : Fin 8) (i' : Fin 64) (d : Fin 256) :
    out0_B_16 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix2 i' ⟨256 * h.val + d.val, by omega⟩)
      = (loads x0 x1 x2 x13 x3 x4 x5 x6 x7 x10 x11 x8 x12 x9 xs0 h).dv (ix2 i' d) := by
  frame_out
  exact lanes (F := F) (R := 64) (B := 256) (W := 2048) (fun n => (loads x0 x1 x2 x13 x3 x4 x5 x6 x7 x10 x11 x8 x12 x9 xs0 n).dv) (by decide) [] h i' d _

/-- The gradients of the decays, case B. -/
theorem point_dg_B (hc0 : ¬cond0_0 i) (xs0 : Vec F S8x128x256 .f32) (h : Fin 8) (i' : Fin 64) (d : Fin 128) :
    out0_B_17 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix3 h i' d)
      = (loads x0 x1 x2 x13 x3 x4 x5 x6 x7 x10 x11 x8 x12 x9 xs0 h).dg (ix3 0 i' d) := by
  frame_out
  exact pages (F := F) (R := 64) (B := 128) (fun n => (loads x0 x1 x2 x13 x3 x4 x5 x6 x7 x10 x11 x8 x12 x9 xs0 n).dg) (by decide) [] h i' d

/-- The gradients of the betas, case B. -/
theorem point_db_B (hc0 : ¬cond0_0 i) (xs0 : Vec F S8x128x256 .f32) (h : Fin 8) (i' : Fin 64) (d : Fin 128) :
    out0_B_18 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix3 h i' d)
      = (loads x0 x1 x2 x13 x3 x4 x5 x6 x7 x10 x11 x8 x12 x9 xs0 h).db (ix3 0 i' d) := by
  frame_out
  exact pages (F := F) (R := 64) (B := 128) (fun n => (loads x0 x1 x2 x13 x3 x4 x5 x6 x7 x10 x11 x8 x12 x9 xs0 n).db) (by decide) [] h i' d

/-- The gradient of the state, case B. -/
theorem point_dS_B (hc0 : ¬cond0_0 i) (xs0 : Vec F S8x128x256 .f32) (h : Fin 8) (i' : Fin 128) (d : Fin 256) :
    sout0_B_0 c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 hc0 x0 x1 x2 x3 x4 x5 x6 x7 x8 x9 x10 x11 x12 x13 xs0 (ix3 h i' d)
      = (loads x0 x1 x2 x13 x3 x4 x5 x6 x7 x10 x11 x8 x12 x9 xs0 h).dS (ix3 0 i' d) := by
  frame_out
  exact pages (F := F) (R := 128) (B := 256) (fun n => (loads x0 x1 x2 x13 x3 x4 x5 x6 x7 x10 x11 x8 x12 x9 xs0 n).dS) (by decide) [] h i' d

end Point

end Cert.DeltaRule

end
-- ==== Proof.Ref.lean ====
/- The reference's loop, one trip: every value of the body, read at an index, is the real number of Proof/Chunk.lean. -/
module

public import proofs.«01_k».proof.Proof.Gen.ReferenceIdeal.Step
public import proofs.«01_k».proof.Proof.Chunk
public import Idealize.ShloMosaic.Lib.Pointwise
public import Idealize.ShloMosaic.Lib.DynamicIndex

@[expose] public section

set_option maxRecDepth 16384

noncomputable section

namespace Cert.DeltaRule

open Idealize.ShloMosaic Cert.ReferenceIdeal Cert.ReferenceIdeal.Step

/-- A finite sum of reals, as extended reals. -/
theorem coe_sum {ι : Type} [Fintype ι] (f : ι → ℝ) : ((∑ i, f i : ℝ) : EReal) = ∑ i, (f i : EReal) := by
  classical
  refine Finset.induction_on (Finset.univ : Finset ι) (by simp) fun a s h ih => ?_
  rw [Finset.sum_insert h, Finset.sum_insert h, EReal.coe_add, ih]

/-- A choice between two reals, as extended reals. -/
theorem coe_ite (p : Prop) [Decidable p] (a b : ℝ) : ((if p then a else b : ℝ) : EReal) = if p then (a : EReal) else (b : EReal) := by
  split <;> rfl

/-- A select on "row `i` is at or below column `l`". -/
theorem select_sge (i l : Fin 64) (a b : EReal) :
    Scalar.select (IntOp.cmpi .sge (BitVec.ofNat 32 i.val) (BitVec.ofNat 32 l.val)) a b = if l.val ≤ i.val then a else b := by
  have h : ∀ i l : Fin 64, IntOp.cmpi .sge (BitVec.ofNat 32 i.val) (BitVec.ofNat 32 l.val) = if l.val ≤ i.val then 1#1 else 0#1 := by
    decide +kernel
  rw [h]
  split <;> rfl

/-- A select on "row `i` is strictly below column `l`". -/
theorem select_sgt (i l : Fin 64) (a b : EReal) :
    Scalar.select (IntOp.cmpi .sgt (BitVec.ofNat 32 i.val) (BitVec.ofNat 32 l.val)) a b = if l.val < i.val then a else b := by
  have h : ∀ i l : Fin 64, IntOp.cmpi .sgt (BitVec.ofNat 32 i.val) (BitVec.ofNat 32 l.val) = if l.val < i.val then 1#1 else 0#1 := by
    decide +kernel
  rw [h]
  split <;> rfl

/-- The pattern of −∞ reads as `⊥`. -/
theorem ofBits_neg_inf : Ideal.ofBits .f32 0xFF800000#32 = ⊥ := by
  simp [Ideal.ofBits, Ideal.ieee]

/-- The loop's state before the trip that works on chunk `c`, read as reals: `C h` is what head `h` has there. -/
structure Reads (s : State Ideal) (c : Fin 66) (C : Fin 8 → Chunk) : Prop where
  q : ∀ h i d, s.main_v21_1 (ix4 c h i d) = ((C h).q i d : EReal)
  k : ∀ h i d, s.main_v21_2 (ix4 c h i d) = ((C h).k i d : EReal)
  v : ∀ h i e, s.main_v21_3 (ix4 c h i e) = ((C h).v i e : EReal)
  g : ∀ h i, s.main_v21_4 (ix3 c h i) = ((C h).g i : EReal)
  b : ∀ h i, s.main_v21_5 (ix3 c h i) = ((C h).b i : EReal)
  T : ∀ h i l, s.main_v21_6 (ix4 c h i l) = ((C h).T i l : EReal)
  S : ∀ h d e, s.main_v21_7 (ix4 c h d e) = ((C h).S d e : EReal)
  o : ∀ h i e, s.main_v21_8 (ix4 c h i e) = ((C h).o i e : EReal)
  D : ∀ h d e, s.main_v21_10 (ix3 h d e) = ((C h).D d e : EReal)
  scale : ∀ h, Ideal.ofBits .f32 0x3DB504F3#32 = ((C h).scale : EReal)

/-- The chunk's number as the trip computes it. -/
theorem start_eq {j : ℕ} {s : State Ideal} {c : Fin 66} (hc : c.val + j + 1 = 66) (i : S_.Idx) : (b3 j s i).toInt = (c.val : ℤ) := by
  have : b3 j s i = BitVec.ofNat 32 c.val := by
    unfold b3 b1 b0 b2
    show 66#32 - BitVec.ofNat 32 j - 1#32 = _
    apply BitVec.eq_of_toNat_eq
    have := c.isLt
    simp only [BitVec.toNat_sub, BitVec.toNat_ofNat]
    omega
  rw [this, toInt_ofNat_of_lt (by have := c.isLt; omega)]

/-- The start of chunk `c` in the rank-4 arrays. -/
theorem starts4 {j : ℕ} {s : State Ideal} {c : Fin 66} (hc : c.val + j + 1 = 66) (x y z : S_.Idx → BitVec 32)
    (hx : ∀ i, x i = 0#32) (hy : ∀ i, y i = 0#32) (hz : ∀ i, z i = 0#32) (i : S_.Idx) :
    ∀ a : Fin 4, ((![b3 j s, x, y, z] : Fin 4 → S_.Idx → BitVec 32) a i).toInt = ((![c.val, 0, 0, 0] : Fin 4 → ℕ) a : ℤ) := by
  intro a
  match a with
  | 0 => exact start_eq hc i
  | 1 => exact congrArg BitVec.toInt (hx i)
  | 2 => exact congrArg BitVec.toInt (hy i)
  | 3 => exact congrArg BitVec.toInt (hz i)

/-- The start of chunk `c` in the rank-3 arrays. -/
theorem starts3 {j : ℕ} {s : State Ideal} {c : Fin 66} (hc : c.val + j + 1 = 66) (x y : S_.Idx → BitVec 32)
    (hx : ∀ i, x i = 0#32) (hy : ∀ i, y i = 0#32) (i : S_.Idx) :
    ∀ a : Fin 3, ((![b3 j s, x, y] : Fin 3 → S_.Idx → BitVec 32) a i).toInt = ((![c.val, 0, 0] : Fin 3 → ℕ) a : ℤ) := by
  intro a
  match a with
  | 0 => exact start_eq hc i
  | 1 => exact congrArg BitVec.toInt (hx i)
  | 2 => exact congrArg BitVec.toInt (hy i)

/-- A block of extent 1 along the first axis fits at any of the 66 places. -/
theorem fits4 (c : Fin 66) (n₁ n₂ n₃ : ℕ) :
    (⟨4, ![66, n₁, n₂, n₃]⟩ : Shape).Slices ![c.val, 0, 0, 0] ⟨4, ![1, n₁, n₂, n₃]⟩ :=
  ⟨rfl, fun a => by have := c.isLt; match a with | 0 => show c.val + 1 ≤ 66; omega | 1 => exact (Nat.zero_add _).le | 2 => exact (Nat.zero_add _).le | 3 => exact (Nat.zero_add _).le⟩

/-- The same for the rank-3 arrays. -/
theorem fits3 (c : Fin 66) (n₁ n₂ : ℕ) : (⟨3, ![66, n₁, n₂]⟩ : Shape).Slices ![c.val, 0, 0] ⟨3, ![1, n₁, n₂]⟩ :=
  ⟨rfl, fun a => by have := c.isLt; match a with | 0 => show c.val + 1 ≤ 66; omega | 1 => exact (Nat.zero_add _).le | 2 => exact (Nat.zero_add _).le⟩

section Body

variable {j : ℕ} {s : State Ideal} {c : Fin 66} {C : Fin 8 → Chunk} (hc : c.val + j + 1 = 66) (H : Reads s c C)
include hc H

/-! The chunk's blocks. -/

/-- The trip's value at an index is the query. -/
theorem r10 (h : Fin 8) (i : Fin 64) (d : Fin 128) : b10 j s (ix3 h i d) = ((C h).q i d : EReal) := by
  rw [← H.q, b10, b9, Host.dynamicSlice_eq_extractStridedSlice _ _ _ _ _ (fits4 c 8 64 128)
    (starts4 hc (b6 j s) (b7 j s) (b8 j s) (fun _ => rfl) (fun _ => rfl) (fun _ => rfl) _)]
  pointwise []

/-- The trip's value at an index is the key. -/
theorem r15 (h : Fin 8) (i : Fin 64) (d : Fin 128) : b15 j s (ix3 h i d) = ((C h).k i d : EReal) := by
  rw [← H.k, b15, b14, Host.dynamicSlice_eq_extractStridedSlice _ _ _ _ _ (fits4 c 8 64 128)
    (starts4 hc (b11 j s) (b12 j s) (b13 j s) (fun _ => rfl) (fun _ => rfl) (fun _ => rfl) _)]
  pointwise []

/-- The trip's value at an index is the value. -/
theorem r20 (h : Fin 8) (i : Fin 64) (e : Fin 256) : b20 j s (ix3 h i e) = ((C h).v i e : EReal) := by
  rw [← H.v, b20, b19, Host.dynamicSlice_eq_extractStridedSlice _ _ _ _ _ (fits4 c 8 64 256)
    (starts4 hc (b16 j s) (b17 j s) (b18 j s) (fun _ => rfl) (fun _ => rfl) (fun _ => rfl) _)]
  pointwise []

/-- The trip's value at an index is the cumulated log decay. -/
theorem r24 (h : Fin 8) (i : Fin 64) : b24 j s (ix2 h i) = ((C h).g i : EReal) := by
  rw [← H.g, b24, b23, Host.dynamicSlice_eq_extractStridedSlice _ _ _ _ _ (fits3 c 8 64)
    (starts3 hc (b21 j s) (b22 j s) (fun _ => rfl) (fun _ => rfl) _)]
  pointwise []

/-- The trip's value at an index is beta. -/
theorem r28 (h : Fin 8) (i : Fin 64) : b28 j s (ix2 h i) = ((C h).b i : EReal) := by
  rw [← H.b, b28, b27, Host.dynamicSlice_eq_extractStridedSlice _ _ _ _ _ (fits3 c 8 64)
    (starts3 hc (b25 j s) (b26 j s) (fun _ => rfl) (fun _ => rfl) _)]
  pointwise []

/-- The trip's value at an index is the inverse of (I + lower). -/
theorem r33 (h : Fin 8) (i l : Fin 64) : b33 j s (ix3 h i l) = ((C h).T i l : EReal) := by
  rw [← H.T, b33, b32, Host.dynamicSlice_eq_extractStridedSlice _ _ _ _ _ (fits4 c 8 64 64)
    (starts4 hc (b29 j s) (b30 j s) (b31 j s) (fun _ => rfl) (fun _ => rfl) (fun _ => rfl) _)]
  pointwise []

/-- The trip's value at an index is the state at the chunk's start. -/
theorem r38 (h : Fin 8) (d : Fin 128) (e : Fin 256) : b38 j s (ix3 h d e) = ((C h).S d e : EReal) := by
  rw [← H.S, b38, b37, Host.dynamicSlice_eq_extractStridedSlice _ _ _ _ _ (fits4 c 8 128 256)
    (starts4 hc (b34 j s) (b35 j s) (b36 j s) (fun _ => rfl) (fun _ => rfl) (fun _ => rfl) _)]
  pointwise []

/-- The trip's value at an index is the output's gradient. -/
theorem r43 (h : Fin 8) (i : Fin 64) (e : Fin 256) : b43 j s (ix3 h i e) = ((C h).o i e : EReal) := by
  rw [← H.o, b43, b42, Host.dynamicSlice_eq_extractStridedSlice _ _ _ _ _ (fits4 c 8 64 256)
    (starts4 hc (b39 j s) (b40 j s) (b41 j s) (fun _ => rfl) (fun _ => rfl) (fun _ => rfl) _)]
  pointwise []

/-! The forward quantities. -/

/-- The trip's value at an index is the scaled query. -/
theorem r46 (h : Fin 8) (i : Fin 64) (d : Fin 128) : b46 j s (ix3 h i d) = ((C h).qs i d : EReal) := by
  pointwise [b46, b45, b44]
  rw [r10 hc H, H.scale h, Chunk.qs, EReal.coe_mul]

/-- The trip's value at an index is the decay between two positions. -/
theorem r70 (h : Fin 8) (i l : Fin 64) : b70 j s (ix3 h i l) = ((C h).dec i l : EReal) := by
  pointwise [b70, b67, b66, b64, b63, b62, b61, b60, b59, b58, b65, b52, b50, b51, b49, b48, b47]
  rw [select_sge, r24 hc H, r24 hc H, Chunk.dec, ← EReal.coe_sub, ofBits_neg_inf]
  split <;> rfl

/-- The trip's value at an index is the key times beta. -/
theorem r73 (h : Fin 8) (i : Fin 64) (d : Fin 128) : b73 j s (ix3 h i d) = ((C h).kb i d : EReal) := by
  pointwise [b73, b72, b71]
  rw [r15 hc H, r28 hc H, Chunk.kb, EReal.coe_mul]

/-- The trip's value at an index is the products of the keys times beta with the keys. -/
theorem r74 (h : Fin 8) (i l : Fin 64) : b74 j s (ix3 h i l) = ((C h).KK i l : EReal) := by
  pointwise [b74]
  simp only [r73 hc H, r15 hc H, Chunk.KK, coe_sum, EReal.coe_mul]

/-- The trip's value at an index is the value times beta. -/
theorem r85 (h : Fin 8) (i : Fin 64) (e : Fin 256) : b85 j s (ix3 h i e) = ((C h).vb i e : EReal) := by
  pointwise [b85, b84, b83]
  rw [r20 hc H, r28 hc H, Chunk.vb, EReal.coe_mul]

/-- The trip's value at an index is the solved values. -/
theorem r86 (h : Fin 8) (i : Fin 64) (e : Fin 256) : b86 j s (ix3 h i e) = ((C h).u i e : EReal) := by
  pointwise [b86]
  simp only [r33 hc H, r85 hc H, Chunk.u, coe_sum, EReal.coe_mul]

/-- The trip's value at an index is the decay from the chunk's start. -/
theorem r87 (h : Fin 8) (i : Fin 64) : b87 j s (ix2 h i) = ((C h).eg i : EReal) := by
  pointwise [b87]
  rw [r24 hc H, Chunk.eg, Ideal.exp_coe]

/-- The trip's value at an index is the key times beta and the decay from the chunk's start. -/
theorem r90 (h : Fin 8) (i : Fin 64) (d : Fin 128) : b90 j s (ix3 h i d) = ((C h).kbe i d : EReal) := by
  pointwise [b90, b89, b88]
  rw [r73 hc H, r87 hc H, Chunk.kbe, EReal.coe_mul]

/-- The trip's value at an index is the solved keys. -/
theorem r91 (h : Fin 8) (i : Fin 64) (d : Fin 128) : b91 j s (ix3 h i d) = ((C h).w i d : EReal) := by
  pointwise [b91]
  simp only [r33 hc H, r90 hc H, Chunk.w, coe_sum, EReal.coe_mul]

/-- The trip's value at an index is the products of the scaled queries with the keys. -/
theorem r92 (h : Fin 8) (i l : Fin 64) : b92 j s (ix3 h i l) = ((C h).QK i l : EReal) := by
  pointwise [b92]
  simp only [r46 hc H, r15 hc H, Chunk.QK, coe_sum, EReal.coe_mul]

/-- The trip's value at an index is the attention within the chunk. -/
theorem r93 (h : Fin 8) (i l : Fin 64) : b93 j s (ix3 h i l) = ((C h).att i l : EReal) := by
  pointwise [b93]
  rw [r92 hc H, r70 hc H, Chunk.att, EReal.coe_mul]

/-- The trip's value at an index is the decay from the chunk's start. -/
theorem r94 (h : Fin 8) (i : Fin 64) : b94 j s (ix2 h i) = ((C h).eg i : EReal) := by
  pointwise [b94]
  rw [r24 hc H, Chunk.eg, Ideal.exp_coe]

/-- The trip's value at an index is the scaled query times the decay from the chunk's start. -/
theorem r97 (h : Fin 8) (i : Fin 64) (d : Fin 128) : b97 j s (ix3 h i d) = ((C h).qd i d : EReal) := by
  pointwise [b97, b96, b95]
  rw [r46 hc H, r94 hc H, Chunk.qd, EReal.coe_mul]

/-- The trip's value at an index is the decay to the chunk's end. -/
theorem r101 (h : Fin 8) (i : Fin 64) : b101 j s (ix2 h i) = ((C h).kdec i : EReal) := by
  pointwise [b101, b100, b99, b98]
  rw [r24 hc H, r24 hc H, ← EReal.coe_sub, Chunk.kdec, Ideal.exp_coe]

/-- The trip's value at an index is the key times the decay to the chunk's end. -/
theorem r104 (h : Fin 8) (i : Fin 64) (d : Fin 128) : b104 j s (ix3 h i d) = ((C h).kd i d : EReal) := by
  pointwise [b104, b103, b102]
  rw [r15 hc H, r101 hc H, Chunk.kd, EReal.coe_mul]

/-- The trip's value at an index is the decay over the whole chunk. -/
theorem r107 (h : Fin 8) : b107 j s (ix1 h) = ((C h).gl : EReal) := by
  pointwise [b107, b106, b105]
  rw [r24 hc H, Chunk.gl, Ideal.exp_coe]

/-- The trip's value at an index is the new values. -/
theorem r109 (h : Fin 8) (i : Fin 64) (e : Fin 256) : b109 j s (ix3 h i e) = ((C h).vn i e : EReal) := by
  pointwise [b109, b108]
  simp only [r86 hc H, r91 hc H, r38 hc H, Chunk.vn, coe_sum, EReal.coe_mul, EReal.coe_sub]

/-! The gradients. -/

/-- The trip's value at an index is the gradient of the decayed keys. -/
theorem r121 (h : Fin 8) (i : Fin 64) (d : Fin 128) : b121 j s (ix3 h i d) = ((C h).dkg i d : EReal) := by
  pointwise [b121, b120]
  simp only [H.D, r109 hc H, Chunk.dkg, coe_sum, EReal.coe_mul]

/-- The trip's value at an index is the product of the state with its gradient, summed. -/
theorem r129 (h : Fin 8) : b129 j s (ix1 h) = ((C h).SD : EReal) := by
  pointwise [b129, b128, b125, b124, b123, b122]
  simp only [Finset.univ_unique, Finset.sum_singleton, r38 hc H, H.D, Chunk.SD, coe_sum, EReal.coe_mul]

/-- The trip's value at an index is the gradient of the new values. -/
theorem r132 (h : Fin 8) (i : Fin 64) (e : Fin 256) : b132 j s (ix3 h i e) = ((C h).dvn i e : EReal) := by
  pointwise [b132, b119, b118, b131, b130]
  simp only [H.D, r104 hc H, r43 hc H, r93 hc H, Chunk.dvn, coe_sum, EReal.coe_mul, EReal.coe_add]

/-- The trip's value at an index is the gradient of the attention before its decay. -/
theorem r133 (h : Fin 8) (i l : Fin 64) : b133 j s (ix3 h i l) = ((C h).dov i l : EReal) := by
  pointwise [b133]
  simp only [r43 hc H, r109 hc H, Chunk.dov, coe_sum, EReal.coe_mul]

/-- The trip's value at an index is the gradient of the decayed queries. -/
theorem r137 (h : Fin 8) (i : Fin 64) (d : Fin 128) : b137 j s (ix3 h i d) = ((C h).dqg i d : EReal) := by
  pointwise [b137]
  simp only [r43 hc H, r38 hc H, Chunk.dqg, coe_sum, EReal.coe_mul]

/-- The trip's value at an index is the gradient of the new values, negated. -/
theorem r138 (h : Fin 8) (i : Fin 64) (e : Fin 256) : b138 j s (ix3 h i e) = ((-(C h).dvn i e : ℝ) : EReal) := by
  pointwise [b138]
  rw [r132 hc H, EReal.coe_neg]

/-- The gradient of the state, after the trip. -/
theorem r141 (h : Fin 8) (d : Fin 128) (e : Fin 256) : b141 j s (ix3 h d e) = ((C h).dS d e : EReal) := by
  pointwise [b141, b136, b127, b126, b113, b135, b134, b140, b139]
  simp only [H.D, r107 hc H, r43 hc H, r97 hc H, r138 hc H, r91 hc H, Chunk.dS, coe_sum, EReal.coe_mul, EReal.coe_add]

/-- The trip's value at an index is the gradient of the solved keys. -/
theorem r142 (h : Fin 8) (i : Fin 64) (d : Fin 128) : b142 j s (ix3 h i d) = ((C h).dw i d : EReal) := by
  pointwise [b142]
  simp only [r138 hc H, r38 hc H, Chunk.dw, coe_sum, EReal.coe_mul]

/-- The trip's value at an index is one position's part of the decay gradient that goes to the last position. -/
theorem r155 (h : Fin 8) (i : Fin 64) : b155 j s (ix2 h i) = ((C h).kdk i : EReal) := by
  pointwise [b155, b154, b153, b150, b149, b148, b147]
  simp only [Finset.univ_unique, Finset.sum_singleton, r15 hc H, r121 hc H, r101 hc H, Chunk.kdk, coe_sum, EReal.coe_mul]

/-- The trip's value at an index is the gradient of the products of queries with keys. -/
theorem r175 (h : Fin 8) (i l : Fin 64) : b175 j s (ix3 h i l) = ((C h).dQK i l : EReal) := by
  pointwise [b175]
  rw [r133 hc H, r70 hc H, Chunk.dQK, EReal.coe_mul]

/-- The trip's value at an index is the gradient of the right-hand side that gave the solved keys. -/
theorem r180 (h : Fin 8) (i : Fin 64) (d : Fin 128) : b180 j s (ix3 h i d) = ((C h).dRw i d : EReal) := by
  pointwise [b180]
  simp only [r33 hc H, r142 hc H, Chunk.dRw, coe_sum, EReal.coe_mul]

/-- The trip's value at an index is the gradient of the right-hand side that gave the solved values. -/
theorem r195 (h : Fin 8) (i : Fin 64) (e : Fin 256) : b195 j s (ix3 h i e) = ((C h).dRu i e : EReal) := by
  pointwise [b195]
  simp only [r33 hc H, r132 hc H, Chunk.dRu, coe_sum, EReal.coe_mul]

/-- The trip's value at an index is the gradient of the strictly lower matrix. -/
theorem r211 (h : Fin 8) (i l : Fin 64) : b211 j s (ix3 h i l) = ((C h).dA i l : EReal) := by
  pointwise [b211, b210, b209, b78, b57, b55, b56, b54, b53, b47, b200, b182, b181, b197, b196]
  simp only [select_sgt, r180 hc H, r91 hc H, r195 hc H, r86 hc H, Chunk.dA, coe_ite, coe_sum, EReal.coe_mul, EReal.coe_add, EReal.coe_neg, EReal.coe_zero]

/-- The trip's value at an index is the gradient of the products of keys with keys. -/
theorem r214 (h : Fin 8) (i l : Fin 64) : b214 j s (ix3 h i l) = ((C h).dKK i l : EReal) := by
  pointwise [b214]
  rw [r211 hc H, r70 hc H, Chunk.dKK, EReal.coe_mul]

/-- The trip's value at an index is the gradient of the keys times beta. -/
theorem r218 (h : Fin 8) (i : Fin 64) (d : Fin 128) : b218 j s (ix3 h i d) = ((C h).dkb i d : EReal) := by
  pointwise [b218, b190, b189, b88, b217]
  simp only [r180 hc H, r87 hc H, r214 hc H, r15 hc H, Chunk.dkb, coe_sum, EReal.coe_mul, EReal.coe_add]

/-- The trip's value at an index is what each pair of positions adds to the gradient of the decay. -/
theorem r232 (h : Fin 8) (i l : Fin 64) : b232 j s (ix3 h i l) = ((C h).E i l : EReal) := by
  pointwise [b232, b231, b230, b65, b52, b50, b51, b49, b48, b47, b229, b213, b174, b212]
  simp only [select_sge, r92 hc H, r133 hc H, r74 hc H, r211 hc H, r70 hc H, Chunk.E, coe_ite, EReal.coe_mul, EReal.coe_add, EReal.coe_zero]

/-- The gradient of the queries in the trip's chunk. -/
theorem r248 (h : Fin 8) (i : Fin 64) (d : Fin 128) : b248 j s (ix3 h i d) = ((C h).dq i d : EReal) := by
  pointwise [b248, b247, b246, b179, b169, b168, b95, b178]
  rw [H.scale h]
  simp only [r137 hc H, r94 hc H, r175 hc H, r15 hc H, Chunk.dq, coe_sum, EReal.coe_mul, EReal.coe_add]

/-- The gradient of the keys in the trip's chunk. -/
theorem r225 (h : Fin 8) (i : Fin 64) (d : Fin 128) : b225 j s (ix3 h i d) = ((C h).dk i d : EReal) := by
  pointwise [b225, b224, b223, b71, b216, b215, b177, b176, b152, b151, b102]
  simp only [r121 hc H, r101 hc H, r175 hc H, r46 hc H, r214 hc H, r73 hc H, r218 hc H, r28 hc H, Chunk.dk, coe_sum, EReal.coe_mul,
    EReal.coe_add]

/-- The gradient of the values in the trip's chunk. -/
theorem r206 (h : Fin 8) (i : Fin 64) (e : Fin 256) : b206 j s (ix3 h i e) = ((C h).dv i e : EReal) := by
  pointwise [b206, b205, b83]
  rw [r195 hc H, r28 hc H, Chunk.dv, EReal.coe_mul]

/-- The gradient of beta in the trip's chunk. -/
theorem r228 (h : Fin 8) (i : Fin 64) : b228 j s (ix2 h i) = ((C h).db i : EReal) := by
  pointwise [b228, b208, b207, b204, b203, b202, b201, b227, b226, b222, b221, b220, b219]
  simp only [Finset.univ_unique, Finset.sum_singleton, r20 hc H, r195 hc H, r15 hc H, r218 hc H, Chunk.db, coe_sum, EReal.coe_mul,
    EReal.coe_add]

/-- The gradient of the cumulated log decay in the trip's chunk. -/
theorem r245 (h : Fin 8) (i : Fin 64) : b245 j s (ix2 h i) = ((C h).dg i : EReal) := by
  have hi : (63 ≤ i.val ∧ i.val - 63 < 1) ↔ i.val = 63 := by have := i.isLt; omega
  pointwise [b245, b244, b243, b235, b234, b233, b242, b241, b240, b239, b238, b237, b236, b194, b193, b192, b191, b188, b187, b186, b185,
    b173, b172, b171, b170, b167, b166, b165, b164, b163, b162, b161, b160, b159, b158, b157, b156, b146, b145, b144, b143]
  simp only [Finset.univ_unique, Finset.sum_singleton, hi, dite_eq_ite, r129 hc H, r107 hc H, r155 hc H, r46 hc H, r137 hc H, r94 hc H,
    r73 hc H, r180 hc H, r87 hc H, r232 hc H, Chunk.dg, coe_ite, coe_sum, EReal.coe_mul, EReal.coe_add, EReal.coe_neg, EReal.coe_zero]

end Body

end Cert.DeltaRule

end
-- ==== Proof.Head.lean ====
/- One head of one grid point over the reals: what it computes are the gradients of Proof/Chunk.lean. -/
module

public import proofs.«01_k».proof.Proof.Point
public import proofs.«01_k».proof.Proof.Ref

@[expose] public section

set_option maxRecDepth 16384

noncomputable section

namespace Cert.DeltaRule

open Idealize.ShloMosaic Idealize.ShloMosaic.TcCoe Cert.KernelIdeal Cert.KernelIdeal.Gen

/-- What a head loads, read as the reals of a chunk: the inputs, and what the forward pass saved. -/
structure Loads.Reads (L : Loads Ideal) (C : Chunk) : Prop where
  q : ∀ i d, L.q (ix2 i d) = (C.q i d : EReal)
  k : ∀ i d, L.k (ix2 i d) = (C.k i d : EReal)
  v : ∀ i e, L.v (ix2 i e) = (C.v i e : EReal)
  gc : ∀ i d, L.gc (ix2 i d) = (C.g i : EReal)
  bc : ∀ i d, L.bc (ix2 i d) = (C.b i : EReal)
  gr : ∀ l : Fin 64, L.gr (ix2 0 ⟨l.val, by omega⟩) = (C.g l : EReal)
  S : ∀ d e, L.S (ix2 d e) = (C.S d e : EReal)
  T : ∀ i l, L.T (ix2 i l) = (C.T i l : EReal)
  u : ∀ i e, L.u (ix2 i e) = (C.u i e : EReal)
  w : ∀ i d, L.w (ix2 i d) = (C.w i d : EReal)
  low : ∀ i l, L.low (ix2 i l) = (C.low i l : EReal)
  att : ∀ i l, L.att (ix2 i l) = (C.att i l : EReal)
  vn : ∀ i e, L.vn (ix2 i e) = (C.vn i e : EReal)
  o : ∀ i e, L.o (ix2 i e) = (C.o i e : EReal)
  D : ∀ d e, L.D (ix2 d e) = (C.D d e : EReal)
  scale : Ideal.ofBits .f32 0x3DB504F3#32 = (C.scale : EReal)
  falls : C.Falls

/-- A select on "row `i` is the last". -/
theorem select_last (i : Fin 64) (a b : EReal) :
    Scalar.select (IntOp.cmpi .eq (BitVec.ofNat 32 i.val) 63#32) a b = if i.val = 63 then a else b := by
  have h : ∀ i : Fin 64, IntOp.cmpi .eq (BitVec.ofNat 32 i.val) 63#32 = if i.val = 63 then 1#1 else 0#1 := by
    decide +kernel
  rw [h]
  split <;> rfl

namespace Chunk

variable (C : Chunk)

/-- The kernel's product of the masked gradients with the saved forward matrices. -/
theorem kE_eq (i l : Fin 64) : C.dA i l * C.low i l + (if l.val ≤ i.val then C.dov i l else 0) * C.att i l = C.E i l := by
  unfold E low att dA
  by_cases h1 : l.val < i.val
  · simp only [if_pos h1, if_pos h1.le]
    ring
  · by_cases h2 : l.val ≤ i.val
    · simp only [if_neg h1, if_pos h2]
      ring
    · simp only [if_neg h1, if_neg h2]
      ring

/-- The kernel's decay gradient. -/
theorem kdg_eq (i : Fin 64) :
    ∑ x, C.E i x - ∑ l, C.E l i + ∑ x, C.dRw i x * (C.kb i x * C.eg i) + ∑ x, C.dqg i x * C.qd i x - ∑ x, C.dkg i x * C.kd i x
        + (if i.val = 63 then ∑ x, ∑ y, C.dkg x y * C.kd x y + C.gl * ∑ x, ∑ y, C.S x y * C.D x y else 0) = C.dg i := by
  have h1 : ∑ x, C.dRw i x * (C.kb i x * C.eg i) = (∑ d, C.kb i d * C.dRw i d) * C.eg i := by
    rw [Finset.sum_mul]
    exact Finset.sum_congr rfl fun _ _ => by ring
  have h2 : ∑ x, C.dqg i x * C.qd i x = (∑ d, C.qs i d * C.dqg i d) * C.eg i := by
    rw [Finset.sum_mul]
    exact Finset.sum_congr rfl fun _ _ => by rw [qd]; ring
  have h3 : ∀ i, ∑ x, C.dkg i x * C.kd i x = C.kdk i := fun i => by
    rw [kdk, Finset.sum_mul]
    exact Finset.sum_congr rfl fun _ _ => by rw [kd]; ring
  simp only [h1, h2, h3, dg, SD, Finset.sum_neg_distrib]
  split <;> ring

end Chunk

namespace Loads.Reads

variable {L : Loads Ideal} {C : Chunk} (H : L.Reads C)
include H

/-- The kernel's array at an index is the decay between two positions. -/
theorem Dm (i l : Fin 64) : L.Dm (ix2 i l) = (C.dec i l : EReal) := by
  rw [Loads.Dm]
  pointwise [k0_pay74]
  simp only [H.gc, H.gr, ← EReal.coe_mul, ← EReal.coe_add, ← EReal.coe_sub, ← EReal.coe_neg, ← EReal.coe_zero, ← coe_sum, ← coe_ite, select_sge, select_sgt, ← EReal.coe_strictMono.monotone.map_min, Ideal.exp_coe]
  exact congrArg _ (congrFun (congrFun (C.kDec_eq H.falls) i) l)

/-- The kernel's array at an index is the decay from the chunk's start. -/
theorem eg (i : Fin 64) (d : Fin 128) : L.eg (ix2 i d) = (C.eg i : EReal) := by
  rw [Loads.eg]
  pointwise [k0_pay84]
  simp only [H.gc, ← EReal.coe_mul, ← EReal.coe_add, ← EReal.coe_sub, ← EReal.coe_neg, ← EReal.coe_zero, ← coe_sum, ← coe_ite, select_sge, select_sgt, Ideal.exp_coe]
  exact congrArg _ rfl

/-- The kernel's array at an index is the decay to the chunk's end. -/
theorem kdec (i : Fin 64) (d : Fin 128) : L.kdec (ix2 i d) = (C.kdec i : EReal) := by
  rw [Loads.kdec]
  pointwise [k0_pay108, k0_pay92]
  simp only [H.gc, ← EReal.coe_mul, ← EReal.coe_add, ← EReal.coe_sub, ← EReal.coe_neg, ← EReal.coe_zero, ← coe_sum, ← coe_ite, select_sge, select_sgt, Ideal.exp_coe]
  exact congrArg _ rfl

/-- The kernel's array at an index is the scaled query. -/
theorem qs (i : Fin 64) (d : Fin 128) : L.qs (ix2 i d) = (C.qs i d : EReal) := by
  rw [Loads.qs]
  pointwise [k0_pay116]
  simp only [H.q, H.scale, ← EReal.coe_mul, ← EReal.coe_add, ← EReal.coe_sub, ← EReal.coe_neg, ← EReal.coe_zero, ← coe_sum, ← coe_ite, select_sge, select_sgt]
  exact congrArg _ rfl

/-- The kernel's array at an index is the key times beta. -/
theorem kb (i : Fin 64) (d : Fin 128) : L.kb (ix2 i d) = (C.kb i d : EReal) := by
  rw [Loads.kb]
  pointwise [k0_pay125]
  simp only [H.k, H.bc, ← EReal.coe_mul, ← EReal.coe_add, ← EReal.coe_sub, ← EReal.coe_neg, ← EReal.coe_zero, ← coe_sum, ← coe_ite, select_sge, select_sgt]
  exact congrArg _ rfl

/-- The kernel's array at an index is beta. -/
theorem b2 (i : Fin 64) (e : Fin 256) : L.b2 (ix2 i e) = (C.b i : EReal) := by
  rw [Loads.b2]
  pointwise [k0_pay133]
  simp only [H.bc, dite_eq_ite, ite_self]

/-- The kernel's array at an index is the scaled query times the decay from the chunk's start. -/
theorem qg (i : Fin 64) (d : Fin 128) : L.qg (ix2 i d) = (C.qd i d : EReal) := by
  rw [Loads.qg]
  pointwise [k0_pay141]
  simp only [H.eg, H.qs, ← EReal.coe_mul, ← EReal.coe_add, ← EReal.coe_sub, ← EReal.coe_neg, ← EReal.coe_zero, ← coe_sum, ← coe_ite, select_sge, select_sgt]
  exact congrArg _ rfl

/-- The kernel's array at an index is the key times the decay to the chunk's end. -/
theorem kg (i : Fin 64) (d : Fin 128) : L.kg (ix2 i d) = (C.kd i d : EReal) := by
  rw [Loads.kg]
  pointwise [k0_pay149]
  simp only [H.k, H.kdec, ← EReal.coe_mul, ← EReal.coe_add, ← EReal.coe_sub, ← EReal.coe_neg, ← EReal.coe_zero, ← coe_sum, ← coe_ite, select_sge, select_sgt]
  exact congrArg _ rfl

/-- The kernel's array at an index is the gradient of the decayed queries. -/
theorem dqg (i : Fin 64) (d : Fin 128) : L.dqg (ix2 i d) = (C.dqg i d : EReal) := by
  rw [Loads.dqg]
  pointwise [k0_pay191]
  simp only [H.S, H.o, ← EReal.coe_mul, ← EReal.coe_add, ← EReal.coe_sub, ← EReal.coe_neg, ← EReal.coe_zero, ← coe_sum, ← coe_ite, select_sge, select_sgt]
  exact congrArg _ rfl

/-- The kernel's array at an index is the gradient of the new values. -/
theorem dvn (i : Fin 64) (e : Fin 256) : L.dvn (ix2 i e) = (C.dvn i e : EReal) := by
  rw [Loads.dvn, Loads.ado, Loads.kdS]
  pointwise [k0_pay217, k0_pay173, k0_pay183]
  simp only [H.att, H.o, H.kg, H.D, ← EReal.coe_mul, ← EReal.coe_add, ← EReal.coe_sub, ← EReal.coe_neg, ← EReal.coe_zero, ← coe_sum, ← coe_ite, select_sge, select_sgt]
  exact congrArg _ (by
    rw [Chunk.dvn, add_comm]
    simp only [mul_comm])

/-- The kernel's array at an index is the gradient of the attention before its decay. -/
theorem dovn (i l : Fin 64) : L.dovn (ix2 i l) = (C.dov i l : EReal) := by
  rw [Loads.dovn]
  pointwise [k0_pay225]
  simp only [H.o, H.vn, ← EReal.coe_mul, ← EReal.coe_add, ← EReal.coe_sub, ← EReal.coe_neg, ← EReal.coe_zero, ← coe_sum, ← coe_ite, select_sge, select_sgt]
  exact congrArg _ rfl

/-- The kernel's array at an index is the gradient of the decayed keys. -/
theorem dkg (i : Fin 64) (d : Fin 128) : L.dkg (ix2 i d) = (C.dkg i d : EReal) := by
  rw [Loads.dkg]
  pointwise [k0_pay235]
  simp only [H.D, H.vn, ← EReal.coe_mul, ← EReal.coe_add, ← EReal.coe_sub, ← EReal.coe_neg, ← EReal.coe_zero, ← coe_sum, ← coe_ite, select_sge, select_sgt]
  exact congrArg _ (by
    rw [Chunk.dkg]
    simp only [mul_comm])

/-- The kernel's array at an index is the gradient of the solved keys. -/
theorem dw (i : Fin 64) (d : Fin 128) : L.dw (ix2 i d) = (C.dw i d : EReal) := by
  rw [Loads.dw]
  pointwise [k0_pay253]
  simp only [H.S, H.dvn, ← EReal.coe_mul, ← EReal.coe_add, ← EReal.coe_sub, ← EReal.coe_neg, ← EReal.coe_zero, ← coe_sum, ← coe_ite, select_sge, select_sgt]
  exact congrArg _ (by
    rw [Chunk.dw, zero_sub, ← Finset.sum_neg_distrib]
    simp only [neg_mul])

/-- The kernel's array at an index is the gradient of the attention, zero above the diagonal. -/
theorem dattn (i l : Fin 64) : L.dattn (ix2 i l) = ((if l.val ≤ i.val then C.dov i l else 0 : ℝ) : EReal) := by
  rw [Loads.dattn]
  pointwise [k0_pay271]
  simp only [H.dovn, ← EReal.coe_mul, ← EReal.coe_add, ← EReal.coe_sub, ← EReal.coe_neg, ← EReal.coe_zero, ← coe_sum, ← coe_ite, select_sge, select_sgt]

/-- The kernel's array at an index is the gradient of the right-hand side that gave the solved values. -/
theorem dRu (i : Fin 64) (e : Fin 256) : L.dRu (ix2 i e) = (C.dRu i e : EReal) := by
  rw [Loads.dRu]
  pointwise [k0_pay280]
  simp only [H.T, H.dvn, ← EReal.coe_mul, ← EReal.coe_add, ← EReal.coe_sub, ← EReal.coe_neg, ← EReal.coe_zero, ← coe_sum, ← coe_ite, select_sge, select_sgt]
  exact congrArg _ rfl

/-- The kernel's array at an index is the gradient of the right-hand side that gave the solved keys. -/
theorem dRw (i : Fin 64) (d : Fin 128) : L.dRw (ix2 i d) = (C.dRw i d : EReal) := by
  rw [Loads.dRw]
  pointwise [k0_pay288]
  simp only [H.T, H.dw, ← EReal.coe_mul, ← EReal.coe_add, ← EReal.coe_sub, ← EReal.coe_neg, ← EReal.coe_zero, ← coe_sum, ← coe_ite, select_sge, select_sgt]
  exact congrArg _ rfl

/-- The kernel's array at an index is the gradient of the strictly lower matrix. -/
theorem dA (i l : Fin 64) : L.dA (ix2 i l) = (C.dA i l : EReal) := by
  have hu : ∀ i e, k0_pay280 L.T L.dvn (ix2 i e) = (C.dRu i e : EReal) := H.dRu
  rw [Loads.dA, Loads.dAu]
  pointwise [k0_pay307, k0_pay296]
  simp only [H.w, H.dRw, H.u, hu, ← EReal.coe_mul, ← EReal.coe_add, ← EReal.coe_sub, ← EReal.coe_neg, ← EReal.coe_zero, ← coe_sum, ← coe_ite, select_sge, select_sgt]
  exact congrArg _ (by
    rw [Chunk.dA]
    congr 1
    ring)

/-- The kernel's array at an index is the gradient of the products of keys with keys. -/
theorem dKK (i l : Fin 64) : L.dKK (ix2 i l) = (C.dKK i l : EReal) := by
  rw [Loads.dKK]
  pointwise [k0_pay317]
  simp only [H.Dm, H.dA, ← EReal.coe_mul, ← EReal.coe_add, ← EReal.coe_sub, ← EReal.coe_neg, ← EReal.coe_zero, ← coe_sum, ← coe_ite, select_sge, select_sgt]
  exact congrArg _ rfl

/-- The kernel's array at an index is the gradient of the products of queries with keys. -/
theorem dQK (i l : Fin 64) : L.dQK (ix2 i l) = (C.dQK i l : EReal) := by
  rw [Loads.dQK]
  pointwise [k0_pay325]
  simp only [H.Dm, H.dattn, ← EReal.coe_mul, ← EReal.coe_add, ← EReal.coe_sub, ← EReal.coe_neg, ← EReal.coe_zero, ← coe_sum, ← coe_ite, select_sge, select_sgt]
  exact congrArg _ (by
    rw [Chunk.dQK, Chunk.dec]
    split <;> ring)

/-- The kernel's array at an index is what each pair of positions adds to the gradient of the decay. -/
theorem E (i l : Fin 64) : L.E (ix2 i l) = (C.E i l : EReal) := by
  rw [Loads.E]
  pointwise [k0_pay333]
  simp only [H.low, H.att, H.dattn, H.dA, ← EReal.coe_mul, ← EReal.coe_add, ← EReal.coe_sub, ← EReal.coe_neg, ← EReal.coe_zero, ← coe_sum, ← coe_ite, select_sge, select_sgt]
  exact congrArg _ (C.kE_eq i l)

/-- The kernel's array at an index is the gradient of the keys times beta. -/
theorem dkb (i : Fin 64) (d : Fin 128) : L.dkb (ix2 i d) = (C.dkb i d : EReal) := by
  rw [Loads.dkb]
  pointwise [k0_pay341]
  simp only [H.k, H.eg, H.dRw, H.dKK, ← EReal.coe_mul, ← EReal.coe_add, ← EReal.coe_sub, ← EReal.coe_neg, ← EReal.coe_zero, ← coe_sum, ← coe_ite, select_sge, select_sgt]
  exact congrArg _ (by
    rw [Chunk.dkb, add_comm])

/-- The kernel's array at an index is the key gradient's part that comes through the products of keys with keys. -/
theorem dk1 (i : Fin 64) (d : Fin 128) : L.dk1 (ix2 i d) = ((∑ l, C.dKK l i * C.kb l d : ℝ) : EReal) := by
  rw [Loads.dk1]
  pointwise [k0_pay349]
  simp only [H.kb, H.dKK, ← EReal.coe_mul, ← EReal.coe_add, ← EReal.coe_sub, ← EReal.coe_neg, ← EReal.coe_zero, ← coe_sum, ← coe_ite, select_sge, select_sgt]

/-- The kernel's array at an index is the gradient of the scaled queries. -/
theorem dqs (i : Fin 64) (d : Fin 128) : L.dqs (ix2 i d) = ((C.dqg i d * C.eg i + ∑ j, C.dQK i j * C.k j d : ℝ) : EReal) := by
  rw [Loads.dqs]
  pointwise [k0_pay359]
  simp only [H.k, H.eg, H.dqg, H.dQK, ← EReal.coe_mul, ← EReal.coe_add, ← EReal.coe_sub, ← EReal.coe_neg, ← EReal.coe_zero, ← coe_sum, ← coe_ite, select_sge, select_sgt]
  exact congrArg _ (by
    rw [add_comm])

/-- The kernel's array at an index is the key gradient's part that comes through the products of queries with keys. -/
theorem dk2 (i : Fin 64) (d : Fin 128) : L.dk2 (ix2 i d) = ((∑ l, C.dQK l i * C.qs l d : ℝ) : EReal) := by
  rw [Loads.dk2]
  pointwise [k0_pay368]
  simp only [H.qs, H.dQK, ← EReal.coe_mul, ← EReal.coe_add, ← EReal.coe_sub, ← EReal.coe_neg, ← EReal.coe_zero, ← coe_sum, ← coe_ite, select_sge, select_sgt]

/-- The kernel's array at an index is the column sums of what the pairs add to the gradient of the decay. -/
theorem colE (i : Fin 64) (d : Fin 128) : L.colE (ix2 i d) = ((∑ l, C.E l i : ℝ) : EReal) := by
  rw [Loads.colE]
  pointwise [k0_pay377, k0_pay376]
  simp only [H.E, mul_one, ← EReal.coe_mul, ← EReal.coe_add, ← EReal.coe_sub, ← EReal.coe_neg, ← EReal.coe_zero, ← coe_sum, ← coe_ite, select_sge, select_sgt]

/-- The kernel's array at an index is the decay over the whole chunk. -/
theorem egl : L.egl (ix2 0 0) = (C.gl : EReal) := by
  rw [Loads.egl]
  pointwise [k0_pay100, k0_pay92]
  simp only [H.gc, Ideal.exp_coe]
  rfl

/-- The kernel's array at an index is the gradient of the cumulated log decay. -/
theorem dgam (i : Fin 64) (d : Fin 128) : L.dgam (ix2 i d) = (C.dg i : EReal) := by
  rw [Loads.dgam]
  pointwise [k0_pay385]
  simp only [H.E, H.colE, H.dRw, H.kb, H.eg, H.dqg, H.qg, H.dkg, H.kg, H.egl, H.S, H.D, select_last, ← EReal.coe_mul, ← EReal.coe_add, ← EReal.coe_sub, ← EReal.coe_neg, ← EReal.coe_zero, ← coe_sum, ← coe_ite, select_sge, select_sgt]
  exact congrArg _ (C.kdg_eq i)

/-- The kernel's array at an index is the gradient of the queries. -/
theorem dq (i : Fin 64) (d : Fin 128) : L.dq (ix2 i d) = (C.dq i d : EReal) := by
  rw [Loads.dq]
  pointwise [k0_pay412]
  simp only [H.dqs, H.scale, ← EReal.coe_mul, ← EReal.coe_add, ← EReal.coe_sub, ← EReal.coe_neg, ← EReal.coe_zero, ← coe_sum, ← coe_ite, select_sge, select_sgt]
  exact congrArg _ rfl

/-- The kernel's array at an index is the gradient of the keys. -/
theorem dk (i : Fin 64) (d : Fin 128) : L.dk (ix2 i d) = (C.dk i d : EReal) := by
  rw [Loads.dk]
  pointwise [k0_pay415, k0_pay413, k0_pay414]
  simp only [H.kdec, H.dkg, H.dk1, H.dk2, H.bc, H.dkb, ← EReal.coe_mul, ← EReal.coe_add, ← EReal.coe_sub, ← EReal.coe_neg, ← EReal.coe_zero, ← coe_sum, ← coe_ite, select_sge, select_sgt]
  exact congrArg _ (by
    rw [Chunk.dk]
    ring)

/-- The kernel's array at an index is the gradient of the values. -/
theorem dv (i : Fin 64) (e : Fin 256) : L.dv (ix2 i e) = (C.dv i e : EReal) := by
  rw [Loads.dv]
  pointwise [k0_pay410]
  simp only [H.b2, H.dRu, ← EReal.coe_mul, ← EReal.coe_add, ← EReal.coe_sub, ← EReal.coe_neg, ← EReal.coe_zero, ← coe_sum, ← coe_ite, select_sge, select_sgt]
  exact congrArg _ rfl

/-- The kernel's array at an index is the gradient of the cumulated log decay. -/
theorem dg (i : Fin 64) (d : Fin 128) : L.dg (ix3 0 i d) = (C.dg i : EReal) := by
  rw [Loads.dg]
  pointwise [k0_pay416]
  simp only [H.dgam, ← EReal.coe_mul, ← EReal.coe_add, ← EReal.coe_sub, ← coe_sum]

/-- The kernel's array at an index is the gradient of beta. -/
theorem db (i : Fin 64) (d : Fin 128) : L.db (ix3 0 i d) = (C.db i : EReal) := by
  rw [Loads.db]
  pointwise [k0_pay417, k0_pay411]
  simp only [H.k, H.v, H.dRu, H.dkb, ← EReal.coe_mul, ← EReal.coe_add, ← EReal.coe_sub, ← coe_sum]
  exact congrArg _ (by
    rw [Chunk.db]
    simp only [mul_comm])

/-- The kernel's array at an index is the gradient of the state at the chunk's start. -/
theorem dS (d : Fin 128) (e : Fin 256) : L.dS (ix3 0 d e) = (C.dS d e : EReal) := by
  rw [Loads.dS, Loads.qdo, Loads.wdv]
  pointwise [k0_pay262, k0_pay201, k0_pay243]
  simp only [H.egl, H.D, H.qg, H.o, H.w, H.dvn, ← EReal.coe_mul, ← EReal.coe_add, ← EReal.coe_sub, ← coe_sum]
  exact congrArg _ (by
    rw [Chunk.dS]
    simp only [neg_mul, Finset.sum_neg_distrib, mul_comm]
    ring)

end Loads.Reads

end Cert.DeltaRule

end
-- ==== Proof.Inputs.lean ====
/- The arguments as reals: the chunks of every head, and the state's gradient as it runs back through the chunks. -/
module

public import proofs.«01_k».proof.Pre_tame
public import proofs.«01_k».proof.Proof.Chunk
public import Idealize.ShloMosaic.Lib.Pointwise

@[expose] public section

set_option maxRecDepth 16384

noncomputable section

namespace Cert.DeltaRule

open Idealize.ShloMosaic

/-- The row of position `i` of chunk `n`. -/
abbrev row (n : Fin 66) (i : Fin 64) : Fin 4224 := ⟨n.val * 64 + i.val, by omega⟩

/-- The lane of channel `d` of head `h` in queries and keys. -/
abbrev lane (h : Fin 8) (d : Fin 128) : Fin 1024 := ⟨h.val * 128 + d.val, by omega⟩

/-- The lane of channel `e` of head `h` in values. -/
abbrev lane2 (h : Fin 8) (e : Fin 256) : Fin 2048 := ⟨h.val * 256 + e.val, by omega⟩

/-- The eight arguments. -/
structure Args where
  q : FVec Ideal ⟨2, ![4224, 1024]⟩ .f32
  k : FVec Ideal ⟨2, ![4224, 1024]⟩ .f32
  v : FVec Ideal ⟨2, ![4224, 2048]⟩ .f32
  g : FVec Ideal ⟨2, ![8, 4224]⟩ .f32
  b : FVec Ideal ⟨2, ![8, 4224]⟩ .f32
  T : FVec Ideal ⟨4, ![8, 66, 64, 64]⟩ .f32
  S : FVec Ideal ⟨4, ![8, 66, 128, 256]⟩ .f32
  o : FVec Ideal ⟨2, ![4224, 2048]⟩ .f32

namespace Args

variable (A : Args)

/-- Chunk `n` of head `h`, with `D` the gradient of the state after it. -/
def chunk (n : Fin 66) (h : Fin 8) (D : Fin 128 → Fin 256 → ℝ) : Chunk where
  q i d := EReal.toReal (A.q (ix2 (row n i) (lane h d)))
  k i d := EReal.toReal (A.k (ix2 (row n i) (lane h d)))
  v i e := EReal.toReal (A.v (ix2 (row n i) (lane2 h e)))
  g i := EReal.toReal (A.g (ix2 h (row n i)))
  b i := EReal.toReal (A.b (ix2 h (row n i)))
  T i l := EReal.toReal (A.T (ix4 h n i l))
  S d e := EReal.toReal (A.S (ix4 h n d e))
  o i e := EReal.toReal (A.o (ix2 (row n i) (lane2 h e)))
  D := D
  scale := EReal.toReal (Ideal.ofBits .f32 0x3DB504F3#32)

/-- The chunk that trip `t` works on: the last first. -/
abbrev back (t : ℕ) : Fin 66 := ⟨65 - t, by omega⟩

/-- The gradient of the state of head `h` before trip `t`: zero after the last chunk. -/
def D : ℕ → Fin 8 → Fin 128 → Fin 256 → ℝ
  | 0, _ => fun _ _ => 0
  | t + 1, h => (A.chunk (back t) h (D t h)).dS

/-- What trip `t` works on. -/
def trip (t : ℕ) (h : Fin 8) : Chunk := A.chunk (back t) h (A.D t h)

/-- What the trip that works on chunk `n` works on. -/
def done (n : Fin 66) (h : Fin 8) : Chunk := A.trip (65 - n.val) h

/-- The state's gradient after a trip. -/
theorem D_succ (t : ℕ) (h : Fin 8) : A.D (t + 1) h = (A.trip t h).dS := rfl

/-- The trips' order: `t` works on chunk `65 − t`. -/
theorem done_back {t : ℕ} (ht : t < 66) (h : Fin 8) : A.done (back t) h = A.trip t h := by
  unfold done
  have : 65 - (back t).val = t := by show 65 - (65 - t) = t; omega
  rw [this]

/-- A chunk's inputs do not depend on the trip. -/
theorem done_eq (n : Fin 66) (h : Fin 8) : A.done n h = A.chunk n h (A.D (65 - n.val) h) := by
  have : back (65 - n.val) = n := Fin.ext (by show 65 - (65 - n.val) = n.val; omega)
  rw [done, trip, this]

/-- Every argument is finite, and within a chunk the cumulated log decay does not rise. -/
structure Tame : Prop where
  q : ∀ x, A.q x = ((EReal.toReal (A.q x) : ℝ) : EReal)
  k : ∀ x, A.k x = ((EReal.toReal (A.k x) : ℝ) : EReal)
  v : ∀ x, A.v x = ((EReal.toReal (A.v x) : ℝ) : EReal)
  g : ∀ x, A.g x = ((EReal.toReal (A.g x) : ℝ) : EReal)
  b : ∀ x, A.b x = ((EReal.toReal (A.b x) : ℝ) : EReal)
  T : ∀ x, A.T x = ((EReal.toReal (A.T x) : ℝ) : EReal)
  S : ∀ x, A.S x = ((EReal.toReal (A.S x) : ℝ) : EReal)
  o : ∀ x, A.o x = ((EReal.toReal (A.o x) : ℝ) : EReal)
  falls : ∀ n h D, (A.chunk n h D).Falls

end Args

/-- The scale of the queries is a real number. -/
theorem scale_real : Ideal.ofBits .f32 0x3DB504F3#32 = ((EReal.toReal (Ideal.ofBits .f32 0x3DB504F3#32) : ℝ) : EReal) := by
  refine (EReal.coe_toReal ?_ ?_).symm <;> simp [Ideal.ofBits, Ideal.ieee] <;> decide

/-- A value below infinity in absolute value is a real number. -/
theorem real_of_lt {x : EReal} (h : Ideal.cmp .olt (max x (-x)) (Ideal.ofBits .f32 0x7F800000#32) = 1#1) :
    x = ((EReal.toReal x : ℝ) : EReal) := by
  have htop : Ideal.ofBits .f32 0x7F800000#32 = ⊤ := by simp [Ideal.ofBits, Ideal.ieee]
  rw [htop] at h
  induction x using EReal.rec with
  | coe r => rfl
  | bot => simp [Ideal.cmp] at h
  | top => simp [Ideal.cmp] at h

/-- Falling from each position to the next is falling between any two. -/
theorem falls_of_next {g : Fin 64 → ℝ} (h : ∀ i (hi : i + 1 < 64), g ⟨i + 1, hi⟩ ≤ g ⟨i, by omega⟩) :
    ∀ i j : Fin 64, j.val ≤ i.val → g i ≤ g j := by
  rintro ⟨i, hi⟩ ⟨j, hj⟩ (hij : j ≤ i)
  induction i, hij using Nat.le_induction with
  | base => exact le_refl _
  | succ n hn ih => exact (h n hi).trans (ih (by omega))

/-- The precondition's side conditions. -/
theorem tame_facts : Cert.Pre_tame.Facts where
  shapeCasts_S8x4224_S8x66x64 := by decide
  bcast_S_S4224x1024 := by decide
  bcast_S_S4224x2048 := by decide
  bcast_S_S8x4224 := by decide
  bcast_S_S8x66x64x64 := by decide
  bcast_S_S8x66x128x256 := by decide
  slices_S8x66x64_S8x66x63_0_0_1 := by decide
  slices_S8x66x64_S8x66x63_0_0_0 := by decide

/-- The precondition, read: what it says of the arguments. -/
theorem Args.tame_of_pre [hF : Cert.Pre_tame.Facts] (A : Args) {r : _} (hr : Cert.Pre_tame.fn (F := Ideal) A.q A.k A.v A.g A.b A.T A.S A.o = r)
    (h : r.1 = (fun _ => 1#1) ∧ r.2.1 = (fun _ => 1#1) ∧ r.2.2.1 = (fun _ => 1#1) ∧ r.2.2.2.1 = (fun _ => 1#1)
      ∧ r.2.2.2.2.1 = (fun _ => 1#1) ∧ r.2.2.2.2.2.1 = (fun _ => 1#1) ∧ r.2.2.2.2.2.2.1 = (fun _ => 1#1)
      ∧ r.2.2.2.2.2.2.2.1 = (fun _ => 1#1) ∧ r.2.2.2.2.2.2.2.2 = (fun _ => 1#1)) : A.Tame := by
  subst hr
  obtain ⟨h0, h1, h2, h3, h4, h5, h6, h7, h8⟩ := h
  have hg : ∀ x, A.g x = ((EReal.toReal (A.g x) : ℝ) : EReal) := fun x => real_of_lt (congrFun h3 x)
  refine ⟨fun x => real_of_lt (congrFun h0 x), fun x => real_of_lt (congrFun h1 x), fun x => real_of_lt (congrFun h2 x), hg,
    fun x => real_of_lt (congrFun h4 x), fun x => real_of_lt (congrFun h5 x), fun x => real_of_lt (congrFun h6 x),
    fun x => real_of_lt (congrFun h7 x), fun n h D => falls_of_next fun i hi => ?_⟩
  have := congrFun h8 (ix3 h n ⟨i, by omega⟩)
  pointwise [Cert.Pre_tame.fn, Cert.Pre_tame.fn_part1] at this
  have hle : A.g (ix2 h ⟨n.val * 64 + (1 + i), by omega⟩) ≤ A.g (ix2 h ⟨n.val * 64 + i, by omega⟩) := by
    by_contra hn
    rw [decide_eq_false hn] at this
    exact absurd this (by decide)
  rw [hg, hg (ix2 h ⟨n.val * 64 + i, by omega⟩)] at hle
  have := EReal.coe_le_coe_iff.mp hle
  show EReal.toReal (A.g (ix2 h ⟨n.val * 64 + (i + 1), by omega⟩)) ≤ EReal.toReal (A.g (ix2 h ⟨n.val * 64 + i, by omega⟩))
  simp only [Nat.add_comm i 1]
  exact this

end Cert.DeltaRule

end
-- ==== Proof.Host.lean ====
/- What the kernel's host code prepares, read as reals: the arrays the windows pass to the kernel. -/
module

public import proofs.«01_k».proof.Proof.Head
public import proofs.«01_k».proof.Proof.Inputs
public import Idealize.ShloMosaic.Lib.StableHlo.RunRead
public import Idealize.ShloMosaic.Lib.Tactic.CleanTypes

@[expose] public section

set_option maxRecDepth 16384

noncomputable section

namespace Cert.DeltaRule

open Idealize.ShloMosaic Idealize.ShloMosaic.TcCoe Cert.KernelIdeal Cert.KernelIdeal.Gen

/-- The decay, the exponent being −∞ above the diagonal. -/
theorem exp_dec (p : Prop) [Decidable p] (x : ℝ) :
    Ideal.exp (if p then (x : EReal) else ⊥) = ((if p then Real.exp x else 0 : ℝ) : EReal) := by
  split
  · exact Ideal.exp_coe x
  · rfl

variable (m : (ℓ : Loc nD τ sig) → Buf (Elt Ideal) ℓ) (c : Dev nD)

/-- The arguments as the initial memory holds them on a device. -/
def argsOf : Args :=
  ⟨m (c, Proc.tc.devRef main_arg0), m (c, Proc.tc.devRef main_arg1), m (c, Proc.tc.devRef main_arg2), m (c, Proc.tc.devRef main_arg3),
    m (c, Proc.tc.devRef main_arg4), m (c, Proc.tc.devRef main_arg5), m (c, Proc.tc.devRef main_arg6), m (c, Proc.tc.devRef main_arg7)⟩

variable {m c} (H : (argsOf m c).Tame) (n : Fin 66) (h : Fin 8)
include H

/-! The arguments at an index, by chunk and head. -/

/-- The argument at an index is the query of that chunk and head. -/
theorem m_q (i : Fin 64) (d : Fin 128) :
    (m (c, Proc.tc.devRef main_arg0) : FVec Ideal _ .f32) (ix2 ⟨n.val * 64 + i.val, by omega⟩ ⟨h.val * 128 + d.val, by omega⟩) = (((argsOf m c).done n h).q i d : EReal) := by
  rw [Args.done_eq]
  exact H.q _

/-- The argument at an index is the key of that chunk and head. -/
theorem m_k (i : Fin 64) (d : Fin 128) :
    (m (c, Proc.tc.devRef main_arg1) : FVec Ideal _ .f32) (ix2 ⟨n.val * 64 + i.val, by omega⟩ ⟨h.val * 128 + d.val, by omega⟩) = (((argsOf m c).done n h).k i d : EReal) := by
  rw [Args.done_eq]
  exact H.k _

/-- The argument at an index is the value of that chunk and head. -/
theorem m_v (i : Fin 64) (e : Fin 256) :
    (m (c, Proc.tc.devRef main_arg2) : FVec Ideal _ .f32) (ix2 ⟨n.val * 64 + i.val, by omega⟩ ⟨h.val * 256 + e.val, by omega⟩) = (((argsOf m c).done n h).v i e : EReal) := by
  rw [Args.done_eq]
  exact H.v _

/-- The argument at an index is the cumulated log decay of that chunk and head. -/
theorem m_g (i : Fin 64) :
    (m (c, Proc.tc.devRef main_arg3) : FVec Ideal _ .f32) (ix2 h ⟨n.val * 64 + i.val, by omega⟩) = (((argsOf m c).done n h).g i : EReal) := by
  rw [Args.done_eq]
  exact H.g _

/-- The argument at an index is beta of that chunk and head. -/
theorem m_b (i : Fin 64) :
    (m (c, Proc.tc.devRef main_arg4) : FVec Ideal _ .f32) (ix2 h ⟨n.val * 64 + i.val, by omega⟩) = (((argsOf m c).done n h).b i : EReal) := by
  rw [Args.done_eq]
  exact H.b _

/-- The argument at an index is the inverse of (I + lower) of that chunk and head. -/
theorem m_T (i l : Fin 64) :
    (m (c, Proc.tc.devRef main_arg5) : FVec Ideal _ .f32) (ix4 h n i l) = (((argsOf m c).done n h).T i l : EReal) := by
  rw [Args.done_eq]
  exact H.T _

/-- The argument at an index is the state at the chunk's start of that chunk and head. -/
theorem m_S (d : Fin 128) (e : Fin 256) :
    (m (c, Proc.tc.devRef main_arg6) : FVec Ideal _ .f32) (ix4 h n d e) = (((argsOf m c).done n h).S d e : EReal) := by
  rw [Args.done_eq]
  exact H.S _

/-- The argument at an index is the output's gradient of that chunk and head. -/
theorem m_o (i : Fin 64) (e : Fin 256) :
    (m (c, Proc.tc.devRef main_arg7) : FVec Ideal _ .f32) (ix2 ⟨n.val * 64 + i.val, by omega⟩ ⟨h.val * 256 + e.val, by omega⟩) = (((argsOf m c).done n h).o i e : EReal) := by
  rw [Args.done_eq]
  exact H.o _

omit H in
/-- The scale's bits are a finite number, the chunk's scale. -/
theorem m_scale : Ideal.ofBits .f32 0x3DB504F3#32 = (((argsOf m c).done n h).scale : EReal) := by
  rw [Args.done_eq]
  exact scale_real

/-! The arrays the host code prepares. -/

/-- The right-hand side of values, solved. -/
theorem V_u (i : Fin 64) (e : Fin 256) : V m c main_v37 (ix4 h n i e) = (((argsOf m c).done n h).u i e : EReal) := by
  unfold_abbrev_sides
  after_reads_simp
  clean_types
  pointwise [id_eq]
  simp only [m_q H n h, m_k H n h, m_v H n h, m_g H n h, m_b H n h, m_T H n h, m_S H n h, ofBits_neg_inf, m_scale (c := c) n h, exp_dec,
    Ideal.exp_coe, select_sge, select_sgt, ← EReal.coe_mul, ← EReal.coe_add, ← EReal.coe_sub, ← EReal.coe_neg, ← EReal.coe_zero, ← coe_sum, ← coe_ite]
  rfl

/-- The right-hand side of keys, solved. -/
theorem V_w (i : Fin 64) (d : Fin 128) : V m c main_v42 (ix4 h n i d) = (((argsOf m c).done n h).w i d : EReal) := by
  unfold_abbrev_sides
  after_reads_simp
  clean_types
  pointwise [id_eq]
  simp only [m_q H n h, m_k H n h, m_v H n h, m_g H n h, m_b H n h, m_T H n h, m_S H n h, ofBits_neg_inf, m_scale (c := c) n h, exp_dec,
    Ideal.exp_coe, select_sge, select_sgt, ← EReal.coe_mul, ← EReal.coe_add, ← EReal.coe_sub, ← EReal.coe_neg, ← EReal.coe_zero, ← coe_sum, ← coe_ite]
  rfl

/-- The strictly lower triangle. -/
theorem V_low (i l : Fin 64) : V m c main_v33 (ix4 h n i l) = (((argsOf m c).done n h).low i l : EReal) := by
  unfold_abbrev_sides
  after_reads_simp
  simp -implicitDefEqProofs only [StableHlo.TRef.toBuf, StableHlo.TRef.ofBuf, cast_cast, cast_eq]
  clean_types
  pointwise [id_eq]
  simp only [m_q H n h, m_k H n h, m_v H n h, m_g H n h, m_b H n h, m_T H n h, m_S H n h, ofBits_neg_inf, m_scale (c := c) n h, exp_dec,
    Ideal.exp_coe, select_sge, select_sgt, ← EReal.coe_mul, ← EReal.coe_add, ← EReal.coe_sub, ← EReal.coe_neg, ← EReal.coe_zero, ← coe_sum, ← coe_ite]
  rfl

/-- The masked scores. -/
theorem V_att (i l : Fin 64) : V m c main_v44 (ix4 h n i l) = (((argsOf m c).done n h).att i l : EReal) := by
  unfold_abbrev_sides
  after_reads_simp
  simp -implicitDefEqProofs only [StableHlo.TRef.toBuf, StableHlo.TRef.ofBuf, cast_cast, cast_eq]
  clean_types
  pointwise [id_eq]
  simp only [m_q H n h, m_k H n h, m_v H n h, m_g H n h, m_b H n h, m_T H n h, m_S H n h, ofBits_neg_inf, m_scale (c := c) n h, exp_dec,
    Ideal.exp_coe, select_sge, select_sgt, ← EReal.coe_mul, ← EReal.coe_add, ← EReal.coe_sub, ← EReal.coe_neg, ← EReal.coe_zero, ← coe_sum, ← coe_ite]
  rfl

/-- The new values. -/
theorem V_vn (i : Fin 64) (e : Fin 256) : V m c main_v46 (ix4 h n i e) = (((argsOf m c).done n h).vn i e : EReal) := by
  unfold_abbrev_sides
  after_reads_simp
  clean_types
  pointwise [id_eq]
  simp only [m_q H n h, m_k H n h, m_v H n h, m_g H n h, m_b H n h, m_T H n h, m_S H n h, ofBits_neg_inf, m_scale (c := c) n h, exp_dec,
    Ideal.exp_coe, select_sge, select_sgt, ← EReal.coe_mul, ← EReal.coe_add, ← EReal.coe_sub, ← EReal.coe_neg, ← EReal.coe_zero, ← coe_sum, ← coe_ite]
  rfl

/-- The decay, spread over the lanes. -/
theorem V_gc (i : Fin 64) (d : Fin 128) : V m c main_v48 (ix3 h (row n i) d) = (((argsOf m c).done n h).g i : EReal) := by
  unfold_abbrev_sides
  after_reads_simp
  clean_types
  pointwise [id_eq]
  simp only [m_g H n h]

/-- Beta, spread over the lanes. -/
theorem V_bc (i : Fin 64) (d : Fin 128) : V m c main_v50 (ix3 h (row n i) d) = (((argsOf m c).done n h).b i : EReal) := by
  unfold_abbrev_sides
  after_reads_simp
  clean_types
  pointwise [id_eq]
  simp only [m_b H n h]

/-- The decay as rows, eight alike, padded to a full tile. -/
theorem V_gr (i : Fin 8) (l : Fin 64) : V m c main_v56 (ix3 h ⟨n.val * 8 + i.val, by omega⟩ ⟨l.val, by omega⟩) = (((argsOf m c).done n h).g l : EReal) := by
  unfold_abbrev_sides
  after_reads_simp
  simp -implicitDefEqProofs only [StableHlo.TRef.toBuf, StableHlo.TRef.ofBuf, cast_cast, cast_eq]
  clean_types
  pointwise [id_eq]
  simp only [m_g H n h]

end Cert.DeltaRule

end
-- ==== Proof.Sweep.lean ====
/- The kernel's grid over the reals: every point works on one chunk, the last first, and carries the state's gradient. -/
module

public import proofs.«01_k».proof.Proof.Host
public import proofs.«01_k».proof.Proof.Gen.KernelIdeal.Value
public import Idealize.ShloMosaic.Lib.Pipeline.ValueKit

@[expose] public section

set_option maxRecDepth 16384

noncomputable section

namespace Cert.DeltaRule

open Idealize.ShloMosaic Idealize.ShloMosaic.TcCoe Cert.KernelIdeal Cert.KernelIdeal.Gen

/-- Where each window's block lies at a point. -/
theorem idx : ∀ t : Fin cfg0.N,
    win0_0.index t = ![65 - t.val, 0] ∧ win0_1.index t = ![65 - t.val, 0] ∧ win0_2.index t = ![65 - t.val, 0]
    ∧ win0_3.index t = ![0, 65 - t.val, 0] ∧ win0_4.index t = ![0, 65 - t.val, 0] ∧ win0_5.index t = ![0, 65 - t.val, 0]
    ∧ win0_6.index t = ![0, 65 - t.val, 0, 0] ∧ win0_7.index t = ![0, 65 - t.val, 0, 0] ∧ win0_8.index t = ![0, 65 - t.val, 0, 0]
    ∧ win0_9.index t = ![0, 65 - t.val, 0, 0] ∧ win0_10.index t = ![0, 65 - t.val, 0, 0] ∧ win0_11.index t = ![0, 65 - t.val, 0, 0]
    ∧ win0_12.index t = ![0, 65 - t.val, 0, 0] ∧ win0_13.index t = ![65 - t.val, 0] ∧ win0_14.index t = ![65 - t.val, 0]
    ∧ win0_15.index t = ![65 - t.val, 0] ∧ win0_16.index t = ![65 - t.val, 0] ∧ win0_17.index t = ![0, 65 - t.val, 0]
    ∧ win0_18.index t = ![0, 65 - t.val, 0] :=
  (by decide +kernel : ∀ t : Fin grid0.N, _)

/-- A load of a head's lanes, at an index. -/
theorem ld_lanes {α : EltTy} {w B : ℕ} {x : Vec Ideal ⟨2, ![64, w]⟩ α} {n : ℕ} (p) (i : Fin 64) (d : Fin n) (hd : B + d.val < w) :
    View.ld x (Rect.unit (s := ⟨2, ![64, w]⟩) ![0, B] ![64, n] p) (ix2 i d) = x (ix2 i ⟨B + d.val, hd⟩) := by
  refine congrArg x (funext fun a => Fin.ext ?_)
  match a with
  | 0 => show 0 + 1 * i.val = i.val; omega
  | 1 => show B + 1 * d.val = B + d.val; omega

/-- A load of a head's page of a rank-3 array, at an index. -/
theorem ld_page3 {α : EltTy} {n k : ℕ} {x : Vec Ideal ⟨3, ![8, n, k]⟩ α} {h : Fin 8} (p) (q : (⟨3, ![1, n, k]⟩ : Shape).ShapeCasts ⟨2, ![n, k]⟩) (i : Fin n) (d : Fin k) :
    shapeCast ⟨2, ![n, k]⟩ (View.ld x (Rect.unit (s := ⟨3, ![8, n, k]⟩) ![h.val, 0, 0] ![1, n, k] p)) q (ix2 i d) = x (ix3 h i d) := by
  refine (shapeCast_apply _ q _ (ix3 0 i d) ?_).trans (congrArg x (funext fun a => Fin.ext ?_))
  · rw [Shape.rowMajor_val_three, Shape.rowMajor_val_two]
    simp
  · match a with
    | 0 => show h.val + 1 * 0 = h.val; omega
    | 1 => show 0 + 1 * i.val = i.val; omega
    | 2 => show 0 + 1 * d.val = d.val; omega

/-- A load of a head's page of a rank-4 array, at an index. -/
theorem ld_page4 {α : EltTy} {n k : ℕ} {x : Vec Ideal ⟨4, ![8, 1, n, k]⟩ α} {h : Fin 8} (p) (q : (⟨4, ![1, 1, n, k]⟩ : Shape).ShapeCasts ⟨2, ![n, k]⟩) (i : Fin n) (d : Fin k) :
    shapeCast ⟨2, ![n, k]⟩ (View.ld x (Rect.unit (s := ⟨4, ![8, 1, n, k]⟩) ![h.val, 0, 0, 0] ![1, 1, n, k] p)) q (ix2 i d) = x (ix4 h 0 i d) := by
  refine (shapeCast_apply _ q _ (ix4 0 0 i d) ?_).trans (congrArg x (funext fun a => Fin.ext ?_))
  · rw [Shape.rowMajor_val_four, Shape.rowMajor_val_two]
    simp
  · match a with
    | 0 => show h.val + 1 * 0 = h.val; omega
    | 1 => show 0 + 1 * 0 = 0; omega
    | 2 => show 0 + 1 * i.val = i.val; omega
    | 3 => show 0 + 1 * d.val = d.val; omega

/-- What head `h` loads of the blocks, if the blocks' parts that it loads are a chunk's reals. -/
theorem loads_reads {x0 x1 : Vec Ideal S64x1024 .f32} {x2 x13 : Vec Ideal S64x2048 .f32} {x3 x4 : Vec Ideal S8x64x128 .f32}
    {x5 : Vec Ideal S8x8x128 .f32} {x6 : Vec Ideal S8x1x128x256 .f32} {x7 x10 x11 : Vec Ideal S8x1x64x64 .f32}
    {x8 x12 : Vec Ideal S8x1x64x256 .f32} {x9 : Vec Ideal S8x1x64x128 .f32} {D : Vec Ideal S8x128x256 .f32} {h : Fin 8} {C : Chunk}
    (hq : ∀ i d, x0 (ix2 i ⟨128 * h.val + d.val, by omega⟩) = (C.q i d : EReal))
    (hk : ∀ i d, x1 (ix2 i ⟨128 * h.val + d.val, by omega⟩) = (C.k i d : EReal))
    (hv : ∀ i e, x2 (ix2 i ⟨256 * h.val + e.val, by omega⟩) = (C.v i e : EReal))
    (hgc : ∀ i d, x3 (ix3 h i d) = (C.g i : EReal)) (hbc : ∀ i d, x4 (ix3 h i d) = (C.b i : EReal))
    (hgr : ∀ l : Fin 64, x5 (ix3 h 0 ⟨l.val, by omega⟩) = (C.g l : EReal))
    (hS : ∀ d e, x6 (ix4 h 0 d e) = (C.S d e : EReal)) (hT : ∀ i l, x7 (ix4 h 0 i l) = (C.T i l : EReal))
    (hu : ∀ i e, x8 (ix4 h 0 i e) = (C.u i e : EReal)) (hw : ∀ i d, x9 (ix4 h 0 i d) = (C.w i d : EReal))
    (hlow : ∀ i l, x10 (ix4 h 0 i l) = (C.low i l : EReal)) (hatt : ∀ i l, x11 (ix4 h 0 i l) = (C.att i l : EReal))
    (hvn : ∀ i e, x12 (ix4 h 0 i e) = (C.vn i e : EReal))
    (ho : ∀ i e, x13 (ix2 i ⟨256 * h.val + e.val, by omega⟩) = (C.o i e : EReal))
    (hD : ∀ d e, D (ix3 h d e) = (C.D d e : EReal)) (hs : Ideal.ofBits .f32 0x3DB504F3#32 = (C.scale : EReal)) (hf : C.Falls) :
    (loads x0 x1 x2 x13 x3 x4 x5 x6 x7 x10 x11 x8 x12 x9 D h).Reads C where
  q i d := (ld_lanes _ i d _).trans (hq i d)
  k i d := (ld_lanes _ i d _).trans (hk i d)
  v i e := (ld_lanes _ i e _).trans (hv i e)
  gc i d := (ld_page3 _ _ i d).trans (hgc i d)
  bc i d := (ld_page3 _ _ i d).trans (hbc i d)
  gr l := (ld_page3 _ _ 0 _).trans (hgr l)
  S d e := (ld_page4 _ _ d e).trans (hS d e)
  T i l := (ld_page4 _ _ i l).trans (hT i l)
  u i e := (ld_page4 _ _ i e).trans (hu i e)
  w i d := (ld_page4 _ _ i d).trans (hw i d)
  low i l := (ld_page4 _ _ i l).trans (hlow i l)
  att i l := (ld_page4 _ _ i l).trans (hatt i l)
  vn i e := (ld_page4 _ _ i e).trans (hvn i e)
  o i e := (ld_lanes _ i e _).trans (ho i e)
  D d e := (ld_page3 _ _ d e).trans (hD d e)
  scale := hs
  falls := hf

variable {m : (ℓ : Loc nD τ sig) → Buf (Elt Ideal) ℓ} {c : Dev nD}

/-- What head `h` loads at point `t`. -/
abbrev pointLoads (m : (ℓ : Loc nD τ sig) → Buf (Elt Ideal) ℓ) (c : Dev nD) (t : Fin cfg0.N) (D : Vec Ideal S8x128x256 .f32) (h : Fin 8) : Loads Ideal :=
  loads (iblk m c 0 t) (iblk m c 1 t) (iblk m c 2 t) (iblk m c 13 t) (iblk m c 3 t) (iblk m c 4 t) (iblk m c 5 t) (iblk m c 6 t)
    (iblk m c 7 t) (iblk m c 10 t) (iblk m c 11 t) (iblk m c 8 t) (iblk m c 12 t) (iblk m c 9 t) D h

section Blocks

variable (H : (argsOf m c).Tame) (t : Fin cfg0.N) (h : Fin 8)
include H

/-! The blocks of a point, read as the reals of the chunk it works on. -/

/-- The grid point's block at an index is the query. -/
theorem blk_q (i : Fin 64) (d : Fin 128) :
    iblk m c 0 t (ix2 i ⟨128 * h.val + d.val, by omega⟩) = (((argsOf m c).done (Args.back t.val) h).q i d : EReal) := by
  rw [← m_q H]
  have hx : V m c main_arg0 = m (c, Proc.tc.devRef main_arg0) := by
    unfold_abbrev_sides
    after_reads_simp
  rw [← hx]
  show ((cfg0.win 0).blk t).view.read (Elt Ideal) (V m c main_arg0) _ = _
  generalize V m c main_arg0 = x
  blk_ext [idx t]

/-- The grid point's block at an index is the key. -/
theorem blk_k (i : Fin 64) (d : Fin 128) :
    iblk m c 1 t (ix2 i ⟨128 * h.val + d.val, by omega⟩) = (((argsOf m c).done (Args.back t.val) h).k i d : EReal) := by
  rw [← m_k H]
  have hx : V m c main_arg1 = m (c, Proc.tc.devRef main_arg1) := by
    unfold_abbrev_sides
    after_reads_simp
  rw [← hx]
  show ((cfg0.win 1).blk t).view.read (Elt Ideal) (V m c main_arg1) _ = _
  generalize V m c main_arg1 = x
  blk_ext [idx t]

/-- The grid point's block at an index is the value. -/
theorem blk_v (i : Fin 64) (e : Fin 256) :
    iblk m c 2 t (ix2 i ⟨256 * h.val + e.val, by omega⟩) = (((argsOf m c).done (Args.back t.val) h).v i e : EReal) := by
  rw [← m_v H]
  have hx : V m c main_arg2 = m (c, Proc.tc.devRef main_arg2) := by
    unfold_abbrev_sides
    after_reads_simp
  rw [← hx]
  show ((cfg0.win 2).blk t).view.read (Elt Ideal) (V m c main_arg2) _ = _
  generalize V m c main_arg2 = x
  blk_ext [idx t]

/-- The grid point's block at an index is the cumulated log decay, spread over the lanes. -/
theorem blk_gc (i : Fin 64) (d : Fin 128) :
    iblk m c 3 t (ix3 h i d) = (((argsOf m c).done (Args.back t.val) h).g i : EReal) := by
  rw [← V_gc H _ _ _ d]
  show ((cfg0.win 3).blk t).view.read (Elt Ideal) (V m c main_v48) _ = _
  generalize V m c main_v48 = x
  blk_ext [idx t]

/-- The grid point's block at an index is beta, spread over the lanes. -/
theorem blk_bc (i : Fin 64) (d : Fin 128) :
    iblk m c 4 t (ix3 h i d) = (((argsOf m c).done (Args.back t.val) h).b i : EReal) := by
  rw [← V_bc H _ _ _ d]
  show ((cfg0.win 4).blk t).view.read (Elt Ideal) (V m c main_v50) _ = _
  generalize V m c main_v50 = x
  blk_ext [idx t]

/-- The grid point's block at an index is the cumulated log decay as a row. -/
theorem blk_gr (l : Fin 64) :
    iblk m c 5 t (ix3 h 0 ⟨l.val, by omega⟩) = (((argsOf m c).done (Args.back t.val) h).g l : EReal) := by
  rw [← V_gr H _ _ 0]
  show ((cfg0.win 5).blk t).view.read (Elt Ideal) (V m c main_v56) _ = _
  generalize V m c main_v56 = x
  blk_ext [idx t]

/-- The grid point's block at an index is the state at the chunk's start. -/
theorem blk_S (d : Fin 128) (e : Fin 256) :
    iblk m c 6 t (ix4 h 0 d e) = (((argsOf m c).done (Args.back t.val) h).S d e : EReal) := by
  rw [← m_S H]
  have hx : V m c main_arg6 = m (c, Proc.tc.devRef main_arg6) := by
    unfold_abbrev_sides
    after_reads_simp
  rw [← hx]
  show ((cfg0.win 6).blk t).view.read (Elt Ideal) (V m c main_arg6) _ = _
  generalize V m c main_arg6 = x
  blk_ext [idx t]

/-- The grid point's block at an index is the inverse of (I + lower). -/
theorem blk_T (i l : Fin 64) :
    iblk m c 7 t (ix4 h 0 i l) = (((argsOf m c).done (Args.back t.val) h).T i l : EReal) := by
  rw [← m_T H]
  have hx : V m c main_arg5 = m (c, Proc.tc.devRef main_arg5) := by
    unfold_abbrev_sides
    after_reads_simp
  rw [← hx]
  show ((cfg0.win 7).blk t).view.read (Elt Ideal) (V m c main_arg5) _ = _
  generalize V m c main_arg5 = x
  blk_ext [idx t]

/-- The grid point's block at an index is the solved values. -/
theorem blk_u (i : Fin 64) (e : Fin 256) :
    iblk m c 8 t (ix4 h 0 i e) = (((argsOf m c).done (Args.back t.val) h).u i e : EReal) := by
  rw [← V_u H]
  show ((cfg0.win 8).blk t).view.read (Elt Ideal) (V m c main_v37) _ = _
  generalize V m c main_v37 = x
  blk_ext [idx t]

/-- The grid point's block at an index is the solved keys. -/
theorem blk_w (i : Fin 64) (d : Fin 128) :
    iblk m c 9 t (ix4 h 0 i d) = (((argsOf m c).done (Args.back t.val) h).w i d : EReal) := by
  rw [← V_w H]
  show ((cfg0.win 9).blk t).view.read (Elt Ideal) (V m c main_v42) _ = _
  generalize V m c main_v42 = x
  blk_ext [idx t]

/-- The grid point's block at an index is the strictly lower matrix that the solve inverts. -/
theorem blk_low (i l : Fin 64) :
    iblk m c 10 t (ix4 h 0 i l) = (((argsOf m c).done (Args.back t.val) h).low i l : EReal) := by
  rw [← V_low H]
  show ((cfg0.win 10).blk t).view.read (Elt Ideal) (V m c main_v33) _ = _
  generalize V m c main_v33 = x
  blk_ext [idx t]

/-- The grid point's block at an index is the attention within the chunk. -/
theorem blk_att (i l : Fin 64) :
    iblk m c 11 t (ix4 h 0 i l) = (((argsOf m c).done (Args.back t.val) h).att i l : EReal) := by
  rw [← V_att H]
  show ((cfg0.win 11).blk t).view.read (Elt Ideal) (V m c main_v44) _ = _
  generalize V m c main_v44 = x
  blk_ext [idx t]

/-- The grid point's block at an index is the new values. -/
theorem blk_vn (i : Fin 64) (e : Fin 256) :
    iblk m c 12 t (ix4 h 0 i e) = (((argsOf m c).done (Args.back t.val) h).vn i e : EReal) := by
  rw [← V_vn H]
  show ((cfg0.win 12).blk t).view.read (Elt Ideal) (V m c main_v46) _ = _
  generalize V m c main_v46 = x
  blk_ext [idx t]

/-- The grid point's block at an index is the output's gradient. -/
theorem blk_o (i : Fin 64) (e : Fin 256) :
    iblk m c 13 t (ix2 i ⟨256 * h.val + e.val, by omega⟩) = (((argsOf m c).done (Args.back t.val) h).o i e : EReal) := by
  rw [← m_o H]
  have hx : V m c main_arg7 = m (c, Proc.tc.devRef main_arg7) := by
    unfold_abbrev_sides
    after_reads_simp
  rw [← hx]
  show ((cfg0.win 13).blk t).view.read (Elt Ideal) (V m c main_arg7) _ = _
  generalize V m c main_arg7 = x
  blk_ext [idx t]

end Blocks

/-- A point's loads are a chunk's reals, if the carried state is. -/
theorem point_reads (H : (argsOf m c).Tame) (t : Fin cfg0.N) (D : Vec Ideal S8x128x256 .f32)
    (hD : ∀ h d e, D (ix3 h d e) = ((argsOf m c).D t.val h d e : EReal)) (h : Fin 8) :
    (pointLoads m c t D h).Reads ((argsOf m c).trip t.val h) := by
  rw [← Args.done_back _ (show t.val < 66 from t.isLt)]
  refine loads_reads (blk_q H t h) (blk_k H t h) (blk_v H t h) (blk_gc H t h) (blk_bc H t h) (blk_gr H t h) (blk_S H t h) (blk_T H t h)
    (blk_u H t h) (blk_w H t h) (blk_low H t h) (blk_att H t h) (blk_vn H t h) (blk_o H t h) ?_ (m_scale _ _) (H.falls _ _ _)
  rw [Args.done_back _ (show t.val < 66 from t.isLt)]
  exact hD h

/-- What a point leaves, head by head, over the state it finds: zero at the first point, what the point before left at the others. -/
structure PointIs (m : (ℓ : Loc nD τ sig) → Buf (Elt Ideal) ℓ) (c : Dev nD) (t : Fin cfg0.N) (D : Vec Ideal S8x128x256 .f32) : Prop where
  dq : ∀ (h : Fin 8) (i : Fin 64) (d : Fin 128), (outsAt0 m c t.val t.isLt).1 (ix2 i ⟨128 * h.val + d.val, by omega⟩) = (pointLoads m c t D h).dq (ix2 i d)
  dk : ∀ (h : Fin 8) (i : Fin 64) (d : Fin 128), (outsAt0 m c t.val t.isLt).2.1 (ix2 i ⟨128 * h.val + d.val, by omega⟩) = (pointLoads m c t D h).dk (ix2 i d)
  dv : ∀ (h : Fin 8) (i : Fin 64) (e : Fin 256), (outsAt0 m c t.val t.isLt).2.2.1 (ix2 i ⟨256 * h.val + e.val, by omega⟩) = (pointLoads m c t D h).dv (ix2 i e)
  dg : ∀ (h : Fin 8) (i : Fin 64) (d : Fin 128), (outsAt0 m c t.val t.isLt).2.2.2.1 (ix3 h i d) = (pointLoads m c t D h).dg (ix3 0 i d)
  db : ∀ (h : Fin 8) (i : Fin 64) (d : Fin 128), (outsAt0 m c t.val t.isLt).2.2.2.2.1 (ix3 h i d) = (pointLoads m c t D h).db (ix3 0 i d)
  dS : ∀ (h : Fin 8) (d : Fin 128) (e : Fin 256), (outsAt0 m c t.val t.isLt).2.2.2.2.2 (ix3 h d e) = (pointLoads m c t D h).dS (ix3 0 d e)

/-- The first grid point starts from a state gradient of zero. -/
theorem point_first (t : Fin cfg0.N) (h0 : t.val % 66 = 0) : PointIs m c t (k0_pay4 (F := Ideal)) := by
  have e := outsAt0_A m c t h0
  constructor <;> intro h i d <;> rw [e] <;> dsimp only
  · exact point_dq_A _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dk_A _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dv_A _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dg_A _ _ _ _ _ _ _ _ _ _ _ _ _ _ _ _ _ _ _ _ _ _ _ _ _ _ _ _ _ _ _ _ _ _ _ _ _ _ _ _ _ _ _ _ _ _ _ _ _ _ _ _ _ _ _ _ _ h i d
  · exact point_db_A _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dS_A _ _ _ _ _ _ _ _ _ _ _ _ _ _ _ _ _ _ _ _ _ _ _ _ _ _ _ _ _ _ _ _ _ _ _ _ _ _ _ _ _ _ _ _ _ _ _ _ _ _ _ _ _ _ _ _ _ h i d

/-- Every other grid point starts from the state gradient that the point before left. -/
theorem point_next (t : Fin cfg0.N) (h0 : ¬t.val % 66 = 0) :
    PointIs m c t (outsAt0 m c (t.val - 1) (Nat.lt_of_le_of_lt (Nat.sub_le _ _) t.isLt)).2.2.2.2.2 := by
  have e := outsAt0_B m c t h0
  generalize (outsAt0 m c (t.val - 1) (Nat.lt_of_le_of_lt (Nat.sub_le _ _) t.isLt)).2.2.2.2.2 = D at e ⊢
  constructor <;> intro h i d <;> rw [e] <;> dsimp only
  · exact point_dq_B _ _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dk_B _ _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dv_B _ _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dg_B _ _ _ _ _ _ _ _ _ _ _ _ _ _ _ _ _ _ _ _ _ _ _ _ _ _ _ _ _ _ _ _ _ _ _ _ _ _ _ _ _ _ _ _ _ _ _ _ _ _ _ _ _ _ _ _ _ _ h i d
  · exact point_db_B _ _ _ _ _ _ _ _ _ _ _ _ _ _ _ _ _ _ _ _ _ _ _ _ _ _ _ _ _ _ _ _ _ _ _ _ _ _ _ _ _ _ _ _ _ _ _ _ _ _ _ _ _ _ _ _ _ _ h i d
  · exact point_dS_B _ _ _ _ _ _ _ _ _ _ _ _ _ _ _ _ _ _ _ _ _ _ _ _ _ _ _ _ _ _ _ _ _ _ _ _ _ _ _ _ _ _ _ _ _ _ _ _ _ _ _ _ _ _ _ _ _ _ h i d

/-- The state that the grid carries is the reference's: at every point, over the reals. -/
theorem sweep (H : (argsOf m c).Tame) : ∀ (n : ℕ) (hn : n < cfg0.N), ∃ D : Vec Ideal S8x128x256 .f32,
    (∀ h d e, D (ix3 h d e) = ((argsOf m c).D n h d e : EReal)) ∧ PointIs m c ⟨n, hn⟩ D := by
  intro n
  induction n with
  | zero => exact fun hn => ⟨k0_pay4 (F := Ideal), fun h d e => by pointwise [k0_pay4, Args.D]; rfl, point_first ⟨0, hn⟩ rfl⟩
  | succ n ih =>
    intro hn
    obtain ⟨D, hD, hP⟩ := ih (by omega)
    refine ⟨_, fun h d e => ?_, point_next ⟨n + 1, hn⟩ (by have : n + 1 < 66 := hn; show ¬(n + 1) % 66 = 0; omega)⟩
    exact (hP.dS h d e).trans ((point_reads H ⟨n, by omega⟩ D hD h).dS d e)

/-- The point that works on chunk `n` reads that chunk's reals, and leaves what its heads compute from them. -/
theorem point_of_chunk (H : (argsOf m c).Tame) (n : Fin 66) : ∃ D : Vec Ideal S8x128x256 .f32,
    (∀ h, (pointLoads m c ⟨65 - n.val, by show _ < 66; omega⟩ D h).Reads ((argsOf m c).done n h))
      ∧ PointIs m c ⟨65 - n.val, by show _ < 66; omega⟩ D := by
  obtain ⟨D, hD, hP⟩ := sweep H (65 - n.val) (by show _ < 66; omega)
  refine ⟨D, fun h => ?_, hP⟩
  have hr := point_reads H ⟨65 - n.val, by show _ < 66; omega⟩ D hD h
  rw [← Args.done_back _ (show 65 - n.val < 66 by omega)] at hr
  rwa [show Args.back (65 - n.val) = n from Fin.ext (by show 65 - (65 - n.val) = n.val; omega)] at hr

section Arrays

variable (H : (argsOf m c).Tame) (n : Fin 66) (h : Fin 8)
include H

/-! The arrays after the run. -/

/-- The kernel's result at an index is the gradient of the queries. -/
theorem arr_dq (i : Fin 64) (d : Fin 128) : (dats m 0 c).arrAt 14 cfg0.N (ix2 (row n i) (lane h d)) = (((argsOf m c).done n h).dq i d : EReal) := by
  obtain ⟨D, hD, hP⟩ := point_of_chunk H n
  have hr := (hP.dq h i d).trans ((hD h).dq i d)
  have hb := congrFun (Value.blocks14 m c ⟨65 - n.val, by show _ < 66; omega⟩ (flush0_14 _)) (ix2 i ⟨128 * h.val + d.val, by omega⟩)
  rw [Value.flushed14] at hb
  refine Eq.trans ?_ (hb.trans hr)
  generalize (dats m 0 c).arrAt 14 cfg0.N = x
  have e := idx ⟨65 - n.val, by show _ < 66; omega⟩
  blk_ext [e]

/-- The kernel's result at an index is the gradient of the keys. -/
theorem arr_dk (i : Fin 64) (d : Fin 128) : (dats m 0 c).arrAt 15 cfg0.N (ix2 (row n i) (lane h d)) = (((argsOf m c).done n h).dk i d : EReal) := by
  obtain ⟨D, hD, hP⟩ := point_of_chunk H n
  have hr := (hP.dk h i d).trans ((hD h).dk i d)
  have hb := congrFun (Value.blocks15 m c ⟨65 - n.val, by show _ < 66; omega⟩ (flush0_15 _)) (ix2 i ⟨128 * h.val + d.val, by omega⟩)
  rw [Value.flushed15] at hb
  refine Eq.trans ?_ (hb.trans hr)
  generalize (dats m 0 c).arrAt 15 cfg0.N = x
  have e := idx ⟨65 - n.val, by show _ < 66; omega⟩
  blk_ext [e]

/-- The kernel's result at an index is the gradient of the values. -/
theorem arr_dv (i : Fin 64) (e : Fin 256) : (dats m 0 c).arrAt 16 cfg0.N (ix2 (row n i) (lane2 h e)) = (((argsOf m c).done n h).dv i e : EReal) := by
  obtain ⟨D, hD, hP⟩ := point_of_chunk H n
  have hr := (hP.dv h i e).trans ((hD h).dv i e)
  have hb := congrFun (Value.blocks16 m c ⟨65 - n.val, by show _ < 66; omega⟩ (flush0_16 _)) (ix2 i ⟨256 * h.val + e.val, by omega⟩)
  rw [Value.flushed16] at hb
  refine Eq.trans ?_ (hb.trans hr)
  generalize (dats m 0 c).arrAt 16 cfg0.N = x
  have e := idx ⟨65 - n.val, by show _ < 66; omega⟩
  blk_ext [e]

/-- The kernel's result at an index is the gradient of the cumulated log decay. -/
theorem arr_dg (i : Fin 64) (d : Fin 128) : (dats m 0 c).arrAt 17 cfg0.N (ix3 h (row n i) d) = (((argsOf m c).done n h).dg i : EReal) := by
  obtain ⟨D, hD, hP⟩ := point_of_chunk H n
  have hr := (hP.dg h i d).trans ((hD h).dg i d)
  have hb := congrFun (Value.blocks17 m c ⟨65 - n.val, by show _ < 66; omega⟩ (flush0_17 _)) (ix3 h i d)
  rw [Value.flushed17] at hb
  refine Eq.trans ?_ (hb.trans hr)
  generalize (dats m 0 c).arrAt 17 cfg0.N = x
  have e := idx ⟨65 - n.val, by show _ < 66; omega⟩
  blk_ext [e]

/-- The kernel's result at an index is the gradient of beta. -/
theorem arr_db (i : Fin 64) (d : Fin 128) : (dats m 0 c).arrAt 18 cfg0.N (ix3 h (row n i) d) = (((argsOf m c).done n h).db i : EReal) := by
  obtain ⟨D, hD, hP⟩ := point_of_chunk H n
  have hr := (hP.db h i d).trans ((hD h).db i d)
  have hb := congrFun (Value.blocks18 m c ⟨65 - n.val, by show _ < 66; omega⟩ (flush0_18 _)) (ix3 h i d)
  rw [Value.flushed18] at hb
  refine Eq.trans ?_ (hb.trans hr)
  generalize (dats m 0 c).arrAt 18 cfg0.N = x
  have e := idx ⟨65 - n.val, by show _ < 66; omega⟩
  blk_ext [e]

end Arrays

end Cert.DeltaRule

end
-- ==== Proof.Loop.lean ====
/- The reference's loop over its 66 trips: the inputs stay, the state's gradient runs back, the finished chunks' gradients stand. -/
module

public import proofs.«01_k».proof.Proof.Ref
public import proofs.«01_k».proof.Proof.Inputs

@[expose] public section

set_option maxRecDepth 16384

noncomputable section

namespace Cert.DeltaRule

open Idealize.ShloMosaic Cert.ReferenceIdeal Cert.ReferenceIdeal.Step

/-- A select on "chunk `n` is the trip's chunk `c`". -/
theorem select_chunk (n c : Fin 66) (a b : EReal) :
    Scalar.select (IntOp.cmpi .eq (BitVec.ofNat 32 n.val) (BitVec.ofNat 32 c.val)) a b = if n = c then a else b := by
  have h : ∀ n c : Fin 66, IntOp.cmpi .eq (BitVec.ofNat 32 n.val) (BitVec.ofNat 32 c.val) = if n = c then 1#1 else 0#1 := by
    decide +kernel
  rw [h]
  split <;> rfl

/-- The number of the trip's chunk, as the trip reads it out of the list of chunks. -/
theorem r5 {j : ℕ} {s : State Ideal} {c : Fin 66} (hc : c.val + j + 1 = 66) (x : S_.Idx) : b5 j s x = BitVec.ofNat 32 c.val := by
  rw [b5, b4, Host.dynamicSlice_eq_extractStridedSlice _ _ _ _ _
    (⟨rfl, fun a => by have := c.isLt; match a with | 0 => show c.val + 1 ≤ 66; omega⟩ : (⟨1, ![66]⟩ : Shape).Slices ![c.val] ⟨1, ![1]⟩)
    (fun a => by match a with | 0 => exact start_eq hc _)]
  pointwise [K_main_v20]

section Body

variable {j : ℕ} {s : State Ideal} {c : Fin 66} {C : Fin 8 → Chunk} (hc : c.val + j + 1 = 66) (H : Reads s c C)
include hc H

/-! What the trip leaves in the gradients: its own chunk's are new, the other chunks' stay. -/

/-- The trip writes the gradient of the queries of its own chunk and leaves the other chunks' as they were. -/
theorem o255 (n : Fin 66) (h : Fin 8) (i : Fin 64) (d : Fin 128) :
    b255 j s (ix4 n h i d) = if n = c then ((C h).dq i d : EReal) else s.main_v21_11 (ix4 n h i d) := by
  pointwise [b255, b254, b253, b252, b251, b250, b249]
  rw [r5 hc, select_chunk, r248 hc H]

/-- The trip writes the gradient of the keys of its own chunk and leaves the other chunks' as they were. -/
theorem o262 (n : Fin 66) (h : Fin 8) (i : Fin 64) (d : Fin 128) :
    b262 j s (ix4 n h i d) = if n = c then ((C h).dk i d : EReal) else s.main_v21_12 (ix4 n h i d) := by
  pointwise [b262, b261, b260, b259, b258, b257, b256]
  rw [r5 hc, select_chunk, r225 hc H]

/-- The trip writes the gradient of the values of its own chunk and leaves the other chunks' as they were. -/
theorem o269 (n : Fin 66) (h : Fin 8) (i : Fin 64) (e : Fin 256) :
    b269 j s (ix4 n h i e) = if n = c then ((C h).dv i e : EReal) else s.main_v21_13 (ix4 n h i e) := by
  pointwise [b269, b268, b267, b266, b265, b264, b263]
  rw [r5 hc, select_chunk, r206 hc H]

/-- The trip writes the gradient of the cumulated log decay of its own chunk and leaves the other chunks' as they were. -/
theorem o276 (n : Fin 66) (h : Fin 8) (i : Fin 64) :
    b276 j s (ix3 n h i) = if n = c then ((C h).dg i : EReal) else s.main_v21_14 (ix3 n h i) := by
  pointwise [b276, b275, b274, b273, b272, b271, b270]
  rw [r5 hc, select_chunk, r245 hc H]

/-- The trip writes the gradient of beta of its own chunk and leaves the other chunks' as they were. -/
theorem o283 (n : Fin 66) (h : Fin 8) (i : Fin 64) :
    b283 j s (ix3 n h i) = if n = c then ((C h).db i : EReal) else s.main_v21_15 (ix3 n h i) := by
  pointwise [b283, b282, b281, b280, b279, b278, b277]
  rw [r5 hc, select_chunk, r228 hc H]

end Body

/-- The state before trip `t`: the inputs, the state's gradient after chunk `65 − t`, and the gradients of the chunks after it. -/
structure LoopIs (A : Args) (t : ℕ) (s : State Ideal) : Prop where
  q : ∀ (n : Fin 66) (h : Fin 8) (i : Fin 64) (d : Fin 128), s.main_v21_1 (ix4 n h i d) = ((A.done n h).q i d : EReal)
  k : ∀ (n : Fin 66) (h : Fin 8) (i : Fin 64) (d : Fin 128), s.main_v21_2 (ix4 n h i d) = ((A.done n h).k i d : EReal)
  v : ∀ (n : Fin 66) (h : Fin 8) (i : Fin 64) (e : Fin 256), s.main_v21_3 (ix4 n h i e) = ((A.done n h).v i e : EReal)
  g : ∀ (n : Fin 66) (h : Fin 8) (i : Fin 64), s.main_v21_4 (ix3 n h i) = ((A.done n h).g i : EReal)
  b : ∀ (n : Fin 66) (h : Fin 8) (i : Fin 64), s.main_v21_5 (ix3 n h i) = ((A.done n h).b i : EReal)
  T : ∀ (n : Fin 66) (h : Fin 8) (i l : Fin 64), s.main_v21_6 (ix4 n h i l) = ((A.done n h).T i l : EReal)
  S : ∀ (n : Fin 66) (h : Fin 8) (d : Fin 128) (e : Fin 256), s.main_v21_7 (ix4 n h d e) = ((A.done n h).S d e : EReal)
  o : ∀ (n : Fin 66) (h : Fin 8) (i : Fin 64) (e : Fin 256), s.main_v21_8 (ix4 n h i e) = ((A.done n h).o i e : EReal)
  D : ∀ (h : Fin 8) (d : Fin 128) (e : Fin 256), s.main_v21_10 (ix3 h d e) = (A.D t h d e : EReal)
  dq : ∀ n : Fin 66, 65 - n.val < t → ∀ (h : Fin 8) (i : Fin 64) (d : Fin 128), s.main_v21_11 (ix4 n h i d) = ((A.done n h).dq i d : EReal)
  dk : ∀ n : Fin 66, 65 - n.val < t → ∀ (h : Fin 8) (i : Fin 64) (d : Fin 128), s.main_v21_12 (ix4 n h i d) = ((A.done n h).dk i d : EReal)
  dv : ∀ n : Fin 66, 65 - n.val < t → ∀ (h : Fin 8) (i : Fin 64) (e : Fin 256), s.main_v21_13 (ix4 n h i e) = ((A.done n h).dv i e : EReal)
  dg : ∀ n : Fin 66, 65 - n.val < t → ∀ (h : Fin 8) (i : Fin 64), s.main_v21_14 (ix3 n h i) = ((A.done n h).dg i : EReal)
  db : ∀ n : Fin 66, 65 - n.val < t → ∀ (h : Fin 8) (i : Fin 64), s.main_v21_15 (ix3 n h i) = ((A.done n h).db i : EReal)

namespace LoopIs

variable {A : Args} {t : ℕ} {s : State Ideal}

/-- What trip `t` reads are the reals it works on. -/
theorem reads (L : LoopIs A t s) (ht : t < 66) : Reads s (Args.back t) (A.trip t) := by
  have e : A.trip t = A.done (Args.back t) := funext fun h => (A.done_back ht h).symm
  rw [e]
  refine ⟨L.q _, L.k _, L.v _, L.g _, L.b _, L.T _, L.S _, L.o _, fun h d f => ?_, fun h => ?_⟩
  · rw [A.done_back ht]
    exact L.D h d f
  · exact scale_real

/-- A chunk done after trip `t` is that trip's or was done before. -/
theorem done_before {n : Fin 66} (hn : 65 - n.val < t + 1) (hb : n ≠ Args.back t) : 65 - n.val < t := by
  have : n.val ≠ 65 - t := fun h => hb (Fin.ext h)
  have := n.isLt
  omega

/-- A gradient that the trip writes at its own chunk and leaves at the others is, after the trip, right at every chunk done by then. -/
theorem kept {n : Fin 66} (hn : 65 - n.val < t + 1) {x old new q : EReal} (hx : x = if n = Args.back t then new else old)
    (hnew : n = Args.back t → new = q) (hold : 65 - n.val < t → old = q) : x = q := by
  rw [hx]
  split
  next hb => exact hnew hb
  next hb => exact hold (done_before hn hb)

/-- One trip keeps the invariant. -/
theorem next (L : LoopIs A t s) (ht : t < 66) : LoopIs A (t + 1) (step t s) := by
  have hc : (Args.back t).val + t + 1 = 66 := by show 65 - t + t + 1 = 66; omega
  have H := L.reads ht
  refine ⟨L.q, L.k, L.v, L.g, L.b, L.T, L.S, L.o, fun h d e => r141 hc H h d e, ?_, ?_, ?_, ?_, ?_⟩
  · exact fun n hn h i d => kept hn (o255 hc H n h i d) (fun hb => by rw [hb, A.done_back ht]) fun hb => L.dq n hb h i d
  · exact fun n hn h i d => kept hn (o262 hc H n h i d) (fun hb => by rw [hb, A.done_back ht]) fun hb => L.dk n hb h i d
  · exact fun n hn h i e => kept hn (o269 hc H n h i e) (fun hb => by rw [hb, A.done_back ht]) fun hb => L.dv n hb h i e
  · exact fun n hn h i => kept hn (o276 hc H n h i) (fun hb => by rw [hb, A.done_back ht]) fun hb => L.dg n hb h i
  · exact fun n hn h i => kept hn (o283 hc H n h i) (fun hb => by rw [hb, A.done_back ht]) fun hb => L.db n hb h i

end LoopIs

/-- Before the first trip. -/
theorem loop_init {A : Args} (H : A.Tame) : LoopIs A 0 (init A.q A.k A.v A.g A.b A.T A.S A.o) where
  q n h i d := by
    rw [A.done_eq]
    refine Eq.trans ?_ (H.q _)
    pointwise [init, A_main_v1, A_main_v0]
  k n h i d := by
    rw [A.done_eq]
    refine Eq.trans ?_ (H.k _)
    pointwise [init, A_main_v3, A_main_v2]
  v n h i e := by
    rw [A.done_eq]
    refine Eq.trans ?_ (H.v _)
    pointwise [init, A_main_v5, A_main_v4]
  g n h i := by
    rw [A.done_eq]
    refine Eq.trans ?_ (H.g _)
    pointwise [init, A_main_v7, A_main_v6]
  b n h i := by
    rw [A.done_eq]
    refine Eq.trans ?_ (H.b _)
    pointwise [init, A_main_v9, A_main_v8]
  T n h i l := by
    rw [A.done_eq]
    refine Eq.trans ?_ (H.T _)
    pointwise [init, A_main_v10]
  S n h d e := by
    rw [A.done_eq]
    refine Eq.trans ?_ (H.S _)
    pointwise [init, A_main_v11]
  o n h i e := by
    rw [A.done_eq]
    refine Eq.trans ?_ (H.o _)
    pointwise [init, A_main_v13, A_main_v12]
  D h d e := by
    pointwise [init, K_main_v19, K_main_cst_4]
    rfl
  dq n hn := absurd hn (Nat.not_lt_zero _)
  dk n hn := absurd hn (Nat.not_lt_zero _)
  dv n hn := absurd hn (Nat.not_lt_zero _)
  dg n hn := absurd hn (Nat.not_lt_zero _)
  db n hn := absurd hn (Nat.not_lt_zero _)

/-- After all trips every chunk is done. -/
theorem loop_done {A : Args} (H : A.Tame) (it : ℕ → State Ideal) (h0 : it 0 = init A.q A.k A.v A.g A.b A.T A.S A.o)
    (hs : ∀ n, it (n + 1) = step n (it n)) : ∀ t, t ≤ 66 → LoopIs A t (it t) := by
  intro t
  induction t with
  | zero => exact fun _ => h0 ▸ loop_init H
  | succ t ih => exact fun ht => hs t ▸ (ih (by omega)).next (by omega)

section Results

variable {A : Args} {s : State Ideal} (L : LoopIs A 66 s) (n : Fin 66) (h : Fin 8)
include L

/-! The results, at an index. -/

/-- The reference's result at an index is the gradient of the queries. -/
theorem res_dq (i : Fin 64) (d : Fin 128) : R_main_v23 s (ix2 (row n i) (lane h d)) = ((A.done n h).dq i d : EReal) := by
  rw [← L.dq n (by omega) h i d]
  pointwise [R_main_v23]
  simp only [show (n.val * 64 + i.val) / 64 = n.val by omega, show (n.val * 64 + i.val) % 64 = i.val by omega,
    show (h.val * 128 + d.val) / 128 = h.val by omega, show (h.val * 128 + d.val) % 128 = d.val by omega]

/-- The reference's result at an index is the gradient of the keys. -/
theorem res_dk (i : Fin 64) (d : Fin 128) : R_main_v25 s (ix2 (row n i) (lane h d)) = ((A.done n h).dk i d : EReal) := by
  rw [← L.dk n (by omega) h i d]
  pointwise [R_main_v25]
  simp only [show (n.val * 64 + i.val) / 64 = n.val by omega, show (n.val * 64 + i.val) % 64 = i.val by omega,
    show (h.val * 128 + d.val) / 128 = h.val by omega, show (h.val * 128 + d.val) % 128 = d.val by omega]

/-- The reference's result at an index is the gradient of the values. -/
theorem res_dv (i : Fin 64) (e : Fin 256) : R_main_v27 s (ix2 (row n i) (lane2 h e)) = ((A.done n h).dv i e : EReal) := by
  rw [← L.dv n (by omega) h i e]
  pointwise [R_main_v27]
  simp only [show (n.val * 64 + i.val) / 64 = n.val by omega, show (n.val * 64 + i.val) % 64 = i.val by omega,
    show (h.val * 256 + e.val) / 256 = h.val by omega, show (h.val * 256 + e.val) % 256 = e.val by omega]

/-- The reference's result at an index is the gradient of the cumulated log decay. -/
theorem res_dg (i : Fin 64) (d : Fin 128) : R_main_v31 s (ix3 h (row n i) d) = ((A.done n h).dg i : EReal) := by
  rw [← L.dg n (by omega) h i]
  pointwise [R_main_v31]

/-- The reference's result at an index is the gradient of beta. -/
theorem res_db (i : Fin 64) (d : Fin 128) : R_main_v35 s (ix3 h (row n i) d) = ((A.done n h).db i : EReal) := by
  rw [← L.db n (by omega) h i]
  pointwise [R_main_v35]

end Results

end Cert.DeltaRule

end
-- ==== Proof.Tiles.lean ====
module

public import Idealize.ShloMosaic.Lib.Pipeline.ValueKit

/-! # Sums taken block by block.

The dense products share one scheme: a result block is a running sum over the blocks of the contracted axis, set at the
first of them and added to at each later one. It is stated here once, for any grid, blocks and product. -/

@[expose] public section

open Idealize.ShloMosaic

namespace Cert.Tiles

variable {N n L : ℕ} {ι : Type}

/-- A running sum over runs of `J` grid points, set at a run's first point and added to at the others, holds at the last
    one the whole sum, when the terms of the run's `s`-th point are the terms `s * n`, `s * n + 1`, … of the whole. -/
theorem running_sum (f : (p : ℕ) → p < N → ι → EReal) (J : ℕ) [NeZero J] (part : Fin N → ι → Fin n → EReal)
    (first : ∀ t : Fin N, t.val % J = 0 → ∀ i, f t.val t.isLt i = ∑ k, part t i k)
    (next : ∀ t : Fin N, ¬t.val % J = 0 → ∀ i,
      f t.val t.isLt i = f (t.val - 1) (Nat.lt_of_le_of_lt (Nat.sub_le _ _) t.isLt) i + ∑ k, part t i k)
    (t : Fin N) (ht : t.val % J = J - 1) (i : ι) (whole : Fin L → EReal) (hL : L = J * n)
    (same : ∀ (s : Fin J) (k : Fin n) (hl : s.val * n + k.val < L),
      part ⟨_, Pipeline.run_point_lt_of_flush t ht s⟩ i k = whole ⟨s.val * n + k.val, hl⟩) :
    f t.val t.isLt i = ∑ l, whole l := by
  rw [Pipeline.eq_sum_fin_of_reset_step_apply_of_flush f J (fun _ => 0) (fun t i => ∑ k, part t i k)
    (fun t h i => (first t h i).trans (zero_add _).symm) next t ht i, zero_add]
  exact Fin.sum_mul_add_congr same hL

end Cert.Tiles

end
-- ==== Proof.Weights.lean ====
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Tiles
public import Idealize.ShloMosaic.Lib.Pipeline.ValueKit
public import Idealize.ShloMosaic.Lib.Pipeline.ReadBack

/-! # The derivatives of the step's dense products by their weights.

Each result block is a running sum over the blocks of the contracted axis, kept in a scratch buffer when there is more
than one (`Tiles.running_sum`). Per product: the payloads and the reference at an index, the blocks of a grid point, and
the shared lemma applied. -/

@[expose] public section

set_option maxRecDepth 16384

noncomputable section

open Idealize.ShloMosaic Idealize.ShloMosaic.TcCoe Idealize.SL.Sem
open Idealize.ShloMosaic.Pipeline (Dat)

/-! ## `proj_dw`: the derivative of `x @ w` by `w` -/

namespace Cert.Kernel2Ideal.Value

open Cert.Kernel2Ideal Cert.Kernel2Ideal.Gen

variable (m : (ℓ : Loc nD τ sig) → Buf (Elt Ideal) ℓ)

/-- The reference's result. -/
abbrev REF (X : FVec Ideal S4224x1024 .bf16) (D : FVec Ideal S4224x11264 .bf16) : FVec Ideal S1024x11264 .f32 :=
  transpose S1024x11264 [1, 0] (Host.dotGeneral Reference2Ideal.dot_S4224x11264_S4224x1024_S11264x1024_0_0_1_1_n_n none
    (extf .f32 D Reference2Ideal.Gen.bitsLt_bf16_f32) (extf .f32 X Reference2Ideal.Gen.bitsLt_bf16_f32)) Reference2Ideal.Gen.transposes_S11264x1024_S1024x11264_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val % 3, 0] ∧ win0_1.index t = ![t.val % 3, t.val / 3] ∧ win0_2.index t = ![0, t.val / 3] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference2Ideal (hReference2Ideal := Reference2Ideal.Gen.facts) := fun m ρ _ =>
  θ_run_mono (Reference2Ideal.Value.run m ρ) fun _ h => ⟨fun c => (h c).2, sem_eq_zero_of_no_sems rfl _⟩

/-- The kernel's result is the reference's. -/
theorem values : Cert.algebraic_Kernel2Ideal_Reference2Ideal (hKernel2Ideal := Gen.facts) (hReference2Ideal := Reference2Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference2Ideal.Value.run m' g') fun _ h c => ⟨(h c).1.trans (by rw [(hag c).1, (hag c).2]), (h c).2⟩⟩

end Cert.Kernel2Ideal.Value

/-! ## `ffn_out_dw`: the derivative of `x @ w` by `w` -/

namespace Cert.Kernel5Ideal.Value

open Cert.Kernel5Ideal Cert.Kernel5Ideal.Gen

variable (m : (ℓ : Loc nD τ sig) → Buf (Elt Ideal) ℓ)

/-- The reference's result. -/
abbrev REF (X : FVec Ideal S4224x2816 .bf16) (D : FVec Ideal S4224x1024 .bf16) : FVec Ideal S2816x1024 .f32 :=
  transpose S2816x1024 [1, 0] (Host.dotGeneral Reference5Ideal.dot_S4224x1024_S4224x2816_S1024x2816_0_0_1_1_n_n none
    (extf .f32 D Reference5Ideal.Gen.bitsLt_bf16_f32) (extf .f32 X Reference5Ideal.Gen.bitsLt_bf16_f32)) Reference5Ideal.Gen.transposes_S1024x2816_S2816x1024_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference5Ideal (hReference5Ideal := Reference5Ideal.Gen.facts) := fun m ρ _ =>
  θ_run_mono (Reference5Ideal.Value.run m ρ) fun _ h => ⟨fun c => (h c).2, sem_eq_zero_of_no_sems rfl _⟩

/-- The kernel's result is the reference's. -/
theorem values : Cert.algebraic_Kernel5Ideal_Reference5Ideal (hKernel5Ideal := Gen.facts) (hReference5Ideal := Reference5Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference5Ideal.Value.run m' g') fun _ h c => ⟨(h c).1.trans (by rw [(hag c).1, (hag c).2]), (h c).2⟩⟩

end Cert.Kernel5Ideal.Value

/-! ## `ffn_in_dw`: the derivative of `x @ w` by `w` -/

namespace Cert.Kernel7Ideal.Value

open Cert.Kernel7Ideal Cert.Kernel7Ideal.Gen

variable (m : (ℓ : Loc nD τ sig) → Buf (Elt Ideal) ℓ)

/-- The reference's result. -/
abbrev REF (X : FVec Ideal S4224x1024 .bf16) (D : FVec Ideal S4224x5632 .bf16) : FVec Ideal S1024x5632 .f32 :=
  transpose S1024x5632 [1, 0] (Host.dotGeneral Reference7Ideal.dot_S4224x5632_S4224x1024_S5632x1024_0_0_1_1_n_n none
    (extf .f32 D Reference7Ideal.Gen.bitsLt_bf16_f32) (extf .f32 X Reference7Ideal.Gen.bitsLt_bf16_f32)) Reference7Ideal.Gen.transposes_S5632x1024_S1024x5632_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val % 3, 0] ∧ win0_1.index t = ![t.val % 3, t.val / 3] ∧ win0_2.index t = ![0, t.val / 3] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference7Ideal (hReference7Ideal := Reference7Ideal.Gen.facts) := fun m ρ _ =>
  θ_run_mono (Reference7Ideal.Value.run m ρ) fun _ h => ⟨fun c => (h c).2, sem_eq_zero_of_no_sems rfl _⟩

/-- The kernel's result is the reference's. -/
theorem values : Cert.algebraic_Kernel7Ideal_Reference7Ideal (hKernel7Ideal := Gen.facts) (hReference7Ideal := Reference7Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference7Ideal.Value.run m' g') fun _ h c => ⟨(h c).1.trans (by rw [(hag c).1, (hag c).2]), (h c).2⟩⟩

end Cert.Kernel7Ideal.Value

/-! ## `ydn_dw`: the derivative of `x @ w` by `w` -/

namespace Cert.Kernel9Ideal.Value

open Cert.Kernel9Ideal Cert.Kernel9Ideal.Gen

variable (m : (ℓ : Loc nD τ sig) → Buf (Elt Ideal) ℓ)

/-- The reference's result. -/
abbrev REF (X : FVec Ideal S4224x2048 .bf16) (D : FVec Ideal S4224x1024 .bf16) : FVec Ideal S2048x1024 .f32 :=
  transpose S2048x1024 [1, 0] (Host.dotGeneral Reference9Ideal.dot_S4224x1024_S4224x2048_S1024x2048_0_0_1_1_n_n none
    (extf .f32 D Reference9Ideal.Gen.bitsLt_bf16_f32) (extf .f32 X Reference9Ideal.Gen.bitsLt_bf16_f32)) Reference9Ideal.Gen.transposes_S1024x2048_S2048x1024_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference9Ideal (hReference9Ideal := Reference9Ideal.Gen.facts) := fun m ρ _ =>
  θ_run_mono (Reference9Ideal.Value.run m ρ) fun _ h => ⟨fun c => (h c).2, sem_eq_zero_of_no_sems rfl _⟩

/-- The kernel's result is the reference's. -/
theorem values : Cert.algebraic_Kernel9Ideal_Reference9Ideal (hKernel9Ideal := Gen.facts) (hReference9Ideal := Reference9Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference9Ideal.Value.run m' g') fun _ h c => ⟨(h c).1.trans (by rw [(hag c).1, (hag c).2]), (h c).2⟩⟩

end Cert.Kernel9Ideal.Value

/-! ## `wout_dw`: the derivative of `x @ w` by `w` -/

namespace Cert.Kernel11Ideal.Value

open Cert.Kernel11Ideal Cert.Kernel11Ideal.Gen

variable (m : (ℓ : Loc nD τ sig) → Buf (Elt Ideal) ℓ)

/-- The reference's result. -/
abbrev REF (X : FVec Ideal S4224x1024 .bf16) (D : FVec Ideal S4224x1024 .bf16) : FVec Ideal S1024x1024 .f32 :=
  transpose S1024x1024 [1, 0] (Host.dotGeneral Reference11Ideal.dot_S4224x1024_S4224x1024_S1024x1024_0_0_1_1_n_n none
    (extf .f32 D Reference11Ideal.Gen.bitsLt_bf16_f32) (extf .f32 X Reference11Ideal.Gen.bitsLt_bf16_f32)) Reference11Ideal.Gen.transposes_S1024x1024_S1024x1024_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val, 0] ∧ win0_1.index t = ![t.val, 0] ∧ win0_2.index t = ![0, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference11Ideal (hReference11Ideal := Reference11Ideal.Gen.facts) := fun m ρ _ =>
  θ_run_mono (Reference11Ideal.Value.run m ρ) fun _ h => ⟨fun c => (h c).2, sem_eq_zero_of_no_sems rfl _⟩

/-- The kernel's result is the reference's. -/
theorem values : Cert.algebraic_Kernel11Ideal_Reference11Ideal (hKernel11Ideal := Gen.facts) (hReference11Ideal := Reference11Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference11Ideal.Value.run m' g') fun _ h c => ⟨(h c).1.trans (by rw [(hag c).1, (hag c).2]), (h c).2⟩⟩

end Cert.Kernel11Ideal.Value

/-! ## `pab_dw`: the derivative of `x @ w` by `w` -/

namespace Cert.Kernel12Ideal.Value

open Cert.Kernel12Ideal Cert.Kernel12Ideal.Gen

variable (m : (ℓ : Loc nD τ sig) → Buf (Elt Ideal) ℓ)

/-- The reference's result. -/
abbrev REF (X : FVec Ideal S4224x1024 .bf16) (D : FVec Ideal S4224x128 .bf16) : FVec Ideal S1024x128 .f32 :=
  transpose S1024x128 [1, 0] (Host.dotGeneral Reference12Ideal.dot_S4224x128_S4224x1024_S128x1024_0_0_1_1_n_n none
    (extf .f32 D Reference12Ideal.Gen.bitsLt_bf16_f32) (extf .f32 X Reference12Ideal.Gen.bitsLt_bf16_f32)) Reference12Ideal.Gen.transposes_S128x1024_S1024x128_1_0

/-- A running sum starts at zero. -/
theorem hzero (j) : k0_pay1 (F := Ideal) j = 0 := by pointwise [k0_pay1]

/-- One grid point adds the product of its two blocks. -/
theorem hpay (acc x d j) : k0_pay2 (F := Ideal) acc x d j = acc j + ∑ k : Fin 1408, x (ix2 k (j 0)) * d (ix2 k (j 1)) := by
  pointwise [k0_pay2]

/-- The reference's result at an index. -/
theorem href (X D j) : REF X D j = ∑ k : Fin 4224, X (ix2 k (j 0)) * D (ix2 k (j 1)) := by
  pointwise [REF]
  exact Finset.sum_congr rfl fun _ _ => mul_comm _ _

/-- The blocks a grid point works on. -/
theorem idx : ∀ t : Fin cfg0.N, win0_0.index t = ![t.val, 0] ∧ win0_1.index t = ![t.val, 0] ∧ win0_2.index t = ![0, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 3 _
    (fun t h j => by rw [outsAt0_A m c t h (by omega)]; frame_out; rw [hpay, hzero, zero_add])
    (fun t h j => by
      by_cases h1 : t.val % 3 = 2
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference12Ideal (hReference12Ideal := Reference12Ideal.Gen.facts) := fun m ρ _ =>
  θ_run_mono (Reference12Ideal.Value.run m ρ) fun _ h => ⟨fun c => (h c).2, sem_eq_zero_of_no_sems rfl _⟩

/-- The kernel's result is the reference's. -/
theorem values : Cert.algebraic_Kernel12Ideal_Reference12Ideal (hKernel12Ideal := Gen.facts) (hReference12Ideal := Reference12Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference12Ideal.Value.run m' g') fun _ h c => ⟨(h c).1.trans (by rw [(hag c).1, (hag c).2]), (h c).2⟩⟩

end Cert.Kernel12Ideal.Value

end
-- ==== Proof.Activations.lean ====
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Tiles
public import Idealize.ShloMosaic.Lib.Pipeline.ValueKit
public import Idealize.ShloMosaic.Lib.Pipeline.ReadBack

/-! # The derivatives of the step's dense products by their inputs.

Each result block is a running sum over the blocks of the contracted axis, kept in a scratch buffer when there is more
than one (`Tiles.running_sum`). Per product: the payloads and the reference at an index, the blocks of a grid point, and
the shared lemma applied. -/

@[expose] public section

set_option maxRecDepth 16384

noncomputable section

open Idealize.ShloMosaic Idealize.ShloMosaic.TcCoe Idealize.SL.Sem
open Idealize.ShloMosaic.Pipeline (Dat)

/-! ## `proj_dx`: the derivative of `x @ w` by `x` -/

namespace Cert.Kernel3Ideal.Value

open Cert.Kernel3Ideal Cert.Kernel3Ideal.Gen

variable (m : (ℓ : Loc nD τ sig) → Buf (Elt Ideal) ℓ)

/-- The reference's result. -/
abbrev REF (D : FVec Ideal S4224x11264 .bf16) (W : FVec Ideal S1024x11264 .bf16) : FVec Ideal S4224x1024 .f32 :=
  Host.dotGeneral Reference3Ideal.dot_S4224x11264_S1024x11264_S4224x1024_1_1_0_0_n_n none
    (extf .f32 D Reference3Ideal.Gen.bitsLt_bf16_f32) (extf .f32 W Reference3Ideal.Gen.bitsLt_bf16_f32)

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 1024, d (ix2 (j 0) k) * w (ix2 (j 1) k) := by
  pointwise [k0_pay2]

/-- The reference's result at an index. -/
theorem href (D W j) : REF D W j = ∑ k : Fin 11264, D (ix2 (j 0) k) * W (ix2 (j 1) k) := by
  pointwise [REF]

/-- The blocks a grid point works on. -/
theorem idx : ∀ t : Fin cfg0.N, win0_0.index t = ![t.val / 11, t.val % 11] ∧ win0_1.index t = ![0, t.val % 11] ∧ win0_2.index t = ![t.val / 11, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 11 _
    (fun t h j => by rw [outsAt0_A m c t h (by omega)]; frame_out; rw [hpay, hzero, zero_add])
    (fun t h j => by
      by_cases h1 : t.val % 11 = 10
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference3Ideal (hReference3Ideal := Reference3Ideal.Gen.facts) := fun m ρ _ =>
  θ_run_mono (Reference3Ideal.Value.run m ρ) fun _ h => ⟨fun c => (h c).2, sem_eq_zero_of_no_sems rfl _⟩

/-- The kernel's result is the reference's. -/
theorem values : Cert.algebraic_Kernel3Ideal_Reference3Ideal (hKernel3Ideal := Gen.facts) (hReference3Ideal := Reference3Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference3Ideal.Value.run m' g') fun _ h c => ⟨(h c).1.trans (by rw [(hag c).1, (hag c).2]), (h c).2⟩⟩

end Cert.Kernel3Ideal.Value

/-! ## `ffn_out_dx`: the derivative of `x @ w` by `x` -/

namespace Cert.Kernel4Ideal.Value

open Cert.Kernel4Ideal Cert.Kernel4Ideal.Gen

variable (m : (ℓ : Loc nD τ sig) → Buf (Elt Ideal) ℓ)

/-- The reference's result. -/
abbrev REF (D : FVec Ideal S4224x1024 .bf16) (W : FVec Ideal S2816x1024 .bf16) : FVec Ideal S4224x2816 .f32 :=
  Host.dotGeneral Reference4Ideal.dot_S4224x1024_S2816x1024_S4224x2816_1_1_0_0_n_n none
    (extf .f32 D Reference4Ideal.Gen.bitsLt_bf16_f32) (extf .f32 W Reference4Ideal.Gen.bitsLt_bf16_f32)

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 1024, d (ix2 (j 0) k) * w (ix2 (j 1) k) := by
  pointwise [k0_pay2]

/-- The reference's result at an index. -/
theorem href (D W j) : REF D W j = ∑ k : Fin 1024, D (ix2 (j 0) k) * W (ix2 (j 1) k) := by
  pointwise [REF]

/-- The blocks a grid point works on. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference4Ideal (hReference4Ideal := Reference4Ideal.Gen.facts) := fun m ρ _ =>
  θ_run_mono (Reference4Ideal.Value.run m ρ) fun _ h => ⟨fun c => (h c).2, sem_eq_zero_of_no_sems rfl _⟩

/-- The kernel's result is the reference's. -/
theorem values : Cert.algebraic_Kernel4Ideal_Reference4Ideal (hKernel4Ideal := Gen.facts) (hReference4Ideal := Reference4Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference4Ideal.Value.run m' g') fun _ h c => ⟨(h c).1.trans (by rw [(hag c).1, (hag c).2]), (h c).2⟩⟩

end Cert.Kernel4Ideal.Value

/-! ## `ffn_in_dx`: the derivative of `x @ w` by `x` -/

namespace Cert.Kernel6Ideal.Value

open Cert.Kernel6Ideal Cert.Kernel6Ideal.Gen

variable (m : (ℓ : Loc nD τ sig) → Buf (Elt Ideal) ℓ)

/-- The reference's result. -/
abbrev REF (D : FVec Ideal S4224x5632 .bf16) (W : FVec Ideal S1024x5632 .bf16) : FVec Ideal S4224x1024 .f32 :=
  Host.dotGeneral Reference6Ideal.dot_S4224x5632_S1024x5632_S4224x1024_1_1_0_0_n_n none
    (extf .f32 D Reference6Ideal.Gen.bitsLt_bf16_f32) (extf .f32 W Reference6Ideal.Gen.bitsLt_bf16_f32)

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 512, d (ix2 (j 0) k) * w (ix2 (j 1) k) := by
  pointwise [k0_pay2]

/-- The reference's result at an index. -/
theorem href (D W j) : REF D W j = ∑ k : Fin 5632, D (ix2 (j 0) k) * W (ix2 (j 1) k) := by
  pointwise [REF]

/-- The blocks a grid point works on. -/
theorem idx : ∀ t : Fin cfg0.N, win0_0.index t = ![t.val / 11, t.val % 11] ∧ win0_1.index t = ![0, t.val % 11] ∧ win0_2.index t = ![t.val / 11, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_C m c t (by omega) h2]
    frame_out
  rw [after0_2, e, href]
  exact Tiles.running_sum (fun n h => (outsAt0 m c n h).2) 11 _
    (fun t h j => by rw [outsAt0_A m c t h (by omega)]; frame_out; rw [hpay, hzero, zero_add])
    (fun t h j => by
      by_cases h1 : t.val % 11 = 10
      · rw [outsAt0_C m c t h h1]; frame_out; rw [hpay]; exact congrArg (· + _) (congrFun (read_unread_whole cc0_scratch0 _ _) j)
      · rw [outsAt0_B m c t h h1]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference6Ideal (hReference6Ideal := Reference6Ideal.Gen.facts) := fun m ρ _ =>
  θ_run_mono (Reference6Ideal.Value.run m ρ) fun _ h => ⟨fun c => (h c).2, sem_eq_zero_of_no_sems rfl _⟩

/-- The kernel's result is the reference's. -/
theorem values : Cert.algebraic_Kernel6Ideal_Reference6Ideal (hKernel6Ideal := Gen.facts) (hReference6Ideal := Reference6Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference6Ideal.Value.run m' g') fun _ h c => ⟨(h c).1.trans (by rw [(hag c).1, (hag c).2]), (h c).2⟩⟩

end Cert.Kernel6Ideal.Value

/-! ## `ydn_dx`: the derivative of `x @ w` by `x` -/

namespace Cert.Kernel8Ideal.Value

open Cert.Kernel8Ideal Cert.Kernel8Ideal.Gen

variable (m : (ℓ : Loc nD τ sig) → Buf (Elt Ideal) ℓ)

/-- The reference's result. -/
abbrev REF (D : FVec Ideal S4224x1024 .bf16) (W : FVec Ideal S2048x1024 .bf16) : FVec Ideal S4224x2048 .f32 :=
  Host.dotGeneral Reference8Ideal.dot_S4224x1024_S2048x1024_S4224x2048_1_1_0_0_n_n none
    (extf .f32 D Reference8Ideal.Gen.bitsLt_bf16_f32) (extf .f32 W Reference8Ideal.Gen.bitsLt_bf16_f32)

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 1024, d (ix2 (j 0) k) * w (ix2 (j 1) k) := by
  pointwise [k0_pay2]

/-- The reference's result at an index. -/
theorem href (D W j) : REF D W j = ∑ k : Fin 1024, D (ix2 (j 0) k) * W (ix2 (j 1) k) := by
  pointwise [REF]

/-- The blocks a grid point works on. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference8Ideal (hReference8Ideal := Reference8Ideal.Gen.facts) := fun m ρ _ =>
  θ_run_mono (Reference8Ideal.Value.run m ρ) fun _ h => ⟨fun c => (h c).2, sem_eq_zero_of_no_sems rfl _⟩

/-- The kernel's result is the reference's. -/
theorem values : Cert.algebraic_Kernel8Ideal_Reference8Ideal (hKernel8Ideal := Gen.facts) (hReference8Ideal := Reference8Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference8Ideal.Value.run m' g') fun _ h c => ⟨(h c).1.trans (by rw [(hag c).1, (hag c).2]), (h c).2⟩⟩

end Cert.Kernel8Ideal.Value

/-! ## `wout_dx`: the derivative of `x @ w` by `x` -/

namespace Cert.Kernel10Ideal.Value

open Cert.Kernel10Ideal Cert.Kernel10Ideal.Gen

variable (m : (ℓ : Loc nD τ sig) → Buf (Elt Ideal) ℓ)

/-- The reference's result. -/
abbrev REF (D : FVec Ideal S4224x1024 .bf16) (W : FVec Ideal S1024x1024 .bf16) : FVec Ideal S4224x1024 .f32 :=
  Host.dotGeneral Reference10Ideal.dot_S4224x1024_S1024x1024_S4224x1024_1_1_0_0_n_n none
    (extf .f32 D Reference10Ideal.Gen.bitsLt_bf16_f32) (extf .f32 W Reference10Ideal.Gen.bitsLt_bf16_f32)

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 1024, d (ix2 (j 0) k) * w (ix2 (j 1) k) := by
  pointwise [k0_pay2]

/-- The reference's result at an index. -/
theorem href (D W j) : REF D W j = ∑ k : Fin 1024, D (ix2 (j 0) k) * W (ix2 (j 1) k) := by
  pointwise [REF]

/-- The blocks a grid point works on. -/
theorem idx : ∀ t : Fin cfg0.N, win0_0.index t = ![t.val, 0] ∧ win0_1.index t = ![0, 0] ∧ win0_2.index t = ![t.val, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference10Ideal (hReference10Ideal := Reference10Ideal.Gen.facts) := fun m ρ _ =>
  θ_run_mono (Reference10Ideal.Value.run m ρ) fun _ h => ⟨fun c => (h c).2, sem_eq_zero_of_no_sems rfl _⟩

/-- The kernel's result is the reference's. -/
theorem values : Cert.algebraic_Kernel10Ideal_Reference10Ideal (hKernel10Ideal := Gen.facts) (hReference10Ideal := Reference10Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference10Ideal.Value.run m' g') fun _ h c => ⟨(h c).1.trans (by rw [(hag c).1, (hag c).2]), (h c).2⟩⟩

end Cert.Kernel10Ideal.Value

/-! ## `pab_dx`: the derivative of `x @ w` by `x`, added to what is given -/

namespace Cert.Kernel13Ideal.Value

open Cert.Kernel13Ideal Cert.Kernel13Ideal.Gen

variable (m : (ℓ : Loc nD τ sig) → Buf (Elt Ideal) ℓ)

/-- The reference's result. -/
abbrev REF (D : FVec Ideal S4224x128 .bf16) (W : FVec Ideal S1024x128 .bf16) (R : FVec Ideal S4224x1024 .f32) : FVec Ideal S4224x1024 .f32 :=
  addf R (Host.dotGeneral Reference13Ideal.dot_S4224x128_S1024x128_S4224x1024_1_1_0_0_n_n none
    (extf .f32 D Reference13Ideal.Gen.bitsLt_bf16_f32) (extf .f32 W Reference13Ideal.Gen.bitsLt_bf16_f32))

/-- A running sum starts at zero. -/
theorem hzero (j) : k0_pay1 (F := Ideal) j = 0 := by pointwise [k0_pay1]

/-- One grid point adds the product of its two blocks. -/
theorem hpay (acc d w j) : k0_pay2 (F := Ideal) acc d w j = acc j + ∑ k : Fin 128, d (ix2 (j 0) k) * w (ix2 (j 1) k) := by
  pointwise [k0_pay2]

/-- The last grid point of a block adds what is given. -/
theorem hadd (acc r j) : k0_pay3 (F := Ideal) acc r j = acc j + r j := by pointwise [k0_pay3]

/-- The reference's result at an index. -/
theorem href (D W R j) : REF D W R j = R j + ∑ k : Fin 128, D (ix2 (j 0) k) * W (ix2 (j 1) k) := by
  pointwise [REF]

/-- The blocks a grid point works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the kernel writes is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  rw [hadd, hpay, hzero, zero_add, href, add_comm]
  refine congrArg₂ (· + ·) (by blk_point [iblk, V, idx t]) (Finset.sum_congr rfl fun k _ => ?_)
  blk_point [iblk, V, idx t]

/-- The reference runs, keeps its arguments, and leaves every counter at zero: it has none. -/
theorem frame_reference : Cert.quiescent_Reference13Ideal (hReference13Ideal := Reference13Ideal.Gen.facts) := fun m ρ _ =>
  θ_run_mono (Reference13Ideal.Value.run m ρ) fun _ h => ⟨fun c => (h c).2, sem_eq_zero_of_no_sems rfl _⟩

/-- The kernel's result is the reference's. -/
theorem values : Cert.algebraic_Kernel13Ideal_Reference13Ideal (hKernel13Ideal := Gen.facts) (hReference13Ideal := Reference13Ideal.Gen.facts) :=
  fun m g m' g' _ hag => ⟨fun c => REF (m ((c : Thread nD τ).loc main_arg0)) (m ((c : Thread nD τ).loc main_arg1)) (m ((c : Thread nD τ).loc main_arg2)),
    θ_run_mono (run_blocks m g) fun _ h c => ⟨(h c).1.trans (final m c), (h c).2⟩,
    θ_run_mono (Reference13Ideal.Value.run m' g') fun _ h c => ⟨(h c).1.trans (by rw [(hag c).1, (hag c).2.1, (hag c).2.2]), (h c).2⟩⟩

end Cert.Kernel13Ideal.Value

end
-- ==== Proof.Products.lean ====
module

public import proofs.«01_k».proof.Defs
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Tiles
public import Idealize.ShloMosaic.Lib.Pipeline.ValueKit
public import Idealize.ShloMosaic.Lib.Pipeline.ReadBack

/-! # The step's dense products.

Each result block is a running sum over the blocks of the contracted axis, kept in a scratch buffer when there is more
than one (`Tiles.running_sum`). Per product: the payloads and the reference at an index, the blocks of a grid point, and
the shared lemma applied. -/

@[expose] public section

set_option maxRecDepth 16384

noncomputable section

open Idealize.ShloMosaic Idealize.ShloMosaic.TcCoe Idealize.SL.Sem
open Idealize.ShloMosaic.Pipeline (Dat)

/-! ## `proj_fwd`: the product `x @ w` -/

namespace Cert.Kernel14Ideal.Value

open Cert.Kernel14Ideal Cert.Kernel14Ideal.Gen

variable (m : (ℓ : Loc nD τ sig) → Buf (Elt Ideal) ℓ)

/-- The reference's result. -/
abbrev REF (X : FVec Ideal S4224x1024 .bf16) (W : FVec Ideal S1024x11264 .bf16) : FVec Ideal S4224x11264 .f32 :=
  Host.dotGeneral Reference14Ideal.dot_S4224x1024_S1024x11264_S4224x11264_1_0_0_1_n_n none
    (extf .f32 X Reference14Ideal.Gen.bitsLt_bf16_f32) (extf .f32 W Reference14Ideal.Gen.bitsLt_bf16_f32)

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The reference's result at an index. -/
theorem href (X W j) : REF X W j = ∑ k : Fin 1024, X (ix2 (j 0) k) * W (ix2 k (j 1)) := by
  pointwise [REF]

/-- The blocks a grid point works on. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference14Ideal (hReference14Ideal := Reference14Ideal.Gen.facts) := fun m ρ _ =>
  θ_run_mono (Reference14Ideal.Value.run m ρ) fun _ h => ⟨fun c => (h c).2, sem_eq_zero_of_no_sems rfl _⟩

/-- The kernel's result is the reference's. -/
theorem values : Cert.algebraic_Kernel14Ideal_Reference14Ideal (hKernel14Ideal := Gen.facts) (hReference14Ideal := Reference14Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference14Ideal.Value.run m' g') fun _ h c => ⟨(h c).1.trans (by rw [(hag c).1, (hag c).2]), (h c).2⟩⟩

end Cert.Kernel14Ideal.Value

/-! ## `ffn_in_fwd`: the product `x @ w` -/

namespace Cert.Kernel15Ideal.Value

open Cert.Kernel15Ideal Cert.Kernel15Ideal.Gen

variable (m : (ℓ : Loc nD τ sig) → Buf (Elt Ideal) ℓ)

/-- The reference's result. -/
abbrev REF (X : FVec Ideal S4224x1024 .bf16) (W : FVec Ideal S1024x5632 .bf16) : FVec Ideal S4224x5632 .f32 :=
  Host.dotGeneral Reference15Ideal.dot_S4224x1024_S1024x5632_S4224x5632_1_0_0_1_n_n none
    (extf .f32 X Reference15Ideal.Gen.bitsLt_bf16_f32) (extf .f32 W Reference15Ideal.Gen.bitsLt_bf16_f32)

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The reference's result at an index. -/
theorem href (X W j) : REF X W j = ∑ k : Fin 1024, X (ix2 (j 0) k) * W (ix2 k (j 1)) := by
  pointwise [REF]

/-- The blocks a grid point works on. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference15Ideal (hReference15Ideal := Reference15Ideal.Gen.facts) := fun m ρ _ =>
  θ_run_mono (Reference15Ideal.Value.run m ρ) fun _ h => ⟨fun c => (h c).2, sem_eq_zero_of_no_sems rfl _⟩

/-- The kernel's result is the reference's. -/
theorem values : Cert.algebraic_Kernel15Ideal_Reference15Ideal (hKernel15Ideal := Gen.facts) (hReference15Ideal := Reference15Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference15Ideal.Value.run m' g') fun _ h c => ⟨(h c).1.trans (by rw [(hag c).1, (hag c).2]), (h c).2⟩⟩

end Cert.Kernel15Ideal.Value

/-! ## `ffn_out_fwd`: the product `x @ w`, added to what is given -/

namespace Cert.Kernel16Ideal.Value

open Cert.Kernel16Ideal Cert.Kernel16Ideal.Gen

variable (m : (ℓ : Loc nD τ sig) → Buf (Elt Ideal) ℓ)

/-- The reference's result. -/
abbrev REF (X : FVec Ideal S4224x2816 .bf16) (W : FVec Ideal S2816x1024 .bf16) (R : FVec Ideal S4224x1024 .f32) : FVec Ideal S4224x1024 .f32 :=
  addf R (Host.dotGeneral Reference16Ideal.dot_S4224x2816_S2816x1024_S4224x1024_1_0_0_1_n_n none
    (extf .f32 X Reference16Ideal.Gen.bitsLt_bf16_f32) (extf .f32 W Reference16Ideal.Gen.bitsLt_bf16_f32))

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1408, x (ix2 (j 0) k) * w (ix2 k (j 1)) := by
  pointwise [k0_pay2]

/-- The last grid point of a block adds what is given. -/
theorem hadd (acc r j) : k0_pay3 (F := Ideal) acc r j = acc j + r j := by pointwise [k0_pay3]

/-- The reference's result at an index. -/
theorem href (X W R j) : REF X W R j = R j + ∑ k : Fin 2816, X (ix2 (j 0) k) * W (ix2 k (j 1)) := by
  pointwise [REF]

/-- The blocks a grid point works on. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- What the kernel writes is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h2 := (flush0_3 t).mp hf
  blk_simp
  have e : (outsAt0 m c t.val t.isLt).1 = k0_pay3 (F := Ideal) (outsAt0 m c t.val t.isLt).2 (iblk m c 2 t) := by
    rw [outsAt0_B m c t (by omega) h2]
    frame_out
  rw [after0_3, e, hadd, href, add_comm]
  refine congrArg₂ (· + ·) (by blk_point [iblk, V, idx t]) ?_
  exact Tiles.running_sum (fun n h => (outsAt0 m c n h).2) 2 _
    (fun t h j => by rw [outsAt0_A m c t h (by omega)]; frame_out; rw [hpay, hzero, zero_add])
    (fun t h j => by
      rw [outsAt0_B m c t h (by omega)]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference16Ideal (hReference16Ideal := Reference16Ideal.Gen.facts) := fun m ρ _ =>
  θ_run_mono (Reference16Ideal.Value.run m ρ) fun _ h => ⟨fun c => (h c).2, sem_eq_zero_of_no_sems rfl _⟩

/-- The kernel's result is the reference's. -/
theorem values : Cert.algebraic_Kernel16Ideal_Reference16Ideal (hKernel16Ideal := Gen.facts) (hReference16Ideal := Reference16Ideal.Gen.facts) :=
  fun m g m' g' _ hag => ⟨fun c => REF (m ((c : Thread nD τ).loc main_arg0)) (m ((c : Thread nD τ).loc main_arg1)) (m ((c : Thread nD τ).loc main_arg2)),
    θ_run_mono (run_blocks m g) fun _ h c => ⟨(h c).1.trans (final m c), (h c).2⟩,
    θ_run_mono (Reference16Ideal.Value.run m' g') fun _ h c => ⟨(h c).1.trans (by rw [(hag c).1, (hag c).2.1, (hag c).2.2]), (h c).2⟩⟩

end Cert.Kernel16Ideal.Value

/-! ## `ydn_fwd`: the product `x @ w` -/

namespace Cert.Kernel17Ideal.Value

open Cert.Kernel17Ideal Cert.Kernel17Ideal.Gen

variable (m : (ℓ : Loc nD τ sig) → Buf (Elt Ideal) ℓ)

/-- The reference's result. -/
abbrev REF (X : FVec Ideal S4224x2048 .bf16) (W : FVec Ideal S2048x1024 .bf16) : FVec Ideal S4224x1024 .f32 :=
  Host.dotGeneral Reference17Ideal.dot_S4224x2048_S2048x1024_S4224x1024_1_0_0_1_n_n none
    (extf .f32 X Reference17Ideal.Gen.bitsLt_bf16_f32) (extf .f32 W Reference17Ideal.Gen.bitsLt_bf16_f32)

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The reference's result at an index. -/
theorem href (X W j) : REF X W j = ∑ k : Fin 2048, X (ix2 (j 0) k) * W (ix2 k (j 1)) := by
  pointwise [REF]

/-- The blocks a grid point works on. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h2 := (flush0_2 t).mp hf
  blk_simp
  have e : (outsAt0 m c t.val t.isLt).1 = (outsAt0 m c t.val t.isLt).2 := by
    rw [outsAt0_B m c t (by omega) h2]
    frame_out
  rw [after0_2, e, href]
  exact Tiles.running_sum (fun n h => (outsAt0 m c n h).2) 2 _
    (fun t h j => by rw [outsAt0_A m c t h (by omega)]; frame_out; rw [hpay, hzero, zero_add])
    (fun t h j => by
      rw [outsAt0_B m c t h (by omega)]; frame_out; rw [hpay]; exact congrArg (· + _) (congrFun (read_unread_whole cc0_scratch0 _ _) j))
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference17Ideal (hReference17Ideal := Reference17Ideal.Gen.facts) := fun m ρ _ =>
  θ_run_mono (Reference17Ideal.Value.run m ρ) fun _ h => ⟨fun c => (h c).2, sem_eq_zero_of_no_sems rfl _⟩

/-- The kernel's result is the reference's. -/
theorem values : Cert.algebraic_Kernel17Ideal_Reference17Ideal (hKernel17Ideal := Gen.facts) (hReference17Ideal := Reference17Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference17Ideal.Value.run m' g') fun _ h c => ⟨(h c).1.trans (by rw [(hag c).1, (hag c).2]), (h c).2⟩⟩

end Cert.Kernel17Ideal.Value

/-! ## `wout_fwd`: the product `x @ w`, added to what is given -/

namespace Cert.Kernel18Ideal.Value

open Cert.Kernel18Ideal Cert.Kernel18Ideal.Gen

variable (m : (ℓ : Loc nD τ sig) → Buf (Elt Ideal) ℓ)

/-- The reference's result. -/
abbrev REF (X : FVec Ideal S4224x1024 .bf16) (W : FVec Ideal S1024x1024 .bf16) (R : FVec Ideal S4224x1024 .f32) : FVec Ideal S4224x1024 .f32 :=
  addf R (Host.dotGeneral Reference18Ideal.dot_S4224x1024_S1024x1024_S4224x1024_1_0_0_1_n_n none
    (extf .f32 X Reference18Ideal.Gen.bitsLt_bf16_f32) (extf .f32 W Reference18Ideal.Gen.bitsLt_bf16_f32))

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The last grid point of a block adds what is given. -/
theorem hadd (acc r j) : k0_pay3 (F := Ideal) acc r j = acc j + r j := by pointwise [k0_pay3]

/-- The reference's result at an index. -/
theorem href (X W R j) : REF X W R j = R j + ∑ k : Fin 1024, X (ix2 (j 0) k) * W (ix2 k (j 1)) := by
  pointwise [REF]

/-- The blocks a grid point works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the kernel writes is the reference's result. -/
theorem final (c : Dev nD) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  rw [hadd, hpay, hzero, zero_add, href, add_comm]
  refine congrArg₂ (· + ·) (by blk_point [iblk, V, idx t]) (Finset.sum_congr rfl fun k _ => ?_)
  blk_point [iblk, V, idx t]

/-- The reference runs, keeps its arguments, and leaves every counter at zero: it has none. -/
theorem frame_reference : Cert.quiescent_Reference18Ideal (hReference18Ideal := Reference18Ideal.Gen.facts) := fun m ρ _ =>
  θ_run_mono (Reference18Ideal.Value.run m ρ) fun _ h => ⟨fun c => (h c).2, sem_eq_zero_of_no_sems rfl _⟩

/-- The kernel's result is the reference's. -/
theorem values : Cert.algebraic_Kernel18Ideal_Reference18Ideal (hKernel18Ideal := Gen.facts) (hReference18Ideal := Reference18Ideal.Gen.facts) :=
  fun m g m' g' _ hag => ⟨fun c => REF (m ((c : Thread nD τ).loc main_arg0)) (m ((c : Thread nD τ).loc main_arg1)) (m ((c : Thread nD τ).loc main_arg2)),
    θ_run_mono (run_blocks m g) fun _ h c => ⟨(h c).1.trans (final m c), (h c).2⟩,
    θ_run_mono (Reference18Ideal.Value.run m' g') fun _ h c => ⟨(h c).1.trans (by rw [(hag c).1, (hag c).2.1, (hag c).2.2]), (h c).2⟩⟩

end Cert.Kernel18Ideal.Value

/-! ## `ysb_fwd`: the product `x @ w` -/

namespace Cert.Kernel19Ideal.Value

open Cert.Kernel19Ideal Cert.Kernel19Ideal.Gen

variable (m : (ℓ : Loc nD τ sig) → Buf (Elt Ideal) ℓ)

/-- The reference's result. -/
abbrev REF (X : FVec Ideal S4224x1024 .bf16) (W : FVec Ideal S1024x1024 .bf16) : FVec Ideal S4224x1024 .f32 :=
  Host.dotGeneral Reference19Ideal.dot_S4224x1024_S1024x1024_S4224x1024_1_0_0_1_n_n none
    (extf .f32 X Reference19Ideal.Gen.bitsLt_bf16_f32) (extf .f32 W Reference19Ideal.Gen.bitsLt_bf16_f32)

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The reference's result at an index. -/
theorem href (X W j) : REF X W j = ∑ k : Fin 1024, X (ix2 (j 0) k) * W (ix2 k (j 1)) := by
  pointwise [REF]

/-- The blocks a grid point works on. -/
theorem idx : ∀ t : Fin cfg0.N, win0_0.index t = ![t.val, 0] ∧ win0_1.index t = ![0, 0] ∧ win0_2.index t = ![t.val, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference19Ideal (hReference19Ideal := Reference19Ideal.Gen.facts) := fun m ρ _ =>
  θ_run_mono (Reference19Ideal.Value.run m ρ) fun _ h => ⟨fun c => (h c).2, sem_eq_zero_of_no_sems rfl _⟩

/-- The kernel's result is the reference's. -/
theorem values : Cert.algebraic_Kernel19Ideal_Reference19Ideal (hKernel19Ideal := Gen.facts) (hReference19Ideal := Reference19Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference19Ideal.Value.run m' g') fun _ h c => ⟨(h c).1.trans (by rw [(hag c).1, (hag c).2]), (h c).2⟩⟩

end Cert.Kernel19Ideal.Value

/-! ## `pab_fwd`: the product `x @ w` -/

namespace Cert.Kernel20Ideal.Value

open Cert.Kernel20Ideal Cert.Kernel20Ideal.Gen

variable (m : (ℓ : Loc nD τ sig) → Buf (Elt Ideal) ℓ)

/-- The reference's result. -/
abbrev REF (X : FVec Ideal S4224x1024 .bf16) (W : FVec Ideal S1024x128 .bf16) : FVec Ideal S4224x128 .f32 :=
  Host.dotGeneral Reference20Ideal.dot_S4224x1024_S1024x128_S4224x128_1_0_0_1_n_n none
    (extf .f32 X Reference20Ideal.Gen.bitsLt_bf16_f32) (extf .f32 W Reference20Ideal.Gen.bitsLt_bf16_f32)

/-- A running sum starts at zero. -/
theorem hzero (j) : k0_pay1 (F := Ideal) j = 0 := by pointwise [k0_pay1]

/-- One grid point adds the product of its two blocks. -/
theorem hpay (acc x w j) : k0_pay2 (F := Ideal) acc x w j = acc j + ∑ k : Fin 1024, x (ix2 (j 0) k) * w (ix2 k (j 1)) := by
  pointwise [k0_pay2]

/-- The reference's result at an index. -/
theorem href (X W j) : REF X W j = ∑ k : Fin 1024, X (ix2 (j 0) k) * W (ix2 k (j 1)) := by
  pointwise [REF]

/-- The blocks a grid point works on. -/
theorem idx : ∀ t : Fin cfg0.N, win0_0.index t = ![t.val, 0] ∧ win0_1.index t = ![0, 0] ∧ win0_2.index t = ![t.val, 0] :=
  (by decide +kernel : ∀ t : Fin grid0.N, _)

/-- What the kernel writes is the reference's result. -/
theorem final (c : Dev nD) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  rw [hpay, hzero, zero_add, href]
  refine Finset.sum_congr (M := EReal) rfl fun k _ => ?_
  blk_point [iblk, V, idx t]

/-- The reference runs, keeps its arguments, and leaves every counter at zero: it has none. -/
theorem frame_reference : Cert.quiescent_Reference20Ideal (hReference20Ideal := Reference20Ideal.Gen.facts) := fun m ρ _ =>
  θ_run_mono (Reference20Ideal.Value.run m ρ) fun _ h => ⟨fun c => (h c).2, sem_eq_zero_of_no_sems rfl _⟩

/-- The kernel's result is the reference's. -/
theorem values : Cert.algebraic_Kernel20Ideal_Reference20Ideal (hKernel20Ideal := Gen.facts) (hReference20Ideal := Reference20Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference20Ideal.Value.run m' g') fun _ h c => ⟨(h c).1.trans (by rw [(hag c).1, (hag c).2]), (h c).2⟩⟩

end Cert.Kernel20Ideal.Value

end
-- ==== Proof.StickRun.lean ====
module

public import proofs.«01_k».proof.Proof.Gen.Kernel21Ideal.Frame.RunA
public import Idealize.ShloMosaic.Lib.Claim
public import Idealize.ShloMosaic.Lib.Pipeline.Value

@[expose] public section

set_option maxRecDepth 16384

/-!
The run of the stick-breaking forward kernel. The walk through its body is taken as one opaque term here; what it
computes is read in `StickStep`.
-/

noncomputable section

namespace Cert.Proof.Stick

open Cert.Kernel21Ideal Cert.Kernel21Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Body

variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x512 .bf16) (harg4 : arg4.IsWhole) (arg5 : Memref sig .tc .vmem S384x512 .f32) (harg5 : arg5.IsWhole) (arg6 : Memref sig .tc .vmem S384x512 .bf16) (harg6 : arg6.IsWhole)
  (x0 : Vec F S384x512 .bf16) (x1 x2 : Vec F S4224x512 .bf16)

/-- The four heads' stores of the f32 result cover its block. -/
theorem covers (y : S384x512.Idx) : ∃ p ∈ (kernelRun0_A c i arg2 harg2 arg3 harg3 arg4 harg4 arg5 harg5 arg6 harg6 x0 x1 x2).1, y ∈ p.1.set :=
  View.cover_of_tiledL (kernelRun0_A c i arg2 harg2 arg3 harg3 arg4 harg4 arg5 harg5 arg6 harg6 x0 x1 x2).1 S384x128.size (by sl_kernel_rfl) y

/-- The four heads' stores of the rounded result cover its block. -/
theorem covers' (y : S384x512.Idx) : ∃ p ∈ (kernelRun0_A c i arg2 harg2 arg3 harg3 arg4 harg4 arg5 harg5 arg6 harg6 x0 x1 x2).2.1, y ∈ p.1.set :=
  View.cover_of_tiledL (kernelRun0_A c i arg2 harg2 arg3 harg3 arg4 harg4 arg5 harg5 arg6 harg6 x0 x1 x2).2.1 S384x128.size (by sl_kernel_rfl) y

/-- The f32 block after the body. -/
def out : Vec F S384x512 .f32 := View.canon (kernelRun0_A c i arg2 harg2 arg3 harg3 arg4 harg4 arg5 harg5 arg6 harg6 x0 x1 x2).1

/-- The rounded block after the body. -/
def out' : Vec F S384x512 .bf16 := View.canon (kernelRun0_A c i arg2 harg2 arg3 harg3 arg4 harg4 arg5 harg5 arg6 harg6 x0 x1 x2).2.1

/-- The body keeps its three inputs and leaves `out` and `out'`. -/
theorem body (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out c i arg2 harg2 arg3 harg3 arg4 harg4 arg5 harg5 arg6 harg6 x0 x1 x2) ∗ owns (c : Thread nD τ) arg6 fullShare (out' c i arg2 harg2 arg3 harg3 arg4 harg4 arg5 harg5 arg6 harg6 x0 x1 x2)) -∗ K ⟨⟩))
      ⊢ wp frame (wpE (defs₀ (F := F)) Variants.none c none) E (cc0_sb_fwd i arg2 harg2 arg3 harg3 arg4 harg4 arg5 harg5 arg6 harg6) K := by
  have hc := covers c i arg2 harg2 arg3 harg3 arg4 harg4 arg5 harg5 arg6 harg6 x0 x1 x2
  have hc' := covers' c i arg2 harg2 arg3 harg3 arg4 harg4 arg5 harg5 arg6 harg6 x0 x1 x2
  unfold out out'
  generalize kernelRun0_A c i arg2 harg2 arg3 harg3 arg4 harg4 arg5 harg5 arg6 harg6 x0 x1 x2 = r at hc hc' ⊢
  obtain ⟨L, L', h⟩ := r
  dsimp only at hc hc' ⊢
  iintro ⟨H0, H1, H2, H3, H4, Hk⟩
  iapply (h E K)
  isplitl [H0]; · iexact H0
  isplitl [H1]; · iexact H1
  isplitl [H2]; · iexact H2
  isplitl [H3]; · iexact H3
  isplitl [H4]; · iexact H4
  iintro ⟨H0, H1, H2, ⟨%e3, H3⟩, ⟨%e4, H4⟩⟩
  iapply Hk
  isplitl [H0]; · iexact H0
  isplitl [H1]; · iexact H1
  isplitl [H2]; · iexact H2
  isplitl [H3]
  · unfold owns; iexists _; isplitr
    swap; · iexact H3
    ipureintro; exact View.read_writes_eq_canon _ _ _ hc
  unfold owns; iexists _; isplitr
  swap; · iexact H4
  ipureintro; exact View.read_writes_eq_canon _ _ _ hc'

end Body

section Run

variable (m : (ℓ : Loc nD τ sig) → Buf (Elt F) ℓ) (ρ : Dev nD → PrngReg)

/-- The f32 block after grid point `t`. -/
def outAt (c : Dev nD) (t : Fin cfg0.N) : Vec F S384x512 .f32 :=
  out c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- The rounded block after grid point `t`. -/
def outAt' (c : Dev nD) (t : Fin cfg0.N) : Vec F S384x512 .bf16 :=
  out' c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- What the pipeline works on: the arrays at entry, and each window's buffer after each point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => outAt' m c t
  Φ _ := Pipeline.ΦA spec0 c
  q _ := fullShare
  owed _ := 0

/-- The arrays are what the region finds. -/
theorem data_A (c : Dev nD) (w : Fin cfg0.W) : (data m 0 c).A w = V m c (Pipeline.arrRef spec0 w) := by
  dsimp only [data]

/-- The f32 window after a point. -/
theorem after_out (c : Dev nD) (t : Fin cfg0.N) : (data m 0 c).after 3 t = outAt m c t := by dsimp only [data]

/-- The rounded window after a point. -/
theorem after_out' (c : Dev nD) (t : Fin cfg0.N) : (data m 0 c).after 4 t = outAt' m c t := by dsimp only [data]

/-- Each input's buffer holds its block before and after a point. -/
theorem input (c : Dev nD) (t : Fin cfg0.N) :
    (∀ d, (data m 0 c).before 0 t d = iblk m c 0 t) ∧ (∀ d, (data m 0 c).before 1 t d = iblk m c 1 t)
      ∧ (∀ d, (data m 0 c).before 2 t d = iblk m c 2 t) ∧ (data m 0 c).after 0 t = iblk m c 0 t
      ∧ (data m 0 c).after 1 t = iblk m c 1 t ∧ (data m 0 c).after 2 t = iblk m c 2 t :=
  ⟨before0_0_of m (data m 0 c) (data_A m c 0) (fun t => by dsimp only [data]) t,
    before0_1_of m (data m 0 c) (data_A m c 1) (fun t => by dsimp only [data]) t,
    before0_2_of m (data m 0 c) (data_A m c 2) (fun t => by dsimp only [data]) t,
    by dsimp only [data], by dsimp only [data], by dsimp only [data]⟩

/-- What the body is called with at a point. -/
def enter (c : Dev nD) (t : Fin cfg0.N) : sProp (MT nD τ sig Unit (Elt F) ℕ (UR sig nD τ) ℕ) :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d)))

/-- What it returns. -/
def leave (c : Dev nD) (t : Fin cfg0.N) : sProp (MT nD τ sig Unit (Elt F) ℕ (UR sig nD τ) ℕ) :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t))

/-- The body at any point. -/
theorem point (c : Dev nD) (t : Fin cfg0.N) :
    enter m c t ⊢ wp frame (wpE (defs₀ (F := F)) Variants.none c none) Set.univ (bodyAt0 t) (fun _ => leave m c t) := by
  obtain ⟨b0, b1, b2, a0, a1, a2⟩ := input m c t
  unfold enter leave bodyAt0
  simp only [b0, b1, b2]
  rw [show (data m 0 c).Φ t.succ = (data m 0 c).Φ t.castSucc from rfl,
    show (data m 0 c).owesAt () t.succ = (data m 0 c).owesAt () t.castSucc from rfl,
    a0, a1, a2, after_out, after_out']
  unfold outAt outAt'
  iintro ⟨HΦ, Ho, ⟨%d0, H0⟩, ⟨%d1, H1⟩, ⟨%d2, H2⟩, ⟨%d3, H3⟩, ⟨%d4, H4⟩⟩
  iapply (body c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The call of the body at a point, as the pipeline spells it. -/
theorem call (t : Fin cfg0.N) :
    defs₀ (F := F) .tc cfg0.body (cfg0.bodyArgs t (cfg0.slots t)) = bodyAt0 t := by
  unfold defs₀; rw [Defs.onTc_tc]

/-- The body, at every point. -/
theorem points (c : Dev nD) : BodyObligation (data (F := F) m 0 c) (defs₀ (F := F)) Variants.none () Set.univ := fun t => by
  rw [bigSep_W0, bigSep_W0, call]
  exact triple_restated (point m c t) rfl .rfl fun _ => .rfl

set_option backward.isDefEq.respectTransparency.types false in
/-- The whole program: the arrays end as the pipeline's data say, and every counter at zero. -/
theorem whole : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (points m c).loose) (hshare := fun c => (data m 0 c).share_full fun _ => rfl)
    (howed := fun _ _ => rfl) (V := V m) (hmain := hmain m Variants.none) (hA := data_A m) (hΦ := fun _ _ => rfl)

/-- The two results after the run, the three arguments as launched, every counter at zero. -/
theorem run : θ_run defs (onTc (τ := τ) (main (F := F))) ⟨m, fun _ => 0, ρ⟩ fun r => (∀ c : Dev nD,
      r.2.mem ((c : Thread nD τ).loc main_v0_0) = (data m 0 c).arrAt 3 cfg0.N
      ∧ r.2.mem ((c : Thread nD τ).loc main_v0_1) = (data m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨(h.1 c).1 3, (h.1 c).1 4,
      ((h.1 c).1 0).trans (((data m 0 c).arrAt_in 0 rfl _).trans ((data_A m c 0).trans (V_main_arg0 m c))),
      ((h.1 c).1 1).trans (((data m 0 c).arrAt_in 1 rfl _).trans ((data_A m c 1).trans (V_main_arg1 m c))),
      ((h.1 c).1 2).trans (((data m 0 c).arrAt_in 2 rfl _).trans ((data_A m c 2).trans (V_main_arg2 m c)))⟩, h.2⟩)
    (whole m ρ)

end Run

end Cert.Proof.Stick

end
-- ==== Proof.StickStep.lean ====
module

public import proofs.«01_k».proof.Proof.StickRun
public import Idealize.ShloMosaic.Lib.Pipeline.ReadBack
public import Idealize.ShloMosaic.Lib.Pointwise

@[expose] public section

set_option maxRecDepth 16384

/-!
What the body of the stick-breaking forward kernel computes, head by head: a step over the group of keys nearest the
query block, steps over groups that lie wholly before it, and a step over the last group. The kernel's text spells each
of them out for four heads and in three places; here each is one function of the head.
-/

noncomputable section

namespace Cert.Proof.Stick

open Cert.Kernel21Ideal Cert.Kernel21Ideal.Gen Idealize.ShloMosaic Idealize.ShloMosaic.TcCoe Idealize.SL Idealize.SL.Sem

variable {F : FTy → Type} [FloatOps F]

/-- One head's running sums: of the weighted values, and of the logarithms of what is kept. -/
abbrev Sums (F : FTy → Type) [FloatOps F] := FVec F S384x128 .f32 × FVec F S384x1 .f32

/-- The state the kernel's loops carry: four heads' sums of weighted values, then the four other sums. -/
abbrev Carried (F : FTy → Type) [FloatOps F] :=
  FVec F S384x128 .f32 × FVec F S384x128 .f32 × FVec F S384x128 .f32 × FVec F S384x128 .f32 × FVec F S384x1 .f32 × FVec F S384x1 .f32 × FVec F S384x1 .f32 × FVec F S384x1 .f32

/-- Four heads' sums as the loops carry them. -/
def together (p : Fin 4 → Sums F) : Carried F :=
  ((p 0).1, (p 1).1, (p 2).1, (p 3).1, (p 0).2, (p 1).2, (p 2).2, (p 3).2)

/-- One head's sums out of what the loops carry. -/
def part (h : Fin 4) (s : Carried F) : Sums F :=
  ![(s.1, s.2.2.2.2.1), (s.2.1, s.2.2.2.2.2.1), (s.2.2.1, s.2.2.2.2.2.2.1), (s.2.2.2.1, s.2.2.2.2.2.2.2)] h

/-- Taking a head's sums out of four put together. -/
theorem part_together (h : Fin 4) (p : Fin 4 → Sums F) : part h (together p) = p h := by
  fin_cases h <;> rfl

/-- A block of scores with what is not seen set to zero. -/
def hide (vis : IVec S384x512 1) (x : FVec F S384x512 .f32) : FVec F S384x512 .f32 :=
  select vis x (broadcast S384x512 (Scalar.ofBits .f32 0x00000000#32))

/-- One head's step over 512 keys, all of them seen. -/
def step (us : FVec F S128x128 .bf16) (q : Vec F S384x128 .bf16) (k v : Vec F S512x128 .bf16) (s : Sums F) : Sums F :=
  (k0_pay297 s.1 (k0_pay47 (k0_pay8 (k0_pay3 q k)) (k0_pay27 s.2 (k0_pay12 (k0_pay3 q k))) (k0_pay43 us (k0_pay12 (k0_pay3 q k)))) v,
    k0_pay26 s.2 (k0_pay12 (k0_pay3 q k)))

/-- One head's step over 512 keys, of which `vis` are seen. -/
def stepSeen (vis : IVec S384x512 1) (us : FVec F S128x128 .bf16) (q : Vec F S384x128 .bf16) (k v : Vec F S512x128 .bf16) (s : Sums F) : Sums F :=
  (k0_pay297 s.1 (hide vis (k0_pay47 (k0_pay8 (k0_pay3 q k)) (k0_pay27 s.2 (hide vis (k0_pay12 (k0_pay3 q k)))) (k0_pay43 us (hide vis (k0_pay12 (k0_pay3 q k)))))) v,
    k0_pay26 s.2 (hide vis (k0_pay12 (k0_pay3 q k))))

/-- The keys seen in the group that starts `off` blocks below the last one, for query block `a`, as the kernel's words say it. -/
def seen (a off : BitVec 32) : IVec S384x512 1 :=
  k0_pay115 (Scalar.muli (Scalar.addi (Scalar.subi (Scalar.subi (Scalar.muli (Scalar.addi a 1#32) 3#32) 1#32) off) 1#32) 128#32) (k0_pay113 a)
    (iota .tc S384x512 32 [1] iota_S384x512_d1_w32)
    (k0_pay114 (Scalar.maxsi (Scalar.addi (Scalar.subi (Scalar.subi (Scalar.subi (Scalar.muli (Scalar.addi a 1#32) 3#32) 1#32) off) 4#32) 1#32) 0#32))

/-- The first row of the keys of group `t`, for query block `n`. -/
def low (n t : ℕ) : ℕ := 128 * (3 * n - 1 - 4 * t)

/-- Head `h`'s 512 rows from row `r` of a block of keys or values. -/
def rows (x : Vec F S4224x512 .bf16) (r : ℕ) (h : Fin 4) : Vec F S512x128 .bf16 := fun y =>
  x (ix2 ⟨(r + (y 0).val) % 4224, Nat.mod_lt _ (by decide)⟩ ⟨128 * h.val + (y 1).val, by have := (y 1).isLt; have : (y 1).val < 128 := this; omega⟩)

/-- Head `h`'s columns of a block of queries. -/
def cols (x : Vec F S384x512 .bf16) (h : Fin 4) : Vec F S384x128 .bf16 := fun y =>
  x (ix2 ⟨(y 0).val, (y 0).isLt⟩ ⟨128 * h.val + (y 1).val, by have := (y 1).isLt; have : (y 1).val < 128 := this; omega⟩)

/-- A load of 512 rows of one head. -/
theorem load_rows (M : Memref sig .tc .vmem S4224x512 .bf16) (hM : M.IsWhole) (x : Vec F S4224x512 .bf16) (off : Fin 2 → ℕ)
    (inb : ∀ a, off a + S512x128.size a ≤ S4224x512.size a) (r : ℕ) (h : Fin 4) (e : off = ![r, 128 * h.val]) :
    View.readAt (Elt F) M.view (Rect.unit (s := S4224x512) off S512x128.size inb).toLoadRect (hM.unread x) = rows x r h := by
  subst e
  have hr : r + 512 ≤ 4224 := inb 0
  funext y
  rw [View.readAt_eq_ld, Memref.IsWhole.read_unread]
  unfold rows
  show x _ = x _
  congr 1
  funext a
  have h0 : (y 0).val < 512 := (y 0).isLt
  fin_cases a
  · exact Fin.ext (by show r + 1 * (y 0).val = (r + (y 0).val) % 4224; rw [Nat.mod_eq_of_lt (by omega)]; omega)
  · exact Fin.ext (by show 128 * h.val + 1 * (y 1).val = 128 * h.val + (y 1).val; omega)

/-- A load of one head's queries. -/
theorem load_cols (M : Memref sig .tc .vmem S384x512 .bf16) (hM : M.IsWhole) (x : Vec F S384x512 .bf16) (off : Fin 2 → ℕ)
    (inb : ∀ a, off a + S384x128.size a ≤ S384x512.size a) (h : Fin 4) (e : off = ![0, 128 * h.val]) :
    View.readAt (Elt F) M.view (Rect.unit (s := S384x512) off S384x128.size inb).toLoadRect (hM.unread x) = cols x h := by
  subst e
  funext y
  rw [View.readAt_eq_ld, Memref.IsWhole.read_unread]
  unfold cols
  show x _ = x _
  congr 1
  funext a
  fin_cases a
  · exact Fin.ext (by show 0 + 1 * (y 0).val = (y 0).val; omega)
  · exact Fin.ext (by show 128 * h.val + 1 * (y 1).val = 128 * h.val + (y 1).val; omega)

/-- Where the first group's keys lie. -/
theorem first_at (i : grid0.Coords) : k0_off1 i = ![low (i 1).val 0, 0] ∧ k0_off2 i = ![low (i 1).val 0, 128]
    ∧ k0_off3 i = ![low (i 1).val 0, 256] ∧ k0_off4 i = ![low (i 1).val 0, 384] := by
  revert i; decide +kernel

/-- Where a middle group's keys lie. -/
theorem middle_at (i : grid0.Coords) (k : Fin (k0_t1_loop i).trips) : k0_off5 i k = ![low (i 1).val (k.val + 1), 0]
    ∧ k0_off6 i k = ![low (i 1).val (k.val + 1), 128] ∧ k0_off7 i k = ![low (i 1).val (k.val + 1), 256]
    ∧ k0_off8 i k = ![low (i 1).val (k.val + 1), 384] := by
  revert i; decide +kernel

/-- How many groups there are for query block `n`. -/
def groups (n : ℕ) : ℕ := (3 * n + 6) / 4

/-- Where the last group's keys lie, and its number as the kernel's word. -/
theorem last_at (i : grid0.Coords) (k : Fin (k0_t3_loop i).trips) : k0_off13 i k = ![low (i 1).val (groups (i 1).val - 1), 0]
    ∧ k0_off14 i k = ![low (i 1).val (groups (i 1).val - 1), 128] ∧ k0_off15 i k = ![low (i 1).val (groups (i 1).val - 1), 256]
    ∧ k0_off16 i k = ![low (i 1).val (groups (i 1).val - 1), 384]
    ∧ Scf.iv (kernelRun0_A.sl.v393 i) 1#32 k.val = BitVec.ofNat 32 (groups (i 1).val - 1) := by
  revert i; decide +kernel

/-- How often each loop runs: a middle step for every group but the first and the last, a last step unless there is one group. -/
theorem trips (i : grid0.Coords) : (k0_t1_loop i).trips = groups (i 1).val - 2 ∧ (k0_t2_loop i).trips = 0
    ∧ (k0_t3_loop i).trips = (if (i 1).val = 0 then 0 else 1) ∧ (k0_t4_loop i).trips = 0 := by
  revert i; decide +kernel

/-- A function applied over and over, told how often it has been applied. -/
def walk {α : Type} (f : ℕ → α → α) (s : α) : ℕ → α
  | 0 => s
  | n + 1 => f n (walk f s n)

section Trips

variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x512 .bf16) (harg4 : arg4.IsWhole) (arg5 : Memref sig .tc .vmem S384x512 .f32) (harg5 : arg5.IsWhole) (arg6 : Memref sig .tc .vmem S384x512 .bf16) (harg6 : arg6.IsWhole)
  (x0 : Vec F S384x512 .bf16) (x1 x2 : Vec F S4224x512 .bf16) (us : FVec F S128x128 .bf16) (q : Fin 4 → Vec F S384x128 .bf16)
  (v10 v11 v12 v13 : FVec F S384x128 .f32) (v38 : BitVec 32) (v159 v184 v209 v234 : FVec F S384x1 .f32) (v367 v371 v375 : FVec F S384x128 .f32) (v377 : Vec F S512x128 .bf16) (v378 : FVec F S384x512 .bf16)

/-- A middle trip is a step of every head. -/
theorem trip_middle (k : Fin (k0_t1_loop i).trips) (s : Carried F) :
    tripR_k0_t1 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (harg3.unread x1) (harg4.unread x2) k s
      = together fun h => step us (q h) (rows x1 (low (i 1).val (k.val + 1)) h) (rows x2 (low (i 1).val (k.val + 1)) h) (part h s) := by
  obtain ⟨e0, e1, e2, e3⟩ := middle_at i k
  have e : tripR_k0_t1 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (harg3.unread x1) (harg4.unread x2) k s = together ![
        step us (q 0) (View.readAt (Elt F) arg3.view (Rect.unit (s := S4224x512) (k0_off5 i k) S512x128.size (k0_off5_inb i k)).toLoadRect (harg3.unread x1)) (View.readAt (Elt F) arg4.view (Rect.unit (s := S4224x512) (k0_off5 i k) S512x128.size (k0_off5_inb i k)).toLoadRect (harg4.unread x2)) (part 0 s),
        step us (q 1) (View.readAt (Elt F) arg3.view (Rect.unit (s := S4224x512) (k0_off6 i k) S512x128.size (k0_off6_inb i k)).toLoadRect (harg3.unread x1)) (View.readAt (Elt F) arg4.view (Rect.unit (s := S4224x512) (k0_off6 i k) S512x128.size (k0_off6_inb i k)).toLoadRect (harg4.unread x2)) (part 1 s),
        step us (q 2) (View.readAt (Elt F) arg3.view (Rect.unit (s := S4224x512) (k0_off7 i k) S512x128.size (k0_off7_inb i k)).toLoadRect (harg3.unread x1)) (View.readAt (Elt F) arg4.view (Rect.unit (s := S4224x512) (k0_off7 i k) S512x128.size (k0_off7_inb i k)).toLoadRect (harg4.unread x2)) (part 2 s),
        step us (q 3) (View.readAt (Elt F) arg3.view (Rect.unit (s := S4224x512) (k0_off8 i k) S512x128.size (k0_off8_inb i k)).toLoadRect (harg3.unread x1)) (View.readAt (Elt F) arg4.view (Rect.unit (s := S4224x512) (k0_off8 i k) S512x128.size (k0_off8_inb i k)).toLoadRect (harg4.unread x2)) (part 3 s)] := by
    unfold tripR_k0_t1 trip_k0_t1
    rfl
  rw [e, load_rows arg3 _ _ _ _ _ 0 e0, load_rows arg3 _ _ _ _ _ 1 e1, load_rows arg3 _ _ _ _ _ 2 e2, load_rows arg3 _ _ _ _ _ 3 e3,
    load_rows arg4 _ _ _ _ _ 0 e0, load_rows arg4 _ _ _ _ _ 1 e1, load_rows arg4 _ _ _ _ _ 2 e2, load_rows arg4 _ _ _ _ _ 3 e3]
  rfl

/-- The last trip is a step of every head. -/
theorem trip_last (k : Fin (k0_t3_loop i).trips) (s : Carried F) :
    tripR_k0_t3 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (kernelRun0_A.sl.v393 i) (harg3.unread x1) (harg4.unread x2) k s
      = together fun h => stepSeen (seen (BitVec.ofNat 32 (i 1).val) (Scalar.muli 4#32 (BitVec.ofNat 32 (groups (i 1).val - 1)))) us (q h)
          (rows x1 (low (i 1).val (groups (i 1).val - 1)) h) (rows x2 (low (i 1).val (groups (i 1).val - 1)) h) (part h s) := by
  obtain ⟨e0, e1, e2, e3, ew⟩ := last_at i k
  have e : tripR_k0_t3 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (kernelRun0_A.sl.v393 i) (harg3.unread x1) (harg4.unread x2) k s = together ![
        stepSeen (seen (BitVec.ofNat 32 (i 1).val) (Scalar.muli 4#32 (Scf.iv (kernelRun0_A.sl.v393 i) 1#32 k.val))) us (q 0) (View.readAt (Elt F) arg3.view (Rect.unit (s := S4224x512) (k0_off13 i k) S512x128.size (k0_off13_inb i k)).toLoadRect (harg3.unread x1)) (View.readAt (Elt F) arg4.view (Rect.unit (s := S4224x512) (k0_off13 i k) S512x128.size (k0_off13_inb i k)).toLoadRect (harg4.unread x2)) (part 0 s),
        stepSeen (seen (BitVec.ofNat 32 (i 1).val) (Scalar.muli 4#32 (Scf.iv (kernelRun0_A.sl.v393 i) 1#32 k.val))) us (q 1) (View.readAt (Elt F) arg3.view (Rect.unit (s := S4224x512) (k0_off14 i k) S512x128.size (k0_off14_inb i k)).toLoadRect (harg3.unread x1)) (View.readAt (Elt F) arg4.view (Rect.unit (s := S4224x512) (k0_off14 i k) S512x128.size (k0_off14_inb i k)).toLoadRect (harg4.unread x2)) (part 1 s),
        stepSeen (seen (BitVec.ofNat 32 (i 1).val) (Scalar.muli 4#32 (Scf.iv (kernelRun0_A.sl.v393 i) 1#32 k.val))) us (q 2) (View.readAt (Elt F) arg3.view (Rect.unit (s := S4224x512) (k0_off15 i k) S512x128.size (k0_off15_inb i k)).toLoadRect (harg3.unread x1)) (View.readAt (Elt F) arg4.view (Rect.unit (s := S4224x512) (k0_off15 i k) S512x128.size (k0_off15_inb i k)).toLoadRect (harg4.unread x2)) (part 2 s),
        stepSeen (seen (BitVec.ofNat 32 (i 1).val) (Scalar.muli 4#32 (Scf.iv (kernelRun0_A.sl.v393 i) 1#32 k.val))) us (q 3) (View.readAt (Elt F) arg3.view (Rect.unit (s := S4224x512) (k0_off16 i k) S512x128.size (k0_off16_inb i k)).toLoadRect (harg3.unread x1)) (View.readAt (Elt F) arg4.view (Rect.unit (s := S4224x512) (k0_off16 i k) S512x128.size (k0_off16_inb i k)).toLoadRect (harg4.unread x2)) (part 3 s)] := by
    unfold tripR_k0_t3 trip_k0_t3
    rfl
  rw [e, load_rows arg3 _ _ _ _ _ 0 e0, load_rows arg3 _ _ _ _ _ 1 e1, load_rows arg3 _ _ _ _ _ 2 e2, load_rows arg3 _ _ _ _ _ 3 e3,
    load_rows arg4 _ _ _ _ _ 0 e0, load_rows arg4 _ _ _ _ _ 1 e1, load_rows arg4 _ _ _ _ _ 2 e2, load_rows arg4 _ _ _ _ _ 3 e3, ew]
  rfl

/-- The middle loop. -/
theorem loop_middle (s : Carried F) (n : ℕ) (hn : n ≤ (k0_t1_loop i).trips) :
    st_k0_t1 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (harg3.unread x1) (harg4.unread x2) s n
      = together fun h => walk (fun k => step us (q h) (rows x1 (low (i 1).val (k + 1)) h) (rows x2 (low (i 1).val (k + 1)) h)) (part h s) n := by
  induction n with
  | zero => rfl
  | succ n ih =>
    have := st_k0_t1_succ Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (harg3.unread x1) (harg4.unread x2) s ⟨n, hn⟩
    rw [this, trip_middle, ih (by omega)]
    simp only [part_together, walk]

/-- The last loop, on a block with more than one group. -/
theorem loop_last (s : Carried F) (n : ℕ) (hn : n ≤ (k0_t3_loop i).trips) :
    st_k0_t3 Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (kernelRun0_A.sl.v393 i) (harg3.unread x1) (harg4.unread x2) s n
      = together fun h => walk (fun _ => stepSeen (seen (BitVec.ofNat 32 (i 1).val) (Scalar.muli 4#32 (BitVec.ofNat 32 (groups (i 1).val - 1)))) us (q h)
          (rows x1 (low (i 1).val (groups (i 1).val - 1)) h) (rows x2 (low (i 1).val (groups (i 1).val - 1)) h)) (part h s) n := by
  induction n with
  | zero => rfl
  | succ n ih =>
    have := st_k0_t3_succ Variants.none c none i arg2 harg2 arg3 harg3 arg4 harg4 arg5 harg5 arg6 harg6 (BitVec.ofNat 32 (i 1).val) (q 0) (q 1) (q 2) (q 3) us v10 v11 v12 v13 v38 v159 v184 v209 v234 v367 v371 v375 v377 v378 (kernelRun0_A.sl.v393 i) (harg3.unread x1) (harg4.unread x2) s ⟨n, hn⟩
    rw [this, trip_last, ih (by omega)]
    simp only [part_together, walk]

end Trips

section Out

variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x512 .bf16) (harg4 : arg4.IsWhole) (arg5 : Memref sig .tc .vmem S384x512 .f32) (harg5 : arg5.IsWhole) (arg6 : Memref sig .tc .vmem S384x512 .bf16) (harg6 : arg6.IsWhole)
  (x0 : Vec F S384x512 .bf16) (x1 x2 : Vec F S4224x512 .bf16)

/-- What the loops start from: every head after the first group. -/
def start : Carried F :=
  together ![stepSeen (seen (BitVec.ofNat 32 (i 1).val) (Scalar.muli 4#32 0#32)) k0_pay224 (View.readAt (Elt F) arg2.view (Rect.unit (s := S384x512) ![0, 0] S384x128.size inb_S384x512_S384x128_0_0).toLoadRect (harg2.unread x0))
        (View.readAt (Elt F) arg3.view (Rect.unit (s := S4224x512) (k0_off1 i) S512x128.size (k0_off1_inb i)).toLoadRect (harg3.unread x1))
        (View.readAt (Elt F) arg4.view (Rect.unit (s := S4224x512) (k0_off1 i) S512x128.size (k0_off1_inb i)).toLoadRect (harg4.unread x2)) (k0_pay225, k0_pay229),
      stepSeen (seen (BitVec.ofNat 32 (i 1).val) (Scalar.muli 4#32 0#32)) k0_pay224 (View.readAt (Elt F) arg2.view (Rect.unit (s := S384x512) ![0, 128] S384x128.size inb_S384x512_S384x128_0_128).toLoadRect (harg2.unread x0))
        (View.readAt (Elt F) arg3.view (Rect.unit (s := S4224x512) (k0_off2 i) S512x128.size (k0_off2_inb i)).toLoadRect (harg3.unread x1))
        (View.readAt (Elt F) arg4.view (Rect.unit (s := S4224x512) (k0_off2 i) S512x128.size (k0_off2_inb i)).toLoadRect (harg4.unread x2)) (k0_pay226, k0_pay230),
      stepSeen (seen (BitVec.ofNat 32 (i 1).val) (Scalar.muli 4#32 0#32)) k0_pay224 (View.readAt (Elt F) arg2.view (Rect.unit (s := S384x512) ![0, 256] S384x128.size inb_S384x512_S384x128_0_256).toLoadRect (harg2.unread x0))
        (View.readAt (Elt F) arg3.view (Rect.unit (s := S4224x512) (k0_off3 i) S512x128.size (k0_off3_inb i)).toLoadRect (harg3.unread x1))
        (View.readAt (Elt F) arg4.view (Rect.unit (s := S4224x512) (k0_off3 i) S512x128.size (k0_off3_inb i)).toLoadRect (harg4.unread x2)) (k0_pay227, k0_pay231),
      stepSeen (seen (BitVec.ofNat 32 (i 1).val) (Scalar.muli 4#32 0#32)) k0_pay224 (View.readAt (Elt F) arg2.view (Rect.unit (s := S384x512) ![0, 384] S384x128.size inb_S384x512_S384x128_0_384).toLoadRect (harg2.unread x0))
        (View.readAt (Elt F) arg3.view (Rect.unit (s := S4224x512) (k0_off4 i) S512x128.size (k0_off4_inb i)).toLoadRect (harg3.unread x1))
        (View.readAt (Elt F) arg4.view (Rect.unit (s := S4224x512) (k0_off4 i) S512x128.size (k0_off4_inb i)).toLoadRect (harg4.unread x2)) (k0_pay228, k0_pay232)]

/-- What the loops start from, as the kernel's text has it. -/
theorem start_eq : start i arg2 harg2 arg3 harg3 arg4 harg4 x0 x1 x2 = (k0_pay292 k0_pay225 (kernelRun0_A.sl.r_44 c i arg2 harg2 arg3 harg3 arg4 harg4 x0 x1 x2), k0_pay293 k0_pay226 (kernelRun0_A.sl.r_45 c i arg2 harg2 arg3 harg3 arg4 harg4 x0 x1 x2), k0_pay294 k0_pay227 (kernelRun0_A.sl.r_46 c i arg2 harg2 arg3 harg3 arg4 harg4 x0 x1 x2), k0_pay295 k0_pay228 (kernelRun0_A.sl.r_47 c i arg4 harg4 x2) (kernelRun0_A.sl.r_48 c i arg2 harg2 arg3 harg3 x0 x1), (kernelRun0_A.sl.r_21 c i arg2 harg2 arg3 harg3 x0 x1), (kernelRun0_A.sl.r_25 c i arg2 harg2 arg3 harg3 x0 x1), (kernelRun0_A.sl.r_27 c i arg2 harg2 arg3 harg3 x0 x1), (kernelRun0_A.sl.r_31 c i arg2 harg2 arg3 harg3 x0 x1)) :=
  rfl

/-- What the middle loop leaves. -/
def after1 : Carried F :=
  st_k0_t1 Variants.none c none i arg2 harg2 arg3 harg3 arg4 harg4 arg5 harg5 arg6 harg6 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) k0_pay224 k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (harg3.unread x1) (harg4.unread x2) (start i arg2 harg2 arg3 harg3 arg4 harg4 x0 x1 x2) (k0_t1_loop i).trips

/-- What the second loop leaves, which never runs. -/
def after2 : Carried F :=
  st_k0_t2 Variants.none c none i arg2 harg2 arg3 harg3 arg4 harg4 arg5 harg5 arg6 harg6 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) k0_pay224 k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (kernelRun0_A.sl.v389 i) (harg3.unread x1) (harg4.unread x2) (after1 c i arg2 harg2 arg3 harg3 arg4 harg4 arg5 harg5 arg6 harg6 x0 x1 x2) (k0_t2_loop i).trips

/-- What the last loop leaves. -/
def after3 : Carried F :=
  st_k0_t3 Variants.none c none i arg2 harg2 arg3 harg3 arg4 harg4 arg5 harg5 arg6 harg6 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) k0_pay224 k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (kernelRun0_A.sl.v393 i) (harg3.unread x1) (harg4.unread x2) (after2 c i arg2 harg2 arg3 harg3 arg4 harg4 arg5 harg5 arg6 harg6 x0 x1 x2) (k0_t3_loop i).trips

/-- What the fourth loop leaves, which never runs. -/
def after4 : Carried F :=
  st_k0_t4 Variants.none c none i arg2 harg2 arg3 harg3 arg4 harg4 arg5 harg5 arg6 harg6 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) k0_pay224 k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (kernelRun0_A.sl.v398 i) (harg3.unread x1) (harg4.unread x2) (after3 c i arg2 harg2 arg3 harg3 arg4 harg4 arg5 harg5 arg6 harg6 x0 x1 x2) (k0_t4_loop i).trips

seal st_k0_t1 st_k0_t2 st_k0_t3 st_k0_t4 in
/-- The body's stores of the f32 result are the four heads' sums of weighted values. -/
theorem pieces : (kernelRun0_A c i arg2 harg2 arg3 harg3 arg4 harg4 arg5 harg5 arg6 harg6 x0 x1 x2).1 =
    [⟨Rect.unit ![0, 384] ![384, 128] inb_S384x512_S384x128_0_384, (after4 c i arg2 harg2 arg3 harg3 arg4 harg4 arg5 harg5 arg6 harg6 x0 x1 x2).2.2.2.1⟩,
      ⟨Rect.unit ![0, 256] ![384, 128] inb_S384x512_S384x128_0_256, (after4 c i arg2 harg2 arg3 harg3 arg4 harg4 arg5 harg5 arg6 harg6 x0 x1 x2).2.2.1⟩,
      ⟨Rect.unit ![0, 128] ![384, 128] inb_S384x512_S384x128_0_128, (after4 c i arg2 harg2 arg3 harg3 arg4 harg4 arg5 harg5 arg6 harg6 x0 x1 x2).2.1⟩,
      ⟨Rect.unit ![0, 0] ![384, 128] inb_S384x512_S384x128_0_0, (after4 c i arg2 harg2 arg3 harg3 arg4 harg4 arg5 harg5 arg6 harg6 x0 x1 x2).1⟩] := by
  unfold kernelRun0_A after4 after3 after2 after1
  rw [start_eq (c := c)]
  rfl

seal st_k0_t1 st_k0_t2 st_k0_t3 st_k0_t4 in
/-- The body's stores of the second result are the same, rounded. -/
theorem pieces' : (kernelRun0_A c i arg2 harg2 arg3 harg3 arg4 harg4 arg5 harg5 arg6 harg6 x0 x1 x2).2.1 =
    [⟨Rect.unit ![0, 384] ![384, 128] inb_S384x512_S384x128_0_384, truncf .bf16 (after4 c i arg2 harg2 arg3 harg3 arg4 harg4 arg5 harg5 arg6 harg6 x0 x1 x2).2.2.2.1⟩,
      ⟨Rect.unit ![0, 256] ![384, 128] inb_S384x512_S384x128_0_256, truncf .bf16 (after4 c i arg2 harg2 arg3 harg3 arg4 harg4 arg5 harg5 arg6 harg6 x0 x1 x2).2.2.1⟩,
      ⟨Rect.unit ![0, 128] ![384, 128] inb_S384x512_S384x128_0_128, truncf .bf16 (after4 c i arg2 harg2 arg3 harg3 arg4 harg4 arg5 harg5 arg6 harg6 x0 x1 x2).2.1⟩,
      ⟨Rect.unit ![0, 0] ![384, 128] inb_S384x512_S384x128_0_0, truncf .bf16 (after4 c i arg2 harg2 arg3 harg3 arg4 harg4 arg5 harg5 arg6 harg6 x0 x1 x2).1⟩] := by
  unfold kernelRun0_A after4 after3 after2 after1
  rw [start_eq (c := c)]
  rfl

/-- One head's sums after every group. -/
def total (n : ℕ) (q : Vec F S384x128 .bf16) (k v : ℕ → Vec F S512x128 .bf16) : Sums F :=
  walk (fun _ => stepSeen (seen (BitVec.ofNat 32 n) (Scalar.muli 4#32 (BitVec.ofNat 32 (groups n - 1)))) k0_pay224 q (k (groups n - 1)) (v (groups n - 1)))
    (walk (fun t => step k0_pay224 q (k (t + 1)) (v (t + 1)))
      (stepSeen (seen (BitVec.ofNat 32 n) (Scalar.muli 4#32 0#32)) k0_pay224 q (k 0) (v 0) (k0_pay225, k0_pay229)) (groups n - 2))
    (if n = 0 then 0 else 1)

/-- What the loops leave, head by head. -/
theorem after4_eq : after4 c i arg2 harg2 arg3 harg3 arg4 harg4 arg5 harg5 arg6 harg6 x0 x1 x2
    = together fun h => total (i 1).val (cols x0 h) (fun t => rows x1 (low (i 1).val t) h) (fun t => rows x2 (low (i 1).val t) h) := by
  obtain ⟨e0, e1, e2, e3⟩ := first_at i
  obtain ⟨t1, t2, t3, t4⟩ := trips i
  have hq : ∀ h : Fin 4, ![(kernelRun0_A.sl.r c arg2 harg2 x0), (kernelRun0_A.sl.r_1 c arg2 harg2 x0), (kernelRun0_A.sl.r_2 c arg2 harg2 x0), (kernelRun0_A.sl.r_3 c arg2 harg2 x0)] h = cols x0 h := fun h => by
    fin_cases h
    · exact load_cols arg2 harg2 x0 _ _ 0 rfl
    · exact load_cols arg2 harg2 x0 _ _ 1 rfl
    · exact load_cols arg2 harg2 x0 _ _ 2 rfl
    · exact load_cols arg2 harg2 x0 _ _ 3 rfl
  have hs : start i arg2 harg2 arg3 harg3 arg4 harg4 x0 x1 x2 = together fun h => stepSeen (seen (BitVec.ofNat 32 (i 1).val) (Scalar.muli 4#32 0#32)) k0_pay224 (cols x0 h)
      (rows x1 (low (i 1).val 0) h) (rows x2 (low (i 1).val 0) h) (k0_pay225, k0_pay229) := by
    unfold start
    rw [load_rows arg3 _ _ _ _ _ 0 e0, load_rows arg3 _ _ _ _ _ 1 e1, load_rows arg3 _ _ _ _ _ 2 e2, load_rows arg3 _ _ _ _ _ 3 e3,
      load_rows arg4 _ _ _ _ _ 0 e0, load_rows arg4 _ _ _ _ _ 1 e1, load_rows arg4 _ _ _ _ _ 2 e2, load_rows arg4 _ _ _ _ _ 3 e3,
      load_cols arg2 _ _ ![0, 0] _ 0 rfl, load_cols arg2 _ _ ![0, 128] _ 1 rfl, load_cols arg2 _ _ ![0, 256] _ 2 rfl, load_cols arg2 _ _ ![0, 384] _ 3 rfl]
    rfl
  have h1 : after1 c i arg2 harg2 arg3 harg3 arg4 harg4 arg5 harg5 arg6 harg6 x0 x1 x2 = _ :=
    loop_middle c i arg2 harg2 arg3 harg3 arg4 harg4 arg5 harg5 arg6 harg6 x1 x2 k0_pay224 ![(kernelRun0_A.sl.r c arg2 harg2 x0), (kernelRun0_A.sl.r_1 c arg2 harg2 x0), (kernelRun0_A.sl.r_2 c arg2 harg2 x0), (kernelRun0_A.sl.r_3 c arg2 harg2 x0)] k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (start i arg2 harg2 arg3 harg3 arg4 harg4 x0 x1 x2) _ le_rfl
  have h2 : after2 c i arg2 harg2 arg3 harg3 arg4 harg4 arg5 harg5 arg6 harg6 x0 x1 x2 = after1 c i arg2 harg2 arg3 harg3 arg4 harg4 arg5 harg5 arg6 harg6 x0 x1 x2 := by
    unfold after2
    rw [t2]
    rfl
  have h3 : after3 c i arg2 harg2 arg3 harg3 arg4 harg4 arg5 harg5 arg6 harg6 x0 x1 x2 = _ :=
    loop_last c i arg2 harg2 arg3 harg3 arg4 harg4 arg5 harg5 arg6 harg6 x1 x2 k0_pay224 ![(kernelRun0_A.sl.r c arg2 harg2 x0), (kernelRun0_A.sl.r_1 c arg2 harg2 x0), (kernelRun0_A.sl.r_2 c arg2 harg2 x0), (kernelRun0_A.sl.r_3 c arg2 harg2 x0)] k0_pay225 k0_pay226 k0_pay227 k0_pay228 (kernelRun0_A.sl.v38 i) (kernelRun0_A.sl.r_21 c i arg2 harg2 arg3 harg3 x0 x1) (kernelRun0_A.sl.r_25 c i arg2 harg2 arg3 harg3 x0 x1) (kernelRun0_A.sl.r_27 c i arg2 harg2 arg3 harg3 x0 x1) (kernelRun0_A.sl.r_31 c i arg2 harg2 arg3 harg3 x0 x1) (kernelRun0_A.sl.r_44 c i arg2 harg2 arg3 harg3 arg4 harg4 x0 x1 x2) (kernelRun0_A.sl.r_45 c i arg2 harg2 arg3 harg3 arg4 harg4 x0 x1 x2) (kernelRun0_A.sl.r_46 c i arg2 harg2 arg3 harg3 arg4 harg4 x0 x1 x2) (kernelRun0_A.sl.r_47 c i arg4 harg4 x2) (kernelRun0_A.sl.r_48 c i arg2 harg2 arg3 harg3 x0 x1) (after2 c i arg2 harg2 arg3 harg3 arg4 harg4 arg5 harg5 arg6 harg6 x0 x1 x2) _ le_rfl
  have h4 : after4 c i arg2 harg2 arg3 harg3 arg4 harg4 arg5 harg5 arg6 harg6 x0 x1 x2 = after3 c i arg2 harg2 arg3 harg3 arg4 harg4 arg5 harg5 arg6 harg6 x0 x1 x2 := by
    unfold after4
    rw [t4]
    rfl
  rw [h4, h3, h2, h1, hs, t1, t3]
  simp only [part_together, hq]
  rfl

end Out

end Cert.Proof.Stick

end
-- ==== Proof.StickRow.lean ====
module

public import proofs.«01_k».proof.Proof.StickStep

@[expose] public section

set_option maxRecDepth 16384

/-!
The parts of one head's step at an index, over the extended reals: the scores, the logarithms of the two probabilities,
and the sums of the kept logarithms over the later keys, which the kernel takes 128 keys at a time, inside each 128 by a
product with a triangular matrix of ones.
-/

noncomputable section

namespace Cert.Proof.Stick

open Cert.Kernel21Ideal Cert.Kernel21Ideal.Gen Idealize.ShloMosaic Idealize.ShloMosaic.TcCoe

variable (q : Vec Ideal S384x128 .bf16) (k : Vec Ideal S512x128 .bf16) (z l w : FVec Ideal S384x512 .f32) (cs : FVec Ideal S384x1 .f32)
  (acc : FVec Ideal S384x128 .f32) (us : FVec Ideal S128x128 .bf16)
  (r : Fin 384) (j : Fin 512) (d : Fin 128)

/-- A score. -/
theorem score_at : k0_pay3 q k (ix2 r j) = (∑ x : Fin 128, q (ix2 r x) * k (ix2 j x)) * Ideal.ofBits .f32 0x3DB504F3#32 := by
  pointwise [k0_pay3]

/-- The logarithm of the logistic function of a score. -/
def logSig (z : EReal) : EReal := min z 0 - Ideal.log (1 + Ideal.exp (0 - FloatOps.absf (F := Ideal) (φ := .f32) z))

/-- The kernel takes it so. -/
theorem logSig_at : k0_pay8 z (ix2 r j) = logSig (z (ix2 r j)) := by
  pointwise [k0_pay8, logSig]

/-- The logarithm of what is kept. -/
theorem keep_at : k0_pay12 z (ix2 r j) = logSig (z (ix2 r j)) - z (ix2 r j) := by
  pointwise [k0_pay12, k0_pay8, logSig]

/-- The sum of weighted values grows by the group's product. -/
theorem acc_at : k0_pay297 acc w k (ix2 r d) = acc (ix2 r d) + ∑ x : Fin 512, w (ix2 r x) * k (ix2 x d) := by
  pointwise [k0_pay297]

/-- Key `x` of the 128 keys number `b` of a group. -/
def key (b : Fin 4) (x : Fin 128) : Fin 512 := ⟨128 * b.val + x.val, by omega⟩

/-- A sum over a group's keys is one over its four 128s. -/
theorem sum_keys {M : Type} [AddCommMonoid M] (f : Fin 512 → M) : ∑ y : Fin 512, f y = ∑ b : Fin 4, ∑ x : Fin 128, f (key b x) := by
  rw [← Equiv.sum_comp (finProdFinEquiv (m := 4) (n := 128)) f, Fintype.sum_prod_type]
  refine Finset.sum_congr rfl fun b _ => Finset.sum_congr rfl fun x _ => congrArg f (Fin.ext ?_)
  show x.val + 128 * b.val = 128 * b.val + x.val
  omega

/-- The sum of what is kept grows by the group's. -/
theorem cs_at : k0_pay26 cs l (ix2 r 0) = cs (ix2 r 0) + ∑ y : Fin 512, l (ix2 r y) := by
  have e : k0_pay26 cs l (ix2 r 0) = cs (ix2 r 0) + (∑ x : Fin 128, l (ix2 r (key 3 x))) + (∑ x : Fin 128, l (ix2 r (key 2 x)))
      + (∑ x : Fin 128, l (ix2 r (key 1 x))) + ∑ x : Fin 128, l (ix2 r (key 0 x)) := by
    pointwise [k0_pay26, k0_pay25, k0_pay24, k0_pay23]
    simp only [key]
    congr
    funext x
    exact congrArg (fun y => l (ix2 r y)) (Fin.ext (by show x.val = 128 * 0 + x.val; omega))
  rw [e, sum_keys, Fin.sum_univ_four]
  abel

/-- What is kept over the later 128s and the later groups. -/
theorem inter_at : k0_pay27 cs l (ix2 r j) = cs (ix2 r 0) + ∑ b : Fin 4, if j.val / 128 < b.val then ∑ x : Fin 128, l (ix2 r (key b x)) else 0 := by
  have e : k0_pay27 cs l (ix2 r j) = if j.val < 128 then cs (ix2 r 0) + (∑ x : Fin 128, l (ix2 r (key 3 x))) + (∑ x : Fin 128, l (ix2 r (key 2 x)))
        + (∑ x : Fin 128, l (ix2 r (key 1 x)))
      else if j.val - 128 < 128 then cs (ix2 r 0) + (∑ x : Fin 128, l (ix2 r (key 3 x))) + (∑ x : Fin 128, l (ix2 r (key 2 x)))
      else if j.val - 128 - 128 < 128 then cs (ix2 r 0) + (∑ x : Fin 128, l (ix2 r (key 3 x))) else cs (ix2 r 0) := by
    pointwise [k0_pay27, k0_pay25, k0_pay24, k0_pay23]
    simp only [key]
    congr
  rw [e, Fin.sum_univ_four]
  have hj := j.isLt
  by_cases h1 : j.val < 128
  · rw [if_pos h1, show j.val / 128 = 0 by omega]
    simp
    abel
  rw [if_neg h1]
  by_cases h2 : j.val - 128 < 128
  · rw [if_pos h2, show j.val / 128 = 1 by omega]
    simp
    abel
  rw [if_neg h2]
  by_cases h3 : j.val - 128 - 128 < 128
  · rw [if_pos h3, show j.val / 128 = 2 by omega]
    simp
  rw [if_neg h3, show j.val / 128 = 3 by omega]
  simp

/-- The triangular matrix of ones. -/
theorem ones_at (a b : Fin 128) : (k0_pay224 : FVec Ideal S128x128 .bf16) (ix2 a b) = if b < a then 1 else 0 := by
  pointwise [k0_pay224]
  have e : ∀ a b : Fin 128, BitVec.setWidth 32 (IntOp.cmpi CmpIPredicate.sgt (BitVec.ofNat 32 a.val) (BitVec.ofNat 32 b.val)) = if b < a then 1#32 else 0#32 := by
    decide +kernel
  rw [e]
  split
  · show (((1#32).toInt : ℝ) : EReal) = 1
    simp
  · show (((0#32).toInt : ℝ) : EReal) = 0
    simp

/-- The eight blocks of 128 keys the triangular product works on: four of the values, four of what rounding them leaves. -/
def blocks : Fin 8 → FVec Ideal S384x128 .bf16 :=
  ![extractStridedSlice S384x128 ![0, 0] (truncf .bf16 l bitsLt_bf16_f32 : FVec Ideal S384x512 .bf16) slices_S384x512_o0_0_S384x128,
    extractStridedSlice S384x128 ![0, 128] (truncf .bf16 l bitsLt_bf16_f32 : FVec Ideal S384x512 .bf16) slices_S384x512_o0_128_S384x128,
    extractStridedSlice S384x128 ![0, 256] (truncf .bf16 l bitsLt_bf16_f32 : FVec Ideal S384x512 .bf16) slices_S384x512_o0_256_S384x128,
    extractStridedSlice S384x128 ![0, 384] (truncf .bf16 l bitsLt_bf16_f32 : FVec Ideal S384x512 .bf16) slices_S384x512_o0_384_S384x128,
    extractStridedSlice S384x128 ![0, 0] (truncf .bf16 (subf l (extf .f32 (truncf .bf16 l bitsLt_bf16_f32 : FVec Ideal S384x512 .bf16) bitsLt_bf16_f32)) bitsLt_bf16_f32 : FVec Ideal S384x512 .bf16) slices_S384x512_o0_0_S384x128,
    extractStridedSlice S384x128 ![0, 128] (truncf .bf16 (subf l (extf .f32 (truncf .bf16 l bitsLt_bf16_f32 : FVec Ideal S384x512 .bf16) bitsLt_bf16_f32)) bitsLt_bf16_f32 : FVec Ideal S384x512 .bf16) slices_S384x512_o0_128_S384x128,
    extractStridedSlice S384x128 ![0, 256] (truncf .bf16 (subf l (extf .f32 (truncf .bf16 l bitsLt_bf16_f32 : FVec Ideal S384x512 .bf16) bitsLt_bf16_f32)) bitsLt_bf16_f32 : FVec Ideal S384x512 .bf16) slices_S384x512_o0_256_S384x128,
    extractStridedSlice S384x128 ![0, 384] (truncf .bf16 (subf l (extf .f32 (truncf .bf16 l bitsLt_bf16_f32 : FVec Ideal S384x512 .bf16) bitsLt_bf16_f32)) bitsLt_bf16_f32 : FVec Ideal S384x512 .bf16) slices_S384x512_o0_384_S384x128]

/-- A block of the values. -/
theorem blocks_value (b : Fin 4) (x : Fin 128) : blocks l ⟨b.val, by omega⟩ (ix2 r x) = l (ix2 r (key b x)) := by
  fin_cases b <;> (simp only [blocks]; pointwise [key])

/-- A block of what rounding leaves. -/
theorem blocks_rest (b : Fin 4) (x : Fin 128) : blocks l ⟨4 + b.val, by omega⟩ (ix2 r x) = l (ix2 r (key b x)) - l (ix2 r (key b x)) := by
  fin_cases b <;> (simp only [blocks]; pointwise [key])

/-- The blocks one under the other. -/
def stack : FVec Ideal S3072x128 .bf16 :=
  concatenate S3072x128 0 (List.ofFn fun n : Fin 8 => ⟨S384x128, blocks l n⟩) concatenates_S384x128_S384x128_S384x128_S384x128_S384x128_S384x128_S384x128_S384x128_S3072x128_d0

/-- Row `r` of block `n` of eight blocks. -/
def row (n : Fin 8) : Fin 3072 := ⟨384 * n.val + r.val, by omega⟩

/-- Block `n` of the stack. -/
theorem stack_at (n : Fin 8) (x : Fin 128) : stack l (ix2 (row r n) x) = blocks l n (ix2 r x) := by
  refine concatenate_ofFn_apply (t := S3072x128) (s₁ := S384x128) 0 (fun n => blocks l n) _ rfl 384 rfl (ix2 (row r n) x) n ?_ (ix2 r x) ?_ ?_
  · show (384 * n.val + r.val) / 384 = n.val
    omega
  · show r.val = (384 * n.val + r.val) % 384
    omega
  · intro b hb
    fin_cases b
    · exact absurd rfl hb
    · rfl

/-- The stack's product with a square matrix. -/
def product : FVec Ideal S3072x128 .f32 :=
  matmul dot_S3072x128_S128x128_S3072x128_1_0_0_1_n_n none (stack l) us (constant S3072x128 .f32 0x00000000#32)

/-- The product at an index. -/
theorem product_at (n : Fin 8) : product l us (ix2 (row r n) d) = ∑ x : Fin 128, blocks l n (ix2 r x) * us (ix2 x d) := by
  have e : product l us (ix2 (row r n) d) = ∑ x : Fin 128, stack l (ix2 (row r n) x) * us (ix2 x d) := by
    pointwise [product]
  rw [e]
  exact Finset.sum_congr (M := EReal) rfl fun x _ => by rw [stack_at]

/-- The products of the values and of what rounding leaves, added. -/
def added : Fin 4 → FVec Ideal S384x128 .f32 :=
  ![addf (extractStridedSlice S384x128 ![0, 0] (product l us) slices_S3072x128_o0_0_S384x128) (extractStridedSlice S384x128 ![1536, 0] (product l us) slices_S3072x128_o1536_0_S384x128),
    addf (extractStridedSlice S384x128 ![384, 0] (product l us) slices_S3072x128_o384_0_S384x128) (extractStridedSlice S384x128 ![1920, 0] (product l us) slices_S3072x128_o1920_0_S384x128),
    addf (extractStridedSlice S384x128 ![768, 0] (product l us) slices_S3072x128_o768_0_S384x128) (extractStridedSlice S384x128 ![2304, 0] (product l us) slices_S3072x128_o2304_0_S384x128),
    addf (extractStridedSlice S384x128 ![1152, 0] (product l us) slices_S3072x128_o1152_0_S384x128) (extractStridedSlice S384x128 ![2688, 0] (product l us) slices_S3072x128_o2688_0_S384x128)]

/-- The added products at an index. -/
theorem added_at (b : Fin 4) : added l us b (ix2 r d) = product l us (ix2 (row r ⟨b.val, by omega⟩) d) + product l us (ix2 (row r ⟨4 + b.val, by omega⟩) d) := by
  fin_cases b <;> (simp only [added]; pointwise [row])

/-- The kernel's sums inside each 128 keys are the added products side by side. -/
theorem intra_eq : k0_pay43 us l = concatenate S384x512 1 (List.ofFn fun n : Fin 4 => ⟨S384x128, added l us n⟩) concatenates_S384x128_S384x128_S384x128_S384x128_S384x512_d1 :=
  rfl

/-- What is kept over the later keys of the same 128, where that is finite. -/
theorem intra_at (h : ∀ y : Fin 512, ∃ x : ℝ, l (ix2 r y) = x) (b : Fin 4) :
    k0_pay43 k0_pay224 l (ix2 r (key b d)) = ∑ x : Fin 128, if d < x then l (ix2 r (key b x)) else 0 := by
  have e : k0_pay43 k0_pay224 l (ix2 r (key b d)) = added l k0_pay224 b (ix2 r d) := by
    rw [intra_eq]
    refine concatenate_ofFn_apply (t := S384x512) (s₁ := S384x128) 1 (fun n => added l k0_pay224 n) _ rfl 128 rfl (ix2 r (key b d)) b ?_ (ix2 r d) ?_ ?_
    · show (128 * b.val + d.val) / 128 = b.val
      omega
    · show d.val = (128 * b.val + d.val) % 128
      omega
    · intro a ha
      fin_cases a
      · rfl
      · exact absurd rfl ha
  rw [e, added_at, product_at, product_at]
  have z : ∑ x : Fin 128, blocks l ⟨4 + b.val, by omega⟩ (ix2 r x) * k0_pay224 (F := Ideal) (ix2 x d) = 0 := by
    refine Finset.sum_eq_zero (M := EReal) fun x _ => ?_
    obtain ⟨y, hy⟩ := h (key b x)
    rw [blocks_rest, hy, ← EReal.coe_sub, sub_self, EReal.coe_zero]
    exact zero_mul _
  refine (congrArg (_ + ·) z).trans ((add_zero _).trans (Finset.sum_congr (M := EReal) rfl fun x _ => ?_))
  rw [blocks_value, ones_at]
  split
  · exact mul_one _
  · exact mul_zero _

/-- What is kept over the later keys, in the group and after it. -/
theorem later_at (h : ∀ y : Fin 512, ∃ x : ℝ, l (ix2 r y) = x) :
    k0_pay43 k0_pay224 l (ix2 r j) + k0_pay27 cs l (ix2 r j) = cs (ix2 r 0) + ∑ y : Fin 512, if j < y then l (ix2 r y) else 0 := by
  obtain ⟨b, d, rfl⟩ : ∃ b d, j = key b d := ⟨⟨j.val / 128, by omega⟩, ⟨j.val % 128, by omega⟩, Fin.ext (by show j.val = 128 * (j.val / 128) + j.val % 128; omega)⟩
  rw [intra_at l r d h b, inter_at, sum_keys]
  have split : ∀ c : Fin 4, (∑ x : Fin 128, if key b d < key c x then l (ix2 r (key c x)) else 0)
      = (if c = b then ∑ x : Fin 128, (if d < x then l (ix2 r (key b x)) else 0) else 0)
        + if (key b d).val / 128 < c.val then ∑ x : Fin 128, l (ix2 r (key c x)) else 0 := fun c => by
    have hd : (key b d).val / 128 = b.val := by show (128 * b.val + d.val) / 128 = b.val; omega
    rw [hd]
    rcases lt_trichotomy c.val b.val with hc | hc | hc
    · rw [if_neg (by intro e; rw [e] at hc; omega), if_neg (by omega), add_zero]
      exact Finset.sum_eq_zero fun x _ => if_neg (by show ¬ (128 * b.val + d.val < 128 * c.val + x.val); omega)
    · have hc' : c = b := Fin.ext hc
      subst hc'
      rw [if_pos rfl, if_neg (by omega), add_zero]
      refine Finset.sum_congr rfl fun x _ => if_congr ?_ rfl rfl
      show 128 * c.val + d.val < 128 * c.val + x.val ↔ d.val < x.val
      omega
    · rw [if_neg (by intro e; rw [e] at hc; omega), if_pos hc, zero_add]
      exact Finset.sum_congr rfl fun x _ => if_pos (by show 128 * b.val + d.val < 128 * c.val + x.val; omega)
  rw [Finset.sum_congr rfl fun c _ => split c, Finset.sum_add_distrib, Finset.sum_ite_eq' Finset.univ b, if_pos (Finset.mem_univ b)]
  abel

end Cert.Proof.Stick

end
-- ==== Proof.StickSum.lean ====
module

public import proofs.«01_k».proof.Proof.StickRow
public import Idealize.ShloMosaic.Lib.WordCmp

@[expose] public section

set_option maxRecDepth 16384

/-!
One query's output as sums over all keys, and the kernel's walk over the groups of keys, nearest first: after each group
the two running sums are the sums over the keys from that group's first one on.
-/

noncomputable section

namespace Cert.Proof.Stick

open Cert.Kernel21Ideal Cert.Kernel21Ideal.Gen Idealize.ShloMosaic Idealize.ShloMosaic.TcCoe Idealize.ShloMosaic.WordCmp

/-! ### The mathematics of one query -/

/-- Query `r` sees key `s`. -/
abbrev sees (r s : ℕ) : Prop := s < r ∧ 112 ≤ s

/-- The logarithm of what key `s` leaves to the earlier keys; nothing is taken by a key that is not seen. -/
def keep (r : ℕ) (Z : Fin 4224 → EReal) (s : Fin 4224) : EReal := if sees r s.val then logSig (Z s) - Z s else 0

/-- The sum of a function of the keys from key `b` on. -/
def after (b : ℕ) (f : Fin 4224 → EReal) : EReal := ∑ s : Fin 4224, if b ≤ s.val then f s else 0

/-- The weight of key `s`. -/
def weight (r : ℕ) (Z : Fin 4224 → EReal) (s : Fin 4224) : EReal :=
  if sees r s.val then Ideal.exp (logSig (Z s) + after (s.val + 1) (keep r Z)) else 0

/-- The logarithm of the logistic function of a real number. -/
theorem logSig_coe (z : ℝ) : logSig (z : EReal) = ((min z 0 - Real.log (1 + Real.exp (-|z|)) : ℝ) : EReal) := by
  have h : FloatOps.absf (F := Ideal) (φ := .f32) (z : EReal) = ((|z| : ℝ) : EReal) := by
    show max (z : EReal) (-z) = _
    rw [← EReal.coe_neg]; exact (EReal.coe_strictMono.monotone.map_max (a := z) (b := -z)).symm
  have hp : 0 < Real.exp (-|z|) := Real.exp_pos _
  unfold logSig
  rw [h, zero_sub, ← EReal.coe_neg, Ideal.exp_coe, ← EReal.coe_one, ← EReal.coe_add, Ideal.log_coe, if_neg (by linarith), ← EReal.coe_zero,
    ← EReal.coe_strictMono.monotone.map_min, ← EReal.coe_sub]

/-- What is kept is a finite number. -/
theorem keep_real (r : ℕ) (Z : Fin 4224 → EReal) (hZ : ∀ s, ∃ z : ℝ, Z s = z) (s : Fin 4224) : ∃ z : ℝ, keep r Z s = z := by
  obtain ⟨z, e⟩ := hZ s
  unfold keep
  split
  · rw [e, logSig_coe, ← EReal.coe_sub]; exact ⟨_, rfl⟩
  · exact ⟨0, rfl⟩

/-- A sum from key `b` on, of which at most 512 keys lie before `high`. -/
theorem grow (f : Fin 4224 → EReal) (b low high : ℕ) (h1 : low ≤ b) (h2 : b ≤ high) (h3 : high ≤ low + 512) (h4 : low + 512 ≤ 4224) :
    after b f = after high f + ∑ y : Fin 512, if b ≤ low + y.val ∧ low + y.val < high then f ⟨low + y.val, by omega⟩ else 0 := by
  let G : ℕ → EReal := fun s => if h : s < 4224 then (if b ≤ s ∧ s < high then f ⟨s, h⟩ else 0) else 0
  have e1 : (∑ y : Fin 512, if b ≤ low + y.val ∧ low + y.val < high then f ⟨low + y.val, by omega⟩ else 0) = ∑ s ∈ Finset.Ico low (low + 512), G s := by
    rw [Finset.sum_Ico_eq_sum_range, Nat.add_sub_cancel_left, ← Fin.sum_univ_eq_sum_range]
    refine Finset.sum_congr rfl fun y _ => ?_
    show _ = dite _ _ _
    rw [dif_pos (by omega : low + y.val < 4224)]
  have e2 : (∑ s : Fin 4224, if b ≤ s.val ∧ s.val < high then f s else 0) = ∑ s ∈ Finset.range 4224, G s := by
    rw [← Fin.sum_univ_eq_sum_range]
    refine Finset.sum_congr rfl fun s _ => ?_
    show _ = dite _ _ _
    rw [dif_pos s.isLt]
  have e3 : ∑ s ∈ Finset.Ico low (low + 512), G s = ∑ s ∈ Finset.range 4224, G s := by
    refine Finset.sum_subset (fun s => by rw [Finset.mem_Ico, Finset.mem_range]; omega) fun s hs hn => ?_
    rw [Finset.mem_range] at hs
    rw [Finset.mem_Ico] at hn
    show dite _ _ _ = _
    rw [dif_pos hs, if_neg (by omega)]
  rw [e1, e3, ← e2]
  unfold after
  rw [← Finset.sum_add_distrib]
  refine Finset.sum_congr (M := EReal) rfl fun s _ => ?_
  by_cases ha : high ≤ s.val
  · rw [if_pos (by omega), if_pos ha, if_neg (by omega), add_zero]
  · rw [if_neg ha, zero_add]
    exact if_congr (by omega) rfl rfl

/-- There is nothing after a key that follows all the seen ones. -/
theorem after_none (b : ℕ) (f : Fin 4224 → EReal) (h : ∀ s : Fin 4224, b ≤ s.val → f s = 0) : after b f = 0 :=
  Finset.sum_eq_zero fun s _ => by
    split
    · exact h s ‹_›
    · rfl

/-- The sum after key 0 is the sum. -/
theorem after_zero (f : Fin 4224 → EReal) : after 0 f = ∑ s, f s :=
  Finset.sum_congr (M := EReal) rfl fun s _ => if_pos (Nat.zero_le _)

/-! ### The kernel's masks -/

/-- The key after the last of group `t`, for query block `n`. -/
def high (n t : ℕ) : ℕ := 128 * (3 * n + 3 - 4 * t)

/-- The group's first key and the key after its last, in the kernel's words. -/
theorem words : ∀ n : Fin 11, ∀ t : Fin 9, t.val < groups n.val →
    Scalar.muli (Scalar.maxsi (Scalar.addi (Scalar.subi (Scalar.subi (Scalar.subi (Scalar.muli (Scalar.addi (BitVec.ofNat 32 n.val) 1#32) 3#32) 1#32) (Scalar.muli 4#32 (BitVec.ofNat 32 t.val))) 4#32) 1#32) 0#32) 128#32
        = BitVec.ofNat 32 (low n.val t.val)
    ∧ Scalar.muli (Scalar.addi (Scalar.subi (Scalar.subi (Scalar.muli (Scalar.addi (BitVec.ofNat 32 n.val) 1#32) 3#32) 1#32) (Scalar.muli 4#32 (BitVec.ofNat 32 t.val))) 1#32) 128#32
        = BitVec.ofNat 32 (high n.val t.val)
    ∧ Scalar.muli (BitVec.ofNat 32 n.val) 384#32 = BitVec.ofNat 32 (384 * n.val) := by
  decide +kernel

/-- Two truth values with one word are the same. -/
theorem of_same (p q : Bool) (h : BitVec.ofBool p = BitVec.ofBool q) : p = q := by
  revert h; cases p <;> cases q <;> decide

/-- The smaller of two small words. -/
theorem min_word (a b : ℕ) (ha : a < 2 ^ 31) (hb : b < 2 ^ 31) : IntOp.minsi (BitVec.ofNat 32 a) (BitVec.ofNat 32 b) = BitVec.ofNat 32 (min a b) := by
  have h := cmpi_slt_ofNat (w := 32) ha hb
  have e : (BitVec.ofNat 32 a).slt (BitVec.ofNat 32 b) = decide (a < b) := by
    exact of_same _ _ h
  unfold IntOp.minsi
  rw [e]
  by_cases hab : a < b
  · rw [if_pos (by simpa using hab), min_eq_left (by omega)]
  · rw [if_neg (by simpa using hab), min_eq_right (by omega)]

/-- The conjunction of two decided words. -/
theorem and_word (p q : Prop) [Decidable p] [Decidable q] : IntOp.andi (BitVec.ofBool (decide p)) (BitVec.ofBool (decide q)) = BitVec.ofBool (decide (p ∧ q)) := by
  by_cases p <;> by_cases q <;> simp [*] <;> decide

/-- The keys seen in a group. -/
theorem seen_at (n : Fin 11) (t : Fin 9) (ht : t.val < groups n.val) (r : Fin 384) (j : Fin 512) :
    seen (BitVec.ofNat 32 n.val) (Scalar.muli 4#32 (BitVec.ofNat 32 t.val)) (ix2 r j)
      = BitVec.ofBool (decide (low n.val t.val + j.val < high n.val t.val ∧ sees (384 * n.val + r.val) (low n.val t.val + j.val))) := by
  obtain ⟨e, e', e''⟩ := words n t ht
  have hl : low n.val t.val ≤ 3840 := by unfold low; omega
  have hh : high n.val t.val ≤ 4224 := by unfold high; omega
  pointwise [seen, k0_pay115, k0_pay114, k0_pay113]
  show IntOp.andi (IntOp.cmpi .slt (IntOp.addi (Scalar.muli (Scalar.maxsi _ _) _) _) (IntOp.minsi (IntOp.addi (Scalar.muli _ _) _) (Scalar.muli (Scalar.addi _ _) _))) (IntOp.cmpi .sge (IntOp.addi (Scalar.muli (Scalar.maxsi _ _) _) _) _) = _
  rw [e, e', e'']
  have a1 : IntOp.addi (BitVec.ofNat 32 (low n.val t.val)) (BitVec.ofNat 32 j.val) = BitVec.ofNat 32 (low n.val t.val + j.val) := BitVec.ofNat_add _ _ |>.symm
  have a2 : IntOp.addi (BitVec.ofNat 32 (384 * n.val)) (BitVec.ofNat 32 r.val) = BitVec.ofNat 32 (384 * n.val + r.val) := BitVec.ofNat_add _ _ |>.symm
  rw [a1, a2, min_word _ _ (by omega) (by omega), cmpi_slt_ofNat (by omega) (by omega), cmpi_sge_ofNat (by omega) (by omega), and_word]
  congr 1
  exact decide_eq_decide.mpr (by unfold sees; omega)

/-! ### One group -/

/-- What a hidden block holds. -/
theorem hide_at (vis : IVec S384x512 1) (x : FVec Ideal S384x512 .f32) (r : Fin 384) (j : Fin 512) (p : Prop) [Decidable p]
    (h : vis (ix2 r j) = BitVec.ofBool (decide p)) : hide vis x (ix2 r j) = if p then x (ix2 r j) else 0 := by
  pointwise [hide]
  rw [h]
  by_cases hp : p <;> simp [hp, Scalar.select]

/-- A step over keys that are all seen is a step with a mask of ones. -/
theorem step_seen (us : FVec Ideal S128x128 .bf16) (q : Vec Ideal S384x128 .bf16) (k v : Vec Ideal S512x128 .bf16) (s : Sums Ideal) :
    step us q k v s = stepSeen (fun _ => 1#1) us q k v s := by
  have e : ∀ x : FVec Ideal S384x512 .f32, hide (fun _ => 1#1) x = x := fun x => funext fun y => by
    unfold hide select; exact if_pos rfl
  unfold step stepSeen
  simp only [e]

/-- A row's two sums hold what they should over the keys from key `b` on. -/
def Upto (R : Fin 384) (r : ℕ) (Z : Fin 4224 → EReal) (x : Fin 4224 → Fin 128 → EReal) (b : ℕ) (s : Sums Ideal) : Prop :=
  s.2 (ix2 R 0) = after b (keep r Z) ∧ ∀ d : Fin 128, s.1 (ix2 R d) = after b fun y => weight r Z y * x y d

section Group

variable (vis : IVec S384x512 1) (q : Vec Ideal S384x128 .bf16) (k v : Vec Ideal S512x128 .bf16) (s : Sums Ideal) (R : Fin 384) (r : ℕ)
  (Z : Fin 4224 → EReal) (x : Fin 4224 → Fin 128 → EReal) (lo hi : ℕ) (h2 : lo ≤ hi) (h3 : hi ≤ lo + 512) (h4 : lo + 512 ≤ 4224)
  (hZ : ∀ y, ∃ z : ℝ, Z y = z)
  (hs : ∀ j : Fin 512, k0_pay3 q k (ix2 R j) = Z ⟨lo + j.val, by omega⟩) (hv : ∀ (j : Fin 512) (d : Fin 128), v (ix2 j d) = x ⟨lo + j.val, by omega⟩ d)
  (hm : ∀ j : Fin 512, vis (ix2 R j) = BitVec.ofBool (decide (lo + j.val < hi ∧ sees r (lo + j.val))))

include h2 h3 h4 hZ hs hv hm in
/-- One group extends the sums to its first key. -/
theorem group (h : Upto R r Z x hi s) : Upto R r Z x lo (stepSeen vis k0_pay224 q k v s) := by
  obtain ⟨hc, ha⟩ := h
  have hl : ∀ j : Fin 512, hide vis (k0_pay12 (k0_pay3 q k)) (ix2 R j) = if lo + j.val < hi then keep r Z ⟨lo + j.val, by omega⟩ else 0 := fun j => by
    rw [hide_at vis _ R j _ (hm j), keep_at, hs]
    unfold keep
    by_cases a : lo + j.val < hi <;> by_cases b : sees r (lo + j.val) <;> simp [a, b]
  have hr : ∀ j : Fin 512, ∃ z : ℝ, hide vis (k0_pay12 (k0_pay3 q k)) (ix2 R j) = z := fun j => by
    rw [hl]
    split
    · exact keep_real r Z hZ _
    · exact ⟨0, rfl⟩
  have hlate : ∀ j : Fin 512, lo + j.val < hi → k0_pay43 k0_pay224 (hide vis (k0_pay12 (k0_pay3 q k))) (ix2 R j) + k0_pay27 s.2 (hide vis (k0_pay12 (k0_pay3 q k))) (ix2 R j)
      = after (lo + j.val + 1) (keep r Z) := fun j hj => by
    rw [later_at _ _ _ _ hr, hc, grow (keep r Z) (lo + j.val + 1) lo hi (by omega) (by omega) h3 h4]
    congr 1
    refine Finset.sum_congr (M := EReal) rfl fun y _ => ?_
    rw [hl]
    by_cases a : j < y
    · have a' : j.val < y.val := a
      rw [if_pos a]
      by_cases b : lo + y.val < hi
      · rw [if_pos b, if_pos ⟨by omega, b⟩]
      · rw [if_neg b, if_neg fun c => b c.2]
    · have a' : ¬ j.val < y.val := a
      rw [if_neg a, if_neg fun c => a' (by omega)]
  refine ⟨?_, fun d => ?_⟩
  · show k0_pay26 s.2 _ (ix2 R 0) = _
    rw [cs_at, hc, grow (keep r Z) lo lo hi le_rfl h2 h3 h4]
    congr 1
    refine Finset.sum_congr (M := EReal) rfl fun y _ => ?_
    rw [hl]
    exact if_congr (by omega) rfl rfl
  · show k0_pay297 s.1 _ v (ix2 R d) = _
    rw [acc_at, ha, grow (fun y => weight r Z y * x y d) lo lo hi le_rfl h2 h3 h4]
    congr 1
    refine Finset.sum_congr (M := EReal) rfl fun y _ => ?_
    rw [hide_at vis _ R y _ (hm y), hv]
    by_cases b : lo + y.val < hi
    · rw [if_pos (⟨by omega, b⟩ : lo ≤ lo + y.val ∧ lo + y.val < hi)]
      congr 1
      unfold weight
      by_cases c : sees r (lo + y.val)
      · rw [if_pos ⟨b, c⟩, if_pos c, ← hlate y b]
        pointwise [k0_pay47]
        rw [logSig_at, hs, add_assoc]
      · rw [if_neg fun e => c e.2, if_neg c]
    · rw [if_neg fun e => b e.1, if_neg fun e => b e.2]
      exact zero_mul _

end Group

/-- A property kept by each of the first steps of a walk holds after them. -/
theorem walk_keeps {α : Type} (f : ℕ → α → α) (P : ℕ → α → Prop) (s : α) (n : ℕ) (h0 : P 0 s) (h : ∀ t < n, ∀ a, P t a → P (t + 1) (f t a)) : P n (walk f s n) := by
  induction n with
  | zero => exact h0
  | succ n ih => exact h n (by omega) _ (ih fun t ht => h t (by omega))

/-- A last step that is taken unless `c`. -/
theorem last_step {α : Type} (Q : α → Prop) (f : α → α) (s : α) (c : Prop) [Decidable c] (h : c → Q s) (h' : ¬ c → Q (f s)) :
    Q (walk (fun _ => f) s (if c then 0 else 1)) := by
  split
  · exact h ‹_›
  · exact h' ‹_›

/-- Where the groups of a query block lie. -/
theorem places : ∀ n : Fin 11, (∀ t : Fin 9, t.val < groups n.val → low n.val t.val ≤ high n.val t.val ∧ high n.val t.val ≤ low n.val t.val + 512 ∧ low n.val t.val + 512 ≤ 4224
      ∧ high n.val (t.val + 1) = low n.val t.val)
    ∧ (∀ t : Fin 9, 1 ≤ t.val → t.val + 1 < groups n.val → low n.val t.val + 512 = high n.val t.val ∧ 112 ≤ low n.val t.val ∧ high n.val t.val ≤ 384 * n.val)
    ∧ 1 ≤ groups n.val ∧ groups n.val ≤ 9 ∧ (n.val ≠ 0 → 2 ≤ groups n.val) ∧ (n.val = 0 → groups n.val = 1) ∧ low n.val (groups n.val - 1) = 0
    ∧ high n.val 0 = 384 * (n.val + 1) := by
  decide +kernel

/-- One head's sums after every group are the sums over all keys. -/
theorem total_at (n : Fin 11) (q : Vec Ideal S384x128 .bf16) (xk xv : Vec Ideal S4224x512 .bf16) (h : Fin 4) (R : Fin 384) (d : Fin 128)
    (Z : Fin 4224 → EReal) (hZ : ∀ y, ∃ z : ℝ, Z y = z)
    (eZ : ∀ y : Fin 4224, Z y = (∑ x : Fin 128, q (ix2 R x) * xk (ix2 y ⟨128 * h.val + x.val, by omega⟩)) * Ideal.ofBits .f32 0x3DB504F3#32) :
    (total n.val q (fun t => rows xk (low n.val t) h) (fun t => rows xv (low n.val t) h)).1 (ix2 R d)
      = ∑ y : Fin 4224, weight (384 * n.val + R.val) Z y * xv (ix2 y ⟨128 * h.val + d.val, by omega⟩) := by
  obtain ⟨p1, p2, g1, g9, gn, g0, pl, ph⟩ := places n
  let x : Fin 4224 → Fin 128 → EReal := fun y d => xv (ix2 y ⟨128 * h.val + d.val, by omega⟩)
  let P : ℕ → Sums Ideal → Prop := Upto R (384 * n.val + R.val) Z x
  have row : ∀ (xa : Vec Ideal S4224x512 .bf16) (b : ℕ) (hb : b + 512 ≤ 4224) (j : Fin 512) (e : Fin 128),
      rows xa b h (ix2 j e) = xa (ix2 ⟨b + j.val, by omega⟩ ⟨128 * h.val + e.val, by omega⟩) := fun xa b hb j e => by
    show xa (ix2 ⟨(b + j.val) % 4224, _⟩ ⟨128 * h.val + e.val, _⟩) = _
    congr 2
    exact Fin.ext (Nat.mod_eq_of_lt (by omega))
  have one : ∀ t : Fin 9, t.val < groups n.val → ∀ (vis : IVec S384x512 1) (s : Sums Ideal),
      (∀ j : Fin 512, vis (ix2 R j) = BitVec.ofBool (decide (low n.val t.val + j.val < high n.val t.val ∧ sees (384 * n.val + R.val) (low n.val t.val + j.val)))) →
      P (high n.val t.val) s → P (low n.val t.val) (stepSeen vis k0_pay224 q (rows xk (low n.val t.val) h) (rows xv (low n.val t.val) h) s) := fun t ht vis s hm hs => by
    obtain ⟨a, b, c, _⟩ := p1 t ht
    refine group vis q _ _ s R _ Z x _ _ a b c hZ (fun j => ?_) (fun j e => row xv _ c j e) hm hs
    rw [score_at, eZ]
    congr 1
    exact Finset.sum_congr (M := EReal) rfl fun e _ => by rw [row xk _ c]
  have first : P (high n.val 0) (k0_pay225, k0_pay229) := by
    have hz : Ideal.ofBits .f32 0x00000000#32 = 0 := Ideal.ofBits_zero _
    have hno : ∀ y : Fin 4224, high n.val 0 ≤ y.val → ¬ sees (384 * n.val + R.val) y.val := fun y hy c => by
      have := c.1; omega
    refine ⟨hz.trans (after_none _ _ fun y hy => if_neg (hno y hy)).symm, fun d => hz.trans (after_none _ _ fun y hy => ?_).symm⟩
    show weight _ _ y * _ = 0
    unfold weight
    rw [if_neg (hno y hy)]
    exact zero_mul _
  have start : P (low n.val 0) (stepSeen (seen (BitVec.ofNat 32 n.val) (Scalar.muli 4#32 0#32)) k0_pay224 q (rows xk (low n.val 0) h) (rows xv (low n.val 0) h) (k0_pay225, k0_pay229)) := one ⟨0, by omega⟩ (by show 0 < _; omega) _ _ (fun j => seen_at n ⟨0, by omega⟩ (by show 0 < _; omega) R j) first
  have middle := walk_keeps (fun t => step k0_pay224 q (rows xk (low n.val (t + 1)) h) (rows xv (low n.val (t + 1)) h))
    (fun t s => P (low n.val t) s) _ (groups n.val - 2) start fun t ht a ha => by
      obtain ⟨e1, e2, e3⟩ := p2 ⟨t + 1, by omega⟩ (by show 1 ≤ t + 1; omega) (by show t + 1 + 1 < _; omega)
      have e := (p1 ⟨t, by omega⟩ (by show t < _; omega)).2.2.2
      dsimp only at e e1 e2 e3
      rw [step_seen]
      refine one ⟨t + 1, by omega⟩ (by show t + 1 < _; omega) _ a (fun j => ?_) (by show P (high n.val (t + 1)) a; rw [e]; exact ha)
      dsimp only
      rw [decide_eq_true ⟨by omega, ⟨by omega, by omega⟩⟩]
      rfl
  have goal : P 0 (total n.val q (fun t => rows xk (low n.val t) h) (fun t => rows xv (low n.val t) h)) := by
    unfold total
    refine last_step (P 0) _ _ _ (fun hn => ?_) fun hn => ?_
    · have e0 : low n.val (groups n.val - 2) = 0 := by rw [g0 hn] at pl ⊢; exact pl
      rw [e0] at middle
      exact middle
    · have h2 := gn hn
      have e := (p1 ⟨groups n.val - 2, by omega⟩ (by show groups n.val - 2 < _; omega)).2.2.2
      dsimp only at e
      rw [show groups n.val - 2 + 1 = groups n.val - 1 by omega] at e
      rw [← e] at middle
      have last := one ⟨groups n.val - 1, by omega⟩ (by show groups n.val - 1 < _; omega) _ _
        (fun j => seen_at n ⟨groups n.val - 1, by omega⟩ (by show groups n.val - 1 < _; omega) R j) middle
      dsimp only at last
      have cast : ∀ (b : ℕ) (s : Sums Ideal), b = 0 → P b s → P 0 s := fun b s hb hp => hb ▸ hp
      exact cast _ _ pl last
  exact (goal.2 d).trans (after_zero _)

end Cert.Proof.Stick
-- ==== Proof.StickRef.lean ====
module

public import proofs.«01_k».proof.Proof.StickSum
public import proofs.«01_k».proof.Proof.Gen.Reference21Ideal.Run
public import Idealize.ShloMosaic.Lib.WordCmp
public import Idealize.ShloMosaic.Lib.Pointwise

@[expose] public section

set_option maxRecDepth 16384

/-!
The reference of the stick-breaking attention at an index. Its running sum from the last key backwards, less the key's own
term, is the sum over the strictly later keys, because that term is a finite number.
-/

noncomputable section

namespace Cert.Proof.Stick.Ref

open Cert.Reference21Ideal Cert.Reference21Ideal.Gen Idealize.ShloMosaic Idealize.ShloMosaic.TcCoe Idealize.ShloMosaic.StableHlo Idealize.ShloMosaic.WordCmp

/-- A left fold of sums is the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- One number for each head, query and key. -/
abbrev Cube := FVec Ideal S8x4224x4224 .f32

/-- One array's heads. -/
def heads (a : FVec Ideal S4224x1024 .bf16) : FVec Ideal S8x4224x128 .f32 :=
  transpose S8x4224x128 [1, 0, 2] (shapeCast _ (extf .f32 a bitsLt_bf16_f32) shapeCasts_S4224x1024_S4224x8x128) transposes_S4224x8x128_S8x4224x128_1_0_2

/-- Which keys a query sees. -/
def mask : IVec S8x4224x4224 1 :=
  broadcastInDim S8x4224x4224 ![1, 2] bcast_S4224x4224_S8x4224x4224_1_2 (andi (cmpi .slt (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (broadcastInDim S4224x4224 ![0, 1] bcast_S1x4224_S4224x4224_0_1 (cmpi .sge (broadcastInDim S1x4224 ![1] bcast_S4224_S1x4224_1 (iotaInDim S4224 32 0)) (broadcastInDim S1x4224 ![] bcast_S_S1x4224 (constantI S_ 32 112#32)))))

/-- A cube of zeros. -/
def zeros : Cube := broadcastInDim S8x4224x4224 ![] bcast_S_S8x4224x4224 (constant S_ .f32 0x00000000#32)

/-- The scores. -/
def scores (q k : FVec Ideal S4224x1024 .bf16) : Cube :=
  mulf (Host.dotGeneral dot_S8x4224x128_S8x4224x128_S8x4224x4224_2_2_1_1_0_0 none (heads q) (heads k)) (broadcastInDim S8x4224x4224 ![] bcast_S_S8x4224x4224 (constant S_ .f32 0x3DB504F3#32))

/-- `log (1 + exp y)` as it is computed. -/
def softplus (y : Cube) : Cube :=
  select (cmpf .une (subf y zeros) (subf y zeros)) (addf y zeros) (addf (maximumf y zeros) (Host.log1p (Host.exp (Host.negf (Host.absf (subf y zeros))))))

/-- The logarithm of the logistic function as it is computed. -/
def logSigmoid (x : Cube) : Cube := Host.negf (softplus (Host.negf x))

/-- What each key keeps, 0 where it is not seen. -/
def kept (z : Cube) : Cube := select mask (logSigmoid (Host.negf z)) zeros

/-- The running sum from the last key backwards. -/
def running (l : Cube) : Cube :=
  Host.reduceWindowAdd ![1, 1, 4224] ![1, 1, 1] ![0, 0, 0] ![0, 0, 4223] l (broadcastInDim S_ ![] bcast_S_S_ (constant S_ .f32 0x00000000#32)) reduceWindows_S8x4224x4224_S8x4224x4224_w1s1p0_0_w1s1p0_0_w4224s1p0_4223 h_S_

/-- The weights. -/
def weights (z : Cube) : Cube :=
  select mask (Host.exp (subf (addf (logSigmoid z) (running (kept z))) (kept z))) zeros

/-- The output. -/
def output (q k v : FVec Ideal S4224x1024 .bf16) : FVec Ideal S4224x1024 .f32 :=
  shapeCast _ (transpose S4224x8x128 [1, 0, 2] (Host.dotGeneral dot_S8x4224x4224_S8x4224x128_S8x4224x128_2_1_1_2_0_0 none (weights (scores q k)) (heads v)) transposes_S8x4224x128_S4224x8x128_1_0_2) shapeCasts_S4224x8x128_S4224x1024

/-- The reference's first result. -/
theorem output_eq (m : (ℓ : Loc nD τ sig) → Buf (Elt Ideal) ℓ) (c : Dev nD) :
    Value.res_main_v34 m c = output (m ((c.tc : Thread nD τ).loc main_arg0)) (m ((c.tc : Thread nD τ).loc main_arg1)) (m ((c.tc : Thread nD τ).loc main_arg2)) := by
  unfold Value.res_main_v34 output weights scores running kept logSigmoid softplus zeros mask heads
  rfl

/-- A sum over the places from `j` on, by the place and by its distance from `j`. -/
theorem shift {n : ℕ} (j : Fin n) (g : Fin n → EReal) :
    (∑ x : Fin n, if h : j.val + x.val < n then g ⟨j.val + x.val, h⟩ else 0) = ∑ s : Fin n, if j ≤ s then g s else 0 := by
  let G : ℕ → EReal := fun s => if h : s < n then g ⟨s, h⟩ else 0
  have e : (∑ s : Fin n, if j ≤ s then g s else 0) = ∑ s ∈ Finset.range n, if j.val ≤ s then G s else 0 := by
    rw [← Fin.sum_univ_eq_sum_range]
    refine Finset.sum_congr rfl fun s _ => ?_
    show _ = if j.val ≤ s.val then (if h : s.val < n then g ⟨s.val, h⟩ else 0) else 0
    rw [dif_pos s.isLt]; rfl
  have e' : (∑ x : Fin n, if h : j.val + x.val < n then g ⟨j.val + x.val, h⟩ else 0) = ∑ x ∈ Finset.range n, G (j.val + x) :=
    Fin.sum_univ_eq_sum_range (fun x => G (j.val + x)) n
  rw [e, e', ← Finset.sum_filter]
  have f : (Finset.range n).filter (fun s => j.val ≤ s) = Finset.Ico j.val n := by
    ext s; simp only [Finset.mem_filter, Finset.mem_range, Finset.mem_Ico]; omega
  rw [f, Finset.sum_Ico_eq_sum_range]
  refine (Finset.sum_subset (by intro x; simp only [Finset.mem_range]; omega) fun x _ hx => ?_).symm
  show (if h : j.val + x < n then _ else _) = _
  rw [Finset.mem_range] at hx
  exact dif_neg (by omega)

/-- The window of the running sum. -/
abbrev W : Shape := ⟨3, ![1, 1, 4224]⟩

/-- Left folds by functions that agree are equal. -/
theorem foldl_same {ι : Type} (l : List ι) (f f' : EReal → ι → EReal) (v : EReal) (h : ∀ x n, f x n = f' x n) : l.foldl f v = l.foldl f' v := by
  rw [show f = f' from funext fun x => funext (h x)]

/-- The running sum at an index: the sum from its key on. -/
theorem running_at (l : Cube) (h : Fin 8) (r j : Fin 4224) :
    running l (ix3 h r j) = ∑ s : Fin 4224, if j ≤ s then l (ix3 h r s) else 0 := by
  let g : W.Idx → EReal := fun i => if hx : j.val + (i 2).val < 4224 then l (ix3 h r ⟨j.val + (i 2).val, hx⟩) else 0
  have z : (broadcastInDim S_ ![] bcast_S_S_ (constant (F := Ideal) S_ .f32 0x00000000#32)) (Shape.Idx.first h_S_) = (0 : EReal) := by
    show Ideal.ofBits .f32 0x00000000#32 = 0
    exact Ideal.ofBits_zero _
  have e : running l (ix3 h r j) = (List.finRange W.numel).foldl (fun (x : EReal) n => x + g (W.rowMajor.symm n)) 0 := by
    unfold running Host.reduceWindowAdd
    rw [z, Ideal.hostReduceWindowAdd_def]
    unfold Ideal.hostReduceWindowAdd Host.reduceWindow
    dsimp only
    refine foldl_same _ _ _ _ fun x n => congrArg (fun y : EReal => x + y) ?_
    have h0 : (W.rowMajor.symm n 0).val = 0 := by have := (W.rowMajor.symm n 0).isLt; change _ < 1 at this; omega
    have h1 : (W.rowMajor.symm n 1).val = 0 := by have := (W.rowMajor.symm n 1).isLt; change _ < 1 at this; omega
    by_cases hx : j.val + (W.rowMajor.symm n 2).val < 4224
    · have hin : ∀ a : Fin 3, (![0, 0, 0] : Fin 3 → ℕ) a ≤ ((ix3 h r j : S8x4224x4224.Idx) a).val * (![1, 1, 1] : Fin 3 → ℕ) a + (W.rowMajor.symm n a).val
          ∧ ((ix3 h r j : S8x4224x4224.Idx) a).val * (![1, 1, 1] : Fin 3 → ℕ) a + (W.rowMajor.symm n a).val - (![0, 0, 0] : Fin 3 → ℕ) a < S8x4224x4224.size a := by
        intro a
        match a with
        | ⟨0, _⟩ => exact ⟨Nat.zero_le _, by show h.val * 1 + (W.rowMajor.symm n 0).val - 0 < 8; omega⟩
        | ⟨1, _⟩ => exact ⟨Nat.zero_le _, by show r.val * 1 + (W.rowMajor.symm n 1).val - 0 < 4224; omega⟩
        | ⟨2, _⟩ => exact ⟨Nat.zero_le _, by show j.val * 1 + (W.rowMajor.symm n 2).val - 0 < 4224; omega⟩
      refine (dif_pos hin).trans (Eq.trans ?_ (dif_pos hx).symm)
      refine congrArg l (funext fun a => Fin.ext ?_)
      match a with
      | ⟨0, _⟩ => show h.val * 1 + (W.rowMajor.symm n 0).val - 0 = h.val; omega
      | ⟨1, _⟩ => show r.val * 1 + (W.rowMajor.symm n 1).val - 0 = r.val; omega
      | ⟨2, _⟩ => show j.val * 1 + (W.rowMajor.symm n 2).val - 0 = j.val + (W.rowMajor.symm n 2).val; omega
    · refine (dif_neg fun hin => ?_).trans (Eq.symm (?_ : dite _ _ _ = _))
      swap
      · exact dif_neg hx
      have := (hin 2).2
      change j.val * 1 + (W.rowMajor.symm n 2).val - 0 < 4224 at this
      omega
  rw [e, foldl_add, zero_add, ← shift j (fun s => l (ix3 h r s)), ← List.ofFn_eq_map, List.sum_ofFn,
    Equiv.sum_comp W.rowMajor.symm g]
  rw [show (∑ i, g i) = _ from sum_idx3 g, Fin.sum_univ_one, Fin.sum_univ_one]
  rfl

/-- One head's element. -/
theorem heads_at (a : FVec Ideal S4224x1024 .bf16) (h : Fin 8) (t : Fin 4224) (d : Fin 128) :
    heads a (ix3 h t d) = a (ix2 t ⟨h.val * 128 + d.val, by omega⟩) := by
  pointwise [heads]

/-- Whether a query sees a key. -/
theorem mask_at (h : Fin 8) (r s : Fin 4224) : mask (ix3 h r s) = BitVec.ofBool (decide (s.val < r.val ∧ 112 ≤ s.val)) := by
  pointwise [mask]
  rw [cmpi_slt_ofNat (by omega) (by omega), cmpi_sge_ofNat (by omega) (by omega), and_word]

/-- A score. -/
theorem scores_at (q k : FVec Ideal S4224x1024 .bf16) (h : Fin 8) (r s : Fin 4224) :
    scores q k (ix3 h r s) = (∑ d : Fin 128, q (ix2 r ⟨h.val * 128 + d.val, by omega⟩) * k (ix2 s ⟨h.val * 128 + d.val, by omega⟩)) * Ideal.ofBits .f32 0x3DB504F3#32 := by
  pointwise [scores, heads]

/-- The reference's logarithm of the logistic function of a finite number is the kernel's. -/
theorem logSigmoid_at (x : Cube) (h : Fin 8) (r s : Fin 4224) (z : ℝ) (e : x (ix3 h r s) = z) : logSigmoid x (ix3 h r s) = logSig z := by
  pointwise [logSigmoid, softplus, zeros]
  have ha : FloatOps.absf (F := Ideal) (φ := .f32) (-(z : EReal)) = ((|z| : ℝ) : EReal) := by
    show max (-(z : EReal)) (- -(z : EReal)) = _
    rw [← EReal.coe_neg, ← EReal.coe_neg, neg_neg, max_comm]; exact (EReal.coe_strictMono.monotone.map_max (a := z) (b := -z)).symm
  have hp : 0 < Real.exp (-|z|) := Real.exp_pos _
  rw [e, if_neg (fun c => c rfl), ha, ← EReal.coe_neg, ← EReal.coe_neg, Ideal.exp_coe]
  unfold Ideal.log1p
  rw [← EReal.coe_one, ← EReal.coe_add, Ideal.log_coe, if_neg (by linarith), ← EReal.coe_zero, ← EReal.coe_strictMono.monotone.map_max,
    ← EReal.coe_add, ← EReal.coe_neg, logSig_coe]
  congr 1
  have : max (-z) 0 = -min z 0 := by rw [← neg_zero, max_neg_neg, neg_zero]
  rw [this]; ring

/-- At the negated score it is that less the score. -/
theorem logSig_neg (z : ℝ) : logSig ((-z : ℝ) : EReal) = logSig z - z := by
  rw [logSig_coe, logSig_coe, ← EReal.coe_sub, abs_neg]
  congr 1
  have : min (-z) 0 = min z 0 - z := by
    rcases le_total z 0 with h | h
    · rw [min_eq_right (by linarith), min_eq_left h]; ring
    · rw [min_eq_left (by linarith), min_eq_right h]; ring
  rw [this]; ring

/-- What a key keeps, in the reference. -/
theorem kept_at (x : Cube) (h : Fin 8) (r s : Fin 4224) (hx : ∀ y, ∃ z : ℝ, x (ix3 h r y) = z) :
    kept x (ix3 h r s) = keep r.val (fun y => x (ix3 h r y)) s := by
  obtain ⟨z, e⟩ := hx s
  have en : Host.negf x (ix3 h r s) = ((-z : ℝ) : EReal) := by
    show -x (ix3 h r s) = _
    rw [e, EReal.coe_neg]
  unfold kept select
  rw [mask_at, logSigmoid_at _ _ _ _ _ en, logSig_neg]
  have hz : zeros (ix3 h r s) = 0 := by pointwise [zeros]
  rw [hz]
  unfold keep
  dsimp only
  rw [e]
  by_cases c : sees r.val s.val
  · rw [if_pos c, decide_eq_true c]; rfl
  · rw [if_neg c, decide_eq_false c]; rfl

/-- The weights of the reference. -/
theorem weights_at (x : Cube) (h : Fin 8) (r s : Fin 4224) (hx : ∀ y, ∃ z : ℝ, x (ix3 h r y) = z) :
    weights x (ix3 h r s) = weight r.val (fun y => x (ix3 h r y)) s := by
  obtain ⟨z, e⟩ := hx s
  obtain ⟨a, ea⟩ := keep_real r.val (fun y => x (ix3 h r y)) hx s
  have hrun : running (kept x) (ix3 h r s) = after (s.val + 1) (keep r.val fun y => x (ix3 h r y)) + keep r.val (fun y => x (ix3 h r y)) s := by
    rw [running_at]
    unfold after
    have one : keep r.val (fun y => x (ix3 h r y)) s = ∑ y : Fin 4224, if y = s then keep r.val (fun y => x (ix3 h r y)) y else 0 := by
      rw [Finset.sum_ite_eq', if_pos (Finset.mem_univ s)]
    rw [one, ← Finset.sum_add_distrib]
    refine Finset.sum_congr (M := EReal) rfl fun y _ => ?_
    rw [kept_at x h r y hx]
    by_cases c : y = s
    · rw [c, if_pos le_rfl, if_neg (by omega), if_pos rfl, zero_add]
    · have c' : y.val ≠ s.val := fun a => c (Fin.ext a)
      rw [if_neg c, add_zero]
      exact if_congr (by show s.val ≤ y.val ↔ _; omega) rfl rfl
  have hz : zeros (ix3 h r s) = 0 := by pointwise [zeros]
  have hw : Host.exp (subf (addf (logSigmoid x) (running (kept x))) (kept x)) (ix3 h r s)
      = Ideal.exp (logSig (x (ix3 h r s)) + after (s.val + 1) (keep r.val fun y => x (ix3 h r y))) := by
    show Ideal.exp ((logSigmoid x (ix3 h r s) + running (kept x) (ix3 h r s)) - kept x (ix3 h r s)) = _
    rw [logSigmoid_at _ _ _ _ _ e, hrun, kept_at x h r s hx, ea, ← add_assoc, e, EReal.add_sub_cancel_right]
  unfold weights select
  rw [mask_at, hw, hz]
  unfold weight
  by_cases c : sees r.val s.val
  · rw [if_pos c, decide_eq_true c]; rfl
  · rw [if_neg c, decide_eq_false c]; rfl

/-- The output at an index: the values, weighted. -/
theorem output_at (q k v : FVec Ideal S4224x1024 .bf16) (r : Fin 4224) (h : Fin 8) (d : Fin 128) :
    output q k v (ix2 r ⟨h.val * 128 + d.val, by omega⟩) = ∑ s : Fin 4224, weights (scores q k) (ix3 h r s) * v (ix2 s ⟨h.val * 128 + d.val, by omega⟩) := by
  pointwise [output, heads]

end Cert.Proof.Stick.Ref
-- ==== Proof.StickValue.lean ====
module

public import proofs.«01_k».proof.Defs
public import proofs.«01_k».proof.Proof.StickSum
public import proofs.«01_k».proof.Proof.StickRef
public import proofs.«01_k».proof.Proof.Inputs
public import proofs.«01_k».proof.Proof.Gen.Kernel21
public import Idealize.ShloMosaic.Lib.Pipeline.ValueKit
public import Idealize.ShloMosaic.Lib.Pipeline.ReadBack

@[expose] public section

set_option maxRecDepth 16384

/-!
The claims about the stick-breaking forward kernel: it runs, keeps its arguments, and its two results are the reference's.
-/

noncomputable section

namespace Cert.Proof.Stick

open Cert.Kernel21Ideal Cert.Kernel21Ideal.Gen Idealize.ShloMosaic Idealize.ShloMosaic.TcCoe Idealize.SL.Sem
open Idealize.ShloMosaic.Pipeline (Dat)

/-! ### A block of the result -/

/-- Column `d` of head `h` of a block. -/
abbrev lane (h : Fin 4) (d : Fin 128) : Fin 512 := ⟨128 * h.val + d.val, by omega⟩

/-- Head `h`'s columns of a block start at column `o`. -/
theorem hit (h : Fin 4) (r : Fin 384) (d : Fin 128) (o : ℕ) (inb : ∀ a, (![0, o] : Fin 2 → ℕ) a + (![384, 128] : Fin 2 → ℕ) a ≤ S384x512.size a) (ho : o = 128 * h.val) :
    (ix2 r (lane h d) : S384x512.Idx) = (Rect.unit (s := S384x512) ![0, o] ![384, 128] inb).emb (ix2 r d) := by
  subst ho
  funext a
  match a with
  | ⟨0, _⟩ => exact Fin.ext (by show r.val = 0 + 1 * r.val; omega)
  | ⟨1, _⟩ => exact Fin.ext (by show 128 * h.val + d.val = 128 * h.val + 1 * d.val; omega)

/-- The columns of an earlier head lie off them. -/
theorem miss (h : Fin 4) (r : Fin 384) (d : Fin 128) (o : ℕ) (inb : ∀ a, (![0, o] : Fin 2 → ℕ) a + (![384, 128] : Fin 2 → ℕ) a ≤ S384x512.size a) (ho : 128 * h.val + d.val < o) :
    (ix2 r (lane h d) : S384x512.Idx) ∉ (Rect.unit (s := S384x512) ![0, o] ![384, 128] inb).set := fun hm => by
  have := ((Rect.mem_set_unit (inb := inb)).mp hm 1).1
  change o ≤ 128 * h.val + d.val at this
  omega

/-- Under the last store, the block holds what it stored. -/
theorem canon_hit {e : EltTy} (o : ℕ) (inb : ∀ a, (![0, o] : Fin 2 → ℕ) a + (![384, 128] : Fin 2 → ℕ) a ≤ S384x512.size a) (w : S384x128.Idx → Elt Ideal e)
    (L : List (View.Piece (Elt Ideal) S384x512 e)) (h : Fin 4) (r : Fin 384) (d : Fin 128) (ho : o = 128 * h.val) :
    View.canon ((⟨Rect.unit ![0, o] ![384, 128] inb, w⟩ : View.Piece (Elt Ideal) S384x512 e) :: L) (ix2 r (lane h d)) = w (ix2 r d) := by
  rw [hit h r d o inb ho]
  exact View.canon_cons_emb _ _ _ _

/-- Off the last store, whatever its place, what was there before is there. -/
theorem canon_off {s : Shape} {e : EltTy} (R : Rect s) (w : R.shape.Idx → Elt Ideal e) (L : List (View.Piece (Elt Ideal) s e)) (y : s.Idx) (z : Elt Ideal e)
    (h : y ∉ R.set) (hz : View.canon L y = z) : View.canon ((⟨R, w⟩ : View.Piece (Elt Ideal) s e) :: L) y = z :=
  (View.canon_cons_of_not_mem ⟨R, w⟩ L h).trans hz

/-- Off the last store, the block holds what was there before. -/
theorem canon_skip {e : EltTy} (o : ℕ) (inb : ∀ a, (![0, o] : Fin 2 → ℕ) a + (![384, 128] : Fin 2 → ℕ) a ≤ S384x512.size a) (w : S384x128.Idx → Elt Ideal e)
    (L : List (View.Piece (Elt Ideal) S384x512 e)) (h : Fin 4) (r : Fin 384) (d : Fin 128) (z : Elt Ideal e) (ho : 128 * h.val + d.val < o)
    (hz : View.canon L (ix2 r (lane h d)) = z) :
    View.canon ((⟨Rect.unit ![0, o] ![384, 128] inb, w⟩ : View.Piece (Elt Ideal) S384x512 e) :: L) (ix2 r (lane h d)) = z := by
  have := miss h r d o inb ho
  refine canon_off (Rect.unit ![0, o] ![384, 128] inb) w L _ z ?_ hz
  exact this

/-- Four heads' columns, stored one after the other, at an index. -/
theorem canon4 {e : EltTy} (a : Fin 4 → S384x128.Idx → Elt Ideal e) (h : Fin 4) (r : Fin 384) (d : Fin 128) :
    View.canon ([⟨Rect.unit ![0, 384] ![384, 128] inb_S384x512_S384x128_0_384, a 3⟩, ⟨Rect.unit ![0, 256] ![384, 128] inb_S384x512_S384x128_0_256, a 2⟩,
      ⟨Rect.unit ![0, 128] ![384, 128] inb_S384x512_S384x128_0_128, a 1⟩, ⟨Rect.unit ![0, 0] ![384, 128] inb_S384x512_S384x128_0_0, a 0⟩] : List (View.Piece (Elt Ideal) S384x512 e))
      (ix2 r (lane h d)) = a h (ix2 r d) := by
  have hd := d.isLt
  match h with
  | ⟨0, _⟩ =>
    refine canon_skip 384 _ _ _ _ r d _ (by show 128 * 0 + d.val < 384; omega) ?_
    refine canon_skip 256 _ _ _ _ r d _ (by show 128 * 0 + d.val < 256; omega) ?_
    refine canon_skip 128 _ _ _ _ r d _ (by show 128 * 0 + d.val < 128; omega) ?_
    exact canon_hit 0 _ _ _ _ r d rfl
  | ⟨1, _⟩ =>
    refine canon_skip 384 _ _ _ _ r d _ (by show 128 * 1 + d.val < 384; omega) ?_
    refine canon_skip 256 _ _ _ _ r d _ (by show 128 * 1 + d.val < 256; omega) ?_
    exact canon_hit 128 _ _ _ _ r d rfl
  | ⟨2, _⟩ =>
    refine canon_skip 384 _ _ _ _ r d _ (by show 128 * 2 + d.val < 384; omega) ?_
    exact canon_hit 256 _ _ _ _ r d rfl
  | ⟨3, _⟩ => exact canon_hit 384 _ _ _ _ r d rfl

/-- The same of four heads' sums put together. -/
theorem canon_sums (p : Fin 4 → Sums Ideal) (h : Fin 4) (r : Fin 384) (d : Fin 128) :
    View.canon ([⟨Rect.unit ![0, 384] ![384, 128] inb_S384x512_S384x128_0_384, (together p).2.2.2.1⟩, ⟨Rect.unit ![0, 256] ![384, 128] inb_S384x512_S384x128_0_256, (together p).2.2.1⟩,
      ⟨Rect.unit ![0, 128] ![384, 128] inb_S384x512_S384x128_0_128, (together p).2.1⟩, ⟨Rect.unit ![0, 0] ![384, 128] inb_S384x512_S384x128_0_0, (together p).1⟩] : List (View.Piece (Elt Ideal) S384x512 .f32))
      (ix2 r (lane h d)) = (p h).1 (ix2 r d) :=
  canon4 (e := .f32) (fun h => (p h).1) h r d

/-- The same of the rounded sums. -/
theorem canon_sums' (p : Fin 4 → Sums Ideal) (h : Fin 4) (r : Fin 384) (d : Fin 128) :
    View.canon ([⟨Rect.unit ![0, 384] ![384, 128] inb_S384x512_S384x128_0_384, truncf .bf16 (together p).2.2.2.1⟩, ⟨Rect.unit ![0, 256] ![384, 128] inb_S384x512_S384x128_0_256, truncf .bf16 (together p).2.2.1⟩,
      ⟨Rect.unit ![0, 128] ![384, 128] inb_S384x512_S384x128_0_128, truncf .bf16 (together p).2.1⟩, ⟨Rect.unit ![0, 0] ![384, 128] inb_S384x512_S384x128_0_0, truncf .bf16 (together p).1⟩] : List (View.Piece (Elt Ideal) S384x512 .bf16))
      (ix2 r (lane h d)) = (p h).1 (ix2 r d) :=
  canon4 (e := .bf16) (fun h => truncf .bf16 (p h).1) h r d

section Body

variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x512 .bf16) (harg4 : arg4.IsWhole) (arg5 : Memref sig .tc .vmem S384x512 .f32) (harg5 : arg5.IsWhole) (arg6 : Memref sig .tc .vmem S384x512 .bf16) (harg6 : arg6.IsWhole)
  (x0 : Vec Ideal S384x512 .bf16) (x1 x2 : Vec Ideal S4224x512 .bf16) (h : Fin 4) (r : Fin 384) (d : Fin 128)

/-- The body's f32 block holds each head's total. -/
theorem out_total : out c i arg2 harg2 arg3 harg3 arg4 harg4 arg5 harg5 arg6 harg6 x0 x1 x2 (ix2 r (lane h d))
    = (total (i 1).val (cols x0 h) (fun t => rows x1 (low (i 1).val t) h) (fun t => rows x2 (low (i 1).val t) h)).1 (ix2 r d) := by
  have e := pieces c i arg2 harg2 arg3 harg3 arg4 harg4 arg5 harg5 arg6 harg6 x0 x1 x2
  rw [after4_eq] at e
  unfold out
  generalize kernelRun0_A c i arg2 harg2 arg3 harg3 arg4 harg4 arg5 harg5 arg6 harg6 x0 x1 x2 = k at e ⊢
  rw [e]
  exact canon_sums _ h r d

/-- The body's rounded block holds the same. -/
theorem out_total' : out' c i arg2 harg2 arg3 harg3 arg4 harg4 arg5 harg5 arg6 harg6 x0 x1 x2 (ix2 r (lane h d))
    = (total (i 1).val (cols x0 h) (fun t => rows x1 (low (i 1).val t) h) (fun t => rows x2 (low (i 1).val t) h)).1 (ix2 r d) := by
  have e := pieces' c i arg2 harg2 arg3 harg3 arg4 harg4 arg5 harg5 arg6 harg6 x0 x1 x2
  rw [after4_eq] at e
  unfold out'
  generalize kernelRun0_A c i arg2 harg2 arg3 harg3 arg4 harg4 arg5 harg5 arg6 harg6 x0 x1 x2 = k at e ⊢
  rw [e]
  exact canon_sums' _ h r d

end Body

variable (m : (ℓ : Loc nD τ sig) → Buf (Elt Ideal) ℓ)

/-- The blocks a grid point works on. -/
theorem idx : ∀ t : Fin cfg0.N, win0_0.index t = ![t.val % 11, t.val / 11] ∧ win0_1.index t = ![0, t.val / 11] ∧ win0_2.index t = ![0, t.val / 11]
    ∧ win0_3.index t = ![t.val % 11, t.val / 11] ∧ win0_4.index t = ![t.val % 11, t.val / 11] ∧ (grid0.coords t 1).val = t.val % 11 :=
  (by decide +kernel : ∀ t : Fin grid0.N, _)

/-! ### The result as an array -/

/-- Query row `r` of the block of point `t`. -/
abbrev down (t : Fin cfg0.N) (r : Fin 384) : Fin 4224 := ⟨384 * (t.val % 11) + r.val, by omega⟩

/-- There are 22 points. -/
theorem small (t : Fin cfg0.N) : t.val < 22 := t.isLt

/-- Head `h` of the block of point `t`. -/
abbrev head (t : Fin cfg0.N) (h : Fin 4) : Fin 8 := ⟨4 * (t.val / 11) + h.val, by have := small t; omega⟩

/-- Column `d` of a head, in the whole array. -/
abbrev wide (h : Fin 8) (d : Fin 128) : Fin 1024 := ⟨h.val * 128 + d.val, by omega⟩

/-- A point's block of queries. -/
theorem block_q (c : Dev nD) (t : Fin cfg0.N) (h : Fin 4) (r : Fin 384) (d : Fin 128) :
    iblk m c 0 t (ix2 r (lane h d)) = m ((c : Thread nD τ).loc main_arg0) (ix2 (down t r) (wide (head t h) d)) := by
  blk_point [iblk, V, idx t]

/-- A point's block of keys. -/
theorem block_k (c : Dev nD) (t : Fin cfg0.N) (h : Fin 4) (y : Fin 4224) (d : Fin 128) :
    iblk m c 1 t (ix2 y (lane h d)) = m ((c : Thread nD τ).loc main_arg1) (ix2 y (wide (head t h) d)) := by
  blk_point [iblk, V, idx t]

/-- A point's block of values. -/
theorem block_v (c : Dev nD) (t : Fin cfg0.N) (h : Fin 4) (y : Fin 4224) (d : Fin 128) :
    iblk m c 2 t (ix2 y (lane h d)) = m ((c : Thread nD τ).loc main_arg2) (ix2 y (wide (head t h) d)) := by
  blk_point [iblk, V, idx t]

/-- The elements are real numbers. -/
def Plain (a : FVec Ideal S4224x1024 .bf16) : Prop := ∀ x, ∃ z : ℝ, a x = (z : EReal)

/-- A sum of real numbers is one. -/
theorem sum_real {n : ℕ} (f : Fin n → EReal) (h : ∀ x, ∃ z : ℝ, f x = z) : ∃ z : ℝ, ∑ x, f x = z := by
  classical
  refine Finset.induction_on (motive := fun s => ∃ z : ℝ, ∑ x ∈ s, f x = z) Finset.univ ⟨0, by simp⟩ fun a s ha ⟨z, hz⟩ => ?_
  obtain ⟨b, hb⟩ := h a
  exact ⟨b + z, by rw [Finset.sum_insert ha, hz, hb, EReal.coe_add]⟩

variable {m}

/-- The scores of real queries and keys are real numbers. -/
theorem scores_real {c : Dev nD} (Hq : Plain (m ((c : Thread nD τ).loc main_arg0))) (Hk : Plain (m ((c : Thread nD τ).loc main_arg1))) (h : Fin 8) (r s : Fin 4224) :
    ∃ a : ℝ, Ref.scores (m ((c : Thread nD τ).loc main_arg0)) (m ((c : Thread nD τ).loc main_arg1)) (ix3 h r s) = a := by
  rw [Ref.scores_at]
  obtain ⟨a, ha⟩ := sum_real _ fun d => by
    obtain ⟨x, hx⟩ := Hq (ix2 r (wide h d))
    obtain ⟨y, hy⟩ := Hk (ix2 s (wide h d))
    exact ⟨x * y, by rw [EReal.coe_mul, ← hx, ← hy]⟩
  refine ⟨a * EReal.toReal (Ideal.ofBits .f32 0x3DB504F3#32), ?_⟩
  rw [EReal.coe_mul, ← Cert.DeltaRule.scale_real, ← ha]

/-- A point's totals are the reference's result. -/
theorem total_ref {c : Dev nD} (Hq : Plain (m ((c : Thread nD τ).loc main_arg0))) (Hk : Plain (m ((c : Thread nD τ).loc main_arg1))) (t : Fin cfg0.N) (h : Fin 4) (r : Fin 384) (d : Fin 128) :
    (total (t.val % 11) (cols (iblk m c 0 t) h) (fun s => rows (iblk m c 1 t) (low (t.val % 11) s) h) (fun s => rows (iblk m c 2 t) (low (t.val % 11) s) h)).1 (ix2 r d)
      = Ref.output (m ((c : Thread nD τ).loc main_arg0)) (m ((c : Thread nD τ).loc main_arg1)) (m ((c : Thread nD τ).loc main_arg2)) (ix2 (down t r) (wide (head t h) d)) := by
  rw [Ref.output_at]
  refine (total_at ⟨t.val % 11, Nat.mod_lt _ (by decide)⟩ (cols (iblk m c 0 t) h) (iblk m c 1 t) (iblk m c 2 t) h r d
    (fun y => Ref.scores (m ((c : Thread nD τ).loc main_arg0)) (m ((c : Thread nD τ).loc main_arg1)) (ix3 (head t h) (down t r) y))
    (fun y => scores_real Hq Hk _ _ y) fun y => ?_).trans ?_
  · rw [Ref.scores_at]
    refine congrArg (· * Ideal.ofBits .f32 0x3DB504F3#32) (Finset.sum_congr (M := EReal) rfl fun x _ => ?_)
    exact congrArg₂ (· * ·) (block_q m c t h r x).symm (block_k m c t h y x).symm
  · refine Finset.sum_congr (M := EReal) rfl fun y _ => ?_
    rw [Ref.weights_at _ _ _ _ fun y => scores_real Hq Hk _ _ y]
    exact congrArg (weight _ _ y * ·) (block_v m c t h y d)

/-- A block's index, as a row of a head. -/
theorem block_cases (y : S384x512.Idx) : ∃ r h d, y = ix2 r (lane h d) := by
  obtain ⟨r, l, rfl⟩ : ∃ (r : Fin 384) (l : Fin 512), y = ix2 r l := ⟨y 0, y 1, (ix2_eta y).symm⟩
  refine ⟨r, ⟨l.val / 128, by omega⟩, ⟨l.val % 128, by omega⟩, ?_⟩
  rw [show lane ⟨l.val / 128, by omega⟩ ⟨l.val % 128, by omega⟩ = l from Fin.ext (by show 128 * (l.val / 128) + l.val % 128 = l.val; omega)]

/-- What the kernel writes is the reference's result. -/
theorem final {c : Dev nD} (Hq : Plain (m ((c : Thread nD τ).loc main_arg0))) (Hk : Plain (m ((c : Thread nD τ).loc main_arg1))) :
    (data m 0 c).arrAt 3 cfg0.N = Ref.output (m ((c : Thread nD τ).loc main_arg0)) (m ((c : Thread nD τ).loc main_arg1)) (m ((c : Thread nD τ).loc main_arg2)) := by
  refine (data m 0 c).arrAt_eq_of_covers 3 _ (by decide +kernel) fun t _ y => ?_
  blk_simp
  rw [after_out]
  unfold outAt
  obtain ⟨r, h, d, rfl⟩ := block_cases y
  rw [out_total, (idx t).2.2.2.2.2]
  refine (total_ref Hq Hk t h r d).trans ?_
  generalize Ref.output (m ((c : Thread nD τ).loc main_arg0)) (m ((c : Thread nD τ).loc main_arg1)) (m ((c : Thread nD τ).loc main_arg2)) = a
  blk_point [idx t]

/-- What the kernel writes in the narrower type is the same. -/
theorem final' {c : Dev nD} (Hq : Plain (m ((c : Thread nD τ).loc main_arg0))) (Hk : Plain (m ((c : Thread nD τ).loc main_arg1))) :
    (data m 0 c).arrAt 4 cfg0.N = Ref.output (m ((c : Thread nD τ).loc main_arg0)) (m ((c : Thread nD τ).loc main_arg1)) (m ((c : Thread nD τ).loc main_arg2)) := by
  refine (data m 0 c).arrAt_eq_of_covers 4 _ (by decide +kernel) fun t _ y => ?_
  blk_simp
  rw [after_out']
  unfold outAt'
  obtain ⟨r, h, d, rfl⟩ := block_cases y
  rw [out_total', (idx t).2.2.2.2.2]
  refine (total_ref Hq Hk t h r d).trans ?_
  generalize Ref.output (m ((c : Thread nD τ).loc main_arg0)) (m ((c : Thread nD τ).loc main_arg1)) (m ((c : Thread nD τ).loc main_arg2)) = a
  blk_point [idx t]

/-! ### The claims -/

/-- The precondition's side condition. -/
theorem bounded_facts : Cert.Pre_bounded.Facts where
  bcast_S_S4224x1024 := by decide

/-- A value of the narrower type below infinity in absolute value is a real number. -/
theorem real_of_lt' {x : EReal} (h : Ideal.cmp .olt (max x (-x)) (Ideal.ofBits .bf16 0x7F80#16) = 1#1) : ∃ z : ℝ, x = (z : EReal) := by
  have htop : Ideal.ofBits .bf16 0x7F80#16 = ⊤ := by simp [Ideal.ofBits, Ideal.ieee]
  rw [htop] at h
  induction x using EReal.rec with
  | coe r => exact ⟨r, rfl⟩
  | bot => simp [Ideal.cmp] at h
  | top => simp [Ideal.cmp] at h

/-- The kernel, in either arithmetic, runs, keeps its arguments, and leaves every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => (h.1 c).2.2, h.2⟩) (run m ρ)

/-- The kernel as given and the idealized one run the same body. -/
theorem body_same : @Kernel21.cc0_sb_fwd Bits _ _ = @Kernel21Ideal.cc0_sb_fwd Bits _ _ := rfl

/-- Their tables of bodies agree. -/
theorem table_same : Kernel21.defs₀ (F := Bits) = Kernel21Ideal.defs₀ (F := Bits) := by
  unfold Kernel21.defs₀ Kernel21Ideal.defs₀
  refine congrArg Defs.onTc (funext fun l => funext fun a => ?_)
  match l, a with
  | 0, (t, s) =>
    show Kernel21.cc0_sb_fwd _ _ _ _ _ _ _ _ _ _ _ = Kernel21Ideal.cc0_sb_fwd _ _ _ _ _ _ _ _ _ _ _
    rw [body_same]
    rfl

/-- So do their definitions. -/
theorem defs_same : Kernel21.defs (F := Bits) = Kernel21Ideal.defs (F := Bits) := congrArg (Pipeline.defs _) table_same

/-- The kernel as given runs, keeps its arguments, and leaves every counter at zero. -/
theorem frame_kernel : Cert.quiescent_Kernel21 (hKernel21 := Kernel21.Gen.facts) := fun m ρ _ => by
  have h := frame_any (F := Bits) m ρ
  rw [← defs_same] at h
  exact h

/-- The reference runs, keeps its arguments, and leaves every counter at zero: it has none. -/
theorem frame_reference : Cert.quiescent_Reference21Ideal (hReference21Ideal := Reference21Ideal.Gen.facts) := fun m ρ _ =>
  θ_run_mono (Reference21Ideal.Value.run m ρ) fun _ h => ⟨fun c => (h c).2.2, sem_eq_zero_of_no_sems rfl _⟩

/-- The kernel's two results are the reference's. -/
theorem values : Cert.algebraic_Kernel21Ideal_Reference21Ideal_pre_bounded (hKernel21Ideal := Gen.facts) (hReference21Ideal := Reference21Ideal.Gen.facts) (hPre_bounded := bounded_facts) := by
  letI := bounded_facts
  intro m g m' g' hpre hag
  have Hq : ∀ c : Dev nD, Plain (m ((c : Thread nD τ).loc main_arg0)) := fun c x => real_of_lt' (congrFun (hpre c).1 x)
  have Hk : ∀ c : Dev nD, Plain (m ((c : Thread nD τ).loc main_arg1)) := fun c x => real_of_lt' (congrFun (hpre c).2 x)
  have e : ∀ c : Dev nD, Reference21Ideal.Value.res_main_v34 m' c = Ref.output (m ((c : Thread nD τ).loc main_arg0)) (m ((c : Thread nD τ).loc main_arg1)) (m ((c : Thread nD τ).loc main_arg2)) := fun c => by
    rw [Ref.output_eq, (hag c).1, (hag c).2.1, (hag c).2.2]
  refine ⟨fun c => Ref.output (m ((c : Thread nD τ).loc main_arg0)) (m ((c : Thread nD τ).loc main_arg1)) (m ((c : Thread nD τ).loc main_arg2)),
    fun c => Ref.output (m ((c : Thread nD τ).loc main_arg0)) (m ((c : Thread nD τ).loc main_arg1)) (m ((c : Thread nD τ).loc main_arg2)), ?_, ?_⟩
  · exact θ_run_mono (run m g) fun _ h c => ⟨(h.1 c).1.trans (final (Hq c) (Hk c)), (h.1 c).2.1.trans (final' (Hq c) (Hk c)), (h.1 c).2.2⟩
  · exact θ_run_mono (Reference21Ideal.Value.run m' g') fun _ h c => ⟨(h c).1.trans (e c), (h c).2.1.trans (e c), (h c).2.2⟩

end Cert.Proof.Stick
-- ==== Proof.Rows.lean ====
module

public import proofs.«01_k».proof.Defs
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25Ideal.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack

/-! # The step's row by row calls.

No grid point of these reads another one's rows. -/

@[expose] public section

set_option maxRecDepth 16384

noncomputable section

open Idealize.ShloMosaic Idealize.ShloMosaic.TcCoe Idealize.SL.Sem
open Idealize.ShloMosaic.Pipeline (Dat)

/-! ## The gate -/

namespace Rows

/-- The literal of a half. -/
theorem half : Ideal.ofBits .f32 0x3F000000#32 = ((1 / 2 : ℝ) : EReal) := by
  simp [Ideal.ofBits, Ideal.ieee]
  rw [← EReal.coe_mul]
  norm_num

/-- The logistic function by the hyperbolic tangent of half its argument. -/
theorem half_real (r : ℝ) : 1 / 2 * Real.tanh (1 / 2 * r) + 1 / 2 = (1 + Real.exp (-r))⁻¹ := by
  have e : Real.exp (-r) = Real.exp (-(1 / 2 * r)) / Real.exp (1 / 2 * r) := by rw [← Real.exp_sub]; congr 1; ring
  have p := Real.exp_pos (1 / 2 * r)
  have q := Real.exp_pos (-(1 / 2 * r))
  rw [e, Real.tanh_eq_sinh_div_cosh, Real.sinh_eq, Real.cosh_eq]
  field_simp
  ring

/-- At minus infinity both are zero. -/
theorem half_bot : ((1 / 2 : ℝ) : EReal) * -1 + ((1 / 2 : ℝ) : EReal) = 0 := by
  rw [← EReal.coe_one, ← EReal.coe_neg, ← EReal.coe_mul, ← EReal.coe_add]
  norm_num

/-- At infinity both are one. -/
theorem half_top : ((1 / 2 : ℝ) : EReal) * 1 + ((1 / 2 : ℝ) : EReal) = 1 := by
  rw [← EReal.coe_one, ← EReal.coe_mul, ← EReal.coe_add]
  norm_num

/-- The kernel's gate is the reference's, at every extended real. -/
theorem gate (x : EReal) :
    Ideal.ofBits .f32 0x3F000000#32 * Ideal.tanh (Ideal.ofBits .f32 0x3F000000#32 * x) + Ideal.ofBits .f32 0x3F000000#32
      = Ideal.div 1 (1 + Ideal.exp (-x)) := by
  show _ = Ideal.logistic x
  rw [half]
  induction x with
  | bot => rw [EReal.coe_mul_bot_of_pos (by norm_num), Ideal.tanh_bot, Ideal.logistic_bot, half_bot]
  | top => rw [EReal.coe_mul_top_of_pos (by norm_num), Ideal.tanh_top, Ideal.logistic_top, half_top]
  | coe r => rw [← EReal.coe_mul, Ideal.tanh_coe, Ideal.logistic_coe, ← EReal.coe_mul, ← EReal.coe_add, half_real]

end Rows

/-! ## `rms1_fwd`: a row over its root mean square, times the gain -/

namespace Cert.Reference22Ideal.Value

open Cert.Reference22Ideal Cert.Reference22Ideal.Gen

/-- The reference's result. -/
abbrev REF (arg0 : FVec Ideal S4224x1024 .f32) (arg1 : FVec Ideal S1x1024 .f32) : FVec Ideal S4224x1024 .bf16 :=
  truncf .bf16 (mulf (mulf arg0 (broadcastInDim S4224x1024 ![0, 1] bcast_S4224x1_S4224x1024_0_1 (Host.rsqrt (addf (Host.divf (broadcastInDim S4224x1 ![0] bcast_S4224_S4224x1_0 (Host.reduceAdd (mulf arg0 arg0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 arg1)) bitsLt_bf16_f32

end Cert.Reference22Ideal.Value

namespace Cert.Kernel22Ideal.Value

open Cert.Kernel22Ideal Cert.Kernel22Ideal.Gen Cert.Reference22Ideal.Value

variable (m : (ℓ : Loc nD τ sig) → Buf (Elt Ideal) ℓ)

/-- A block's result at an index. -/
theorem hpay (x w j) : k0_pay1 (F := Ideal) x w j = x j * Ideal.rsqrt (Ideal.div (∑ k : Fin 1024, x (ix2 (j 0) k) * x (ix2 (j 0) k)) (Ideal.ofBits .f32 0x44800000#32)
      + Ideal.ofBits .f32 0x358637BD#32) * w (ix2 0 (j 1)) := by
  pointwise [k0_pay1]

/-- The reference's result at an index. -/
theorem href (x w j) : REF x w j = x j * Ideal.rsqrt (Ideal.div (∑ k : Fin 1024, x (ix2 (j 0) k) * x (ix2 (j 0) k)) (Ideal.ofBits .f32 0x44800000#32)
      + Ideal.ofBits .f32 0x358637BD#32) * w (ix2 0 (j 1)) := by
  pointwise [REF]

/-- The blocks a grid point works on. -/
theorem idx : ∀ t : Fin cfg0.N, win0_0.index t = ![t.val, 0] ∧ win0_1.index t = ![0, 0] ∧ win0_2.index t = ![t.val, 0] :=
  (by decide +kernel : ∀ t : Fin grid0.N, _)

/-- What the kernel writes is the reference's result. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  rw [hpay, href]
  blk_point [iblk, V, idx t]

/-- The reference runs, keeps its arguments, and leaves every counter at zero: it has none. -/
theorem frame_reference : Cert.quiescent_Reference22Ideal (hReference22Ideal := Reference22Ideal.Gen.facts) := fun m ρ _ =>
  θ_run_mono (Reference22Ideal.Value.run m ρ) fun _ h => ⟨fun c => (h c).2, sem_eq_zero_of_no_sems rfl _⟩

/-- The kernel's result is the reference's. -/
theorem values : Cert.algebraic_Kernel22Ideal_Reference22Ideal (hKernel22Ideal := Gen.facts) (hReference22Ideal := Reference22Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference22Ideal.Value.run m' g') fun _ h c => ⟨(h c).1.trans (by rw [(hag c).1, (hag c).2]), (h c).2⟩⟩

end Cert.Kernel22Ideal.Value

/-! ## `swiglu_fwd`: the gated half of a row times the other half -/

namespace Cert.Reference23Ideal.Value

open Cert.Reference23Ideal Cert.Reference23Ideal.Gen

/-- The reference's result. -/
abbrev REF (arg0 : FVec Ideal S4224x5632 .f32) : FVec Ideal S4224x2816 .bf16 :=
  truncf .bf16 (mulf (mulf (extractStridedSlice S4224x2816 ![0, 0] arg0 slices_S4224x5632_S4224x2816_0_0) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] arg0 slices_S4224x5632_S4224x2816_0_0)))))) (extractStridedSlice S4224x2816 ![0, 2816] arg0 slices_S4224x5632_S4224x2816_0_2816)) bitsLt_bf16_f32

end Cert.Reference23Ideal.Value

namespace Cert.Kernel23Ideal.Value

open Cert.Kernel23Ideal Cert.Kernel23Ideal.Gen Cert.Reference23Ideal.Value

variable (m : (ℓ : Loc nD τ sig) → Buf (Elt Ideal) ℓ)

/-- What the kernel writes is the reference's result. -/
theorem same (x : FVec Ideal S4224x5632 .f32) : G2 (F := Ideal) x x = REF x := by
  funext j
  have i : inIdx2_0 j = ix2 (j 0) ⟨(j 1).val, (inIdx2_0 j 1).isLt⟩ := by funext a; fin_cases a <;> rfl
  have k : inIdx2_1 j = ix2 (j 0) ⟨2816 + (j 1).val, by rw [Nat.add_comm]; exact (inIdx2_1 j 1).isLt⟩ := by
    funext a; fin_cases a <;> simp [inIdx2_1, Nat.add_comm] <;> rfl
  pointwise [G2, REF]
  rw [Rows.gate, i, k]
  rfl

/-- The reference runs, keeps its arguments, and leaves every counter at zero: it has none. -/
theorem frame_reference : Cert.quiescent_Reference23Ideal (hReference23Ideal := Reference23Ideal.Gen.facts) := fun m ρ _ =>
  θ_run_mono (Reference23Ideal.Value.run m ρ) fun _ h => ⟨fun c => (h c).2, sem_eq_zero_of_no_sems rfl _⟩

/-- The kernel's result is the reference's. -/
theorem values : Cert.algebraic_Kernel23Ideal_Reference23Ideal (hKernel23Ideal := Gen.facts) (hReference23Ideal := Reference23Ideal.Gen.facts) :=
  fun m g m' g' _ hag => ⟨fun c => REF (m ((c : Thread nD τ).loc main_arg0)),
    θ_run_mono (run m g) fun _ h c => ⟨(h c).1.trans (same _), (h c).2⟩,
    θ_run_mono (Reference23Ideal.Value.run m' g') fun _ h c => ⟨(h c).1.trans (by rw [hag c]), (h c).2⟩⟩

end Cert.Kernel23Ideal.Value

/-! ## `merge_fwd`: the two branches by their gates -/

namespace Cert.Reference24Ideal.Value

open Cert.Reference24Ideal Cert.Reference24Ideal.Gen

/-- The reference's result. -/
abbrev REF (arg0 : FVec Ideal S4224x11264 .f32) (arg1 arg2 : FVec Ideal S4224x1024 .f32) : FVec Ideal S4224x1024 .bf16 :=
  truncf .bf16 (addf (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 9216] arg0 slices_S4224x11264_S4224x1024_0_9216))))) arg1) (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 10240] arg0 slices_S4224x11264_S4224x1024_0_10240))))) arg2)) bitsLt_bf16_f32

end Cert.Reference24Ideal.Value

namespace Cert.Kernel24Ideal.Value

open Cert.Kernel24Ideal Cert.Kernel24Ideal.Gen Cert.Reference24Ideal.Value

variable (m : (ℓ : Loc nD τ sig) → Buf (Elt Ideal) ℓ)

/-- What the kernel writes is the reference's result. -/
theorem same (p : FVec Ideal S4224x11264 .f32) (y z : FVec Ideal S4224x1024 .f32) : G4 (F := Ideal) p y p z = REF p y z := by
  funext j
  have i : inIdx4_0 j = ix2 (j 0) ⟨9216 + (j 1).val, by rw [Nat.add_comm]; exact (inIdx4_0 j 1).isLt⟩ := by
    funext a; fin_cases a <;> simp [inIdx4_0, Nat.add_comm] <;> rfl
  have k : inIdx4_2 j = ix2 (j 0) ⟨10240 + (j 1).val, by rw [Nat.add_comm]; exact (inIdx4_2 j 1).isLt⟩ := by
    funext a; fin_cases a <;> simp [inIdx4_2, Nat.add_comm] <;> rfl
  pointwise [G4, REF]
  rw [Rows.gate, Rows.gate, i, k]
  rfl

/-- The reference runs, keeps its arguments, and leaves every counter at zero: it has none. -/
theorem frame_reference : Cert.quiescent_Reference24Ideal (hReference24Ideal := Reference24Ideal.Gen.facts) := fun m ρ _ =>
  θ_run_mono (Reference24Ideal.Value.run m ρ) fun _ h => ⟨fun c => (h c).2, sem_eq_zero_of_no_sems rfl _⟩

/-- The kernel's result is the reference's. -/
theorem values : Cert.algebraic_Kernel24Ideal_Reference24Ideal (hKernel24Ideal := Gen.facts) (hReference24Ideal := Reference24Ideal.Gen.facts) :=
  fun m g m' g' _ hag => ⟨fun c => REF (m ((c : Thread nD τ).loc main_arg0)) (m ((c : Thread nD τ).loc main_arg1)) (m ((c : Thread nD τ).loc main_arg2)),
    θ_run_mono (run m g) fun _ h c => ⟨(h c).1.trans (same _ _ _), (h c).2⟩,
    θ_run_mono (Reference24Ideal.Value.run m' g') fun _ h c => ⟨(h c).1.trans (by rw [(hag c).1, (hag c).2.1, (hag c).2.2]), (h c).2⟩⟩

end Cert.Kernel24Ideal.Value

/-! ## `merge_bwd`: the derivative of `merge_fwd` -/

namespace Cert.Reference25Ideal.Value

open Cert.Reference25Ideal Cert.Reference25Ideal.Gen

/-- The reference's derivative by the first branch. -/
abbrev DY (arg0 : FVec Ideal S4224x11264 .f32) (arg3 : FVec Ideal S4224x1024 .f32) : FVec Ideal S4224x1024 .bf16 :=
  truncf .bf16 (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 9216] arg0 slices_S4224x11264_S4224x1024_0_9216))))) (shapeCast _ arg3 shapeCasts_S4224x1024_S4224x1024)) bitsLt_bf16_f32

/-- The reference's derivative by the second branch. -/
abbrev DS (arg0 : FVec Ideal S4224x11264 .f32) (arg3 : FVec Ideal S4224x1024 .f32) : FVec Ideal S4224x1024 .bf16 :=
  truncf .bf16 (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 10240] arg0 slices_S4224x11264_S4224x1024_0_10240))))) (shapeCast _ arg3 shapeCasts_S4224x1024_S4224x1024)) bitsLt_bf16_f32

/-- The reference's derivative by the two gates. -/
abbrev DG (arg0 : FVec Ideal S4224x11264 .f32) (arg1 arg2 arg3 : FVec Ideal S4224x1024 .f32) : FVec Ideal S4224x2048 .bf16 :=
  truncf .bf16 (concatenate S4224x2048 1 [⟨S4224x1024, (mulf (mulf (shapeCast _ arg3 shapeCasts_S4224x1024_S4224x1024) arg1) (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 9216] arg0 slices_S4224x11264_S4224x1024_0_9216))))) (subf (broadcastInDim S4224x1024 ![] bcast_S_S4224x1024 (constant S_ .f32 0x3F800000#32)) (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 9216] arg0 slices_S4224x11264_S4224x1024_0_9216))))))))⟩, ⟨S4224x1024, (mulf (mulf (shapeCast _ arg3 shapeCasts_S4224x1024_S4224x1024) arg2) (mulf (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 10240] arg0 slices_S4224x11264_S4224x1024_0_10240))))) (subf (broadcastInDim S4224x1024 ![] bcast_S_S4224x1024 (constant S_ .f32 0x3F800000#32)) (Host.divf (broadcastInDim S4224x1024 ![] bcast_S_S4224x1024 (constant S_ .f32 0x3F800000#32)) (addf (broadcastInDim S4224x1024 ![] bcast_S_S4224x1024 (constant S_ .f32 0x3F800000#32)) (Host.exp (Host.negf (extractStridedSlice S4224x1024 ![0, 10240] arg0 slices_S4224x11264_S4224x1024_0_10240))))))))⟩] concatenates_S4224x1024_S4224x1024_S4224x2048_d1) bitsLt_bf16_f32

end Cert.Reference25Ideal.Value

namespace Cert.Kernel25Ideal.Value

open Cert.Kernel25Ideal Cert.Kernel25Ideal.Gen Cert.Reference25Ideal.Value

variable (m : (ℓ : Loc nD τ sig) → Buf (Elt Ideal) ℓ)

/-- A block of a branch's derivative at an index. -/
theorem hpay4 (d g j) : k0_pay4 (F := Ideal) d g j = d j * Ideal.div 1 (1 + Ideal.exp (-g j)) := by
  pointwise [k0_pay4, k0_pay2]
  rw [Rows.gate]

/-- The same of the other branch. -/
theorem hpay5 (d g j) : k0_pay5 (F := Ideal) d g j = d j * Ideal.div 1 (1 + Ideal.exp (-g j)) := by
  pointwise [k0_pay5, k0_pay3]
  rw [Rows.gate]

/-- A block of a gate's derivative at an index. -/
theorem hpay6 (d g y j) : k0_pay6 (F := Ideal) d g y j
    = d j * y j * (Ideal.div 1 (1 + Ideal.exp (-g j)) * (1 - Ideal.div 1 (1 + Ideal.exp (-g j)))) := by
  pointwise [k0_pay6, k0_pay2]
  rw [Rows.gate, mul_assoc]

/-- The same of the other gate. -/
theorem hpay1 (d g y j) : k0_pay1 (F := Ideal) (k0_pay3 g) (k0_pay7 d y) j
    = d j * y j * (Ideal.div 1 (1 + Ideal.exp (-g j)) * (1 - Ideal.div 1 (1 + Ideal.exp (-g j)))) := by
  pointwise [k0_pay1, k0_pay3, k0_pay7]
  rw [Rows.gate, mul_assoc]

/-- The blocks a grid point works on. -/
theorem idx : ∀ t : Fin cfg0.N, win0_0.index t = ![t.val, 9] ∧ win0_1.index t = ![t.val, 10] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The first branch's derivative. -/
theorem final5 (c : Dev nD) : (dats m 0 c).arrAt 5 (cfgs 0).N = DY (m ((c : Thread nD τ).loc main_arg0)) (m ((c : Thread nD τ).loc main_arg3)) := by
  refine (dats m 0 c).arrAt_eq_of_covers 5 _ (by decide +kernel) fun t _ y => ?_
  blk_simp
  rw [after0_5]
  unfold out0_5
  frame_out
  rw [hpay4]
  pointwise [DY]
  blk_point [iblk, V, idx t]

/-- The second branch's derivative. -/
theorem final6 (c : Dev nD) : (dats m 0 c).arrAt 6 (cfgs 0).N = DS (m ((c : Thread nD τ).loc main_arg0)) (m ((c : Thread nD τ).loc main_arg3)) := by
  refine (dats m 0 c).arrAt_eq_of_covers 6 _ (by decide +kernel) fun t _ y => ?_
  blk_simp
  rw [after0_6]
  unfold out0_6
  frame_out
  rw [hpay5]
  pointwise [DS]
  blk_point [iblk, V, idx t]

/-- The gates' derivative. -/
theorem final7 (c : Dev nD) : (dats m 0 c).arrAt 7 (cfgs 0).N = DG (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  frame_out
  have col : (((View.whole main_v0_2).slice (win0_7.rect t)).emb y 1).val = (y 1).val := by
    simp [idx t]
  canon_tiles x h using Gen.cover0_7 ..
  · rw [hpay1]
    pointwise [DG]
    rw [dif_neg (by rw [col]; omega)]
    blk_point [iblk, V, idx t, h0, h1]
  · rw [hpay6]
    pointwise [DG]
    rw [dif_pos (by rw [col]; omega)]
    blk_point [iblk, V, idx t, h0, h1]

/-- The reference runs, keeps its arguments, and leaves every counter at zero: it has none. -/
theorem frame_reference : Cert.quiescent_Reference25Ideal (hReference25Ideal := Reference25Ideal.Gen.facts) := fun m ρ _ =>
  θ_run_mono (Reference25Ideal.Value.run m ρ) fun _ h => ⟨fun c => (h c).2.2.2, sem_eq_zero_of_no_sems rfl _⟩

/-- The kernel's results are the reference's. -/
theorem values : Cert.algebraic_Kernel25Ideal_Reference25Ideal (hKernel25Ideal := Gen.facts) (hReference25Ideal := Reference25Ideal.Gen.facts) :=
  fun m g m' g' _ hag => ⟨fun c => DY (m ((c : Thread nD τ).loc main_arg0)) (m ((c : Thread nD τ).loc main_arg3)),
    fun c => DS (m ((c : Thread nD τ).loc main_arg0)) (m ((c : Thread nD τ).loc main_arg3)),
    fun c => DG (m ((c : Thread nD τ).loc main_arg0)) (m ((c : Thread nD τ).loc main_arg1)) (m ((c : Thread nD τ).loc main_arg2)) (m ((c : Thread nD τ).loc main_arg3)),
    θ_run_mono (run_blocks m g) fun _ h c => ⟨(h c).1.trans (final5 m c), (h c).2.1.trans (final6 m c), (h c).2.2.1.trans (final7 m c), (h c).2.2.2⟩,
    θ_run_mono (Reference25Ideal.Value.run m' g') fun _ h c => ⟨(h c).1.trans (by rw [(hag c).1, (hag c).2.2.2]), (h c).2.1.trans (by rw [(hag c).1, (hag c).2.2.2]), (h c).2.2.1.trans (by rw [(hag c).1, (hag c).2.1, (hag c).2.2.1, (hag c).2.2.2]), (h c).2.2.2⟩⟩

end Cert.Kernel25Ideal.Value
-- ==== Proof.Heads.lean ====
module

public import proofs.«01_k».proof.Proof.Rows
public import proofs.«01_k».proof.Proof.Inputs
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40Ideal.Frame
public import proofs.«01_k».proof.Proof.Gen.Kernel40Ideal.Value
public import proofs.«01_k».proof.Proof.Gen.Reference40Ideal.Run

/-! # The step's head by head calls, and the derivative of the gated product.

A head's columns are normed by themselves, and no grid point reads another one's rows. -/

@[expose] public section

set_option maxRecDepth 16384

noncomputable section

open Idealize.ShloMosaic Idealize.ShloMosaic.TcCoe Idealize.SL.Sem
open Idealize.ShloMosaic.Pipeline (Dat)

/-! ## `swiglu_bwd`: the derivative of the gated product -/

namespace Rows

/-- The derivative of `x` times its logistic, in the kernel's form and in the reference's: at an infinite `x` the logistic or what
    it lacks to one is zero. -/
theorem slope (d : ℝ) (x : EReal) :
    (d : EReal) * Ideal.div 1 (1 + Ideal.exp (-x)) * (1 + x * (1 - Ideal.div 1 (1 + Ideal.exp (-x))))
      = d * Ideal.div 1 (1 + Ideal.exp (-x)) + x * d * (Ideal.div 1 (1 + Ideal.exp (-x)) * (1 - Ideal.div 1 (1 + Ideal.exp (-x)))) := by
  show (d : EReal) * Ideal.logistic x * (1 + x * (1 - Ideal.logistic x)) = d * Ideal.logistic x + x * d * (Ideal.logistic x * (1 - Ideal.logistic x))
  induction x with
  | bot => simp [Ideal.logistic_bot]
  | top =>
    have e : (1 : EReal) - 1 = 0 := by rw [← EReal.coe_one, ← EReal.coe_sub, sub_self, EReal.coe_zero]
    simp [Ideal.logistic_top, e]
  | coe r =>
    rw [Ideal.logistic_coe]
    generalize (1 + Real.exp (-r))⁻¹ = s
    norm_cast
    ring

end Rows

namespace Cert.Reference38Ideal.Value

open Cert.Reference38Ideal Cert.Reference38Ideal.Gen

/-- The reference's derivative by the gate. -/
abbrev DG (u : FVec Ideal S4224x5632 .f32) (d : FVec Ideal S4224x2816 .f32) : FVec Ideal S4224x2816 .bf16 :=
  truncf .bf16 (addf (mulf (mulf d (extractStridedSlice S4224x2816 ![0, 2816] u slices_S4224x5632_S4224x2816_0_2816)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] u slices_S4224x5632_S4224x2816_0_0)))))) (mulf (mulf (extractStridedSlice S4224x2816 ![0, 0] u slices_S4224x5632_S4224x2816_0_0) (mulf d (extractStridedSlice S4224x2816 ![0, 2816] u slices_S4224x5632_S4224x2816_0_2816))) (mulf (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] u slices_S4224x5632_S4224x2816_0_0))))) (subf (broadcastInDim S4224x2816 ![] bcast_S_S4224x2816 (constant S_ .f32 0x3F800000#32)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] u slices_S4224x5632_S4224x2816_0_0))))))))) bitsLt_bf16_f32

/-- The reference's derivative by the gated half. -/
abbrev DU (u : FVec Ideal S4224x5632 .f32) (d : FVec Ideal S4224x2816 .f32) : FVec Ideal S4224x2816 .bf16 :=
  truncf .bf16 (mulf (mulf (extractStridedSlice S4224x2816 ![0, 0] u slices_S4224x5632_S4224x2816_0_0) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] u slices_S4224x5632_S4224x2816_0_0)))))) d) bitsLt_bf16_f32

end Cert.Reference38Ideal.Value

namespace Cert.Kernel38Ideal.Value

open Cert.Kernel38Ideal Cert.Kernel38Ideal.Gen Cert.Reference38Ideal.Value

variable (m : (ℓ : Loc nD τ sig) → Buf (Elt Ideal) ℓ)

/-- The gated half's column. -/
abbrev right (j : S4224x2816.Idx) : S4224x5632.Idx := ix2 (j 0) ⟨2816 + (j 1).val, by have h : (j 1).val < 2816 := (j 1).isLt; show _ < 5632; omega⟩

/-- The gate's derivative is the reference's. -/
theorem same3 (u : FVec Ideal S4224x5632 .f32) (d : FVec Ideal S4224x2816 .f32) (hu : ∀ j, ∃ z : ℝ, u (right j) = (z : EReal))
    (hd : ∀ j, ∃ z : ℝ, d j = (z : EReal)) : G3 (F := Ideal) u d u = DG u d := by
  funext j
  have i : inIdx3_0 j = ix2 (j 0) ⟨(j 1).val, (inIdx3_0 j 1).isLt⟩ := by funext a; fin_cases a <;> rfl
  have k : inIdx3_2 j = right j := by funext a; fin_cases a <;> simp [inIdx3_2, Nat.add_comm] <;> rfl
  obtain ⟨x, hx⟩ := hu j
  obtain ⟨z, hz⟩ := hd j
  pointwise [G3, DG]
  rw [Rows.gate, i, k, hx, hz, ← EReal.coe_mul]
  exact Rows.slope _ _

/-- The gated half's derivative is the reference's. -/
theorem same4 (u : FVec Ideal S4224x5632 .f32) (d : FVec Ideal S4224x2816 .f32) : G4 (F := Ideal) u d = DU u d := by
  funext j
  have i : inIdx4_0 j = ix2 (j 0) ⟨(j 1).val, (inIdx4_0 j 1).isLt⟩ := by funext a; fin_cases a <;> rfl
  pointwise [G4, DU]
  rw [Rows.gate, i, mul_assoc, mul_comm]
  rfl

/-- The precondition's side conditions. -/
theorem settled_facts : Cert.Pre_settled.Facts where
  slices_S4224x5632_S4224x2816_0_2816 := by decide
  bcast_S_S4224x2816 := by decide

/-- The reference runs, keeps its arguments, and leaves every counter at zero: it has none. -/
theorem frame_reference : Cert.quiescent_Reference38Ideal (hReference38Ideal := Reference38Ideal.Gen.facts) := fun m ρ _ =>
  θ_run_mono (Reference38Ideal.Value.run m ρ) fun _ h => ⟨fun c => (h c).2.2, sem_eq_zero_of_no_sems rfl _⟩

/-- The kernel's results are the reference's. -/
theorem values : Cert.algebraic_Kernel38Ideal_Reference38Ideal_pre_settled (hKernel38Ideal := Gen.facts) (hReference38Ideal := Reference38Ideal.Gen.facts) (hPre_settled := settled_facts) := by
  letI := settled_facts
  intro m g m' g' hpre hag
  refine ⟨fun c => DG (m ((c : Thread nD τ).loc main_arg0)) (m ((c : Thread nD τ).loc main_arg1)), fun c => DU (m ((c : Thread nD τ).loc main_arg0)) (m ((c : Thread nD τ).loc main_arg1)), ?_, ?_⟩
  · refine θ_run_mono (run m g) fun _ h c => ⟨(h c).1.trans (same3 _ _ (fun j => ?_) fun j => ?_), (h c).2.1.trans (same4 _ _), (h c).2.2⟩
    · refine ⟨_, Eq.trans ?_ (Cert.DeltaRule.real_of_lt (congrFun (hpre c).1 j))⟩
      pointwise []
    · exact ⟨_, Cert.DeltaRule.real_of_lt (congrFun (hpre c).2 j)⟩
  · exact θ_run_mono (Reference38Ideal.Value.run m' g') fun _ h c => ⟨(h c).1.trans (by rw [(hag c).1, (hag c).2]), (h c).2.1.trans (by rw [(hag c).1, (hag c).2]), (h c).2.2⟩

end Cert.Kernel38Ideal.Value

/-! ## `sb_prep_fwd`: queries and keys normed head by head -/

namespace Cert.Reference39Ideal.Value

open Cert.Reference39Ideal Cert.Reference39Ideal.Gen

/-- Every head's columns over their root mean square, times the gain. -/
abbrev NORM (x : FVec Ideal S4224x1024 .f32) (w : FVec Ideal S1x128 .f32) : FVec Ideal S4224x1024 .bf16 :=
  truncf .bf16 (shapeCast _ (mulf (mulf (shapeCast _ x shapeCasts_S4224x1024_S4224x8x128) (broadcastInDim S4224x8x128 ![0, 1, 2] bcast_S4224x8x1_S4224x8x128_0_1_2 (Host.rsqrt (addf (Host.divf (broadcastInDim S4224x8x1 ![0, 1] bcast_S4224x8_S4224x8x1_0_1 (Host.reduceAdd (mulf (shapeCast _ x shapeCasts_S4224x1024_S4224x8x128) (shapeCast _ x shapeCasts_S4224x1024_S4224x8x128)) (constant S_ .f32 0x00000000#32) reducesTo_S4224x8x128_S4224x8_d2 h_S_)) (broadcastInDim S4224x8x1 ![] bcast_S_S4224x8x1 (constant S_ .f32 0x43000000#32))) (broadcastInDim S4224x8x1 ![] bcast_S_S4224x8x1 (constant S_ .f32 0x358637BD#32)))))) (broadcastInDim S4224x8x128 ![0, 1, 2] bcast_S1x1x128_S4224x8x128_0_1_2 (broadcastInDim S1x1x128 ![2] bcast_S128_S1x1x128_2 (shapeCast _ w shapeCasts_S1x128_S128)))) shapeCasts_S4224x8x128_S4224x1024) bitsLt_bf16_f32

/-- The reference's queries. -/
abbrev QUERY (p : FVec Ideal S4224x11264 .f32) (w : FVec Ideal S1x128 .f32) : FVec Ideal S4224x1024 .bf16 :=
  NORM (extractStridedSlice S4224x1024 ![0, 6144] p slices_S4224x11264_S4224x1024_0_6144) w

/-- The reference's keys. -/
abbrev KEY (p : FVec Ideal S4224x11264 .f32) (w : FVec Ideal S1x128 .f32) : FVec Ideal S4224x1024 .bf16 :=
  NORM (extractStridedSlice S4224x1024 ![0, 7168] p slices_S4224x11264_S4224x1024_0_7168) w

/-- The reference's values. -/
abbrev VALUE (p : FVec Ideal S4224x11264 .f32) : FVec Ideal S4224x1024 .bf16 :=
  truncf .bf16 (extractStridedSlice S4224x1024 ![0, 8192] p slices_S4224x11264_S4224x1024_0_8192) bitsLt_bf16_f32

end Cert.Reference39Ideal.Value

namespace Cert.Kernel39Ideal.Value

open Cert.Kernel39Ideal Cert.Kernel39Ideal.Gen Cert.Reference39Ideal.Value

variable (m : (ℓ : Loc nD τ sig) → Buf (Elt Ideal) ℓ)

/-- A head's block at an index. -/
theorem hpay (x w j) : k0_pay2 (F := Ideal) x w j = x j * Ideal.rsqrt (Ideal.div (∑ k : Fin 128, x (ix2 (j 0) k) * x (ix2 (j 0) k)) (Ideal.ofBits .f32 0x43000000#32)
      + Ideal.ofBits .f32 0x358637BD#32) * w (ix2 0 (j 1)) := by
  pointwise [k0_pay2]

/-- The blocks a grid point works on. -/
theorem idx : ∀ t : Fin cfg0.N, win0_0.index t = ![t.val, 6] ∧ win0_1.index t = ![t.val, 7] ∧ win0_2.index t = ![t.val, 8] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- What the kernel writes for the queries is the reference's. -/
theorem final5 (c : Dev nD) : (dats m 0 c).arrAt 5 (cfgs 0).N = QUERY (m ((c : Thread nD τ).loc main_arg0)) (m ((c : Thread nD τ).loc main_arg1)) := by
  refine (dats m 0 c).arrAt_eq_of_covers 5 _ (by decide +kernel) fun t _ y => ?_
  blk_simp
  rw [after0_5]
  unfold out0_5
  frame_out
  canon_tiles x h using Gen.cover0_5 ..
  all_goals
    show k0_pay2 (F := Ideal) _ _ _ = _
    rw [hpay]
    pointwise [QUERY, NORM]
    blk_point [iblk, V, idx t, h0, h1]

/-- What the kernel writes for the keys is the reference's. -/
theorem final6 (c : Dev nD) : (dats m 0 c).arrAt 6 (cfgs 0).N = KEY (m ((c : Thread nD τ).loc main_arg0)) (m ((c : Thread nD τ).loc main_arg2)) := by
  refine (dats m 0 c).arrAt_eq_of_covers 6 _ (by decide +kernel) fun t _ y => ?_
  blk_simp
  rw [after0_6]
  unfold out0_6
  frame_out
  canon_tiles x h using Gen.cover0_6 ..
  all_goals
    show k0_pay2 (F := Ideal) _ _ _ = _
    rw [hpay]
    pointwise [KEY, NORM]
    blk_point [iblk, V, idx t, h0, h1]

/-- What the kernel writes for the values is the reference's. -/
theorem final7 (c : Dev nD) : (dats m 0 c).arrAt 7 (cfgs 0).N = VALUE (m ((c : Thread nD τ).loc main_arg0)) := by
  refine (dats m 0 c).arrAt_eq_of_covers 7 _ (by decide +kernel) fun t _ y => ?_
  blk_simp
  rw [after0_7]
  unfold out0_7
  frame_out
  pointwise [k0_pay1, VALUE]
  blk_point [iblk, V, idx t]

/-- The reference runs, keeps its arguments, and leaves every counter at zero: it has none. -/
theorem frame_reference : Cert.quiescent_Reference39Ideal (hReference39Ideal := Reference39Ideal.Gen.facts) := fun m ρ _ =>
  θ_run_mono (Reference39Ideal.Value.run m ρ) fun _ h => ⟨fun c => (h c).2.2.2, sem_eq_zero_of_no_sems rfl _⟩

/-- The kernel's results are the reference's. -/
theorem values : Cert.algebraic_Kernel39Ideal_Reference39Ideal (hKernel39Ideal := Gen.facts) (hReference39Ideal := Reference39Ideal.Gen.facts) :=
  fun m g m' g' _ hag => ⟨fun c => QUERY (m ((c : Thread nD τ).loc main_arg0)) (m ((c : Thread nD τ).loc main_arg1)), fun c => KEY (m ((c : Thread nD τ).loc main_arg0)) (m ((c : Thread nD τ).loc main_arg2)), fun c => VALUE (m ((c : Thread nD τ).loc main_arg0)),
    θ_run_mono (run_blocks m g) fun _ h c => ⟨(h c).1.trans (final5 m c), (h c).2.1.trans (final6 m c), (h c).2.2.1.trans (final7 m c), (h c).2.2.2⟩,
    θ_run_mono (Reference39Ideal.Value.run m' g') fun _ h c => ⟨(h c).1.trans (by rw [(hag c).1, (hag c).2.1]), (h c).2.1.trans (by rw [(hag c).1, (hag c).2.2]), (h c).2.2.1.trans (by rw [(hag c).1]), (h c).2.2.2⟩⟩

end Cert.Kernel39Ideal.Value

/-! ## `dn_out_fwd`: the normed heads, gated -/

namespace Cert.Reference40Ideal.Value

open Cert.Reference40Ideal Cert.Reference40Ideal.Gen

/-- The reference's result. -/
abbrev REF (x : FVec Ideal S4224x2048 .f32) (p : FVec Ideal S4224x11264 .f32) (w : FVec Ideal S1x256 .f32) : FVec Ideal S4224x2048 .bf16 :=
  truncf .bf16 (shapeCast _ (mulf (mulf (mulf (shapeCast _ x shapeCasts_S4224x2048_S4224x8x256) (broadcastInDim S4224x8x256 ![0, 1, 2] bcast_S4224x8x1_S4224x8x256_0_1_2 (Host.rsqrt (addf (Host.divf (broadcastInDim S4224x8x1 ![0, 1] bcast_S4224x8_S4224x8x1_0_1 (Host.reduceAdd (mulf (shapeCast _ x shapeCasts_S4224x2048_S4224x8x256) (shapeCast _ x shapeCasts_S4224x2048_S4224x8x256)) (constant S_ .f32 0x00000000#32) reducesTo_S4224x8x256_S4224x8_d2 h_S_)) (broadcastInDim S4224x8x1 ![] bcast_S_S4224x8x1 (constant S_ .f32 0x43800000#32))) (broadcastInDim S4224x8x1 ![] bcast_S_S4224x8x1 (constant S_ .f32 0x358637BD#32)))))) (broadcastInDim S4224x8x256 ![0, 1, 2] bcast_S1x1x256_S4224x8x256_0_1_2 (broadcastInDim S1x1x256 ![2] bcast_S256_S1x1x256_2 (shapeCast _ w shapeCasts_S1x256_S256)))) (mulf (shapeCast _ (extractStridedSlice S4224x2048 ![0, 4096] p slices_S4224x11264_S4224x2048_0_4096) shapeCasts_S4224x2048_S4224x8x256) (Host.divf (broadcastInDim S4224x8x256 ![] bcast_S_S4224x8x256 (constant S_ .f32 0x3F800000#32)) (addf (broadcastInDim S4224x8x256 ![] bcast_S_S4224x8x256 (constant S_ .f32 0x3F800000#32)) (Host.exp (Host.negf (shapeCast _ (extractStridedSlice S4224x2048 ![0, 4096] p slices_S4224x11264_S4224x2048_0_4096) shapeCasts_S4224x2048_S4224x8x256))))))) shapeCasts_S4224x8x256_S4224x2048) bitsLt_bf16_f32

end Cert.Reference40Ideal.Value

namespace Cert.Kernel40Ideal.Value

open Cert.Kernel40Ideal Cert.Kernel40Ideal.Gen Cert.Reference40Ideal.Value

variable (m : (ℓ : Loc nD τ sig) → Buf (Elt Ideal) ℓ)

/-- A head's block at an index. -/
theorem hpay (x z w j) : k0_pay3 (F := Ideal) x z w j = x j * Ideal.rsqrt (Ideal.div (∑ k : Fin 256, x (ix2 (j 0) k) * x (ix2 (j 0) k)) (Ideal.ofBits .f32 0x43800000#32)
      + Ideal.ofBits .f32 0x358637BD#32) * w (ix2 0 (j 1)) * (z j * Ideal.div 1 (1 + Ideal.exp (-z j))) := by
  rw [← Rows.gate]
  pointwise [k0_pay3]

/-- The blocks a grid point works on. -/
theorem idx : ∀ t : Fin cfg0.N, win0_0.index t = ![t.val / 2, t.val % 2] ∧ win0_1.index t = ![t.val / 2, 4 + t.val % 2] ∧ win0_2.index t = ![0, 0] ∧ win0_3.index t = ![t.val / 2, t.val % 2] :=
  (by decide +kernel : ∀ t : Fin grid0.N, _)

/-- What the kernel writes is the reference's result. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  canon_tiles x h using Gen.cover0_3 ..
  all_goals
    show k0_pay3 (F := Ideal) _ _ _ _ = _
    rw [hpay]
    pointwise [REF]
    blk_point [iblk, V, idx t, h0, h1]

/-- The reference runs, keeps its arguments, and leaves every counter at zero: it has none. -/
theorem frame_reference : Cert.quiescent_Reference40Ideal (hReference40Ideal := Reference40Ideal.Gen.facts) := fun m ρ _ =>
  θ_run_mono (Reference40Ideal.Value.run m ρ) fun _ h => ⟨fun c => (h c).2, sem_eq_zero_of_no_sems rfl _⟩

/-- The kernel's result is the reference's. -/
theorem values : Cert.algebraic_Kernel40Ideal_Reference40Ideal (hKernel40Ideal := Gen.facts) (hReference40Ideal := Reference40Ideal.Gen.facts) :=
  fun m g m' g' _ hag => ⟨fun c => REF (m ((c : Thread nD τ).loc main_arg0)) (m ((c : Thread nD τ).loc main_arg1)) (m ((c : Thread nD τ).loc main_arg2)),
    θ_run_mono (run_blocks m g) fun _ h c => ⟨(h c).1.trans (final m c), (h c).2⟩,
    θ_run_mono (Reference40Ideal.Value.run m' g') fun _ h c => ⟨(h c).1.trans (by rw [(hag c).1, (hag c).2.1, (hag c).2.2]), (h c).2⟩⟩

end Cert.Kernel40Ideal.Value
-- ==== Proof.Update.lean ====
module

public import proofs.«01_k».proof.Defs
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel44Ideal.Frame
public import proofs.«01_k».proof.Proof.Gen.Kernel44Ideal.Value
public import proofs.«01_k».proof.Proof.Gen.Reference44Ideal.Run
public import proofs.«01_k».proof.Proof.Gen.Kernel45Ideal.Frame
public import proofs.«01_k».proof.Proof.Gen.Kernel45Ideal.Value
public import proofs.«01_k».proof.Proof.Gen.Reference45Ideal.Run
public import proofs.«01_k».proof.Proof.Gen.Kernel46Ideal.Frame
public import proofs.«01_k».proof.Proof.Gen.Kernel46Ideal.Value
public import proofs.«01_k».proof.Proof.Gen.Reference46Ideal.Run
public import proofs.«01_k».proof.Proof.Gen.Kernel47Ideal.Frame
public import proofs.«01_k».proof.Proof.Gen.Kernel47Ideal.Value
public import proofs.«01_k».proof.Proof.Gen.Reference47Ideal.Run
public import Idealize.ShloMosaic.Lib.Pipeline.ValueKit
public import Idealize.ShloMosaic.Lib.Pipeline.ReadBack

/-! # The weights' updates, and the sums of gradients.

Every element is computed from the elements at its own index. -/

@[expose] public section

set_option maxRecDepth 16384

noncomputable section

open Idealize.ShloMosaic Idealize.ShloMosaic.TcCoe Idealize.SL.Sem
open Idealize.ShloMosaic.Pipeline (Dat)

/-! ## One weight's update, whatever its shape -/

namespace Adam

/-- The running mean of the gradient. -/
abbrev mean {s : Shape} (g a : FVec Ideal s .f32) : FVec Ideal s .f32 := fun j =>
  Ideal.ofBits .f32 0x3F666666#32 * a j + Ideal.ofBits .f32 0x3DCCCCCD#32 * g j

/-- The running mean of its square. -/
abbrev square {s : Shape} (g b : FVec Ideal s .f32) : FVec Ideal s .f32 := fun j =>
  Ideal.ofBits .f32 0x3F7FBE77#32 * b j + Ideal.ofBits .f32 0x3A83126F#32 * (g j * g j)

/-- The weight's step. -/
abbrev step {s : Shape} (w g a b : FVec Ideal s .f32) : FVec Ideal s .f32 := fun j =>
  Ideal.ofBits .f32 0xBA83126F#32 * (Ideal.div (Ideal.div (mean g a j) (Ideal.ofBits .f32 0x3F26BD02#32))
      (Ideal.sqrt (Ideal.div (square g b j) (Ideal.ofBits .f32 0x3C231ACC#32)) + Ideal.ofBits .f32 0x322BCC77#32)
    + Ideal.ofBits .f32 0x3C23D70A#32 * w j)

end Adam

/-- The sum of two devices' parts of a gradient. -/
abbrev Pair.sum {s : Shape} {e : FTy} (a b : FVec Ideal s .f32) : FVec Ideal s e := fun j => (a j : EReal) + b j

/-! ### `adamw_w_in` -/

namespace Cert.Kernel26Ideal.Value

open Cert.Kernel26Ideal Cert.Kernel26Ideal.Gen

/-- The reference runs, keeps its arguments, and leaves every counter at zero: it has none. -/
theorem frame_reference : Cert.quiescent_Reference26Ideal (hReference26Ideal := Reference26Ideal.Gen.facts) := fun m ρ _ =>
  θ_run_mono (Reference26Ideal.Value.run m ρ) fun _ h => ⟨fun c => (h c).2.2.2, sem_eq_zero_of_no_sems rfl _⟩

/-- The kernel's results are the reference's. -/
theorem values : Cert.algebraic_Kernel26Ideal_Reference26Ideal (hKernel26Ideal := Gen.facts) (hReference26Ideal := Reference26Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference26Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel26Ideal.Value

/-! ### `adamw_w_branch_dn` -/

namespace Cert.Kernel27Ideal.Value

open Cert.Kernel27Ideal Cert.Kernel27Ideal.Gen

/-- The reference runs, keeps its arguments, and leaves every counter at zero: it has none. -/
theorem frame_reference : Cert.quiescent_Reference27Ideal (hReference27Ideal := Reference27Ideal.Gen.facts) := fun m ρ _ =>
  θ_run_mono (Reference27Ideal.Value.run m ρ) fun _ h => ⟨fun c => (h c).2.2.2, sem_eq_zero_of_no_sems rfl _⟩

/-- The kernel's results are the reference's. -/
theorem values : Cert.algebraic_Kernel27Ideal_Reference27Ideal (hKernel27Ideal := Gen.facts) (hReference27Ideal := Reference27Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference27Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel27Ideal.Value

/-! ### `adamw_w_out` -/

namespace Cert.Kernel28Ideal.Value

open Cert.Kernel28Ideal Cert.Kernel28Ideal.Gen

/-- The reference runs, keeps its arguments, and leaves every counter at zero: it has none. -/
theorem frame_reference : Cert.quiescent_Reference28Ideal (hReference28Ideal := Reference28Ideal.Gen.facts) := fun m ρ _ =>
  θ_run_mono (Reference28Ideal.Value.run m ρ) fun _ h => ⟨fun c => (h c).2.2.2, sem_eq_zero_of_no_sems rfl _⟩

/-- The kernel's results are the reference's. -/
theorem values : Cert.algebraic_Kernel28Ideal_Reference28Ideal (hKernel28Ideal := Gen.facts) (hReference28Ideal := Reference28Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference28Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel28Ideal.Value

/-! ### `adamw_w_ffn_in` -/

namespace Cert.Kernel29Ideal.Value

open Cert.Kernel29Ideal Cert.Kernel29Ideal.Gen

/-- The reference runs, keeps its arguments, and leaves every counter at zero: it has none. -/
theorem frame_reference : Cert.quiescent_Reference29Ideal (hReference29Ideal := Reference29Ideal.Gen.facts) := fun m ρ _ =>
  θ_run_mono (Reference29Ideal.Value.run m ρ) fun _ h => ⟨fun c => (h c).2.2.2, sem_eq_zero_of_no_sems rfl _⟩

/-- The kernel's results are the reference's. -/
theorem values : Cert.algebraic_Kernel29Ideal_Reference29Ideal (hKernel29Ideal := Gen.facts) (hReference29Ideal := Reference29Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference29Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel29Ideal.Value

/-! ### `adamw_w_ffn_out` -/

namespace Cert.Kernel30Ideal.Value

open Cert.Kernel30Ideal Cert.Kernel30Ideal.Gen

/-- The reference runs, keeps its arguments, and leaves every counter at zero: it has none. -/
theorem frame_reference : Cert.quiescent_Reference30Ideal (hReference30Ideal := Reference30Ideal.Gen.facts) := fun m ρ _ =>
  θ_run_mono (Reference30Ideal.Value.run m ρ) fun _ h => ⟨fun c => (h c).2.2.2, sem_eq_zero_of_no_sems rfl _⟩

/-- The kernel's results are the reference's. -/
theorem values : Cert.algebraic_Kernel30Ideal_Reference30Ideal (hKernel30Ideal := Gen.facts) (hReference30Ideal := Reference30Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference30Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel30Ideal.Value

/-! ### `adamw_meta_tokens` -/

namespace Cert.Kernel31Ideal.Value

open Cert.Kernel31Ideal Cert.Kernel31Ideal.Gen

/-- The reference runs, keeps its arguments, and leaves every counter at zero: it has none. -/
theorem frame_reference : Cert.quiescent_Reference31Ideal (hReference31Ideal := Reference31Ideal.Gen.facts) := fun m ρ _ =>
  θ_run_mono (Reference31Ideal.Value.run m ρ) fun _ h => ⟨fun c => (h c).2.2.2, sem_eq_zero_of_no_sems rfl _⟩

/-- The kernel's results are the reference's. -/
theorem values : Cert.algebraic_Kernel31Ideal_Reference31Ideal (hKernel31Ideal := Gen.facts) (hReference31Ideal := Reference31Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference31Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel31Ideal.Value

/-! ### `adamw_norm_mix_gain` -/

namespace Cert.Kernel32Ideal.Value

open Cert.Kernel32Ideal Cert.Kernel32Ideal.Gen

/-- The reference runs, keeps its arguments, and leaves every counter at zero: it has none. -/
theorem frame_reference : Cert.quiescent_Reference32Ideal (hReference32Ideal := Reference32Ideal.Gen.facts) := fun m ρ _ =>
  θ_run_mono (Reference32Ideal.Value.run m ρ) fun _ h => ⟨fun c => (h c).2.2.2, sem_eq_zero_of_no_sems rfl _⟩

/-- The kernel's results are the reference's. -/
theorem values : Cert.algebraic_Kernel32Ideal_Reference32Ideal (hKernel32Ideal := Gen.facts) (hReference32Ideal := Reference32Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference32Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel32Ideal.Value

/-! ### `adamw_conv_q` -/

namespace Cert.Kernel33Ideal.Value

open Cert.Kernel33Ideal Cert.Kernel33Ideal.Gen

/-- The reference runs, keeps its arguments, and leaves every counter at zero: it has none. -/
theorem frame_reference : Cert.quiescent_Reference33Ideal (hReference33Ideal := Reference33Ideal.Gen.facts) := fun m ρ _ =>
  θ_run_mono (Reference33Ideal.Value.run m ρ) fun _ h => ⟨fun c => (h c).2.2.2, sem_eq_zero_of_no_sems rfl _⟩

/-- The kernel's results are the reference's. -/
theorem values : Cert.algebraic_Kernel33Ideal_Reference33Ideal (hKernel33Ideal := Gen.facts) (hReference33Ideal := Reference33Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference33Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel33Ideal.Value

/-! ### `adamw_conv_v` -/

namespace Cert.Kernel34Ideal.Value

open Cert.Kernel34Ideal Cert.Kernel34Ideal.Gen

/-- The reference runs, keeps its arguments, and leaves every counter at zero: it has none. -/
theorem frame_reference : Cert.quiescent_Reference34Ideal (hReference34Ideal := Reference34Ideal.Gen.facts) := fun m ρ _ =>
  θ_run_mono (Reference34Ideal.Value.run m ρ) fun _ h => ⟨fun c => (h c).2.2.2, sem_eq_zero_of_no_sems rfl _⟩

/-- The kernel's results are the reference's. -/
theorem values : Cert.algebraic_Kernel34Ideal_Reference34Ideal (hKernel34Ideal := Gen.facts) (hReference34Ideal := Reference34Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference34Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel34Ideal.Value

/-! ### `adamw_dn_a_log` -/

namespace Cert.Kernel35Ideal.Value

open Cert.Kernel35Ideal Cert.Kernel35Ideal.Gen

/-- The reference runs, keeps its arguments, and leaves every counter at zero: it has none. -/
theorem frame_reference : Cert.quiescent_Reference35Ideal (hReference35Ideal := Reference35Ideal.Gen.facts) := fun m ρ _ =>
  θ_run_mono (Reference35Ideal.Value.run m ρ) fun _ h => ⟨fun c => (h c).2.2.2, sem_eq_zero_of_no_sems rfl _⟩

/-- The kernel's results are the reference's. -/
theorem values : Cert.algebraic_Kernel35Ideal_Reference35Ideal (hKernel35Ideal := Gen.facts) (hReference35Ideal := Reference35Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference35Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel35Ideal.Value

/-! ### `adamw_dn_out_norm_gain` -/

namespace Cert.Kernel36Ideal.Value

open Cert.Kernel36Ideal Cert.Kernel36Ideal.Gen

/-- The reference runs, keeps its arguments, and leaves every counter at zero: it has none. -/
theorem frame_reference : Cert.quiescent_Reference36Ideal (hReference36Ideal := Reference36Ideal.Gen.facts) := fun m ρ _ =>
  θ_run_mono (Reference36Ideal.Value.run m ρ) fun _ h => ⟨fun c => (h c).2.2.2, sem_eq_zero_of_no_sems rfl _⟩

/-- The kernel's results are the reference's. -/
theorem values : Cert.algebraic_Kernel36Ideal_Reference36Ideal (hKernel36Ideal := Gen.facts) (hReference36Ideal := Reference36Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference36Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel36Ideal.Value

/-! ### `adamw_sb_q_norm_gain` -/

namespace Cert.Kernel37Ideal.Value

open Cert.Kernel37Ideal Cert.Kernel37Ideal.Gen

/-- The reference runs, keeps its arguments, and leaves every counter at zero: it has none. -/
theorem frame_reference : Cert.quiescent_Reference37Ideal (hReference37Ideal := Reference37Ideal.Gen.facts) := fun m ρ _ =>
  θ_run_mono (Reference37Ideal.Value.run m ρ) fun _ h => ⟨fun c => (h c).2.2.2, sem_eq_zero_of_no_sems rfl _⟩

/-- The kernel's results are the reference's. -/
theorem values : Cert.algebraic_Kernel37Ideal_Reference37Ideal (hKernel37Ideal := Gen.facts) (hReference37Ideal := Reference37Ideal.Gen.facts) :=
  fun m g m' g' _ hag => ⟨fun c => Adam.step (m ((c : Thread nD τ).loc main_arg0)) (m ((c : Thread nD τ).loc main_arg1)) (m ((c : Thread nD τ).loc main_arg2)) (m ((c : Thread nD τ).loc main_arg3)),
    fun c => Adam.mean (m ((c : Thread nD τ).loc main_arg1)) (m ((c : Thread nD τ).loc main_arg2)), fun c => Adam.square (m ((c : Thread nD τ).loc main_arg1)) (m ((c : Thread nD τ).loc main_arg3)),
    θ_run_mono (run m g) fun _ h c => ⟨(h c).1.trans rfl, (h c).2.1.trans rfl, (h c).2.2.1.trans rfl, (h c).2.2.2⟩,
    θ_run_mono (Reference37Ideal.Value.run m' g') fun _ h c => ⟨(h c).1.trans (by rw [(hag c).1, (hag c).2.1, (hag c).2.2.1, (hag c).2.2.2]; rfl), (h c).2.1.trans (by rw [(hag c).2.1, (hag c).2.2.1]; rfl), (h c).2.2.1.trans (by rw [(hag c).2.1, (hag c).2.2.2]; rfl), (h c).2.2.2⟩⟩

end Cert.Kernel37Ideal.Value

/-! ## Two devices' parts of a gradient, added -/

/-! ### `grad_pair_add_a0` -/

namespace Cert.Kernel41Ideal.Value

open Cert.Kernel41Ideal Cert.Kernel41Ideal.Gen

/-- The reference runs, keeps its arguments, and leaves every counter at zero: it has none. -/
theorem frame_reference : Cert.quiescent_Reference41Ideal (hReference41Ideal := Reference41Ideal.Gen.facts) := fun m ρ _ =>
  θ_run_mono (Reference41Ideal.Value.run m ρ) fun _ h => ⟨fun c => (h c).2, sem_eq_zero_of_no_sems rfl _⟩

/-- The kernel's result is the reference's. -/
theorem values : Cert.algebraic_Kernel41Ideal_Reference41Ideal (hKernel41Ideal := Gen.facts) (hReference41Ideal := Reference41Ideal.Gen.facts) :=
  fun m g m' g' _ hag => ⟨fun c => Pair.sum (e := .f32) (m ((c : Thread nD τ).loc main_arg0)) (m ((c : Thread nD τ).loc main_arg1)),
    θ_run_mono (run m g) fun _ h c => ⟨(h c).1.trans rfl, (h c).2⟩,
    θ_run_mono (Reference41Ideal.Value.run m' g') fun _ h c => ⟨(h c).1.trans (by rw [(hag c).1, (hag c).2]; rfl), (h c).2⟩⟩

end Cert.Kernel41Ideal.Value

/-! ### `grad_pair_add_a1` -/

namespace Cert.Kernel42Ideal.Value

open Cert.Kernel42Ideal Cert.Kernel42Ideal.Gen

/-- The reference runs, keeps its arguments, and leaves every counter at zero: it has none. -/
theorem frame_reference : Cert.quiescent_Reference42Ideal (hReference42Ideal := Reference42Ideal.Gen.facts) := fun m ρ _ =>
  θ_run_mono (Reference42Ideal.Value.run m ρ) fun _ h => ⟨fun c => (h c).2, sem_eq_zero_of_no_sems rfl _⟩

/-- The kernel's result is the reference's. -/
theorem values : Cert.algebraic_Kernel42Ideal_Reference42Ideal (hKernel42Ideal := Gen.facts) (hReference42Ideal := Reference42Ideal.Gen.facts) :=
  fun m g m' g' _ hag => ⟨fun c => Pair.sum (e := .f32) (m ((c : Thread nD τ).loc main_arg0)) (m ((c : Thread nD τ).loc main_arg1)),
    θ_run_mono (run m g) fun _ h c => ⟨(h c).1.trans rfl, (h c).2⟩,
    θ_run_mono (Reference42Ideal.Value.run m' g') fun _ h c => ⟨(h c).1.trans (by rw [(hag c).1, (hag c).2]; rfl), (h c).2⟩⟩

end Cert.Kernel42Ideal.Value

/-! ### `grad_pair_add_a3` -/

namespace Cert.Kernel43Ideal.Value

open Cert.Kernel43Ideal Cert.Kernel43Ideal.Gen

/-- The reference runs, keeps its arguments, and leaves every counter at zero: it has none. -/
theorem frame_reference : Cert.quiescent_Reference43Ideal (hReference43Ideal := Reference43Ideal.Gen.facts) := fun m ρ _ =>
  θ_run_mono (Reference43Ideal.Value.run m ρ) fun _ h => ⟨fun c => (h c).2, sem_eq_zero_of_no_sems rfl _⟩

/-- The kernel's result is the reference's. -/
theorem values : Cert.algebraic_Kernel43Ideal_Reference43Ideal (hKernel43Ideal := Gen.facts) (hReference43Ideal := Reference43Ideal.Gen.facts) :=
  fun m g m' g' _ hag => ⟨fun c => Pair.sum (e := .f32) (m ((c : Thread nD τ).loc main_arg0)) (m ((c : Thread nD τ).loc main_arg1)),
    θ_run_mono (run m g) fun _ h c => ⟨(h c).1.trans rfl, (h c).2⟩,
    θ_run_mono (Reference43Ideal.Value.run m' g') fun _ h c => ⟨(h c).1.trans (by rw [(hag c).1, (hag c).2]; rfl), (h c).2⟩⟩

end Cert.Kernel43Ideal.Value

/-! ### `grad_pair_add_a4` -/

namespace Cert.Kernel44Ideal.Value

open Cert.Kernel44Ideal Cert.Kernel44Ideal.Gen

/-- The reference runs, keeps its arguments, and leaves every counter at zero: it has none. -/
theorem frame_reference : Cert.quiescent_Reference44Ideal (hReference44Ideal := Reference44Ideal.Gen.facts) := fun m ρ _ =>
  θ_run_mono (Reference44Ideal.Value.run m ρ) fun _ h => ⟨fun c => (h c).2, sem_eq_zero_of_no_sems rfl _⟩

/-- The kernel's result is the reference's. -/
theorem values : Cert.algebraic_Kernel44Ideal_Reference44Ideal (hKernel44Ideal := Gen.facts) (hReference44Ideal := Reference44Ideal.Gen.facts) :=
  fun m g m' g' _ hag => ⟨fun c => Pair.sum (e := .f32) (m ((c : Thread nD τ).loc main_arg0)) (m ((c : Thread nD τ).loc main_arg1)),
    θ_run_mono (run m g) fun _ h c => ⟨(h c).1.trans rfl, (h c).2⟩,
    θ_run_mono (Reference44Ideal.Value.run m' g') fun _ h c => ⟨(h c).1.trans (by rw [(hag c).1, (hag c).2]; rfl), (h c).2⟩⟩

end Cert.Kernel44Ideal.Value

/-! ### `grad_pair_add_b0` -/

namespace Cert.Kernel45Ideal.Value

open Cert.Kernel45Ideal Cert.Kernel45Ideal.Gen

/-- The reference runs, keeps its arguments, and leaves every counter at zero: it has none. -/
theorem frame_reference : Cert.quiescent_Reference45Ideal (hReference45Ideal := Reference45Ideal.Gen.facts) := fun m ρ _ =>
  θ_run_mono (Reference45Ideal.Value.run m ρ) fun _ h => ⟨fun c => (h c).2, sem_eq_zero_of_no_sems rfl _⟩

/-- The kernel's result is the reference's. -/
theorem values : Cert.algebraic_Kernel45Ideal_Reference45Ideal (hKernel45Ideal := Gen.facts) (hReference45Ideal := Reference45Ideal.Gen.facts) :=
  fun m g m' g' _ hag => ⟨fun c => Pair.sum (e := .bf16) (m ((c : Thread nD τ).loc main_arg0)) (m ((c : Thread nD τ).loc main_arg1)),
    θ_run_mono (run m g) fun _ h c => ⟨(h c).1.trans rfl, (h c).2⟩,
    θ_run_mono (Reference45Ideal.Value.run m' g') fun _ h c => ⟨(h c).1.trans (by rw [(hag c).1, (hag c).2]; rfl), (h c).2⟩⟩

end Cert.Kernel45Ideal.Value

/-! ### `grad_pair_add_b1` -/

namespace Cert.Kernel46Ideal.Value

open Cert.Kernel46Ideal Cert.Kernel46Ideal.Gen

/-- The reference runs, keeps its arguments, and leaves every counter at zero: it has none. -/
theorem frame_reference : Cert.quiescent_Reference46Ideal (hReference46Ideal := Reference46Ideal.Gen.facts) := fun m ρ _ =>
  θ_run_mono (Reference46Ideal.Value.run m ρ) fun _ h => ⟨fun c => (h c).2, sem_eq_zero_of_no_sems rfl _⟩

/-- The kernel's result is the reference's. -/
theorem values : Cert.algebraic_Kernel46Ideal_Reference46Ideal (hKernel46Ideal := Gen.facts) (hReference46Ideal := Reference46Ideal.Gen.facts) :=
  fun m g m' g' _ hag => ⟨fun c => Pair.sum (e := .bf16) (m ((c : Thread nD τ).loc main_arg0)) (m ((c : Thread nD τ).loc main_arg1)),
    θ_run_mono (run m g) fun _ h c => ⟨(h c).1.trans rfl, (h c).2⟩,
    θ_run_mono (Reference46Ideal.Value.run m' g') fun _ h c => ⟨(h c).1.trans (by rw [(hag c).1, (hag c).2]; rfl), (h c).2⟩⟩

end Cert.Kernel46Ideal.Value

/-! ## `small_sum`: every device's part of the small weights' gradients, added -/

namespace Cert.Kernel47Ideal.Value

open Cert.Kernel47Ideal Cert.Kernel47Ideal.Gen

/-- The reference's result. -/
abbrev REF (x : FVec Ideal S8x40x1024 .f32) : FVec Ideal S40x1024 .f32 :=
  Host.reduceAdd x (constant (F := Ideal) Cert.Reference47Ideal.S_ .f32 0x00000000#32) Cert.Reference47Ideal.Gen.reducesTo_S8x40x1024_S40x1024_d0 Cert.Reference47Ideal.Gen.h_S_

/-- The kernel's sum of eight is the reference's. -/
theorem same (x : FVec Ideal S8x40x1024 .f32) : G1 (F := Ideal) x = REF x := by
  funext j
  pointwise [G1, k0_pay1, REF]
  rw [Fin.sum_univ_eight]

/-- The reference runs, keeps its arguments, and leaves every counter at zero: it has none. -/
theorem frame_reference : Cert.quiescent_Reference47Ideal (hReference47Ideal := Reference47Ideal.Gen.facts) := fun m ρ _ =>
  θ_run_mono (Reference47Ideal.Value.run m ρ) fun _ h => ⟨fun c => (h c).2, sem_eq_zero_of_no_sems rfl _⟩

/-- The kernel's result is the reference's. -/
theorem values : Cert.algebraic_Kernel47Ideal_Reference47Ideal (hKernel47Ideal := Gen.facts) (hReference47Ideal := Reference47Ideal.Gen.facts) :=
  fun m g m' g' _ hag => ⟨fun c => REF (m ((c : Thread nD τ).loc main_arg0)),
    θ_run_mono (run m g) fun _ h c => ⟨(h c).1.trans (same _), (h c).2⟩,
    θ_run_mono (Reference47Ideal.Value.run m' g') fun _ h c => ⟨(h c).1.trans (by rw [hag c]), (h c).2⟩⟩

end Cert.Kernel47Ideal.Value
-- ==== Proof.Norms.lean ====
module

public import proofs.«01_k».proof.Defs
public import proofs.«01_k».proof.Proof.Inputs
public import proofs.«01_k».proof.Proof.Ref
public import proofs.«01_k».proof.Proof.Tiles
public import proofs.«01_k».proof.Proof.Gen.Kernel48Ideal.Frame
public import proofs.«01_k».proof.Proof.Gen.Kernel48Ideal.Value
public import proofs.«01_k».proof.Proof.Gen.Reference48Ideal.Run
public import Idealize.ShloMosaic.Lib.Pipeline.ValueKit
public import Idealize.ShloMosaic.Lib.Pipeline.ReadBack

/-! # The derivative of a row's norm. -/

@[expose] public section

set_option maxRecDepth 16384

noncomputable section

open Idealize.ShloMosaic Idealize.ShloMosaic.TcCoe Idealize.SL.Sem
open Idealize.ShloMosaic.Pipeline (Dat)

/-! ## One row over real numbers -/

namespace Norms

/-- The literal of a row's length. -/
theorem len : Ideal.ofBits .f32 0x44800000#32 = ((1024 : ℝ) : EReal) := by
  simp [Ideal.ofBits, Ideal.ieee]
  rw [← EReal.coe_mul]
  norm_num

/-- The literal of minus a half. -/
theorem minus_half : Ideal.ofBits .f32 0xBF000000#32 = ((-(1 / 2) : ℝ) : EReal) := by
  simp [Ideal.ofBits, Ideal.ieee]
  rw [← EReal.coe_mul]
  norm_num

/-- The number added under the root is a positive real. -/
theorem eps : ∃ e : ℝ, 0 < e ∧ Ideal.ofBits .f32 0x358637BD#32 = (e : EReal) := by
  refine ⟨_, ?_, by simp [Ideal.ofBits, Ideal.ieee]; rw [← EReal.coe_mul]⟩
  positivity

/-- A square is not negative. -/
theorem square (a : EReal) : 0 ≤ a * a := by
  induction a with
  | bot => simp
  | coe a => exact_mod_cast mul_self_nonneg a
  | top => simp

/-- Twice a number, as a sum. -/
theorem twice (a : EReal) : a + a = a * ((2 : ℝ) : EReal) := by
  induction a with
  | bot => rw [EReal.bot_mul_coe_of_pos (by norm_num)]; rfl
  | coe a => rw [← EReal.coe_add, ← EReal.coe_mul, mul_two]
  | top => rw [EReal.top_mul_coe_of_pos (by norm_num)]; rfl

/-- One product with real factors, as two halves. -/
theorem terms (A : EReal) (p y c d : ℝ) (h : -(p * (y * p * c)) = d * y * 2) :
    (p : EReal) * -((y : EReal) * p * (A * c)) = y * (A * d) + A * d * y := by
  have e : A * d * y * ((2 : ℝ) : EReal) = A * ((d * y * 2 : ℝ) : EReal) := by simp only [EReal.coe_mul]; ac_rfl
  rw [mul_comm (y : EReal) (A * d), twice, e, ← h, EReal.coe_neg, mul_neg, mul_neg]
  refine congrArg Neg.neg ?_
  simp only [EReal.coe_mul]
  ac_rfl

/-- A positive real factor goes out of a sum. -/
theorem factor {n : ℕ} (a : Fin n → EReal) (p : ℝ) (hp : 0 ≤ p) : ∑ k, a k * (p : EReal) = (∑ k, a k) * (p : EReal) := by
  have h : ∀ s : Finset (Fin n), ∑ k ∈ s, a k * (p : EReal) = (∑ k ∈ s, a k) * (p : EReal) := fun s => by
    induction s using Finset.induction_on with
    | empty => simp
    | insert k s hk e => rw [Finset.sum_insert hk, Finset.sum_insert hk, e, EReal.right_distrib_of_nonneg_of_ne_top (by exact_mod_cast hp) (EReal.coe_ne_top p)]
  exact h _

/-- Where a row holds an infinity, its mean square is infinite. -/
theorem infinite (x : Fin 1024 → EReal) (k : Fin 1024) (hk : x k * x k = ⊤) :
    Ideal.div (∑ k, x k * x k) (Ideal.ofBits .f32 0x44800000#32) + Ideal.ofBits .f32 0x358637BD#32 = ⊤ := by
  obtain ⟨e, -, h⟩ := eps
  have hs : ∑ k, x k * x k = ⊤ := top_le_iff.mp (hk ▸ Finset.single_le_sum (f := fun k => x k * x k) (fun k _ => square (x k)) (Finset.mem_univ k))
  rw [hs, len, Ideal.div_coe (by norm_num), EReal.top_mul_coe_of_pos (by norm_num), h, EReal.top_add_coe]

/-- The derivative of a normalised row, written with the normalised row, is the chain rule's: at infinite rows too. -/
theorem row (x u : Fin 1024 → EReal) (r : EReal) (j : Fin 1024) (s q g : EReal)
    (hs : s = Ideal.div (∑ k, x k * x k) (Ideal.ofBits .f32 0x44800000#32) + Ideal.ofBits .f32 0x358637BD#32)
    (hq : q = Ideal.div (∑ k, u k * (x k * Ideal.rsqrt s)) (Ideal.ofBits .f32 0x44800000#32))
    (hg : g = Ideal.div ((∑ k, x k * u k) * (Ideal.ofBits .f32 0xBF000000#32 * Ideal.div (Ideal.rsqrt s) s)) (Ideal.ofBits .f32 0x44800000#32)) :
    Ideal.rsqrt s * (u j - x j * Ideal.rsqrt s * q) + r = u j * Ideal.rsqrt s + x j * g + g * x j + r := by
  by_cases hx : ∃ k, x k * x k = ⊤
  · obtain ⟨k, hk⟩ := hx
    have hs' : s = ⊤ := hs.trans (infinite x k hk)
    have hd : Ideal.div 0 ⊤ = 0 := by rw [Ideal.div, if_neg EReal.top_ne_zero, zero_mul]
    have hg' : g = 0 := by
      rw [hg, hs', Ideal.rsqrt_top, hd, mul_zero, mul_zero, len, Ideal.div_coe (by norm_num), zero_mul]
    rw [hs', hg', Ideal.rsqrt_top]
    simp
  have hx' : ∀ k, x k = ((EReal.toReal (x k) : ℝ) : EReal) := fun k =>
    (EReal.coe_toReal (fun h => hx ⟨k, by rw [h]; rfl⟩) (fun h => hx ⟨k, by rw [h]; rfl⟩)).symm
  obtain ⟨y, rfl⟩ : ∃ y : Fin 1024 → ℝ, x = fun k => (y k : EReal) := ⟨_, funext hx'⟩
  obtain ⟨e, he, h⟩ := eps
  have p : 0 < (∑ k, y k * y k) * (1 / 1024) + e :=
    add_pos_of_nonneg_of_pos (mul_nonneg (Finset.sum_nonneg fun k _ => mul_self_nonneg _) (by norm_num)) he
  have hs' : s = (((∑ k, y k * y k) * (1 / 1024) + e : ℝ) : EReal) := by
    rw [hs, h, len, Ideal.div_coe (by norm_num)]
    simp only [← EReal.coe_mul, ← EReal.coe_add, ← Cert.DeltaRule.coe_sum]
  generalize (∑ k, y k * y k) * (1 / 1024) + e = S at hs' p
  have hr : Ideal.rsqrt s = (((Real.sqrt S)⁻¹ : ℝ) : EReal) := by
    rw [hs', Ideal.rsqrt_coe, if_neg (not_lt.mpr p.le), if_neg p.ne']
  have hS : 1 / S = (Real.sqrt S)⁻¹ * (Real.sqrt S)⁻¹ := by
    rw [← mul_inv, Real.mul_self_sqrt p.le, one_div]
  have hp : 0 ≤ (Real.sqrt S)⁻¹ := inv_nonneg.mpr (Real.sqrt_nonneg S)
  have hq' : q = (∑ k, (y k : EReal) * u k) * (((Real.sqrt S)⁻¹ * (1 / 1024) : ℝ) : EReal) := by
    rw [hq, hr, len, Ideal.div_coe (by norm_num), EReal.coe_mul, ← mul_assoc, ← factor _ _ hp]
    exact congrArg (· * _) (Finset.sum_congr rfl fun k _ => by rw [← mul_assoc, mul_comm (u k)])
  have hg' : g = (∑ k, (y k : EReal) * u k) * ((-(1 / 2) * ((Real.sqrt S)⁻¹ * (1 / S)) * (1 / 1024) : ℝ) : EReal) := by
    rw [hg, hr, hs', len, minus_half, Ideal.div_coe (by norm_num), Ideal.div_coe p.ne']
    simp only [EReal.coe_mul, mul_assoc]
  generalize (∑ k, (y k : EReal) * u k) = A at hq' hg'
  rw [hr, hq', hg', sub_eq_add_neg, EReal.left_distrib_of_nonneg_of_ne_top (by exact_mod_cast hp) (EReal.coe_ne_top _), mul_comm _ (u j), add_assoc (u j * _) (_ * _) (_ * _)]
  refine congrArg (· + r) (congrArg (u j * _ + ·) (terms A _ _ _ _ ?_))
  rw [hS]
  ring

end Norms

/-! ## `rms_bwd`: the derivative of a row over its root mean square, times the gain -/

namespace Cert.Reference48Ideal.Value

open Cert.Reference48Ideal Cert.Reference48Ideal.Gen

/-- The derivative by the input. -/
abbrev DH (X : FVec Ideal S4224x1024 .f32) (W : FVec Ideal S1x1024 .f32) (D R : FVec Ideal S4224x1024 .f32) : FVec Ideal S4224x1024 .f32 :=
  addf (addf (addf (mulf (mulf D (broadcastInDim S4224x1024 ![0, 1] bcast_S1x1024_S4224x1024_0_1 W)) (broadcastInDim S4224x1024 ![0, 1] bcast_S4224x1_S4224x1024_0_1 (Host.rsqrt (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (mulf X (broadcastInDim S4224x1024 ![0] bcast_S4224_S4224x1024_0 (Host.reduceAdd (Host.divf (mulf (shapeCast _ (Host.reduceAdd (mulf X (mulf D (broadcastInDim S4224x1024 ![0, 1] bcast_S1x1024_S4224x1024_0_1 W))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf X (mulf D (broadcastInDim S4224x1024 ![0, 1] bcast_S1x1024_S4224x1024_0_1 W))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)) X)) R

/-- The derivative by the gain. -/
abbrev DG (X D : FVec Ideal S4224x1024 .f32) : FVec Ideal S1x1024 .f32 :=
  shapeCast _ (Host.reduceAdd (mulf (mulf X (broadcastInDim S4224x1024 ![0, 1] bcast_S4224x1_S4224x1024_0_1 (Host.rsqrt (addf (Host.divf (broadcastInDim S4224x1 ![0] bcast_S4224_S4224x1_0 (Host.reduceAdd (mulf X X) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) D) (constant S_ .f32 0x00000000#32) reducesTo_S4224x1024_S1024_d0 h_S_) shapeCasts_S1024_S1x1024

end Cert.Reference48Ideal.Value

namespace Cert.Kernel48Ideal.Value

open Cert.Kernel48Ideal Cert.Kernel48Ideal.Gen Cert.Reference48Ideal.Value

variable (m : (ℓ : Loc nD τ sig) → Buf (Elt Ideal) ℓ)

/-- A block's derivative by the input at an index. -/
theorem hpay (x d w r j) : k0_pay4 (F := Ideal) x d w r j
    = Ideal.rsqrt (Ideal.div (∑ k : Fin 1024, x (ix2 (j 0) k) * x (ix2 (j 0) k)) (Ideal.ofBits .f32 0x44800000#32) + Ideal.ofBits .f32 0x358637BD#32)
        * (d j * w (ix2 0 (j 1)) - x j * Ideal.rsqrt (Ideal.div (∑ k : Fin 1024, x (ix2 (j 0) k) * x (ix2 (j 0) k)) (Ideal.ofBits .f32 0x44800000#32) + Ideal.ofBits .f32 0x358637BD#32)
          * Ideal.div (∑ k : Fin 1024, d (ix2 (j 0) k) * w (ix2 0 k) * (x (ix2 (j 0) k)
              * Ideal.rsqrt (Ideal.div (∑ k : Fin 1024, x (ix2 (j 0) k) * x (ix2 (j 0) k)) (Ideal.ofBits .f32 0x44800000#32) + Ideal.ofBits .f32 0x358637BD#32)))
            (Ideal.ofBits .f32 0x44800000#32)) + r j := by
  pointwise [k0_pay4, k0_pay3, k0_pay2]

/-- The kernel's form of the derivative by the input, at an index of the whole. -/
abbrev OUT (X : FVec Ideal S4224x1024 .f32) (W : FVec Ideal S1x1024 .f32) (D R : FVec Ideal S4224x1024 .f32) (j : S4224x1024.Idx) : EReal :=
  Ideal.rsqrt (Ideal.div (∑ k : Fin 1024, X (ix2 (j 0) k) * X (ix2 (j 0) k)) (Ideal.ofBits .f32 0x44800000#32) + Ideal.ofBits .f32 0x358637BD#32)
    * (D j * W (ix2 0 (j 1)) - X j * Ideal.rsqrt (Ideal.div (∑ k : Fin 1024, X (ix2 (j 0) k) * X (ix2 (j 0) k)) (Ideal.ofBits .f32 0x44800000#32) + Ideal.ofBits .f32 0x358637BD#32)
      * Ideal.div (∑ k : Fin 1024, D (ix2 (j 0) k) * W (ix2 0 k) * (X (ix2 (j 0) k)
          * Ideal.rsqrt (Ideal.div (∑ k : Fin 1024, X (ix2 (j 0) k) * X (ix2 (j 0) k)) (Ideal.ofBits .f32 0x44800000#32) + Ideal.ofBits .f32 0x358637BD#32)))
        (Ideal.ofBits .f32 0x44800000#32)) + R j

/-- The kernel's form is the reference's derivative. -/
theorem hdh (X W D R j) : OUT X W D R j = DH X W D R j := by
  have h := Norms.row (fun k => X (ix2 (j 0) k)) (fun k => D (ix2 (j 0) k) * W (ix2 0 k)) (R j) (j 1) _ _ _ rfl rfl rfl
  pointwise [DH]
  rw [Fin.sum_univ_one]
  rw [ix2_eta] at h
  exact h

/-- A block's share of the derivative by the gain at an index. -/
theorem hgain (x d j) : k0_pay6 (F := Ideal) x d j = ∑ k : Fin 384, d (ix2 k (j 1)) * (x (ix2 k (j 1))
    * Ideal.rsqrt (Ideal.div (∑ l : Fin 1024, x (ix2 k l) * x (ix2 k l)) (Ideal.ofBits .f32 0x44800000#32) + Ideal.ofBits .f32 0x358637BD#32)) := by
  pointwise [k0_pay6, k0_pay3, k0_pay2]

/-- A block's share is added to the earlier ones'. -/
theorem hadd (s a j) : k0_pay1 (F := Ideal) s a j = a j + s j := by pointwise [k0_pay1]

/-- The reference's derivative by the gain at an index. -/
theorem hdg (X D j) : DG X D j = ∑ k : Fin 4224, D (ix2 k (j 1)) * (X (ix2 k (j 1))
    * Ideal.rsqrt (Ideal.div (∑ l : Fin 1024, X (ix2 k l) * X (ix2 k l)) (Ideal.ofBits .f32 0x44800000#32) + Ideal.ofBits .f32 0x358637BD#32)) := by
  pointwise [DG]
  exact Finset.sum_congr rfl fun _ _ => mul_comm _ _

/-- The blocks a grid point works on. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- What a grid point writes of the derivative by the input, and its share of the derivative by the gain. -/
theorem out (c : Dev nD) (t : Fin cfg0.N) :
    (outsAt0 m c t.val t.isLt).1 = k0_pay4 (iblk m c 0 t) (iblk m c 2 t) (iblk m c 1 t) (iblk m c 3 t)
      ∧ (outsAt0 m c t.val t.isLt).2.1 = k0_pay5 (iblk m c 0 t) (iblk m c 2 t) (iblk m c 1 t) (iblk m c 3 t) := by
  by_cases h : t.val % 11 = 0
  · have hN : t.val < 11 := lt_of_lt_of_eq t.isLt N_0
    rw [outsAt0_A m c t h (by omega)]
    exact ⟨by frame_out, by frame_out⟩
  · rw [outsAt0_B m c t h (by omega)]
    exact ⟨by frame_out, by frame_out⟩

/-- What the kernel writes of the derivative by the input, in its own form. -/
theorem final4 (c : Dev nD) : (dats m 0 c).arrAt 4 (cfgs 0).N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, (out m c t).1, hpay]
  unfold OUT
  blk_point [iblk, V, idx t]

/-- The same in the narrow format. -/
theorem final5 (c : Dev nD) : (dats m 0 c).arrAt 5 (cfgs 0).N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, (out m c t).2]
  show k0_pay4 (F := Ideal) _ _ _ _ _ = _
  rw [hpay]
  unfold OUT
  blk_point [iblk, V, idx t]

/-- What the kernel writes of the derivative by the gain is the reference's. -/
theorem final6 (c : Dev nD) : (dats m 0 c).arrAt 6 (cfgs 0).N = DG (m ((c : Thread nD τ).loc main_arg0)) (m ((c : Thread nD τ).loc main_arg2)) := by
  refine (dats m 0 c).arrAt_eq_of_covers 6 _ (by decide +kernel) fun t hf y => ?_
  have h2 := (flush0_6 t).mp hf
  blk_simp
  rw [after0_6, hdg]
  exact Tiles.running_sum (fun n h => (outsAt0 m c n h).2.2) 11 _
    (fun t h j => by
      have hN : t.val < 11 := lt_of_lt_of_eq t.isLt N_0
      rw [outsAt0_A m c t h (by omega)]; frame_out; exact hgain _ _ _)
    (fun t h j => by rw [outsAt0_B m c t h (by omega)]; frame_out; rw [hadd, hgain])
    t h2 _ _ rfl fun s k hl => by blk_point [iblk, V, idx t, idx ⟨_, Pipeline.run_point_lt_of_flush t h2 s⟩]

/-- The reference runs, keeps its arguments, and leaves every counter at zero: it has none. -/
theorem frame_reference : Cert.quiescent_Reference48Ideal (hReference48Ideal := Reference48Ideal.Gen.facts) := fun m ρ _ =>
  θ_run_mono (Reference48Ideal.Value.run m ρ) fun _ h => ⟨fun c => (h c).2.2.2, sem_eq_zero_of_no_sems rfl _⟩

/-- The kernel's results are the reference's. -/
theorem values : Cert.algebraic_Kernel48Ideal_Reference48Ideal (hKernel48Ideal := Gen.facts) (hReference48Ideal := Reference48Ideal.Gen.facts) := by
  intro m g m' g' _ hag
  have e : ∀ c : Dev nD, OUT (m ((c : Thread nD τ).loc main_arg0)) (m ((c : Thread nD τ).loc main_arg1)) (m ((c : Thread nD τ).loc main_arg2)) (m ((c : Thread nD τ).loc main_arg3))
      = DH (m ((c : Thread nD τ).loc main_arg0)) (m ((c : Thread nD τ).loc main_arg1)) (m ((c : Thread nD τ).loc main_arg2)) (m ((c : Thread nD τ).loc main_arg3)) := fun c =>
    funext (hdh _ _ _ _)
  refine ⟨fun c => DH (m ((c : Thread nD τ).loc main_arg0)) (m ((c : Thread nD τ).loc main_arg1)) (m ((c : Thread nD τ).loc main_arg2)) (m ((c : Thread nD τ).loc main_arg3)),
    fun c => truncf .bf16 (DH (m ((c : Thread nD τ).loc main_arg0)) (m ((c : Thread nD τ).loc main_arg1)) (m ((c : Thread nD τ).loc main_arg2)) (m ((c : Thread nD τ).loc main_arg3))) Reference48Ideal.Gen.bitsLt_bf16_f32,
    fun c => DG (m ((c : Thread nD τ).loc main_arg0)) (m ((c : Thread nD τ).loc main_arg2)), ?_, ?_⟩
  · exact θ_run_mono (run_blocks m g) fun _ h c => ⟨(h c).1.trans ((final4 m c).trans (e c)), (h c).2.1.trans ((final5 m c).trans (e c)), (h c).2.2.1.trans (final6 m c), (h c).2.2.2⟩
  · exact θ_run_mono (Reference48Ideal.Value.run m' g') fun _ h c => by
      obtain ⟨h0, h1, h2, h3⟩ := hag c
      exact ⟨(h c).1.trans (by rw [h0, h1, h2, h3]), (h c).2.1.trans (by rw [h0, h1, h2, h3]), (h c).2.2.1.trans (by rw [h0, h2]), (h c).2.2.2⟩

end Cert.Kernel48Ideal.Value
-- ==== Proof.Conv.lean ====
module

public import proofs.«01_k».proof.Defs
public import proofs.«01_k».proof.Proof.Rows
public import proofs.«01_k».proof.Proof.Gen.Kernel50Ideal.Frame
public import proofs.«01_k».proof.Proof.Gen.Kernel50Ideal.Value
public import proofs.«01_k».proof.Proof.Gen.Reference50Ideal.Run
public import proofs.«01_k».proof.Proof.Gen.Kernel51Ideal.Frame
public import proofs.«01_k».proof.Proof.Gen.Kernel51Ideal.Value
public import proofs.«01_k».proof.Proof.Gen.Reference51Ideal.Run
public import proofs.«01_k».proof.Proof.Gen.Kernel52Ideal.Frame
public import proofs.«01_k».proof.Proof.Gen.Kernel52Ideal.Value
public import proofs.«01_k».proof.Proof.Gen.Reference52Ideal.Run
public import Idealize.ShloMosaic.Lib.Pipeline.ValueKit
public import Idealize.ShloMosaic.Lib.Pipeline.ReadBack
public import Idealize.ShloMosaic.Lib.StableHlo.RunRead
public import Idealize.ShloMosaic.Lib.Tactic.CleanTypes

/-! # The short convolutions: a column's last four rows, weighted and gated. -/

@[expose] public section

set_option maxRecDepth 16384

noncomputable section

open Idealize.ShloMosaic Idealize.ShloMosaic.TcCoe Idealize.SL.Sem
open Idealize.ShloMosaic.Pipeline (Dat)

namespace Conv

/-- The entry `s` rows above row `R` of a column, zero above its first row. -/
def tap (P : ℕ → EReal) (R s : ℕ) : EReal := if s ≤ R then P (R - s) else 0

/-- The sum of the last four rows' entries, each times its weight. -/
def sum (P : ℕ → EReal) (W : Fin 4 → EReal) (R : ℕ) : EReal :=
  tap P R 3 * W 0 + tap P R 2 * W 1 + tap P R 1 * W 2 + P R * W 3

/-- A sum times its gate. -/
def act (y : EReal) : EReal := y * Ideal.div 1 (1 + Ideal.exp (-y))

/-- A rotated block under its eight rows above reads the column, `s` rows up. -/
theorem shift (P : ℕ → EReal) (b r s : ℕ) (hs : 0 < s ∧ s ≤ 3) (hr : r < 384) (u : Fin 8 → EReal) (x : Fin 384 → EReal) (k : EReal)
    (hk : k = if 0 < b then 1 else 0) (hx : ∀ i, x i = P (384 * b + i.val)) (hu : 0 < b → ∀ i, u i = P (384 * b - 8 + i.val))
    (h2 : ¬(8 + r + 392 - s) % 392 < 8 → (8 + r + 392 - s) % 392 - 8 < 384) :
    (if h : (8 + r + 392 - s) % 392 < 8 then u ⟨(8 + r + 392 - s) % 392, h⟩ * k else x ⟨(8 + r + 392 - s) % 392 - 8, h2 h⟩) = tap P (384 * b + r) s := by
  have e : (8 + r + 392 - s) % 392 = 8 + r - s := by omega
  unfold tap
  split
  · rename_i h
    by_cases hb : 0 < b
    · rw [if_pos (by omega), hu hb, hk, if_pos hb, mul_one]
      exact congrArg P (by show 384 * b - 8 + (8 + r + 392 - s) % 392 = _; omega)
    · rw [if_neg (by omega), hk, if_neg hb, mul_zero]
  · rename_i h
    rw [if_pos (by omega), hx]
    exact congrArg P (by show 384 * b + ((8 + r + 392 - s) % 392 - 8) = _; omega)

/-- The first block's rows above are masked, the others' are kept. -/
theorem mask (b : ℕ) (hb : b < 11) : (((Scalar.extui (Scalar.cmpi .sgt (BitVec.ofNat 32 b) 0#32) : BitVec 32).toInt : ℝ) : EReal) = if 0 < b then 1 else 0 := by
  have e : (Scalar.extui (Scalar.cmpi .sgt (BitVec.ofNat 32 b) 0#32) : BitVec 32).toInt = if 0 < b then 1 else 0 := by
    interval_cases b <;> rfl
  rw [e]
  split <;> simp

end Conv

/-! ## `conv_k_fwd`: the keys' convolution, gated, over each head's root sum of squares -/

namespace Cert.Reference52Ideal.Value

open Cert.Reference52Ideal Cert.Reference52Ideal.Gen

/-- The weighted sum of the last four rows. -/
abbrev SUM (X : FVec Ideal S4224x11264 .f32) (W : FVec Ideal S4x1024 .f32) : FVec Ideal S4224x1024 .f32 :=
  addf (addf (addf (addf (broadcastInDim S4224x1024 ![] bcast_S_S4224x1024 (constant S_ .f32 0x00000000#32)) (mulf (extractStridedSlice S4224x1024 ![0, 0] (pad S4227x1024 ![3, 0] ![0, 0] ![0, 0] (extractStridedSlice S4224x1024 ![0, 1024] X slices_S4224x11264_S4224x1024_0_1024) (sitofp .f32 (constantI S_ 32 0#32)) pads_S4224x1024_S4227x1024_300_000 h_S_) slices_S4227x1024_S4224x1024_0_0) (broadcastInDim S4224x1024 ![0, 1] bcast_S1x1024_S4224x1024_0_1 (broadcastInDim S1x1024 ![1] bcast_S1024_S1x1024_1 (shapeCast _ (extractStridedSlice S1x1024 ![0, 0] W slices_S4x1024_S1x1024_0_0) shapeCasts_S1x1024_S1024))))) (mulf (extractStridedSlice S4224x1024 ![1, 0] (pad S4227x1024 ![3, 0] ![0, 0] ![0, 0] (extractStridedSlice S4224x1024 ![0, 1024] X slices_S4224x11264_S4224x1024_0_1024) (sitofp .f32 (constantI S_ 32 0#32)) pads_S4224x1024_S4227x1024_300_000 h_S_) slices_S4227x1024_S4224x1024_1_0) (broadcastInDim S4224x1024 ![0, 1] bcast_S1x1024_S4224x1024_0_1 (broadcastInDim S1x1024 ![1] bcast_S1024_S1x1024_1 (shapeCast _ (extractStridedSlice S1x1024 ![1, 0] W slices_S4x1024_S1x1024_1_0) shapeCasts_S1x1024_S1024))))) (mulf (extractStridedSlice S4224x1024 ![2, 0] (pad S4227x1024 ![3, 0] ![0, 0] ![0, 0] (extractStridedSlice S4224x1024 ![0, 1024] X slices_S4224x11264_S4224x1024_0_1024) (sitofp .f32 (constantI S_ 32 0#32)) pads_S4224x1024_S4227x1024_300_000 h_S_) slices_S4227x1024_S4224x1024_2_0) (broadcastInDim S4224x1024 ![0, 1] bcast_S1x1024_S4224x1024_0_1 (broadcastInDim S1x1024 ![1] bcast_S1024_S1x1024_1 (shapeCast _ (extractStridedSlice S1x1024 ![2, 0] W slices_S4x1024_S1x1024_2_0) shapeCasts_S1x1024_S1024))))) (mulf (extractStridedSlice S4224x1024 ![3, 0] (pad S4227x1024 ![3, 0] ![0, 0] ![0, 0] (extractStridedSlice S4224x1024 ![0, 1024] X slices_S4224x11264_S4224x1024_0_1024) (sitofp .f32 (constantI S_ 32 0#32)) pads_S4224x1024_S4227x1024_300_000 h_S_) slices_S4227x1024_S4224x1024_3_0) (broadcastInDim S4224x1024 ![0, 1] bcast_S1x1024_S4224x1024_0_1 (broadcastInDim S1x1024 ![1] bcast_S1024_S1x1024_1 (shapeCast _ (extractStridedSlice S1x1024 ![3, 0] W slices_S4x1024_S1x1024_3_0) shapeCasts_S1x1024_S1024))))

/-- A sum times its gate. -/
abbrev GATE (Y : FVec Ideal S4224x1024 .f32) : FVec Ideal S4224x1024 .f32 :=
  mulf Y (Host.divf (broadcastInDim S4224x1024 ![] bcast_S_S4224x1024 (constant S_ .f32 0x3F800000#32)) (addf (broadcastInDim S4224x1024 ![] bcast_S_S4224x1024 (constant S_ .f32 0x3F800000#32)) (Host.exp (Host.negf Y))))

/-- Each head's part over its root sum of squares. -/
abbrev NORM (A : FVec Ideal S4224x1024 .f32) : FVec Ideal S4224x1024 .f32 :=
  shapeCast _ (mulf (shapeCast _ A shapeCasts_S4224x1024_S4224x8x128) (broadcastInDim S4224x8x128 ![0, 1, 2] bcast_S4224x8x1_S4224x8x128_0_1_2 (Host.rsqrt (addf (broadcastInDim S4224x8x1 ![0, 1] bcast_S4224x8_S4224x8x1_0_1 (Host.reduceAdd (mulf (shapeCast _ A shapeCasts_S4224x1024_S4224x8x128) (shapeCast _ A shapeCasts_S4224x1024_S4224x8x128)) (constant S_ .f32 0x00000000#32) reducesTo_S4224x8x128_S4224x8_d2 h_S_)) (broadcastInDim S4224x8x1 ![] bcast_S_S4224x8x1 (constant S_ .f32 0x358637BD#32)))))) shapeCasts_S4224x8x128_S4224x1024

/-- A column that the convolution reads, by the row. -/
abbrev col (X : FVec Ideal S4224x11264 .f32) (c : Fin 1024) (R : ℕ) : EReal :=
  if h : R < 4224 then X (ix2 ⟨R, h⟩ ⟨1024 + c.val, by have := c.isLt; show _ < 11264; omega⟩) else 0

/-- The weighted sum at an index. -/
theorem hsum (X W j) : SUM X W j = Conv.sum (col X (j 1)) (fun k => W (ix2 k (j 1))) (j 0).val := by
  have hj : (j 0).val < 4224 := (j 0).isLt
  have z : (FloatOps.sitofp .f32 0#32 : Ideal .f32) = (0 : EReal) := by show (((0#32 : BitVec 32).toInt : ℝ) : EReal) = 0; simp
  pointwise [SUM]
  unfold Conv.sum col
  rw [dif_pos hj]
  refine congrArg₂ (· + ·) (congrArg₂ (· + ·) (congrArg₂ (· + ·) (congrArg (· * _) ?_) (congrArg (· * _) ?_)) (congrArg (· * _) ?_)) rfl
  all_goals
    unfold Conv.tap
    split
    · rw [if_pos (by omega)]
      refine Eq.trans ?_ (dif_pos (by omega)).symm
      congr 3 <;> omega
    · rw [if_neg (by omega), z]

/-- The gated sum at an index. -/
theorem hgate (Y j) : GATE Y j = Conv.act (Y j) := by
  pointwise [GATE]
  rfl

/-- A head's part over its root sum of squares, at an index. -/
theorem hnorm (A j) : NORM A j = A j * Ideal.rsqrt ((∑ k : Fin 128, A (ix2 (j 0) ⟨(j 1).val / 128 * 128 + k.val, by have : (j 1).val < 1024 := (j 1).isLt; have := k.isLt; show _ < 1024; omega⟩)
    * A (ix2 (j 0) ⟨(j 1).val / 128 * 128 + k.val, by have : (j 1).val < 1024 := (j 1).isLt; have := k.isLt; show _ < 1024; omega⟩)) + Ideal.ofBits .f32 0x358637BD#32) := by
  pointwise [NORM]

/-- The reference's result. -/
abbrev REF (X : FVec Ideal S4224x11264 .f32) (W : FVec Ideal S4x1024 .f32) : FVec Ideal S4224x1024 .f32 := NORM (GATE (SUM X W))

/-- The reference's result at an index. -/
theorem href (X W) (R : Fin 4224) (C : Fin 1024) : REF X W (ix2 R C) = Conv.act (Conv.sum (col X C) (fun k => W (ix2 k C)) R.val)
    * Ideal.rsqrt ((∑ k : Fin 128, Conv.act (Conv.sum (col X ⟨C.val / 128 * 128 + k.val, by have := C.isLt; have := k.isLt; omega⟩) (fun l => W (ix2 l ⟨C.val / 128 * 128 + k.val, by have := C.isLt; have := k.isLt; omega⟩)) R.val)
        * Conv.act (Conv.sum (col X ⟨C.val / 128 * 128 + k.val, by have := C.isLt; have := k.isLt; omega⟩) (fun l => W (ix2 l ⟨C.val / 128 * 128 + k.val, by have := C.isLt; have := k.isLt; omega⟩)) R.val)) + Ideal.ofBits .f32 0x358637BD#32) := by
  show NORM (GATE (SUM X W)) (ix2 R C) = _
  rw [hnorm]
  simp only [hgate, hsum]
  rfl

end Cert.Reference52Ideal.Value

namespace Cert.Kernel52Ideal.Value

open Cert.Kernel52Ideal Cert.Kernel52Ideal.Gen Cert.Reference52Ideal.Value

variable (m : (ℓ : Loc nD τ sig) → Buf (Elt Ideal) ℓ)

/-- One head's block of a grid point. -/
abbrev piece (i : grid0.Coords) (u : Vec Ideal S8x128 .f32) (x : Vec Ideal S384x128 .f32) (w : Vec Ideal S8x128 .f32) : FVec Ideal S384x128 .f32 := k0_pay5 (F := Ideal) (k0_pay3 i u x w) (k0_pay4 i u x w) (Scalar.ofBits .f32 0x358637BD#32)

/-- One head's block at an index, from the columns its rows lie in. -/
theorem hpay (i : grid0.Coords) (b : ℕ) (hb : (i 1).val = b) (hb' : b < 11) (u : Vec Ideal S8x128 .f32) (x : Vec Ideal S384x128 .f32) (w : Vec Ideal S8x128 .f32)
    (P : Fin 128 → ℕ → EReal) (W : Fin 128 → Fin 4 → EReal) (hx : ∀ (r : Fin 384) c, x (ix2 r c) = P c (384 * b + r.val))
    (hu : 0 < b → ∀ (r : Fin 8) c, u (ix2 r c) = P c (384 * b - 8 + r.val)) (hw : ∀ (k : Fin 4) c, w (ix2 ⟨k.val, by have := k.isLt; show _ < 8; omega⟩ c) = W c k) (r : Fin 384) (c : Fin 128) :
    piece i u x w (ix2 r c) = Conv.act (Conv.sum (P c) (W c) (384 * b + r.val))
      * Ideal.rsqrt ((∑ k : Fin 128, Conv.act (Conv.sum (P k) (W k) (384 * b + r.val)) * Conv.act (Conv.sum (P k) (W k) (384 * b + r.val))) + Ideal.ofBits .f32 0x358637BD#32) := by
  have e := fun (c : Fin 128) (s : ℕ) (hs : 0 < s ∧ s ≤ 3) h2 => Conv.shift (P c) b r.val s hs r.isLt (fun r => u (ix2 r c)) (fun r => x (ix2 r c)) _ (Conv.mask b hb')
    (fun r => hx r c) (fun h r => hu h r c) h2
  have w0 : ∀ c, w (ix2 0 c) = W c 0 := hw 0
  have w1 : ∀ c, w (ix2 1 c) = W c 1 := hw 1
  have w2 : ∀ c, w (ix2 2 c) = W c 2 := hw 2
  have w3 : ∀ c, w (ix2 3 c) = W c 3 := hw 3
  pointwise [piece, k0_pay5, k0_pay4, k0_pay3, k0_pay2]
  simp only [hb, e _ 3 ⟨by decide, by decide⟩, e _ 2 ⟨by decide, by decide⟩, e _ 1 ⟨by decide, by decide⟩]
  simp only [Rows.gate, hx, w0, w1, w2, w3, Conv.act, Conv.sum]

/-- The blocks a grid point works on. -/
theorem idx : ∀ t : Fin cfg0.N, win0_0.index t = ![t.val, 1] ∧ win0_1.index t = ![t.val * 48 - 1, 1] ∧ win0_2.index t = ![0, 0] ∧ win0_3.index t = ![t.val, 0]
    ∧ (grid0.coords t 1).val = t.val :=
  (by decide +kernel : ∀ t : Fin grid0.N, _)

/-- The weights as the kernel finds them: under four rows more. -/
theorem weights (c : Dev nD) (k : Fin 4) (l : Fin 1024) :
    V m c main_v0 (ix2 ⟨k.val, by have := k.isLt; show _ < 8; omega⟩ l) = m ((c : Thread nD τ).loc main_arg1) (ix2 k l) := by
  unfold_abbrev_sides
  after_reads_simp
  simp -implicitDefEqProofs only [StableHlo.TRef.toBuf, StableHlo.TRef.ofBuf, cast_cast, cast_eq]
  clean_types
  pointwise [id_eq]

/-- What the kernel writes is the reference's result. -/
theorem final (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  have ht : t.val < 11 := lt_of_lt_of_eq t.isLt N_0
  blk_simp
  rw [after0_3]
  unfold out0_3
  frame_out
  canon_tiles x h using Gen.cover0_3 ..
  all_goals
    show piece _ _ _ _ _ = _
    obtain ⟨r, d, hx, hr, hd⟩ : ∃ (r : Fin 384) (d : Fin 128), x = ix2 r d ∧ (x 0).val = r.val ∧ (x 1).val = d.val := ⟨x 0, x 1, (ix2_eta x).symm, rfl, rfl⟩
    rw [hr] at h0
    rw [hd] at h1
    rw [hx]
    have hy : (y 1).val < 1024 := (y 1).isLt
    have hq : (y 1).val / 128 * 128 + d.val = (y 1).val := by have := d.isLt; omega
    refine (hpay _ t.val (idx t).2.2.2.2 ht _ _ _ (fun k => col (m ((c : Thread nD τ).loc main_arg0)) ⟨(y 1).val / 128 * 128 + k.val, by have := k.isLt; have : (y 1).val < 1024 := (y 1).isLt; omega⟩)
      (fun k l => m ((c : Thread nD τ).loc main_arg1) (ix2 l ⟨(y 1).val / 128 * 128 + k.val, by have := k.isLt; have : (y 1).val < 1024 := (y 1).isLt; omega⟩)) ?_ ?_ ?_ r d).trans ?_
    · intro r k
      refine Eq.trans ?_ (dif_pos (by have := r.isLt; omega)).symm
      blk_point [iblk, V, idx t, h0, h1]
    · intro hb r k
      refine Eq.trans ?_ (dif_pos (by have := r.isLt; omega)).symm
      blk_point [iblk, V, idx t, h0, h1]
    · intro l k
      refine Eq.trans ?_ (weights m c l _)
      blk_point [iblk, V, idx t, h0, h1]
    · have e := href (m ((c : Thread nD τ).loc main_arg0)) (m ((c : Thread nD τ).loc main_arg1)) ⟨384 * t.val + r.val, by have := r.isLt; omega⟩ ⟨(y 1).val, hy⟩
      simp only [hq]
      refine e.symm.trans ?_
      generalize REF _ _ = Z
      blk_point [idx t, h0, h1]

/-- The reference runs, keeps its arguments, and leaves every counter at zero: it has none. -/
theorem frame_reference : Cert.quiescent_Reference52Ideal (hReference52Ideal := Reference52Ideal.Gen.facts) := fun m ρ _ =>
  θ_run_mono (Reference52Ideal.Value.run m ρ) fun _ h => ⟨fun c => (h c).2, sem_eq_zero_of_no_sems rfl _⟩

/-- The kernel's result is the reference's. -/
theorem values : Cert.algebraic_Kernel52Ideal_Reference52Ideal (hKernel52Ideal := Gen.facts) (hReference52Ideal := Reference52Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference52Ideal.Value.run m' g') fun _ h c => ⟨(h c).1.trans (congrArg₂ REF (hag c).1 (hag c).2), (h c).2⟩⟩

end Cert.Kernel52Ideal.Value

/-! ## `conv_q_fwd`: the queries' convolution, gated, over each head's root sum of squares -/

namespace Cert.Reference51Ideal.Value

open Cert.Reference51Ideal Cert.Reference51Ideal.Gen

/-- The weighted sum of the last four rows. -/
abbrev SUM (X : FVec Ideal S4224x11264 .f32) (W : FVec Ideal S4x1024 .f32) : FVec Ideal S4224x1024 .f32 :=
  addf (addf (addf (addf (broadcastInDim S4224x1024 ![] bcast_S_S4224x1024 (constant S_ .f32 0x00000000#32)) (mulf (extractStridedSlice S4224x1024 ![0, 0] (pad S4227x1024 ![3, 0] ![0, 0] ![0, 0] (extractStridedSlice S4224x1024 ![0, 0] X slices_S4224x11264_S4224x1024_0_0) (sitofp .f32 (constantI S_ 32 0#32)) pads_S4224x1024_S4227x1024_300_000 h_S_) slices_S4227x1024_S4224x1024_0_0) (broadcastInDim S4224x1024 ![0, 1] bcast_S1x1024_S4224x1024_0_1 (broadcastInDim S1x1024 ![1] bcast_S1024_S1x1024_1 (shapeCast _ (extractStridedSlice S1x1024 ![0, 0] W slices_S4x1024_S1x1024_0_0) shapeCasts_S1x1024_S1024))))) (mulf (extractStridedSlice S4224x1024 ![1, 0] (pad S4227x1024 ![3, 0] ![0, 0] ![0, 0] (extractStridedSlice S4224x1024 ![0, 0] X slices_S4224x11264_S4224x1024_0_0) (sitofp .f32 (constantI S_ 32 0#32)) pads_S4224x1024_S4227x1024_300_000 h_S_) slices_S4227x1024_S4224x1024_1_0) (broadcastInDim S4224x1024 ![0, 1] bcast_S1x1024_S4224x1024_0_1 (broadcastInDim S1x1024 ![1] bcast_S1024_S1x1024_1 (shapeCast _ (extractStridedSlice S1x1024 ![1, 0] W slices_S4x1024_S1x1024_1_0) shapeCasts_S1x1024_S1024))))) (mulf (extractStridedSlice S4224x1024 ![2, 0] (pad S4227x1024 ![3, 0] ![0, 0] ![0, 0] (extractStridedSlice S4224x1024 ![0, 0] X slices_S4224x11264_S4224x1024_0_0) (sitofp .f32 (constantI S_ 32 0#32)) pads_S4224x1024_S4227x1024_300_000 h_S_) slices_S4227x1024_S4224x1024_2_0) (broadcastInDim S4224x1024 ![0, 1] bcast_S1x1024_S4224x1024_0_1 (broadcastInDim S1x1024 ![1] bcast_S1024_S1x1024_1 (shapeCast _ (extractStridedSlice S1x1024 ![2, 0] W slices_S4x1024_S1x1024_2_0) shapeCasts_S1x1024_S1024))))) (mulf (extractStridedSlice S4224x1024 ![3, 0] (pad S4227x1024 ![3, 0] ![0, 0] ![0, 0] (extractStridedSlice S4224x1024 ![0, 0] X slices_S4224x11264_S4224x1024_0_0) (sitofp .f32 (constantI S_ 32 0#32)) pads_S4224x1024_S4227x1024_300_000 h_S_) slices_S4227x1024_S4224x1024_3_0) (broadcastInDim S4224x1024 ![0, 1] bcast_S1x1024_S4224x1024_0_1 (broadcastInDim S1x1024 ![1] bcast_S1024_S1x1024_1 (shapeCast _ (extractStridedSlice S1x1024 ![3, 0] W slices_S4x1024_S1x1024_3_0) shapeCasts_S1x1024_S1024))))

/-- A column that the convolution reads, by the row. -/
abbrev col (X : FVec Ideal S4224x11264 .f32) (c : Fin 1024) (R : ℕ) : EReal :=
  if h : R < 4224 then X (ix2 ⟨R, h⟩ ⟨c.val, by have := c.isLt; show _ < 11264; omega⟩) else 0

/-- The weighted sum at an index. -/
theorem hsum (X W j) : SUM X W j = Conv.sum (col X (j 1)) (fun k => W (ix2 k (j 1))) (j 0).val := by
  have hj : (j 0).val < 4224 := (j 0).isLt
  have z : (FloatOps.sitofp .f32 0#32 : Ideal .f32) = (0 : EReal) := by show (((0#32 : BitVec 32).toInt : ℝ) : EReal) = 0; simp
  pointwise [SUM]
  unfold Conv.sum col
  rw [dif_pos hj]
  refine congrArg₂ (· + ·) (congrArg₂ (· + ·) (congrArg₂ (· + ·) (congrArg (· * _) ?_) (congrArg (· * _) ?_)) (congrArg (· * _) ?_)) rfl
  all_goals
    unfold Conv.tap
    split
    · rw [if_pos (by omega)]
      refine Eq.trans ?_ (dif_pos (by omega)).symm
      congr 3 <;> omega
    · rw [if_neg (by omega), z]

/-- The reference's result. -/
abbrev REF (X : FVec Ideal S4224x11264 .f32) (W : FVec Ideal S4x1024 .f32) : FVec Ideal S4224x1024 .f32 := Cert.Reference52Ideal.Value.NORM (Cert.Reference52Ideal.Value.GATE (SUM X W))

/-- The reference's result at an index. -/
theorem href (X W) (R : Fin 4224) (C : Fin 1024) : REF X W (ix2 R C) = Conv.act (Conv.sum (col X C) (fun k => W (ix2 k C)) R.val)
    * Ideal.rsqrt ((∑ k : Fin 128, Conv.act (Conv.sum (col X ⟨C.val / 128 * 128 + k.val, by have := C.isLt; have := k.isLt; omega⟩) (fun l => W (ix2 l ⟨C.val / 128 * 128 + k.val, by have := C.isLt; have := k.isLt; omega⟩)) R.val)
        * Conv.act (Conv.sum (col X ⟨C.val / 128 * 128 + k.val, by have := C.isLt; have := k.isLt; omega⟩) (fun l => W (ix2 l ⟨C.val / 128 * 128 + k.val, by have := C.isLt; have := k.isLt; omega⟩)) R.val)) + Ideal.ofBits .f32 0x358637BD#32) := by
  show Cert.Reference52Ideal.Value.NORM (Cert.Reference52Ideal.Value.GATE (SUM X W)) (ix2 R C) = _
  rw [Cert.Reference52Ideal.Value.hnorm]
  simp only [Cert.Reference52Ideal.Value.hgate, hsum]
  rfl

end Cert.Reference51Ideal.Value

namespace Cert.Kernel51Ideal.Value

open Cert.Kernel51Ideal Cert.Kernel51Ideal.Gen Cert.Reference51Ideal.Value

variable (m : (ℓ : Loc nD τ sig) → Buf (Elt Ideal) ℓ)

/-- The blocks a grid point works on. -/
theorem idx : ∀ t : Fin cfg0.N, win0_0.index t = ![t.val, 0] ∧ win0_1.index t = ![t.val * 48 - 1, 0] ∧ win0_2.index t = ![0, 0] ∧ win0_3.index t = ![t.val, 0]
    ∧ (grid0.coords t 1).val = t.val :=
  (by decide +kernel : ∀ t : Fin grid0.N, _)

/-- The weights as the kernel finds them: under four rows more. -/
theorem weights (c : Dev nD) (k : Fin 4) (l : Fin 1024) :
    V m c main_v0 (ix2 ⟨k.val, by have := k.isLt; show _ < 8; omega⟩ l) = m ((c : Thread nD τ).loc main_arg1) (ix2 k l) := by
  unfold_abbrev_sides
  after_reads_simp
  simp -implicitDefEqProofs only [StableHlo.TRef.toBuf, StableHlo.TRef.ofBuf, cast_cast, cast_eq]
  clean_types
  pointwise [id_eq]

/-- What the kernel writes is the reference's result. -/
theorem final (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  have ht : t.val < 11 := lt_of_lt_of_eq t.isLt N_0
  blk_simp
  rw [after0_3]
  unfold out0_3
  frame_out
  canon_tiles x h using Gen.cover0_3 ..
  all_goals
    show Cert.Kernel52Ideal.Value.piece _ _ _ _ _ = _
    obtain ⟨r, d, hx, hr, hd⟩ : ∃ (r : Fin 384) (d : Fin 128), x = ix2 r d ∧ (x 0).val = r.val ∧ (x 1).val = d.val := ⟨x 0, x 1, (ix2_eta x).symm, rfl, rfl⟩
    rw [hr] at h0
    rw [hd] at h1
    rw [hx]
    have hy : (y 1).val < 1024 := (y 1).isLt
    have hq : (y 1).val / 128 * 128 + d.val = (y 1).val := by have := d.isLt; omega
    refine (Cert.Kernel52Ideal.Value.hpay _ t.val (idx t).2.2.2.2 ht _ _ _ (fun k => col (m ((c : Thread nD τ).loc main_arg0)) ⟨(y 1).val / 128 * 128 + k.val, by have := k.isLt; have : (y 1).val < 1024 := (y 1).isLt; omega⟩)
      (fun k l => m ((c : Thread nD τ).loc main_arg1) (ix2 l ⟨(y 1).val / 128 * 128 + k.val, by have := k.isLt; have : (y 1).val < 1024 := (y 1).isLt; omega⟩)) ?_ ?_ ?_ r d).trans ?_
    · intro r k
      refine Eq.trans ?_ (dif_pos (by have := r.isLt; omega)).symm
      blk_point [iblk, V, idx t, h0, h1]
    · intro hb r k
      refine Eq.trans ?_ (dif_pos (by have := r.isLt; omega)).symm
      blk_point [iblk, V, idx t, h0, h1]
    · intro l k
      refine Eq.trans ?_ (weights m c l _)
      blk_point [iblk, V, idx t, h0, h1]
    · have e := href (m ((c : Thread nD τ).loc main_arg0)) (m ((c : Thread nD τ).loc main_arg1)) ⟨384 * t.val + r.val, by have := r.isLt; omega⟩ ⟨(y 1).val, hy⟩
      simp only [hq]
      refine e.symm.trans ?_
      generalize REF _ _ = Z
      blk_point [idx t, h0, h1]

/-- The reference runs, keeps its arguments, and leaves every counter at zero: it has none. -/
theorem frame_reference : Cert.quiescent_Reference51Ideal (hReference51Ideal := Reference51Ideal.Gen.facts) := fun m ρ _ =>
  θ_run_mono (Reference51Ideal.Value.run m ρ) fun _ h => ⟨fun c => (h c).2, sem_eq_zero_of_no_sems rfl _⟩

/-- The kernel's result is the reference's. -/
theorem values : Cert.algebraic_Kernel51Ideal_Reference51Ideal (hKernel51Ideal := Gen.facts) (hReference51Ideal := Reference51Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference51Ideal.Value.run m' g') fun _ h c => ⟨(h c).1.trans (congrArg₂ REF (hag c).1 (hag c).2), (h c).2⟩⟩

end Cert.Kernel51Ideal.Value

/-! ## `conv_v_fwd`: the values' convolution, gated -/

namespace Cert.Reference50Ideal.Value

open Cert.Reference50Ideal Cert.Reference50Ideal.Gen

/-- The weighted sum of the last four rows. -/
abbrev SUM (X : FVec Ideal S4224x11264 .f32) (W : FVec Ideal S4x2048 .f32) : FVec Ideal S4224x2048 .f32 :=
  addf (addf (addf (addf (broadcastInDim S4224x2048 ![] bcast_S_S4224x2048 (constant S_ .f32 0x00000000#32)) (mulf (extractStridedSlice S4224x2048 ![0, 0] (pad S4227x2048 ![3, 0] ![0, 0] ![0, 0] (extractStridedSlice S4224x2048 ![0, 2048] X slices_S4224x11264_S4224x2048_0_2048) (sitofp .f32 (constantI S_ 32 0#32)) pads_S4224x2048_S4227x2048_300_000 h_S_) slices_S4227x2048_S4224x2048_0_0) (broadcastInDim S4224x2048 ![0, 1] bcast_S1x2048_S4224x2048_0_1 (broadcastInDim S1x2048 ![1] bcast_S2048_S1x2048_1 (shapeCast _ (extractStridedSlice S1x2048 ![0, 0] W slices_S4x2048_S1x2048_0_0) shapeCasts_S1x2048_S2048))))) (mulf (extractStridedSlice S4224x2048 ![1, 0] (pad S4227x2048 ![3, 0] ![0, 0] ![0, 0] (extractStridedSlice S4224x2048 ![0, 2048] X slices_S4224x11264_S4224x2048_0_2048) (sitofp .f32 (constantI S_ 32 0#32)) pads_S4224x2048_S4227x2048_300_000 h_S_) slices_S4227x2048_S4224x2048_1_0) (broadcastInDim S4224x2048 ![0, 1] bcast_S1x2048_S4224x2048_0_1 (broadcastInDim S1x2048 ![1] bcast_S2048_S1x2048_1 (shapeCast _ (extractStridedSlice S1x2048 ![1, 0] W slices_S4x2048_S1x2048_1_0) shapeCasts_S1x2048_S2048))))) (mulf (extractStridedSlice S4224x2048 ![2, 0] (pad S4227x2048 ![3, 0] ![0, 0] ![0, 0] (extractStridedSlice S4224x2048 ![0, 2048] X slices_S4224x11264_S4224x2048_0_2048) (sitofp .f32 (constantI S_ 32 0#32)) pads_S4224x2048_S4227x2048_300_000 h_S_) slices_S4227x2048_S4224x2048_2_0) (broadcastInDim S4224x2048 ![0, 1] bcast_S1x2048_S4224x2048_0_1 (broadcastInDim S1x2048 ![1] bcast_S2048_S1x2048_1 (shapeCast _ (extractStridedSlice S1x2048 ![2, 0] W slices_S4x2048_S1x2048_2_0) shapeCasts_S1x2048_S2048))))) (mulf (extractStridedSlice S4224x2048 ![3, 0] (pad S4227x2048 ![3, 0] ![0, 0] ![0, 0] (extractStridedSlice S4224x2048 ![0, 2048] X slices_S4224x11264_S4224x2048_0_2048) (sitofp .f32 (constantI S_ 32 0#32)) pads_S4224x2048_S4227x2048_300_000 h_S_) slices_S4227x2048_S4224x2048_3_0) (broadcastInDim S4224x2048 ![0, 1] bcast_S1x2048_S4224x2048_0_1 (broadcastInDim S1x2048 ![1] bcast_S2048_S1x2048_1 (shapeCast _ (extractStridedSlice S1x2048 ![3, 0] W slices_S4x2048_S1x2048_3_0) shapeCasts_S1x2048_S2048))))

/-- A sum times its gate. -/
abbrev GATE (Y : FVec Ideal S4224x2048 .f32) : FVec Ideal S4224x2048 .f32 :=
  mulf Y (Host.divf (broadcastInDim S4224x2048 ![] bcast_S_S4224x2048 (constant S_ .f32 0x3F800000#32)) (addf (broadcastInDim S4224x2048 ![] bcast_S_S4224x2048 (constant S_ .f32 0x3F800000#32)) (Host.exp (Host.negf Y))))

/-- A column that the convolution reads, by the row. -/
abbrev col (X : FVec Ideal S4224x11264 .f32) (c : Fin 2048) (R : ℕ) : EReal :=
  if h : R < 4224 then X (ix2 ⟨R, h⟩ ⟨2048 + c.val, by have := c.isLt; show _ < 11264; omega⟩) else 0

/-- The weighted sum at an index. -/
theorem hsum (X W j) : SUM X W j = Conv.sum (col X (j 1)) (fun k => W (ix2 k (j 1))) (j 0).val := by
  have hj : (j 0).val < 4224 := (j 0).isLt
  have z : (FloatOps.sitofp .f32 0#32 : Ideal .f32) = (0 : EReal) := by show (((0#32 : BitVec 32).toInt : ℝ) : EReal) = 0; simp
  pointwise [SUM]
  unfold Conv.sum col
  rw [dif_pos hj]
  refine congrArg₂ (· + ·) (congrArg₂ (· + ·) (congrArg₂ (· + ·) (congrArg (· * _) ?_) (congrArg (· * _) ?_)) (congrArg (· * _) ?_)) rfl
  all_goals
    unfold Conv.tap
    split
    · rw [if_pos (by omega)]
      refine Eq.trans ?_ (dif_pos (by omega)).symm
      congr 3 <;> omega
    · rw [if_neg (by omega), z]

/-- The gated sum at an index. -/
theorem hgate (Y j) : GATE Y j = Conv.act (Y j) := by
  pointwise [GATE]
  rfl

/-- The reference's result. -/
abbrev REF (X : FVec Ideal S4224x11264 .f32) (W : FVec Ideal S4x2048 .f32) : FVec Ideal S4224x2048 .f32 := GATE (SUM X W)

/-- The reference's result at an index. -/
theorem href (X W) (R : Fin 4224) (C : Fin 2048) : REF X W (ix2 R C) = Conv.act (Conv.sum (col X C) (fun k => W (ix2 k C)) R.val) := by
  show GATE (SUM X W) (ix2 R C) = _
  rw [hgate, hsum]
  rfl

end Cert.Reference50Ideal.Value

namespace Cert.Kernel50Ideal.Value

open Cert.Kernel50Ideal Cert.Kernel50Ideal.Gen Cert.Reference50Ideal.Value

variable (m : (ℓ : Loc nD τ sig) → Buf (Elt Ideal) ℓ)

/-- One head's block of a grid point. -/
abbrev piece (i : grid0.Coords) (u : Vec Ideal S8x128 .f32) (x : Vec Ideal S384x128 .f32) (w : Vec Ideal S8x128 .f32) : FVec Ideal S384x128 .f32 := k0_pay3 (F := Ideal) i u x w

/-- One head's block at an index, from the columns its rows lie in. -/
theorem hpay (i : grid0.Coords) (b : ℕ) (hb : (i 1).val = b) (hb' : b < 11) (u : Vec Ideal S8x128 .f32) (x : Vec Ideal S384x128 .f32) (w : Vec Ideal S8x128 .f32)
    (P : Fin 128 → ℕ → EReal) (W : Fin 128 → Fin 4 → EReal) (hx : ∀ (r : Fin 384) c, x (ix2 r c) = P c (384 * b + r.val))
    (hu : 0 < b → ∀ (r : Fin 8) c, u (ix2 r c) = P c (384 * b - 8 + r.val)) (hw : ∀ (k : Fin 4) c, w (ix2 ⟨k.val, by have := k.isLt; show _ < 8; omega⟩ c) = W c k) (r : Fin 384) (c : Fin 128) :
    piece i u x w (ix2 r c) = Conv.act (Conv.sum (P c) (W c) (384 * b + r.val)) := by
  have e := fun (c : Fin 128) (s : ℕ) (hs : 0 < s ∧ s ≤ 3) h2 => Conv.shift (P c) b r.val s hs r.isLt (fun r => u (ix2 r c)) (fun r => x (ix2 r c)) _ (Conv.mask b hb')
    (fun r => hx r c) (fun h r => hu h r c) h2
  have w0 : ∀ c, w (ix2 0 c) = W c 0 := hw 0
  have w1 : ∀ c, w (ix2 1 c) = W c 1 := hw 1
  have w2 : ∀ c, w (ix2 2 c) = W c 2 := hw 2
  have w3 : ∀ c, w (ix2 3 c) = W c 3 := hw 3
  pointwise [piece, k0_pay3, k0_pay2]
  simp only [hb, e _ 3 ⟨by decide, by decide⟩, e _ 2 ⟨by decide, by decide⟩, e _ 1 ⟨by decide, by decide⟩]
  simp only [Rows.gate, hx, w0, w1, w2, w3, Conv.act, Conv.sum]

/-- The blocks a grid point works on. -/
theorem idx : ∀ t : Fin cfg0.N, win0_0.index t = ![t.val, 1] ∧ win0_1.index t = ![t.val * 48 - 1, 1] ∧ win0_2.index t = ![0, 0] ∧ win0_3.index t = ![t.val, 0]
    ∧ (grid0.coords t 1).val = t.val :=
  (by decide +kernel : ∀ t : Fin grid0.N, _)

/-- The weights as the kernel finds them: under four rows more. -/
theorem weights (c : Dev nD) (k : Fin 4) (l : Fin 2048) :
    V m c main_v0 (ix2 ⟨k.val, by have := k.isLt; show _ < 8; omega⟩ l) = m ((c : Thread nD τ).loc main_arg1) (ix2 k l) := by
  unfold_abbrev_sides
  after_reads_simp
  simp -implicitDefEqProofs only [StableHlo.TRef.toBuf, StableHlo.TRef.ofBuf, cast_cast, cast_eq]
  clean_types
  pointwise [id_eq]

/-- A grid point's own rows. -/
theorem near (c : Dev nD) (t : Fin cfg0.N) (r : Fin 384) (k : Fin 2048) (h : 384 * t.val + r.val < 4224) :
    X0_0 m c t (ix2 r k) = m ((c : Thread nD τ).loc main_arg0) (ix2 ⟨384 * t.val + r.val, h⟩ ⟨2048 + k.val, by have := k.isLt; show _ < 11264; omega⟩) := by
  unfold X0_0 Pipeline.Window.fill
  rw [dif_pos (moved0_0 t _)]
  blk_point [iblk, V, idx t]

/-- The rows above them. -/
theorem above (c : Dev nD) (t : Fin cfg0.N) (r : Fin 8) (k : Fin 2048) (h : 384 * t.val - 8 + r.val < 4224) (ht : 0 < t.val) :
    X0_1 m c t (ix2 r k) = m ((c : Thread nD τ).loc main_arg0) (ix2 ⟨384 * t.val - 8 + r.val, h⟩ ⟨2048 + k.val, by have := k.isLt; show _ < 11264; omega⟩) := by
  unfold X0_1 Pipeline.Window.fill
  rw [dif_pos (moved0_1 t _)]
  blk_point [iblk, V, idx t]

set_option maxHeartbeats 1600000 in
/-- What the kernel writes is the reference's result. -/
theorem final (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  have ht : t.val < 11 := lt_of_lt_of_eq t.isLt N_0
  blk_simp
  rw [after0_3]
  unfold outsAt0 out0_A_3
  frame_out
  canon_tiles x h
  all_goals
    show piece _ _ _ _ _ = _
    obtain ⟨r, d, hx, hr, hd⟩ : ∃ (r : Fin 384) (d : Fin 128), x = ix2 r d ∧ (x 0).val = r.val ∧ (x 1).val = d.val := ⟨x 0, x 1, (ix2_eta x).symm, rfl, rfl⟩
    rw [hr] at h0
    rw [hd] at h1
    rw [hx]
    have hy : (y 1).val < 2048 := (y 1).isLt
    have hq : (y 1).val / 128 * 128 + d.val = (y 1).val := by have := d.isLt; omega
    refine (hpay _ t.val (idx t).2.2.2.2 ht _ _ _ (fun k => col (m ((c : Thread nD τ).loc main_arg0)) ⟨(y 1).val / 128 * 128 + k.val, by have := k.isLt; have : (y 1).val < 2048 := (y 1).isLt; omega⟩)
      (fun k l => m ((c : Thread nD τ).loc main_arg1) (ix2 l ⟨(y 1).val / 128 * 128 + k.val, by have := k.isLt; have : (y 1).val < 2048 := (y 1).isLt; omega⟩)) ?_ ?_ ?_ r d).trans ?_
    · intro r k
      refine Eq.trans ?_ (dif_pos (by have := r.isLt; omega)).symm
      refine Eq.trans ?_ (near m c t r ⟨(y 1).val / 128 * 128 + k.val, _⟩ _)
      exact View.ld_unit_apply_of _ _ _ _ _ _ (Fin.forall_fin_two.mpr ⟨(Nat.zero_add _).symm, by show _ / 128 * 128 + k.val = _ + k.val; simp only [Matrix.cons_val]; omega⟩)
    · intro hb r k
      refine Eq.trans ?_ (dif_pos (by have := r.isLt; omega)).symm
      refine Eq.trans ?_ (above m c t r ⟨(y 1).val / 128 * 128 + k.val, _⟩ _ hb)
      exact View.ld_unit_apply_of _ _ _ _ _ _ (Fin.forall_fin_two.mpr ⟨(Nat.zero_add _).symm, by show _ / 128 * 128 + k.val = _ + k.val; simp only [Matrix.cons_val]; omega⟩)
    · intro l k
      refine Eq.trans ?_ (weights m c l _)
      blk_point [iblk, V, idx t, h0, h1]
    · have e := href (m ((c : Thread nD τ).loc main_arg0)) (m ((c : Thread nD τ).loc main_arg1)) ⟨384 * t.val + r.val, by have := r.isLt; omega⟩ ⟨(y 1).val, hy⟩
      simp only [hq]
      refine e.symm.trans ?_
      generalize REF _ _ = Z
      blk_point [idx t, h0, h1]

/-- The reference runs, keeps its arguments, and leaves every counter at zero: it has none. -/
theorem frame_reference : Cert.quiescent_Reference50Ideal (hReference50Ideal := Reference50Ideal.Gen.facts) := fun m ρ _ =>
  θ_run_mono (Reference50Ideal.Value.run m ρ) fun _ h => ⟨fun c => (h c).2, sem_eq_zero_of_no_sems rfl _⟩

/-- The kernel's result is the reference's. -/
theorem values : Cert.algebraic_Kernel50Ideal_Reference50Ideal (hKernel50Ideal := Gen.facts) (hReference50Ideal := Reference50Ideal.Gen.facts) :=
  fun m g m' g' _ hag => ⟨fun c => REF (m ((c : Thread nD τ).loc main_arg0)) (m ((c : Thread nD τ).loc main_arg1)),
    θ_run_mono (run_blocks m g) fun _ h c => ⟨(h c).1.trans (final m c), (h c).2⟩,
    θ_run_mono (Reference50Ideal.Value.run m' g') fun _ h c => ⟨(h c).1.trans (congrArg₂ REF (hag c).1 (hag c).2), (h c).2⟩⟩

end Cert.Kernel50Ideal.Value
-- ==== Proof.lean ====
/- The certificate: the frames, and each kernel's results equal to its reference's. -/
module

public import proofs.«01_k».proof.Defs
public import proofs.«01_k».proof.Pre_tame
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Sweep
public import proofs.«01_k».proof.Proof.Loop
public import proofs.«01_k».proof.Proof.Weights
public import proofs.«01_k».proof.Proof.Activations
public import proofs.«01_k».proof.Proof.Products
public import proofs.«01_k».proof.Proof.StickValue
public import proofs.«01_k».proof.Proof.Rows
public import proofs.«01_k».proof.Proof.Heads
public import proofs.«01_k».proof.Proof.Update
public import proofs.«01_k».proof.Proof.Norms
public import proofs.«01_k».proof.Proof.Conv
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Frame
public import proofs.«01_k».proof.Proof.Gen.Kernel42Ideal.Value
public import proofs.«01_k».proof.Proof.Gen.Reference42Ideal.Run
public import proofs.«01_k».proof.Proof.Gen.Kernel43.Frame
public import proofs.«01_k».proof.Proof.Gen.Kernel43Ideal.Frame
public import proofs.«01_k».proof.Proof.Gen.Kernel43Ideal.Value
public import proofs.«01_k».proof.Proof.Gen.Reference43Ideal.Run
public import proofs.«01_k».proof.Proof.Gen.Kernel44.Frame
public import proofs.«01_k».proof.Proof.Gen.Kernel44Ideal.Frame
public import proofs.«01_k».proof.Proof.Gen.Kernel44Ideal.Value
public import proofs.«01_k».proof.Proof.Gen.Reference44Ideal.Run
public import proofs.«01_k».proof.Proof.Gen.Kernel45.Frame
public import proofs.«01_k».proof.Proof.Gen.Kernel45Ideal.Frame
public import proofs.«01_k».proof.Proof.Gen.Kernel45Ideal.Value
public import proofs.«01_k».proof.Proof.Gen.Reference45Ideal.Run
public import proofs.«01_k».proof.Proof.Gen.Kernel46.Frame
public import proofs.«01_k».proof.Proof.Gen.Kernel46Ideal.Frame
public import proofs.«01_k».proof.Proof.Gen.Kernel46Ideal.Value
public import proofs.«01_k».proof.Proof.Gen.Reference46Ideal.Run
public import proofs.«01_k».proof.Proof.Gen.Kernel47.Frame
public import proofs.«01_k».proof.Proof.Gen.Kernel47Ideal.Frame
public import proofs.«01_k».proof.Proof.Gen.Kernel47Ideal.Value
public import proofs.«01_k».proof.Proof.Gen.Reference47Ideal.Run
public import proofs.«01_k».proof.Proof.Gen.Kernel48.Frame
public import proofs.«01_k».proof.Proof.Gen.Kernel48Ideal.Frame
public import proofs.«01_k».proof.Proof.Gen.Kernel48Ideal.Value
public import proofs.«01_k».proof.Proof.Gen.Reference48Ideal.Run
public import proofs.«01_k».proof.Proof.Gen.Kernel50.Frame
public import proofs.«01_k».proof.Proof.Gen.Kernel50Ideal.Frame
public import proofs.«01_k».proof.Proof.Gen.Kernel50Ideal.Value
public import proofs.«01_k».proof.Proof.Gen.Reference50Ideal.Run
public import proofs.«01_k».proof.Proof.Gen.Kernel51.Frame
public import proofs.«01_k».proof.Proof.Gen.Kernel51Ideal.Frame
public import proofs.«01_k».proof.Proof.Gen.Kernel51Ideal.Value
public import proofs.«01_k».proof.Proof.Gen.Reference51Ideal.Run
public import proofs.«01_k».proof.Proof.Gen.Kernel52.Frame
public import proofs.«01_k».proof.Proof.Gen.Kernel52Ideal.Frame
public import proofs.«01_k».proof.Proof.Gen.Kernel52Ideal.Value
public import proofs.«01_k».proof.Proof.Gen.Reference52Ideal.Run

@[expose] public section

set_option maxRecDepth 16384

noncomputable section

namespace Cert.DeltaRule

open Idealize.ShloMosaic Idealize.SL.Sem

/-- Two arrays that agree at every chunk's rows and every head's lanes are equal. -/
theorem ext_lane {x y : FVec Ideal ⟨2, ![4224, 1024]⟩ .f32}
    (h : ∀ n h i d, x (ix2 (row n i) (lane h d)) = y (ix2 (row n i) (lane h d))) : x = y := by
  funext z
  obtain ⟨r, l, rfl⟩ : ∃ (r : Fin 4224) (l : Fin 1024), z = ix2 r l := ⟨z 0, z 1, (ix2_eta z).symm⟩
  have := h ⟨r.val / 64, by omega⟩ ⟨l.val / 128, by omega⟩ ⟨r.val % 64, by omega⟩ ⟨l.val % 128, by omega⟩
  rwa [show row ⟨r.val / 64, by omega⟩ ⟨r.val % 64, by omega⟩ = r from Fin.ext (by show r.val / 64 * 64 + r.val % 64 = r.val; omega),
    show lane ⟨l.val / 128, by omega⟩ ⟨l.val % 128, by omega⟩ = l from Fin.ext (by show l.val / 128 * 128 + l.val % 128 = l.val; omega)] at this

/-- The same for the wider heads of the values. -/
theorem ext_lane2 {x y : FVec Ideal ⟨2, ![4224, 2048]⟩ .f32}
    (h : ∀ n h i d, x (ix2 (row n i) (lane2 h d)) = y (ix2 (row n i) (lane2 h d))) : x = y := by
  funext z
  obtain ⟨r, l, rfl⟩ : ∃ (r : Fin 4224) (l : Fin 2048), z = ix2 r l := ⟨z 0, z 1, (ix2_eta z).symm⟩
  have := h ⟨r.val / 64, by omega⟩ ⟨l.val / 256, by omega⟩ ⟨r.val % 64, by omega⟩ ⟨l.val % 256, by omega⟩
  rwa [show row ⟨r.val / 64, by omega⟩ ⟨r.val % 64, by omega⟩ = r from Fin.ext (by show r.val / 64 * 64 + r.val % 64 = r.val; omega),
    show lane2 ⟨l.val / 256, by omega⟩ ⟨l.val % 256, by omega⟩ = l from Fin.ext (by show l.val / 256 * 256 + l.val % 256 = l.val; omega)] at this

/-- The same for the scalars per head and row, spread over lanes. -/
theorem ext_head {x y : FVec Ideal ⟨3, ![8, 4224, 128]⟩ .f32}
    (h : ∀ n h i (d : Fin 128), x (ix3 h (row n i) d) = y (ix3 h (row n i) d)) : x = y := by
  funext z
  obtain ⟨a, r, l, rfl⟩ : ∃ (a : Fin 8) (r : Fin 4224) (l : Fin 128), z = ix3 a r l := ⟨z 0, z 1, z 2, (ix3_eta z).symm⟩
  have := h ⟨r.val / 64, by omega⟩ a ⟨r.val % 64, by omega⟩ l
  rwa [show row ⟨r.val / 64, by omega⟩ ⟨r.val % 64, by omega⟩ = r from Fin.ext (by show r.val / 64 * 64 + r.val % 64 = r.val; omega)] at this

end Cert.DeltaRule

namespace Cert.Proof

open Idealize.ShloMosaic Idealize.SL.Sem Cert.DeltaRule

/-- The states of the reference's loop on a device. -/
def states (m : (ℓ : Loc ReferenceIdeal.nD ReferenceIdeal.τ ReferenceIdeal.sig) → Buf (Elt Ideal) ℓ) (c : Dev ReferenceIdeal.nD) :
    ℕ → ReferenceIdeal.Step.State Ideal
  | 0 => ReferenceIdeal.StepRun.initState m c
  | n + 1 => ReferenceIdeal.Step.step n (states m c n)

/-- The reference runs, keeps its arguments, and leaves every counter at zero: it has none. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD, r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)) ∧ r.2.sem = fun _ => 0) :=
  θ_run_mono (ReferenceIdeal.StepRun.run_iter m g (states m) (fun _ => rfl) (fun _ _ => rfl))
    fun r h => ⟨fun c => (h c).2.2.2.2.2, sem_eq_zero_of_no_sems rfl _⟩

/-- The kernel's gradients are the reference's. -/
theorem values : Cert.algebraic_KernelIdeal_ReferenceIdeal_pre_tame (hKernelIdeal := KernelIdeal.Gen.facts)
    (hReferenceIdeal := ReferenceIdeal.Gen.facts) (hPre_tame := tame_facts) := by
  letI := KernelIdeal.Gen.facts
  letI := ReferenceIdeal.Gen.facts
  letI := tame_facts
  intro m g m' g' hpre hag
  have H : ∀ c : Dev KernelIdeal.nD, (argsOf m c).Tame := fun c => Args.tame_of_pre (argsOf m c) rfl (hpre c)
  have L : ∀ c : Dev KernelIdeal.nD, LoopIs (argsOf m c) 66 (states m' c 66) := fun c => by
    refine loop_done (H c) (states m' c) ?_ (fun _ => rfl) 66 le_rfl
    obtain ⟨e0, e1, e2, e3, e4, e5, e6, e7⟩ := hag c
    show ReferenceIdeal.StepRun.initState m' c = _
    unfold ReferenceIdeal.StepRun.initState
    simp only [e0, e1, e2, e3, e4, e5, e6, e7]
    rfl
  refine ⟨fun c => ReferenceIdeal.Step.R_main_v23 (states m' c 66), fun c => ReferenceIdeal.Step.R_main_v25 (states m' c 66),
    fun c => ReferenceIdeal.Step.R_main_v27 (states m' c 66), fun c => ReferenceIdeal.Step.R_main_v31 (states m' c 66),
    fun c => ReferenceIdeal.Step.R_main_v35 (states m' c 66), ?_, ?_⟩
  · refine θ_run_mono (KernelIdeal.Value.run_blocks m g) fun r h c => ?_
    obtain ⟨h0, h1, h2, h3, h4, hk⟩ := h c
    refine ⟨h0.trans (ext_lane fun n h i d => ?_), h1.trans (ext_lane fun n h i d => ?_), h2.trans (ext_lane2 fun n h i d => ?_),
      h3.trans (ext_head fun n h i d => ?_), h4.trans (ext_head fun n h i d => ?_), hk⟩
    · exact (arr_dq (H c) n h i d).trans (res_dq (L c) n h i d).symm
    · exact (arr_dk (H c) n h i d).trans (res_dk (L c) n h i d).symm
    · exact (arr_dv (H c) n h i d).trans (res_dv (L c) n h i d).symm
    · exact (arr_dg (H c) n h i d).trans (res_dg (L c) n h i d).symm
    · exact (arr_db (H c) n h i d).trans (res_db (L c) n h i d).symm
  · exact ReferenceIdeal.StepRun.run_iter m' g' (states m') (fun _ => rfl) (fun _ _ => rfl)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Kernel45.Gen.facts, Cert.Kernel45Ideal.Gen.facts, Cert.Reference45Ideal.Gen.facts,
    Cert.Kernel46.Gen.facts, Cert.Kernel46Ideal.Gen.facts, Cert.Reference46Ideal.Gen.facts,
    Cert.Kernel47.Gen.facts, Cert.Kernel47Ideal.Gen.facts, Cert.Reference47Ideal.Gen.facts,
    Cert.Kernel48.Gen.facts, Cert.Kernel48Ideal.Gen.facts, Cert.Reference48Ideal.Gen.facts,
    Cert.Kernel50.Gen.facts, Cert.Kernel50Ideal.Gen.facts, Cert.Reference50Ideal.Gen.facts,
    Cert.Kernel51.Gen.facts, Cert.Kernel51Ideal.Gen.facts, Cert.Reference51Ideal.Gen.facts,
    Cert.Kernel52.Gen.facts, Cert.Kernel52Ideal.Gen.facts, Cert.Reference52Ideal.Gen.facts,
    tame_facts, Stick.bounded_facts, Cert.Kernel38Ideal.Value.settled_facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    fun m ρ _ => Cert.Kernel2.Gen.frame m ρ, fun m ρ _ => Cert.Kernel2Ideal.Gen.frame m ρ, Cert.Kernel2Ideal.Value.frame_reference,
    fun m ρ _ => Cert.Kernel3.Gen.frame m ρ, fun m ρ _ => Cert.Kernel3Ideal.Gen.frame m ρ, Cert.Kernel3Ideal.Value.frame_reference,
    fun m ρ _ => Cert.Kernel4.Gen.frame m ρ, fun m ρ _ => Cert.Kernel4Ideal.Gen.frame m ρ, Cert.Kernel4Ideal.Value.frame_reference,
    fun m ρ _ => Cert.Kernel5.Gen.frame m ρ, fun m ρ _ => Cert.Kernel5Ideal.Gen.frame m ρ, Cert.Kernel5Ideal.Value.frame_reference,
    fun m ρ _ => Cert.Kernel6.Gen.frame m ρ, fun m ρ _ => Cert.Kernel6Ideal.Gen.frame m ρ, Cert.Kernel6Ideal.Value.frame_reference,
    fun m ρ _ => Cert.Kernel7.Gen.frame m ρ, fun m ρ _ => Cert.Kernel7Ideal.Gen.frame m ρ, Cert.Kernel7Ideal.Value.frame_reference,
    fun m ρ _ => Cert.Kernel8.Gen.frame m ρ, fun m ρ _ => Cert.Kernel8Ideal.Gen.frame m ρ, Cert.Kernel8Ideal.Value.frame_reference,
    fun m ρ _ => Cert.Kernel9.Gen.frame m ρ, fun m ρ _ => Cert.Kernel9Ideal.Gen.frame m ρ, Cert.Kernel9Ideal.Value.frame_reference,
    fun m ρ _ => Cert.Kernel10.Gen.frame m ρ, fun m ρ _ => Cert.Kernel10Ideal.Gen.frame m ρ, Cert.Kernel10Ideal.Value.frame_reference,
    fun m ρ _ => Cert.Kernel11.Gen.frame m ρ, fun m ρ _ => Cert.Kernel11Ideal.Gen.frame m ρ, Cert.Kernel11Ideal.Value.frame_reference,
    fun m ρ _ => Cert.Kernel12.Gen.frame m ρ, fun m ρ _ => Cert.Kernel12Ideal.Gen.frame m ρ, Cert.Kernel12Ideal.Value.frame_reference,
    fun m ρ _ => Cert.Kernel13.Gen.frame m ρ, fun m ρ _ => Cert.Kernel13Ideal.Gen.frame m ρ, Cert.Kernel13Ideal.Value.frame_reference,
    fun m ρ _ => Cert.Kernel14.Gen.frame m ρ, fun m ρ _ => Cert.Kernel14Ideal.Gen.frame m ρ, Cert.Kernel14Ideal.Value.frame_reference,
    fun m ρ _ => Cert.Kernel15.Gen.frame m ρ, fun m ρ _ => Cert.Kernel15Ideal.Gen.frame m ρ, Cert.Kernel15Ideal.Value.frame_reference,
    fun m ρ _ => Cert.Kernel16.Gen.frame m ρ, fun m ρ _ => Cert.Kernel16Ideal.Gen.frame m ρ, Cert.Kernel16Ideal.Value.frame_reference,
    fun m ρ _ => Cert.Kernel17.Gen.frame m ρ, fun m ρ _ => Cert.Kernel17Ideal.Gen.frame m ρ, Cert.Kernel17Ideal.Value.frame_reference,
    fun m ρ _ => Cert.Kernel18.Gen.frame m ρ, fun m ρ _ => Cert.Kernel18Ideal.Gen.frame m ρ, Cert.Kernel18Ideal.Value.frame_reference,
    fun m ρ _ => Cert.Kernel19.Gen.frame m ρ, fun m ρ _ => Cert.Kernel19Ideal.Gen.frame m ρ, Cert.Kernel19Ideal.Value.frame_reference,
    fun m ρ _ => Cert.Kernel20.Gen.frame m ρ, fun m ρ _ => Cert.Kernel20Ideal.Gen.frame m ρ, Cert.Kernel20Ideal.Value.frame_reference,
    Stick.frame_kernel, fun m ρ _ => Stick.frame_any m ρ, fun m ρ _ => Stick.frame_any m ρ, Stick.frame_reference, fun m ρ _ => Stick.frame_reference m ρ True.intro,
    fun m ρ _ => Cert.Kernel22.Gen.frame m ρ, fun m ρ _ => Cert.Kernel22Ideal.Gen.frame m ρ, Cert.Kernel22Ideal.Value.frame_reference,
    fun m ρ _ => Cert.Kernel23.Gen.frame m ρ, fun m ρ _ => Cert.Kernel23Ideal.Gen.frame m ρ, Cert.Kernel23Ideal.Value.frame_reference,
    fun m ρ _ => Cert.Kernel24.Gen.frame m ρ, fun m ρ _ => Cert.Kernel24Ideal.Gen.frame m ρ, Cert.Kernel24Ideal.Value.frame_reference,
    fun m ρ _ => Cert.Kernel25.Gen.frame m ρ, fun m ρ _ => Cert.Kernel25Ideal.Gen.frame m ρ, Cert.Kernel25Ideal.Value.frame_reference,
    fun m ρ _ => Cert.Kernel26.Gen.frame m ρ, fun m ρ _ => Cert.Kernel26Ideal.Gen.frame m ρ, Cert.Kernel26Ideal.Value.frame_reference,
    fun m ρ _ => Cert.Kernel27.Gen.frame m ρ, fun m ρ _ => Cert.Kernel27Ideal.Gen.frame m ρ, Cert.Kernel27Ideal.Value.frame_reference,
    fun m ρ _ => Cert.Kernel28.Gen.frame m ρ, fun m ρ _ => Cert.Kernel28Ideal.Gen.frame m ρ, Cert.Kernel28Ideal.Value.frame_reference,
    fun m ρ _ => Cert.Kernel29.Gen.frame m ρ, fun m ρ _ => Cert.Kernel29Ideal.Gen.frame m ρ, Cert.Kernel29Ideal.Value.frame_reference,
    fun m ρ _ => Cert.Kernel30.Gen.frame m ρ, fun m ρ _ => Cert.Kernel30Ideal.Gen.frame m ρ, Cert.Kernel30Ideal.Value.frame_reference,
    fun m ρ _ => Cert.Kernel31.Gen.frame m ρ, fun m ρ _ => Cert.Kernel31Ideal.Gen.frame m ρ, Cert.Kernel31Ideal.Value.frame_reference,
    fun m ρ _ => Cert.Kernel32.Gen.frame m ρ, fun m ρ _ => Cert.Kernel32Ideal.Gen.frame m ρ, Cert.Kernel32Ideal.Value.frame_reference,
    fun m ρ _ => Cert.Kernel33.Gen.frame m ρ, fun m ρ _ => Cert.Kernel33Ideal.Gen.frame m ρ, Cert.Kernel33Ideal.Value.frame_reference,
    fun m ρ _ => Cert.Kernel34.Gen.frame m ρ, fun m ρ _ => Cert.Kernel34Ideal.Gen.frame m ρ, Cert.Kernel34Ideal.Value.frame_reference,
    fun m ρ _ => Cert.Kernel35.Gen.frame m ρ, fun m ρ _ => Cert.Kernel35Ideal.Gen.frame m ρ, Cert.Kernel35Ideal.Value.frame_reference,
    fun m ρ _ => Cert.Kernel36.Gen.frame m ρ, fun m ρ _ => Cert.Kernel36Ideal.Gen.frame m ρ, Cert.Kernel36Ideal.Value.frame_reference,
    fun m ρ _ => Cert.Kernel37.Gen.frame m ρ, fun m ρ _ => Cert.Kernel37Ideal.Gen.frame m ρ, Cert.Kernel37Ideal.Value.frame_reference,
    fun m ρ _ => Cert.Kernel38.Gen.frame m ρ, fun m ρ _ => Cert.Kernel38Ideal.Gen.frame m ρ, fun m ρ _ => Cert.Kernel38Ideal.Gen.frame m ρ, Cert.Kernel38Ideal.Value.frame_reference, fun m ρ _ => Cert.Kernel38Ideal.Value.frame_reference m ρ True.intro,
    fun m ρ _ => Cert.Kernel39.Gen.frame m ρ, fun m ρ _ => Cert.Kernel39Ideal.Gen.frame m ρ, Cert.Kernel39Ideal.Value.frame_reference,
    fun m ρ _ => Cert.Kernel40.Gen.frame m ρ, fun m ρ _ => Cert.Kernel40Ideal.Gen.frame m ρ, Cert.Kernel40Ideal.Value.frame_reference,
    fun m ρ _ => Cert.Kernel41.Gen.frame m ρ, fun m ρ _ => Cert.Kernel41Ideal.Gen.frame m ρ, Cert.Kernel41Ideal.Value.frame_reference,
    fun m ρ _ => Cert.Kernel42.Gen.frame m ρ, fun m ρ _ => Cert.Kernel42Ideal.Gen.frame m ρ, Cert.Kernel42Ideal.Value.frame_reference,
    fun m ρ _ => Cert.Kernel43.Gen.frame m ρ, fun m ρ _ => Cert.Kernel43Ideal.Gen.frame m ρ, Cert.Kernel43Ideal.Value.frame_reference,
    fun m ρ _ => Cert.Kernel44.Gen.frame m ρ, fun m ρ _ => Cert.Kernel44Ideal.Gen.frame m ρ, Cert.Kernel44Ideal.Value.frame_reference,
    fun m ρ _ => Cert.Kernel45.Gen.frame m ρ, fun m ρ _ => Cert.Kernel45Ideal.Gen.frame m ρ, Cert.Kernel45Ideal.Value.frame_reference,
    fun m ρ _ => Cert.Kernel46.Gen.frame m ρ, fun m ρ _ => Cert.Kernel46Ideal.Gen.frame m ρ, Cert.Kernel46Ideal.Value.frame_reference,
    fun m ρ _ => Cert.Kernel47.Gen.frame m ρ, fun m ρ _ => Cert.Kernel47Ideal.Gen.frame m ρ, Cert.Kernel47Ideal.Value.frame_reference,
    fun m ρ _ => Cert.Kernel48.Gen.frame m ρ, fun m ρ _ => Cert.Kernel48Ideal.Gen.frame m ρ, Cert.Kernel48Ideal.Value.frame_reference,
    fun m ρ _ => Cert.Kernel50.Gen.frame m ρ, fun m ρ _ => Cert.Kernel50Ideal.Gen.frame m ρ, Cert.Kernel50Ideal.Value.frame_reference,
    fun m ρ _ => Cert.Kernel51.Gen.frame m ρ, fun m ρ _ => Cert.Kernel51Ideal.Gen.frame m ρ, Cert.Kernel51Ideal.Value.frame_reference,
    fun m ρ _ => Cert.Kernel52.Gen.frame m ρ, fun m ρ _ => Cert.Kernel52Ideal.Gen.frame m ρ, Cert.Kernel52Ideal.Value.frame_reference,
    trivial, values,
    trivial, Cert.Kernel2Ideal.Value.values,
    trivial, Cert.Kernel3Ideal.Value.values,
    trivial, Cert.Kernel4Ideal.Value.values,
    trivial, Cert.Kernel5Ideal.Value.values,
    trivial, Cert.Kernel6Ideal.Value.values,
    trivial, Cert.Kernel7Ideal.Value.values,
    trivial, Cert.Kernel8Ideal.Value.values,
    trivial, Cert.Kernel9Ideal.Value.values,
    trivial, Cert.Kernel10Ideal.Value.values,
    trivial, Cert.Kernel11Ideal.Value.values,
    trivial, Cert.Kernel12Ideal.Value.values,
    trivial, Cert.Kernel13Ideal.Value.values,
    trivial, Cert.Kernel14Ideal.Value.values,
    trivial, Cert.Kernel15Ideal.Value.values,
    trivial, Cert.Kernel16Ideal.Value.values,
    trivial, Cert.Kernel17Ideal.Value.values,
    trivial, Cert.Kernel18Ideal.Value.values,
    trivial, Cert.Kernel19Ideal.Value.values,
    trivial, Cert.Kernel20Ideal.Value.values,
    trivial, Stick.values,
    trivial, Cert.Kernel22Ideal.Value.values,
    trivial, Cert.Kernel23Ideal.Value.values,
    trivial, Cert.Kernel24Ideal.Value.values,
    trivial, Cert.Kernel25Ideal.Value.values,
    trivial, Cert.Kernel26Ideal.Value.values,
    trivial, Cert.Kernel27Ideal.Value.values,
    trivial, Cert.Kernel28Ideal.Value.values,
    trivial, Cert.Kernel29Ideal.Value.values,
    trivial, Cert.Kernel30Ideal.Value.values,
    trivial, Cert.Kernel31Ideal.Value.values,
    trivial, Cert.Kernel32Ideal.Value.values,
    trivial, Cert.Kernel33Ideal.Value.values,
    trivial, Cert.Kernel34Ideal.Value.values,
    trivial, Cert.Kernel35Ideal.Value.values,
    trivial, Cert.Kernel36Ideal.Value.values,
    trivial, Cert.Kernel37Ideal.Value.values,
    trivial, Cert.Kernel38Ideal.Value.values,
    trivial, Cert.Kernel39Ideal.Value.values,
    trivial, Cert.Kernel40Ideal.Value.values,
    trivial, Cert.Kernel41Ideal.Value.values,
    trivial, Cert.Kernel42Ideal.Value.values,
    trivial, Cert.Kernel43Ideal.Value.values,
    trivial, Cert.Kernel44Ideal.Value.values,
    trivial, Cert.Kernel45Ideal.Value.values,
    trivial, Cert.Kernel46Ideal.Value.values,
    trivial, Cert.Kernel47Ideal.Value.values,
    trivial, Cert.Kernel48Ideal.Value.values,
    trivial, Cert.Kernel50Ideal.Value.values,
    trivial, Cert.Kernel51Ideal.Value.values,
    trivial, Cert.Kernel52Ideal.Value.values⟩

end Cert.Proof

end
